-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_InProjDwConv (m : (ℓ : Loc Cert.InProjDwConv.nD Cert.InProjDwConv.τ Cert.InProjDwConv.sig) → Buf (Elt Bits) ℓ) : Prop :=
  True

def Pre_InProjDwConvIdeal (m : (ℓ : Loc Cert.InProjDwConvIdeal.nD Cert.InProjDwConvIdeal.τ Cert.InProjDwConvIdeal.sig) → Buf (Elt Ideal) ℓ) : Prop :=
  True

def Pre_InProjDwConvRefIdeal (m : (ℓ : Loc Cert.InProjDwConvRefIdeal.nD Cert.InProjDwConvRefIdeal.τ Cert.InProjDwConvRefIdeal.sig) → Buf (Elt Ideal) ℓ) : Prop :=
  True

def Pre_InProjDwAttn (m : (ℓ : Loc Cert.InProjDwAttn.nD Cert.InProjDwAttn.τ Cert.InProjDwAttn.sig) → Buf (Elt Bits) ℓ) : Prop :=
  True

def Pre_InProjDwAttnIdeal (m : (ℓ : Loc Cert.InProjDwAttnIdeal.nD Cert.InProjDwAttnIdeal.τ Cert.InProjDwAttnIdeal.sig) → Buf (Elt Ideal) ℓ) : Prop :=
  True

def Pre_InProjDwAttnRefIdeal (m : (ℓ : Loc Cert.InProjDwAttnRefIdeal.nD Cert.InProjDwAttnRefIdeal.τ Cert.InProjDwAttnRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_PrenormBwd (m : (ℓ : Loc Cert.PrenormBwd.nD Cert.PrenormBwd.τ Cert.PrenormBwd.sig) → Buf (Elt Bits) ℓ) : Prop :=
  True

def Pre_PrenormBwdIdeal (m : (ℓ : Loc Cert.PrenormBwdIdeal.nD Cert.PrenormBwdIdeal.τ Cert.PrenormBwdIdeal.sig) → Buf (Elt Ideal) ℓ) : Prop :=
  True

def Pre_PrenormBwdRefIdeal (m : (ℓ : Loc Cert.PrenormBwdRefIdeal.nD Cert.PrenormBwdRefIdeal.τ Cert.PrenormBwdRefIdeal.sig) → Buf (Elt Ideal) ℓ) : Prop :=
  True

def Pre_SumRows (m : (ℓ : Loc Cert.SumRows.nD Cert.SumRows.τ Cert.SumRows.sig) → Buf (Elt Bits) ℓ) : Prop :=
  True

def Pre_SumRowsIdeal (m : (ℓ : Loc Cert.SumRowsIdeal.nD Cert.SumRowsIdeal.τ Cert.SumRowsIdeal.sig) → Buf (Elt Ideal) ℓ) : Prop :=
  True

def Pre_SumRowsRefIdeal (m : (ℓ : Loc Cert.SumRowsRefIdeal.nD Cert.SumRowsRefIdeal.τ Cert.SumRowsRefIdeal.sig) → Buf (Elt Ideal) ℓ) : Prop :=
  True

def Pre_AdamwVectors (m : (ℓ : Loc Cert.AdamwVectors.nD Cert.AdamwVectors.τ Cert.AdamwVectors.sig) → Buf (Elt Bits) ℓ) : Prop :=
  True

def Pre_AdamwVectorsIdeal (m : (ℓ : Loc Cert.AdamwVectorsIdeal.nD Cert.AdamwVectorsIdeal.τ Cert.AdamwVectorsIdeal.sig) → Buf (Elt Ideal) ℓ) : Prop :=
  True

def Pre_AdamwVectorsRefIdeal (m : (ℓ : Loc Cert.AdamwVectorsRefIdeal.nD Cert.AdamwVectorsRefIdeal.τ Cert.AdamwVectorsRefIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvRefIdeal (m : (ℓ : Loc Cert.AdamwConvRefIdeal.nD Cert.AdamwConvRefIdeal.τ Cert.AdamwConvRefIdeal.sig) → Buf (Elt Ideal) ℓ) : Prop :=
  True

def Pre_AdamwNorms (m : (ℓ : Loc Cert.AdamwNorms.nD Cert.AdamwNorms.τ Cert.AdamwNorms.sig) → Buf (Elt Bits) ℓ) : Prop :=
  True

def Pre_AdamwNormsIdeal (m : (ℓ : Loc Cert.AdamwNormsIdeal.nD Cert.AdamwNormsIdeal.τ Cert.AdamwNormsIdeal.sig) → Buf (Elt Ideal) ℓ) : Prop :=
  True

def Pre_AdamwNormsRefIdeal (m : (ℓ : Loc Cert.AdamwNormsRefIdeal.nD Cert.AdamwNormsRefIdeal.τ Cert.AdamwNormsRefIdeal.sig) → Buf (Elt Ideal) ℓ) : Prop :=
  True

def Pre_AdamwAda (m : (ℓ : Loc Cert.AdamwAda.nD Cert.AdamwAda.τ Cert.AdamwAda.sig) → Buf (Elt Bits) ℓ) : Prop :=
  True

def Pre_AdamwAdaIdeal (m : (ℓ : Loc Cert.AdamwAdaIdeal.nD Cert.AdamwAdaIdeal.τ Cert.AdamwAdaIdeal.sig) → Buf (Elt Ideal) ℓ) : Prop :=
  True

def Pre_AdamwAdaRefIdeal (m : (ℓ : Loc Cert.AdamwAdaRefIdeal.nD Cert.AdamwAdaRefIdeal.τ Cert.AdamwAdaRefIdeal.sig) → Buf (Elt Ideal) ℓ) : Prop :=
  True

def Pre_InProjA [hPre_known_device : Cert.Pre_known_device.Facts] (m : (ℓ : Loc Cert.InProjA.nD Cert.InProjA.τ Cert.InProjA.sig) → Buf (Elt Bits) ℓ) : Prop :=
  ∀ c : Dev Cert.InProjA.nD,
    (Cert.Pre_known_device.fn (F := Bits) (m ((c.tc : Thread Cert.InProjA.nD Cert.InProjA.τ).loc Cert.InProjA.main_arg0)) (m ((c.tc : Thread Cert.InProjA.nD Cert.InProjA.τ).loc Cert.InProjA.main_arg1)) (m ((c.tc : Thread Cert.InProjA.nD Cert.InProjA.τ).loc Cert.InProjA.main_arg2))).1 = (fun _ => 1#1)
    ∧ (Cert.Pre_known_device.fn (F := Bits) (m ((c.tc : Thread Cert.InProjA.nD Cert.InProjA.τ).loc Cert.InProjA.main_arg0)) (m ((c.tc : Thread Cert.InProjA.nD Cert.InProjA.τ).loc Cert.InProjA.main_arg1)) (m ((c.tc : Thread Cert.InProjA.nD Cert.InProjA.τ).loc Cert.InProjA.main_arg2))).2 = (fun _ => 1#1)

def Pre_InProjAIdeal [hPre_known_device : Cert.Pre_known_device.Facts] (m : (ℓ : Loc Cert.InProjAIdeal.nD Cert.InProjAIdeal.τ Cert.InProjAIdeal.sig) → Buf (Elt Ideal) ℓ) : Prop :=
  ∀ c : Dev Cert.InProjAIdeal.nD,
    (Cert.Pre_known_device.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2))).1 = (fun _ => 1#1)
    ∧ (Cert.Pre_known_device.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2))).2 = (fun _ => 1#1)

def Pre_InProjARefIdeal (m : (ℓ : Loc Cert.InProjARefIdeal.nD Cert.InProjARefIdeal.τ Cert.InProjARefIdeal.sig) → Buf (Elt Ideal) ℓ) : Prop :=
  True

def Pre_InProjARefIdeal_known_device [hPre_known_device : Cert.Pre_known_device.Facts] (m : (ℓ : Loc Cert.InProjARefIdeal.nD Cert.InProjARefIdeal.τ Cert.InProjARefIdeal.sig) → Buf (Elt Ideal) ℓ) : Prop :=
  ∀ c : Dev Cert.InProjARefIdeal.nD,
    (Cert.Pre_known_device.fn (F := Ideal) (m ((c.tc : Thread Cert.InProjARefIdeal.nD Cert.InProjARefIdeal.τ).loc Cert.InProjARefIdeal.main_arg0)) (m ((c.tc : Thread Cert.InProjARefIdeal.nD Cert.InProjARefIdeal.τ).loc Cert.InProjARefIdeal.main_arg1)) (m ((c.tc : Thread Cert.InProjARefIdeal.nD Cert.InProjARefIdeal.τ).loc Cert.InProjARefIdeal.main_arg2))).1 = (fun _ => 1#1)
    ∧ (Cert.Pre_known_device.fn (F := Ideal) (m ((c.tc : Thread Cert.InProjARefIdeal.nD Cert.InProjARefIdeal.τ).loc Cert.InProjARefIdeal.main_arg0)) (m ((c.tc : Thread Cert.InProjARefIdeal.nD Cert.InProjARefIdeal.τ).loc Cert.InProjARefIdeal.main_arg1)) (m ((c.tc : Thread Cert.InProjARefIdeal.nD Cert.InProjARefIdeal.τ).loc Cert.InProjARefIdeal.main_arg2))).2 = (fun _ => 1#1)

def Pre_InProjB [hPre_known_device_of_part : Cert.Pre_known_device_of_part.Facts] (m : (ℓ : Loc Cert.InProjB.nD Cert.InProjB.τ Cert.InProjB.sig) → Buf (Elt Bits) ℓ) : Prop :=
  ∀ c : Dev Cert.InProjB.nD,
    (Cert.Pre_known_device_of_part.fn (F := Bits) (m ((c.tc : Thread Cert.InProjB.nD Cert.InProjB.τ).loc Cert.InProjB.main_arg0)) (m ((c.tc : Thread Cert.InProjB.nD Cert.InProjB.τ).loc Cert.InProjB.main_arg1)) (m ((c.tc : Thread Cert.InProjB.nD Cert.InProjB.τ).loc Cert.InProjB.main_arg2)) (m ((c.tc : Thread Cert.InProjB.nD Cert.InProjB.τ).loc Cert.InProjB.main_arg3))).1 = (fun _ => 1#1)
    ∧ (Cert.Pre_known_device_of_part.fn (F := Bits) (m ((c.tc : Thread Cert.InProjB.nD Cert.InProjB.τ).loc Cert.InProjB.main_arg0)) (m ((c.tc : Thread Cert.InProjB.nD Cert.InProjB.τ).loc Cert.InProjB.main_arg1)) (m ((c.tc : Thread Cert.InProjB.nD Cert.InProjB.τ).loc Cert.InProjB.main_arg2)) (m ((c.tc : Thread Cert.InProjB.nD Cert.InProjB.τ).loc Cert.InProjB.main_arg3))).2 = (fun _ => 1#1)

def Pre_InProjBIdeal [hPre_known_device_of_part : Cert.Pre_known_device_of_part.Facts] (m : (ℓ : Loc Cert.InProjBIdeal.nD Cert.InProjBIdeal.τ Cert.InProjBIdeal.sig) → Buf (Elt Ideal) ℓ) : Prop :=
  ∀ c : Dev Cert.InProjBIdeal.nD,
    (Cert.Pre_known_device_of_part.fn (F := Ideal) (m ((c.tc : Thread Cert.InProjBIdeal.nD Cert.InProjBIdeal.τ).loc Cert.InProjBIdeal.main_arg0)) (m ((c.tc : Thread Cert.InProjBIdeal.nD Cert.InProjBIdeal.τ).loc Cert.InProjBIdeal.main_arg1)) (m ((c.tc : Thread Cert.InProjBIdeal.nD Cert.InProjBIdeal.τ).loc Cert.InProjBIdeal.main_arg2)) (m ((c.tc : Thread Cert.InProjBIdeal.nD Cert.InProjBIdeal.τ).loc Cert.InProjBIdeal.main_arg3))).1 = (fun _ => 1#1)
    ∧ (Cert.Pre_known_device_of_part.fn (F := Ideal) (m ((c.tc : Thread Cert.InProjBIdeal.nD Cert.InProjBIdeal.τ).loc Cert.InProjBIdeal.main_arg0)) (m ((c.tc : Thread Cert.InProjBIdeal.nD Cert.InProjBIdeal.τ).loc Cert.InProjBIdeal.main_arg1)) (m ((c.tc : Thread Cert.InProjBIdeal.nD Cert.InProjBIdeal.τ).loc Cert.InProjBIdeal.main_arg2)) (m ((c.tc : Thread Cert.InProjBIdeal.nD Cert.InProjBIdeal.τ).loc Cert.InProjBIdeal.main_arg3))).2 = (fun _ => 1#1)

def Pre_InProjBRefIdeal (m : (ℓ : Loc Cert.InProjBRefIdeal.nD Cert.InProjBRefIdeal.τ Cert.InProjBRefIdeal.sig) → Buf (Elt Ideal) ℓ) : Prop :=
  True

def Pre_InProjBRefIdeal_known_device_of_part [hPre_known_device_of_part : Cert.Pre_known_device_of_part.Facts] (m : (ℓ : Loc Cert.InProjBRefIdeal.nD Cert.InProjBRefIdeal.τ Cert.InProjBRefIdeal.sig) → Buf (Elt Ideal) ℓ) : Prop :=
  ∀ c : Dev Cert.InProjBRefIdeal.nD,
    (Cert.Pre_known_device_of_part.fn (F := Ideal) (m ((c.tc : Thread Cert.InProjBRefIdeal.nD Cert.InProjBRefIdeal.τ).loc Cert.InProjBRefIdeal.main_arg0)) (m ((c.tc : Thread Cert.InProjBRefIdeal.nD Cert.InProjBRefIdeal.τ).loc Cert.InProjBRefIdeal.main_arg1)) (m ((c.tc : Thread Cert.InProjBRefIdeal.nD Cert.InProjBRefIdeal.τ).loc Cert.InProjBRefIdeal.main_arg2)) (m ((c.tc : Thread Cert.InProjBRefIdeal.nD Cert.InProjBRefIdeal.τ).loc Cert.InProjBRefIdeal.main_arg3))).1 = (fun _ => 1#1)
    ∧ (Cert.Pre_known_device_of_part.fn (F := Ideal) (m ((c.tc : Thread Cert.InProjBRefIdeal.nD Cert.InProjBRefIdeal.τ).loc Cert.InProjBRefIdeal.main_arg0)) (m ((c.tc : Thread Cert.InProjBRefIdeal.nD Cert.InProjBRefIdeal.τ).loc Cert.InProjBRefIdeal.main_arg1)) (m ((c.tc : Thread Cert.InProjBRefIdeal.nD Cert.InProjBRefIdeal.τ).loc Cert.InProjBRefIdeal.main_arg2)) (m ((c.tc : Thread Cert.InProjBRefIdeal.nD Cert.InProjBRefIdeal.τ).loc Cert.InProjBRefIdeal.main_arg3))).2 = (fun _ => 1#1)

def Pre_InProjC [hPre_known_device_of_part : Cert.Pre_known_device_of_part.Facts] (m : (ℓ : Loc Cert.InProjC.nD Cert.InProjC.τ Cert.InProjC.sig) → Buf (Elt Bits) ℓ) : Prop :=
  ∀ c : Dev Cert.InProjC.nD,
    (Cert.Pre_known_device_of_part.fn (F := Bits) (m ((c.tc : Thread Cert.InProjC.nD Cert.InProjC.τ).loc Cert.InProjC.main_arg0)) (m ((c.tc : Thread Cert.InProjC.nD Cert.InProjC.τ).loc Cert.InProjC.main_arg1)) (m ((c.tc : Thread Cert.InProjC.nD Cert.InProjC.τ).loc Cert.InProjC.main_arg2)) (m ((c.tc : Thread Cert.InProjC.nD Cert.InProjC.τ).loc Cert.InProjC.main_arg3))).1 = (fun _ => 1#1)
    ∧ (Cert.Pre_known_device_of_part.fn (F := Bits) (m ((c.tc : Thread Cert.InProjC.nD Cert.InProjC.τ).loc Cert.InProjC.main_arg0)) (m ((c.tc : Thread Cert.InProjC.nD Cert.InProjC.τ).loc Cert.InProjC.main_arg1)) (m ((c.tc : Thread Cert.InProjC.nD Cert.InProjC.τ).loc Cert.InProjC.main_arg2)) (m ((c.tc : Thread Cert.InProjC.nD Cert.InProjC.τ).loc Cert.InProjC.main_arg3))).2 = (fun _ => 1#1)

def Pre_InProjCIdeal [hPre_known_device_of_part : Cert.Pre_known_device_of_part.Facts] (m : (ℓ : Loc Cert.InProjCIdeal.nD Cert.InProjCIdeal.τ Cert.InProjCIdeal.sig) → Buf (Elt Ideal) ℓ) : Prop :=
  ∀ c : Dev Cert.InProjCIdeal.nD,
    (Cert.Pre_known_device_of_part.fn (F := Ideal) (m ((c.tc : Thread Cert.InProjCIdeal.nD Cert.InProjCIdeal.τ).loc Cert.InProjCIdeal.main_arg0)) (m ((c.tc : Thread Cert.InProjCIdeal.nD Cert.InProjCIdeal.τ).loc Cert.InProjCIdeal.main_arg1)) (m ((c.tc : Thread Cert.InProjCIdeal.nD Cert.InProjCIdeal.τ).loc Cert.InProjCIdeal.main_arg2)) (m ((c.tc : Thread Cert.InProjCIdeal.nD Cert.InProjCIdeal.τ).loc Cert.InProjCIdeal.main_arg3))).1 = (fun _ => 1#1)
    ∧ (Cert.Pre_known_device_of_part.fn (F := Ideal) (m ((c.tc : Thread Cert.InProjCIdeal.nD Cert.InProjCIdeal.τ).loc Cert.InProjCIdeal.main_arg0)) (m ((c.tc : Thread Cert.InProjCIdeal.nD Cert.InProjCIdeal.τ).loc Cert.InProjCIdeal.main_arg1)) (m ((c.tc : Thread Cert.InProjCIdeal.nD Cert.InProjCIdeal.τ).loc Cert.InProjCIdeal.main_arg2)) (m ((c.tc : Thread Cert.InProjCIdeal.nD Cert.InProjCIdeal.τ).loc Cert.InProjCIdeal.main_arg3))).2 = (fun _ => 1#1)

def Pre_InProjCRefIdeal (m : (ℓ : Loc Cert.InProjCRefIdeal.nD Cert.InProjCRefIdeal.τ Cert.InProjCRefIdeal.sig) → Buf (Elt Ideal) ℓ) : Prop :=
  True

def Pre_InProjCRefIdeal_known_device_of_part [hPre_known_device_of_part : Cert.Pre_known_device_of_part.Facts] (m : (ℓ : Loc Cert.InProjCRefIdeal.nD Cert.InProjCRefIdeal.τ Cert.InProjCRefIdeal.sig) → Buf (Elt Ideal) ℓ) : Prop :=
  ∀ c : Dev Cert.InProjCRefIdeal.nD,
    (Cert.Pre_known_device_of_part.fn (F := Ideal) (m ((c.tc : Thread Cert.InProjCRefIdeal.nD Cert.InProjCRefIdeal.τ).loc Cert.InProjCRefIdeal.main_arg0)) (m ((c.tc : Thread Cert.InProjCRefIdeal.nD Cert.InProjCRefIdeal.τ).loc Cert.InProjCRefIdeal.main_arg1)) (m ((c.tc : Thread Cert.InProjCRefIdeal.nD Cert.InProjCRefIdeal.τ).loc Cert.InProjCRefIdeal.main_arg2)) (m ((c.tc : Thread Cert.InProjCRefIdeal.nD Cert.InProjCRefIdeal.τ).loc Cert.InProjCRefIdeal.main_arg3))).1 = (fun _ => 1#1)
    ∧ (Cert.Pre_known_device_of_part.fn (F := Ideal) (m ((c.tc : Thread Cert.InProjCRefIdeal.nD Cert.InProjCRefIdeal.τ).loc Cert.InProjCRefIdeal.main_arg0)) (m ((c.tc : Thread Cert.InProjCRefIdeal.nD Cert.InProjCRefIdeal.τ).loc Cert.InProjCRefIdeal.main_arg1)) (m ((c.tc : Thread Cert.InProjCRefIdeal.nD Cert.InProjCRefIdeal.τ).loc Cert.InProjCRefIdeal.main_arg2)) (m ((c.tc : Thread Cert.InProjCRefIdeal.nD Cert.InProjCRefIdeal.τ).loc Cert.InProjCRefIdeal.main_arg3))).2 = (fun _ => 1#1)

def Pre_InProjD [hPre_known_device_of_part : Cert.Pre_known_device_of_part.Facts] (m : (ℓ : Loc Cert.InProjD.nD Cert.InProjD.τ Cert.InProjD.sig) → Buf (Elt Bits) ℓ) : Prop :=
  ∀ c : Dev Cert.InProjD.nD,
    (Cert.Pre_known_device_of_part.fn (F := Bits) (m ((c.tc : Thread Cert.InProjD.nD Cert.InProjD.τ).loc Cert.InProjD.main_arg0)) (m ((c.tc : Thread Cert.InProjD.nD Cert.InProjD.τ).loc Cert.InProjD.main_arg1)) (m ((c.tc : Thread Cert.InProjD.nD Cert.InProjD.τ).loc Cert.InProjD.main_arg2)) (m ((c.tc : Thread Cert.InProjD.nD Cert.InProjD.τ).loc Cert.InProjD.main_arg3))).1 = (fun _ => 1#1)
    ∧ (Cert.Pre_known_device_of_part.fn (F := Bits) (m ((c.tc : Thread Cert.InProjD.nD Cert.InProjD.τ).loc Cert.InProjD.main_arg0)) (m ((c.tc : Thread Cert.InProjD.nD Cert.InProjD.τ).loc Cert.InProjD.main_arg1)) (m ((c.tc : Thread Cert.InProjD.nD Cert.InProjD.τ).loc Cert.InProjD.main_arg2)) (m ((c.tc : Thread Cert.InProjD.nD Cert.InProjD.τ).loc Cert.InProjD.main_arg3))).2 = (fun _ => 1#1)

def Pre_InProjDIdeal [hPre_known_device_of_part : Cert.Pre_known_device_of_part.Facts] (m : (ℓ : Loc Cert.InProjDIdeal.nD Cert.InProjDIdeal.τ Cert.InProjDIdeal.sig) → Buf (Elt Ideal) ℓ) : Prop :=
  ∀ c : Dev Cert.InProjDIdeal.nD,
    (Cert.Pre_known_device_of_part.fn (F := Ideal) (m ((c.tc : Thread Cert.InProjDIdeal.nD Cert.InProjDIdeal.τ).loc Cert.InProjDIdeal.main_arg0)) (m ((c.tc : Thread Cert.InProjDIdeal.nD Cert.InProjDIdeal.τ).loc Cert.InProjDIdeal.main_arg1)) (m ((c.tc : Thread Cert.InProjDIdeal.nD Cert.InProjDIdeal.τ).loc Cert.InProjDIdeal.main_arg2)) (m ((c.tc : Thread Cert.InProjDIdeal.nD Cert.InProjDIdeal.τ).loc Cert.InProjDIdeal.main_arg3))).1 = (fun _ => 1#1)
    ∧ (Cert.Pre_known_device_of_part.fn (F := Ideal) (m ((c.tc : Thread Cert.InProjDIdeal.nD Cert.InProjDIdeal.τ).loc Cert.InProjDIdeal.main_arg0)) (m ((c.tc : Thread Cert.InProjDIdeal.nD Cert.InProjDIdeal.τ).loc Cert.InProjDIdeal.main_arg1)) (m ((c.tc : Thread Cert.InProjDIdeal.nD Cert.InProjDIdeal.τ).loc Cert.InProjDIdeal.main_arg2)) (m ((c.tc : Thread Cert.InProjDIdeal.nD Cert.InProjDIdeal.τ).loc Cert.InProjDIdeal.main_arg3))).2 = (fun _ => 1#1)

def Pre_InProjDRefIdeal (m : (ℓ : Loc Cert.InProjDRefIdeal.nD Cert.InProjDRefIdeal.τ Cert.InProjDRefIdeal.sig) → Buf (Elt Ideal) ℓ) : Prop :=
  True

def Pre_InProjDRefIdeal_known_device_of_part [hPre_known_device_of_part : Cert.Pre_known_device_of_part.Facts] (m : (ℓ : Loc Cert.InProjDRefIdeal.nD Cert.InProjDRefIdeal.τ Cert.InProjDRefIdeal.sig) → Buf (Elt Ideal) ℓ) : Prop :=
  ∀ c : Dev Cert.InProjDRefIdeal.nD,
    (Cert.Pre_known_device_of_part.fn (F := Ideal) (m ((c.tc : Thread Cert.InProjDRefIdeal.nD Cert.InProjDRefIdeal.τ).loc Cert.InProjDRefIdeal.main_arg0)) (m ((c.tc : Thread Cert.InProjDRefIdeal.nD Cert.InProjDRefIdeal.τ).loc Cert.InProjDRefIdeal.main_arg1)) (m ((c.tc : Thread Cert.InProjDRefIdeal.nD Cert.InProjDRefIdeal.τ).loc Cert.InProjDRefIdeal.main_arg2)) (m ((c.tc : Thread Cert.InProjDRefIdeal.nD Cert.InProjDRefIdeal.τ).loc Cert.InProjDRefIdeal.main_arg3))).1 = (fun _ => 1#1)
    ∧ (Cert.Pre_known_device_of_part.fn (F := Ideal) (m ((c.tc : Thread Cert.InProjDRefIdeal.nD Cert.InProjDRefIdeal.τ).loc Cert.InProjDRefIdeal.main_arg0)) (m ((c.tc : Thread Cert.InProjDRefIdeal.nD Cert.InProjDRefIdeal.τ).loc Cert.InProjDRefIdeal.main_arg1)) (m ((c.tc : Thread Cert.InProjDRefIdeal.nD Cert.InProjDRefIdeal.τ).loc Cert.InProjDRefIdeal.main_arg2)) (m ((c.tc : Thread Cert.InProjDRefIdeal.nD Cert.InProjDRefIdeal.τ).loc Cert.InProjDRefIdeal.main_arg3))).2 = (fun _ => 1#1)

def Pre_InProjE [hPre_known_device_of_part : Cert.Pre_known_device_of_part.Facts] (m : (ℓ : Loc Cert.InProjE.nD Cert.InProjE.τ Cert.InProjE.sig) → Buf (Elt Bits) ℓ) : Prop :=
  ∀ c : Dev Cert.InProjE.nD,
    (Cert.Pre_known_device_of_part.fn (F := Bits) (m ((c.tc : Thread Cert.InProjE.nD Cert.InProjE.τ).loc Cert.InProjE.main_arg0)) (m ((c.tc : Thread Cert.InProjE.nD Cert.InProjE.τ).loc Cert.InProjE.main_arg1)) (m ((c.tc : Thread Cert.InProjE.nD Cert.InProjE.τ).loc Cert.InProjE.main_arg2)) (m ((c.tc : Thread Cert.InProjE.nD Cert.InProjE.τ).loc Cert.InProjE.main_arg3))).1 = (fun _ => 1#1)
    ∧ (Cert.Pre_known_device_of_part.fn (F := Bits) (m ((c.tc : Thread Cert.InProjE.nD Cert.InProjE.τ).loc Cert.InProjE.main_arg0)) (m ((c.tc : Thread Cert.InProjE.nD Cert.InProjE.τ).loc Cert.InProjE.main_arg1)) (m ((c.tc : Thread Cert.InProjE.nD Cert.InProjE.τ).loc Cert.InProjE.main_arg2)) (m ((c.tc : Thread Cert.InProjE.nD Cert.InProjE.τ).loc Cert.InProjE.main_arg3))).2 = (fun _ => 1#1)

def Pre_InProjEIdeal [hPre_known_device_of_part : Cert.Pre_known_device_of_part.Facts] (m : (ℓ : Loc Cert.InProjEIdeal.nD Cert.InProjEIdeal.τ Cert.InProjEIdeal.sig) → Buf (Elt Ideal) ℓ) : Prop :=
  ∀ c : Dev Cert.InProjEIdeal.nD,
    (Cert.Pre_known_device_of_part.fn (F := Ideal) (m ((c.tc : Thread Cert.InProjEIdeal.nD Cert.InProjEIdeal.τ).loc Cert.InProjEIdeal.main_arg0)) (m ((c.tc : Thread Cert.InProjEIdeal.nD Cert.InProjEIdeal.τ).loc Cert.InProjEIdeal.main_arg1)) (m ((c.tc : Thread Cert.InProjEIdeal.nD Cert.InProjEIdeal.τ).loc Cert.InProjEIdeal.main_arg2)) (m ((c.tc : Thread Cert.InProjEIdeal.nD Cert.InProjEIdeal.τ).loc Cert.InProjEIdeal.main_arg3))).1 = (fun _ => 1#1)
    ∧ (Cert.Pre_known_device_of_part.fn (F := Ideal) (m ((c.tc : Thread Cert.InProjEIdeal.nD Cert.InProjEIdeal.τ).loc Cert.InProjEIdeal.main_arg0)) (m ((c.tc : Thread Cert.InProjEIdeal.nD Cert.InProjEIdeal.τ).loc Cert.InProjEIdeal.main_arg1)) (m ((c.tc : Thread Cert.InProjEIdeal.nD Cert.InProjEIdeal.τ).loc Cert.InProjEIdeal.main_arg2)) (m ((c.tc : Thread Cert.InProjEIdeal.nD Cert.InProjEIdeal.τ).loc Cert.InProjEIdeal.main_arg3))).2 = (fun _ => 1#1)

def Pre_InProjERefIdeal (m : (ℓ : Loc Cert.InProjERefIdeal.nD Cert.InProjERefIdeal.τ Cert.InProjERefIdeal.sig) → Buf (Elt Ideal) ℓ) : Prop :=
  True

def Pre_InProjERefIdeal_known_device_of_part [hPre_known_device_of_part : Cert.Pre_known_device_of_part.Facts] (m : (ℓ : Loc Cert.InProjERefIdeal.nD Cert.InProjERefIdeal.τ Cert.InProjERefIdeal.sig) → Buf (Elt Ideal) ℓ) : Prop :=
  ∀ c : Dev Cert.InProjERefIdeal.nD,
    (Cert.Pre_known_device_of_part.fn (F := Ideal) (m ((c.tc : Thread Cert.InProjERefIdeal.nD Cert.InProjERefIdeal.τ).loc Cert.InProjERefIdeal.main_arg0)) (m ((c.tc : Thread Cert.InProjERefIdeal.nD Cert.InProjERefIdeal.τ).loc Cert.InProjERefIdeal.main_arg1)) (m ((c.tc : Thread Cert.InProjERefIdeal.nD Cert.InProjERefIdeal.τ).loc Cert.InProjERefIdeal.main_arg2)) (m ((c.tc : Thread Cert.InProjERefIdeal.nD Cert.InProjERefIdeal.τ).loc Cert.InProjERefIdeal.main_arg3))).1 = (fun _ => 1#1)
    ∧ (Cert.Pre_known_device_of_part.fn (F := Ideal) (m ((c.tc : Thread Cert.InProjERefIdeal.nD Cert.InProjERefIdeal.τ).loc Cert.InProjERefIdeal.main_arg0)) (m ((c.tc : Thread Cert.InProjERefIdeal.nD Cert.InProjERefIdeal.τ).loc Cert.InProjERefIdeal.main_arg1)) (m ((c.tc : Thread Cert.InProjERefIdeal.nD Cert.InProjERefIdeal.τ).loc Cert.InProjERefIdeal.main_arg2)) (m ((c.tc : Thread Cert.InProjERefIdeal.nD Cert.InProjERefIdeal.τ).loc Cert.InProjERefIdeal.main_arg3))).2 = (fun _ => 1#1)

def Pre_AdamwWOut [hPre_known_pair : Cert.Pre_known_pair.Facts] (m : (ℓ : Loc Cert.AdamwWOut.nD Cert.AdamwWOut.τ Cert.AdamwWOut.sig) → Buf (Elt Bits) ℓ) : Prop :=
  ∀ c : Dev Cert.AdamwWOut.nD,
    (Cert.Pre_known_pair.fn (F := Bits) (m ((c.tc : Thread Cert.AdamwWOut.nD Cert.AdamwWOut.τ).loc Cert.AdamwWOut.main_arg0)) (m ((c.tc : Thread Cert.AdamwWOut.nD Cert.AdamwWOut.τ).loc Cert.AdamwWOut.main_arg1)) (m ((c.tc : Thread Cert.AdamwWOut.nD Cert.AdamwWOut.τ).loc Cert.AdamwWOut.main_arg2)) (m ((c.tc : Thread Cert.AdamwWOut.nD Cert.AdamwWOut.τ).loc Cert.AdamwWOut.main_arg3)) (m ((c.tc : Thread Cert.AdamwWOut.nD Cert.AdamwWOut.τ).loc Cert.AdamwWOut.main_arg4)) (m ((c.tc : Thread Cert.AdamwWOut.nD Cert.AdamwWOut.τ).loc Cert.AdamwWOut.main_arg5)) (m ((c.tc : Thread Cert.AdamwWOut.nD Cert.AdamwWOut.τ).loc Cert.AdamwWOut.main_arg6))).1 = (fun _ => 1#1)
    ∧ (Cert.Pre_known_pair.fn (F := Bits) (m ((c.tc : Thread Cert.AdamwWOut.nD Cert.AdamwWOut.τ).loc Cert.AdamwWOut.main_arg0)) (m ((c.tc : Thread Cert.AdamwWOut.nD Cert.AdamwWOut.τ).loc Cert.AdamwWOut.main_arg1)) (m ((c.tc : Thread Cert.AdamwWOut.nD Cert.AdamwWOut.τ).loc Cert.AdamwWOut.main_arg2)) (m ((c.tc : Thread Cert.AdamwWOut.nD Cert.AdamwWOut.τ).loc Cert.AdamwWOut.main_arg3)) (m ((c.tc : Thread Cert.AdamwWOut.nD Cert.AdamwWOut.τ).loc Cert.AdamwWOut.main_arg4)) (m ((c.tc : Thread Cert.AdamwWOut.nD Cert.AdamwWOut.τ).loc Cert.AdamwWOut.main_arg5)) (m ((c.tc : Thread Cert.AdamwWOut.nD Cert.AdamwWOut.τ).loc Cert.AdamwWOut.main_arg6))).2 = (fun _ => 1#1)

def Pre_AdamwWOutIdeal [hPre_known_pair : Cert.Pre_known_pair.Facts] (m : (ℓ : Loc Cert.AdamwWOutIdeal.nD Cert.AdamwWOutIdeal.τ Cert.AdamwWOutIdeal.sig) → Buf (Elt Ideal) ℓ) : Prop :=
  ∀ c : Dev Cert.AdamwWOutIdeal.nD,
    (Cert.Pre_known_pair.fn (F := Ideal) (m ((c.tc : Thread Cert.AdamwWOutIdeal.nD Cert.AdamwWOutIdeal.τ).loc Cert.AdamwWOutIdeal.main_arg0)) (m ((c.tc : Thread Cert.AdamwWOutIdeal.nD Cert.AdamwWOutIdeal.τ).loc Cert.AdamwWOutIdeal.main_arg1)) (m ((c.tc : Thread Cert.AdamwWOutIdeal.nD Cert.AdamwWOutIdeal.τ).loc Cert.AdamwWOutIdeal.main_arg2)) (m ((c.tc : Thread Cert.AdamwWOutIdeal.nD Cert.AdamwWOutIdeal.τ).loc Cert.AdamwWOutIdeal.main_arg3)) (m ((c.tc : Thread Cert.AdamwWOutIdeal.nD Cert.AdamwWOutIdeal.τ).loc Cert.AdamwWOutIdeal.main_arg4)) (m ((c.tc : Thread Cert.AdamwWOutIdeal.nD Cert.AdamwWOutIdeal.τ).loc Cert.AdamwWOutIdeal.main_arg5)) (m ((c.tc : Thread Cert.AdamwWOutIdeal.nD Cert.AdamwWOutIdeal.τ).loc Cert.AdamwWOutIdeal.main_arg6))).1 = (fun _ => 1#1)
    ∧ (Cert.Pre_known_pair.fn (F := Ideal) (m ((c.tc : Thread Cert.AdamwWOutIdeal.nD Cert.AdamwWOutIdeal.τ).loc Cert.AdamwWOutIdeal.main_arg0)) (m ((c.tc : Thread Cert.AdamwWOutIdeal.nD Cert.AdamwWOutIdeal.τ).loc Cert.AdamwWOutIdeal.main_arg1)) (m ((c.tc : Thread Cert.AdamwWOutIdeal.nD Cert.AdamwWOutIdeal.τ).loc Cert.AdamwWOutIdeal.main_arg2)) (m ((c.tc : Thread Cert.AdamwWOutIdeal.nD Cert.AdamwWOutIdeal.τ).loc Cert.AdamwWOutIdeal.main_arg3)) (m ((c.tc : Thread Cert.AdamwWOutIdeal.nD Cert.AdamwWOutIdeal.τ).loc Cert.AdamwWOutIdeal.main_arg4)) (m ((c.tc : Thread Cert.AdamwWOutIdeal.nD Cert.AdamwWOutIdeal.τ).loc Cert.AdamwWOutIdeal.main_arg5)) (m ((c.tc : Thread Cert.AdamwWOutIdeal.nD Cert.AdamwWOutIdeal.τ).loc Cert.AdamwWOutIdeal.main_arg6))).2 = (fun _ => 1#1)

def Pre_AdamwWOutRefIdeal (m : (ℓ : Loc Cert.AdamwWOutRefIdeal.nD Cert.AdamwWOutRefIdeal.τ Cert.AdamwWOutRefIdeal.sig) → Buf (Elt Ideal) ℓ) : Prop :=
  True

def Pre_AdamwWOutRefIdeal_known_pair [hPre_known_pair : Cert.Pre_known_pair.Facts] (m : (ℓ : Loc Cert.AdamwWOutRefIdeal.nD Cert.AdamwWOutRefIdeal.τ Cert.AdamwWOutRefIdeal.sig) → Buf (Elt Ideal) ℓ) : Prop :=
  ∀ c : Dev Cert.AdamwWOutRefIdeal.nD,
    (Cert.Pre_known_pair.fn (F := Ideal) (m ((c.tc : Thread Cert.AdamwWOutRefIdeal.nD Cert.AdamwWOutRefIdeal.τ).loc Cert.AdamwWOutRefIdeal.main_arg0)) (m ((c.tc : Thread Cert.AdamwWOutRefIdeal.nD Cert.AdamwWOutRefIdeal.τ).loc Cert.AdamwWOutRefIdeal.main_arg1)) (m ((c.tc : Thread Cert.AdamwWOutRefIdeal.nD Cert.AdamwWOutRefIdeal.τ).loc Cert.AdamwWOutRefIdeal.main_arg2)) (m ((c.tc : Thread Cert.AdamwWOutRefIdeal.nD Cert.AdamwWOutRefIdeal.τ).loc Cert.AdamwWOutRefIdeal.main_arg3)) (m ((c.tc : Thread Cert.AdamwWOutRefIdeal.nD Cert.AdamwWOutRefIdeal.τ).loc Cert.AdamwWOutRefIdeal.main_arg4)) (m ((c.tc : Thread Cert.AdamwWOutRefIdeal.nD Cert.AdamwWOutRefIdeal.τ).loc Cert.AdamwWOutRefIdeal.main_arg5)) (m ((c.tc : Thread Cert.AdamwWOutRefIdeal.nD Cert.AdamwWOutRefIdeal.τ).loc Cert.AdamwWOutRefIdeal.main_arg6))).1 = (fun _ => 1#1)
    ∧ (Cert.Pre_known_pair.fn (F := Ideal) (m ((c.tc : Thread Cert.AdamwWOutRefIdeal.nD Cert.AdamwWOutRefIdeal.τ).loc Cert.AdamwWOutRefIdeal.main_arg0)) (m ((c.tc : Thread Cert.AdamwWOutRefIdeal.nD Cert.AdamwWOutRefIdeal.τ).loc Cert.AdamwWOutRefIdeal.main_arg1)) (m ((c.tc : Thread Cert.AdamwWOutRefIdeal.nD Cert.AdamwWOutRefIdeal.τ).loc Cert.AdamwWOutRefIdeal.main_arg2)) (m ((c.tc : Thread Cert.AdamwWOutRefIdeal.nD Cert.AdamwWOutRefIdeal.τ).loc Cert.AdamwWOutRefIdeal.main_arg3)) (m ((c.tc : Thread Cert.AdamwWOutRefIdeal.nD Cert.AdamwWOutRefIdeal.τ).loc Cert.AdamwWOutRefIdeal.main_arg4)) (m ((c.tc : Thread Cert.AdamwWOutRefIdeal.nD Cert.AdamwWOutRefIdeal.τ).loc Cert.AdamwWOutRefIdeal.main_arg5)) (m ((c.tc : Thread Cert.AdamwWOutRefIdeal.nD Cert.AdamwWOutRefIdeal.τ).loc Cert.AdamwWOutRefIdeal.main_arg6))).2 = (fun _ => 1#1)

def Pre_AdamwWInA [hPre_known_pair_of_in : Cert.Pre_known_pair_of_in.Facts] (m : (ℓ : Loc Cert.AdamwWInA.nD Cert.AdamwWInA.τ Cert.AdamwWInA.sig) → Buf (Elt Bits) ℓ) : Prop :=
  ∀ c : Dev Cert.AdamwWInA.nD,
    (Cert.Pre_known_pair_of_in.fn (F := Bits) (m ((c.tc : Thread Cert.AdamwWInA.nD Cert.AdamwWInA.τ).loc Cert.AdamwWInA.main_arg0)) (m ((c.tc : Thread Cert.AdamwWInA.nD Cert.AdamwWInA.τ).loc Cert.AdamwWInA.main_arg1)) (m ((c.tc : Thread Cert.AdamwWInA.nD Cert.AdamwWInA.τ).loc Cert.AdamwWInA.main_arg2)) (m ((c.tc : Thread Cert.AdamwWInA.nD Cert.AdamwWInA.τ).loc Cert.AdamwWInA.main_arg3)) (m ((c.tc : Thread Cert.AdamwWInA.nD Cert.AdamwWInA.τ).loc Cert.AdamwWInA.main_arg4)) (m ((c.tc : Thread Cert.AdamwWInA.nD Cert.AdamwWInA.τ).loc Cert.AdamwWInA.main_arg5)) (m ((c.tc : Thread Cert.AdamwWInA.nD Cert.AdamwWInA.τ).loc Cert.AdamwWInA.main_arg6))).1 = (fun _ => 1#1)
    ∧ (Cert.Pre_known_pair_of_in.fn (F := Bits) (m ((c.tc : Thread Cert.AdamwWInA.nD Cert.AdamwWInA.τ).loc Cert.AdamwWInA.main_arg0)) (m ((c.tc : Thread Cert.AdamwWInA.nD Cert.AdamwWInA.τ).loc Cert.AdamwWInA.main_arg1)) (m ((c.tc : Thread Cert.AdamwWInA.nD Cert.AdamwWInA.τ).loc Cert.AdamwWInA.main_arg2)) (m ((c.tc : Thread Cert.AdamwWInA.nD Cert.AdamwWInA.τ).loc Cert.AdamwWInA.main_arg3)) (m ((c.tc : Thread Cert.AdamwWInA.nD Cert.AdamwWInA.τ).loc Cert.AdamwWInA.main_arg4)) (m ((c.tc : Thread Cert.AdamwWInA.nD Cert.AdamwWInA.τ).loc Cert.AdamwWInA.main_arg5)) (m ((c.tc : Thread Cert.AdamwWInA.nD Cert.AdamwWInA.τ).loc Cert.AdamwWInA.main_arg6))).2 = (fun _ => 1#1)

def Pre_AdamwWInAIdeal [hPre_known_pair_of_in : Cert.Pre_known_pair_of_in.Facts] (m : (ℓ : Loc Cert.AdamwWInAIdeal.nD Cert.AdamwWInAIdeal.τ Cert.AdamwWInAIdeal.sig) → Buf (Elt Ideal) ℓ) : Prop :=
  ∀ c : Dev Cert.AdamwWInAIdeal.nD,
    (Cert.Pre_known_pair_of_in.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).1 = (fun _ => 1#1)
    ∧ (Cert.Pre_known_pair_of_in.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).2 = (fun _ => 1#1)

def Pre_AdamwWInARefIdeal (m : (ℓ : Loc Cert.AdamwWInARefIdeal.nD Cert.AdamwWInARefIdeal.τ Cert.AdamwWInARefIdeal.sig) → Buf (Elt Ideal) ℓ) : Prop :=
  True

def Pre_AdamwWInARefIdeal_known_pair_of_in [hPre_known_pair_of_in : Cert.Pre_known_pair_of_in.Facts] (m : (ℓ : Loc Cert.AdamwWInARefIdeal.nD Cert.AdamwWInARefIdeal.τ Cert.AdamwWInARefIdeal.sig) → Buf (Elt Ideal) ℓ) : Prop :=
  ∀ c : Dev Cert.AdamwWInARefIdeal.nD,
    (Cert.Pre_known_pair_of_in.fn (F := Ideal) (m ((c.tc : Thread Cert.AdamwWInARefIdeal.nD Cert.AdamwWInARefIdeal.τ).loc Cert.AdamwWInARefIdeal.main_arg0)) (m ((c.tc : Thread Cert.AdamwWInARefIdeal.nD Cert.AdamwWInARefIdeal.τ).loc Cert.AdamwWInARefIdeal.main_arg1)) (m ((c.tc : Thread Cert.AdamwWInARefIdeal.nD Cert.AdamwWInARefIdeal.τ).loc Cert.AdamwWInARefIdeal.main_arg2)) (m ((c.tc : Thread Cert.AdamwWInARefIdeal.nD Cert.AdamwWInARefIdeal.τ).loc Cert.AdamwWInARefIdeal.main_arg3)) (m ((c.tc : Thread Cert.AdamwWInARefIdeal.nD Cert.AdamwWInARefIdeal.τ).loc Cert.AdamwWInARefIdeal.main_arg4)) (m ((c.tc : Thread Cert.AdamwWInARefIdeal.nD Cert.AdamwWInARefIdeal.τ).loc Cert.AdamwWInARefIdeal.main_arg5)) (m ((c.tc : Thread Cert.AdamwWInARefIdeal.nD Cert.AdamwWInARefIdeal.τ).loc Cert.AdamwWInARefIdeal.main_arg6))).1 = (fun _ => 1#1)
    ∧ (Cert.Pre_known_pair_of_in.fn (F := Ideal) (m ((c.tc : Thread Cert.AdamwWInARefIdeal.nD Cert.AdamwWInARefIdeal.τ).loc Cert.AdamwWInARefIdeal.main_arg0)) (m ((c.tc : Thread Cert.AdamwWInARefIdeal.nD Cert.AdamwWInARefIdeal.τ).loc Cert.AdamwWInARefIdeal.main_arg1)) (m ((c.tc : Thread Cert.AdamwWInARefIdeal.nD Cert.AdamwWInARefIdeal.τ).loc Cert.AdamwWInARefIdeal.main_arg2)) (m ((c.tc : Thread Cert.AdamwWInARefIdeal.nD Cert.AdamwWInARefIdeal.τ).loc Cert.AdamwWInARefIdeal.main_arg3)) (m ((c.tc : Thread Cert.AdamwWInARefIdeal.nD Cert.AdamwWInARefIdeal.τ).loc Cert.AdamwWInARefIdeal.main_arg4)) (m ((c.tc : Thread Cert.AdamwWInARefIdeal.nD Cert.AdamwWInARefIdeal.τ).loc Cert.AdamwWInARefIdeal.main_arg5)) (m ((c.tc : Thread Cert.AdamwWInARefIdeal.nD Cert.AdamwWInARefIdeal.τ).loc Cert.AdamwWInARefIdeal.main_arg6))).2 = (fun _ => 1#1)

def Pre_AdamwWInB [hPre_known_pair_of_last : Cert.Pre_known_pair_of_last.Facts] (m : (ℓ : Loc Cert.AdamwWInB.nD Cert.AdamwWInB.τ Cert.AdamwWInB.sig) → Buf (Elt Bits) ℓ) : Prop :=
  ∀ c : Dev Cert.AdamwWInB.nD,
    (Cert.Pre_known_pair_of_last.fn (F := Bits) (m ((c.tc : Thread Cert.AdamwWInB.nD Cert.AdamwWInB.τ).loc Cert.AdamwWInB.main_arg0)) (m ((c.tc : Thread Cert.AdamwWInB.nD Cert.AdamwWInB.τ).loc Cert.AdamwWInB.main_arg1)) (m ((c.tc : Thread Cert.AdamwWInB.nD Cert.AdamwWInB.τ).loc Cert.AdamwWInB.main_arg2)) (m ((c.tc : Thread Cert.AdamwWInB.nD Cert.AdamwWInB.τ).loc Cert.AdamwWInB.main_arg3)) (m ((c.tc : Thread Cert.AdamwWInB.nD Cert.AdamwWInB.τ).loc Cert.AdamwWInB.main_arg4)) (m ((c.tc : Thread Cert.AdamwWInB.nD Cert.AdamwWInB.τ).loc Cert.AdamwWInB.main_arg5)) (m ((c.tc : Thread Cert.AdamwWInB.nD Cert.AdamwWInB.τ).loc Cert.AdamwWInB.main_arg6)) (m ((c.tc : Thread Cert.AdamwWInB.nD Cert.AdamwWInB.τ).loc Cert.AdamwWInB.main_arg7)) (m ((c.tc : Thread Cert.AdamwWInB.nD Cert.AdamwWInB.τ).loc Cert.AdamwWInB.main_arg8)) (m ((c.tc : Thread Cert.AdamwWInB.nD Cert.AdamwWInB.τ).loc Cert.AdamwWInB.main_arg9)) (m ((c.tc : Thread Cert.AdamwWInB.nD Cert.AdamwWInB.τ).loc Cert.AdamwWInB.main_arg10))).1 = (fun _ => 1#1)
    ∧ (Cert.Pre_known_pair_of_last.fn (F := Bits) (m ((c.tc : Thread Cert.AdamwWInB.nD Cert.AdamwWInB.τ).loc Cert.AdamwWInB.main_arg0)) (m ((c.tc : Thread Cert.AdamwWInB.nD Cert.AdamwWInB.τ).loc Cert.AdamwWInB.main_arg1)) (m ((c.tc : Thread Cert.AdamwWInB.nD Cert.AdamwWInB.τ).loc Cert.AdamwWInB.main_arg2)) (m ((c.tc : Thread Cert.AdamwWInB.nD Cert.AdamwWInB.τ).loc Cert.AdamwWInB.main_arg3)) (m ((c.tc : Thread Cert.AdamwWInB.nD Cert.AdamwWInB.τ).loc Cert.AdamwWInB.main_arg4)) (m ((c.tc : Thread Cert.AdamwWInB.nD Cert.AdamwWInB.τ).loc Cert.AdamwWInB.main_arg5)) (m ((c.tc : Thread Cert.AdamwWInB.nD Cert.AdamwWInB.τ).loc Cert.AdamwWInB.main_arg6)) (m ((c.tc : Thread Cert.AdamwWInB.nD Cert.AdamwWInB.τ).loc Cert.AdamwWInB.main_arg7)) (m ((c.tc : Thread Cert.AdamwWInB.nD Cert.AdamwWInB.τ).loc Cert.AdamwWInB.main_arg8)) (m ((c.tc : Thread Cert.AdamwWInB.nD Cert.AdamwWInB.τ).loc Cert.AdamwWInB.main_arg9)) (m ((c.tc : Thread Cert.AdamwWInB.nD Cert.AdamwWInB.τ).loc Cert.AdamwWInB.main_arg10))).2 = (fun _ => 1#1)

def Pre_AdamwWInBIdeal [hPre_known_pair_of_last : Cert.Pre_known_pair_of_last.Facts] (m : (ℓ : Loc Cert.AdamwWInBIdeal.nD Cert.AdamwWInBIdeal.τ Cert.AdamwWInBIdeal.sig) → Buf (Elt Ideal) ℓ) : Prop :=
  ∀ c : Dev Cert.AdamwWInBIdeal.nD,
    (Cert.Pre_known_pair_of_last.fn (F := Ideal) (m ((c.tc : Thread Cert.AdamwWInBIdeal.nD Cert.AdamwWInBIdeal.τ).loc Cert.AdamwWInBIdeal.main_arg0)) (m ((c.tc : Thread Cert.AdamwWInBIdeal.nD Cert.AdamwWInBIdeal.τ).loc Cert.AdamwWInBIdeal.main_arg1)) (m ((c.tc : Thread Cert.AdamwWInBIdeal.nD Cert.AdamwWInBIdeal.τ).loc Cert.AdamwWInBIdeal.main_arg2)) (m ((c.tc : Thread Cert.AdamwWInBIdeal.nD Cert.AdamwWInBIdeal.τ).loc Cert.AdamwWInBIdeal.main_arg3)) (m ((c.tc : Thread Cert.AdamwWInBIdeal.nD Cert.AdamwWInBIdeal.τ).loc Cert.AdamwWInBIdeal.main_arg4)) (m ((c.tc : Thread Cert.AdamwWInBIdeal.nD Cert.AdamwWInBIdeal.τ).loc Cert.AdamwWInBIdeal.main_arg5)) (m ((c.tc : Thread Cert.AdamwWInBIdeal.nD Cert.AdamwWInBIdeal.τ).loc Cert.AdamwWInBIdeal.main_arg6)) (m ((c.tc : Thread Cert.AdamwWInBIdeal.nD Cert.AdamwWInBIdeal.τ).loc Cert.AdamwWInBIdeal.main_arg7)) (m ((c.tc : Thread Cert.AdamwWInBIdeal.nD Cert.AdamwWInBIdeal.τ).loc Cert.AdamwWInBIdeal.main_arg8)) (m ((c.tc : Thread Cert.AdamwWInBIdeal.nD Cert.AdamwWInBIdeal.τ).loc Cert.AdamwWInBIdeal.main_arg9)) (m ((c.tc : Thread Cert.AdamwWInBIdeal.nD Cert.AdamwWInBIdeal.τ).loc Cert.AdamwWInBIdeal.main_arg10))).1 = (fun _ => 1#1)
    ∧ (Cert.Pre_known_pair_of_last.fn (F := Ideal) (m ((c.tc : Thread Cert.AdamwWInBIdeal.nD Cert.AdamwWInBIdeal.τ).loc Cert.AdamwWInBIdeal.main_arg0)) (m ((c.tc : Thread Cert.AdamwWInBIdeal.nD Cert.AdamwWInBIdeal.τ).loc Cert.AdamwWInBIdeal.main_arg1)) (m ((c.tc : Thread Cert.AdamwWInBIdeal.nD Cert.AdamwWInBIdeal.τ).loc Cert.AdamwWInBIdeal.main_arg2)) (m ((c.tc : Thread Cert.AdamwWInBIdeal.nD Cert.AdamwWInBIdeal.τ).loc Cert.AdamwWInBIdeal.main_arg3)) (m ((c.tc : Thread Cert.AdamwWInBIdeal.nD Cert.AdamwWInBIdeal.τ).loc Cert.AdamwWInBIdeal.main_arg4)) (m ((c.tc : Thread Cert.AdamwWInBIdeal.nD Cert.AdamwWInBIdeal.τ).loc Cert.AdamwWInBIdeal.main_arg5)) (m ((c.tc : Thread Cert.AdamwWInBIdeal.nD Cert.AdamwWInBIdeal.τ).loc Cert.AdamwWInBIdeal.main_arg6)) (m ((c.tc : Thread Cert.AdamwWInBIdeal.nD Cert.AdamwWInBIdeal.τ).loc Cert.AdamwWInBIdeal.main_arg7)) (m ((c.tc : Thread Cert.AdamwWInBIdeal.nD Cert.AdamwWInBIdeal.τ).loc Cert.AdamwWInBIdeal.main_arg8)) (m ((c.tc : Thread Cert.AdamwWInBIdeal.nD Cert.AdamwWInBIdeal.τ).loc Cert.AdamwWInBIdeal.main_arg9)) (m ((c.tc : Thread Cert.AdamwWInBIdeal.nD Cert.AdamwWInBIdeal.τ).loc Cert.AdamwWInBIdeal.main_arg10))).2 = (fun _ => 1#1)

def Pre_AdamwWInBRefIdeal (m : (ℓ : Loc Cert.AdamwWInBRefIdeal.nD Cert.AdamwWInBRefIdeal.τ Cert.AdamwWInBRefIdeal.sig) → Buf (Elt Ideal) ℓ) : Prop :=
  True

def Pre_AdamwWInBRefIdeal_known_pair_of_last [hPre_known_pair_of_last : Cert.Pre_known_pair_of_last.Facts] (m : (ℓ : Loc Cert.AdamwWInBRefIdeal.nD Cert.AdamwWInBRefIdeal.τ Cert.AdamwWInBRefIdeal.sig) → Buf (Elt Ideal) ℓ) : Prop :=
  ∀ c : Dev Cert.AdamwWInBRefIdeal.nD,
    (Cert.Pre_known_pair_of_last.fn (F := Ideal) (m ((c.tc : Thread Cert.AdamwWInBRefIdeal.nD Cert.AdamwWInBRefIdeal.τ).loc Cert.AdamwWInBRefIdeal.main_arg0)) (m ((c.tc : Thread Cert.AdamwWInBRefIdeal.nD Cert.AdamwWInBRefIdeal.τ).loc Cert.AdamwWInBRefIdeal.main_arg1)) (m ((c.tc : Thread Cert.AdamwWInBRefIdeal.nD Cert.AdamwWInBRefIdeal.τ).loc Cert.AdamwWInBRefIdeal.main_arg2)) (m ((c.tc : Thread Cert.AdamwWInBRefIdeal.nD Cert.AdamwWInBRefIdeal.τ).loc Cert.AdamwWInBRefIdeal.main_arg3)) (m ((c.tc : Thread Cert.AdamwWInBRefIdeal.nD Cert.AdamwWInBRefIdeal.τ).loc Cert.AdamwWInBRefIdeal.main_arg4)) (m ((c.tc : Thread Cert.AdamwWInBRefIdeal.nD Cert.AdamwWInBRefIdeal.τ).loc Cert.AdamwWInBRefIdeal.main_arg5)) (m ((c.tc : Thread Cert.AdamwWInBRefIdeal.nD Cert.AdamwWInBRefIdeal.τ).loc Cert.AdamwWInBRefIdeal.main_arg6)) (m ((c.tc : Thread Cert.AdamwWInBRefIdeal.nD Cert.AdamwWInBRefIdeal.τ).loc Cert.AdamwWInBRefIdeal.main_arg7)) (m ((c.tc : Thread Cert.AdamwWInBRefIdeal.nD Cert.AdamwWInBRefIdeal.τ).loc Cert.AdamwWInBRefIdeal.main_arg8)) (m ((c.tc : Thread Cert.AdamwWInBRefIdeal.nD Cert.AdamwWInBRefIdeal.τ).loc Cert.AdamwWInBRefIdeal.main_arg9)) (m ((c.tc : Thread Cert.AdamwWInBRefIdeal.nD Cert.AdamwWInBRefIdeal.τ).loc Cert.AdamwWInBRefIdeal.main_arg10))).1 = (fun _ => 1#1)
    ∧ (Cert.Pre_known_pair_of_last.fn (F := Ideal) (m ((c.tc : Thread Cert.AdamwWInBRefIdeal.nD Cert.AdamwWInBRefIdeal.τ).loc Cert.AdamwWInBRefIdeal.main_arg0)) (m ((c.tc : Thread Cert.AdamwWInBRefIdeal.nD Cert.AdamwWInBRefIdeal.τ).loc Cert.AdamwWInBRefIdeal.main_arg1)) (m ((c.tc : Thread Cert.AdamwWInBRefIdeal.nD Cert.AdamwWInBRefIdeal.τ).loc Cert.AdamwWInBRefIdeal.main_arg2)) (m ((c.tc : Thread Cert.AdamwWInBRefIdeal.nD Cert.AdamwWInBRefIdeal.τ).loc Cert.AdamwWInBRefIdeal.main_arg3)) (m ((c.tc : Thread Cert.AdamwWInBRefIdeal.nD Cert.AdamwWInBRefIdeal.τ).loc Cert.AdamwWInBRefIdeal.main_arg4)) (m ((c.tc : Thread Cert.AdamwWInBRefIdeal.nD Cert.AdamwWInBRefIdeal.τ).loc Cert.AdamwWInBRefIdeal.main_arg5)) (m ((c.tc : Thread Cert.AdamwWInBRefIdeal.nD Cert.AdamwWInBRefIdeal.τ).loc Cert.AdamwWInBRefIdeal.main_arg6)) (m ((c.tc : Thread Cert.AdamwWInBRefIdeal.nD Cert.AdamwWInBRefIdeal.τ).loc Cert.AdamwWInBRefIdeal.main_arg7)) (m ((c.tc : Thread Cert.AdamwWInBRefIdeal.nD Cert.AdamwWInBRefIdeal.τ).loc Cert.AdamwWInBRefIdeal.main_arg8)) (m ((c.tc : Thread Cert.AdamwWInBRefIdeal.nD Cert.AdamwWInBRefIdeal.τ).loc Cert.AdamwWInBRefIdeal.main_arg9)) (m ((c.tc : Thread Cert.AdamwWInBRefIdeal.nD Cert.AdamwWInBRefIdeal.τ).loc Cert.AdamwWInBRefIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_InProjDwConv [hInProjDwConv : Cert.InProjDwConv.Facts] : Prop :=
  ∀ (m : (ℓ : Loc Cert.InProjDwConv.nD Cert.InProjDwConv.τ Cert.InProjDwConv.sig) → Buf (Elt Bits) ℓ) (g : Dev Cert.InProjDwConv.nD → PrngReg), Pre_InProjDwConv m →
    θ_run (Cert.InProjDwConv.defs (F := Bits)) (onTc (τ := Cert.InProjDwConv.τ) (Cert.InProjDwConv.main (F := Bits))) ⟨m, fun _ => 0, g⟩ (fun r => (∀ c : Dev Cert.InProjDwConv.nD,
      r.2.mem ((c.tc : Thread Cert.InProjDwConv.nD Cert.InProjDwConv.τ).loc Cert.InProjDwConv.main_arg0) = m ((c.tc : Thread Cert.InProjDwConv.nD Cert.InProjDwConv.τ).loc Cert.InProjDwConv.main_arg0)
      ∧ r.2.mem ((c.tc : Thread Cert.InProjDwConv.nD Cert.InProjDwConv.τ).loc Cert.InProjDwConv.main_arg1) = m ((c.tc : Thread Cert.InProjDwConv.nD Cert.InProjDwConv.τ).loc Cert.InProjDwConv.main_arg1))
      ∧ r.2.sem = fun _ => 0)

def quiescent_InProjDwConvIdeal [hInProjDwConvIdeal : Cert.InProjDwConvIdeal.Facts] : Prop :=
  ∀ (m : (ℓ : Loc Cert.InProjDwConvIdeal.nD Cert.InProjDwConvIdeal.τ Cert.InProjDwConvIdeal.sig) → Buf (Elt Ideal) ℓ) (g : Dev Cert.InProjDwConvIdeal.nD → PrngReg), Pre_InProjDwConvIdeal m →
    θ_run (Cert.InProjDwConvIdeal.defs (F := Ideal)) (onTc (τ := Cert.InProjDwConvIdeal.τ) (Cert.InProjDwConvIdeal.main (F := Ideal))) ⟨m, fun _ => 0, g⟩ (fun r => (∀ c : Dev Cert.InProjDwConvIdeal.nD,
      r.2.mem ((c.tc : Thread Cert.InProjDwConvIdeal.nD Cert.InProjDwConvIdeal.τ).loc Cert.InProjDwConvIdeal.main_arg0) = m ((c.tc : Thread Cert.InProjDwConvIdeal.nD Cert.InProjDwConvIdeal.τ).loc Cert.InProjDwConvIdeal.main_arg0)
      ∧ r.2.mem ((c.tc : Thread Cert.InProjDwConvIdeal.nD Cert.InProjDwConvIdeal.τ).loc Cert.InProjDwConvIdeal.main_arg1) = m ((c.tc : Thread Cert.InProjDwConvIdeal.nD Cert.InProjDwConvIdeal.τ).loc Cert.InProjDwConvIdeal.main_arg1))
      ∧ r.2.sem = fun _ => 0)

def quiescent_InProjDwConvRefIdeal [hInProjDwConvRefIdeal : Cert.InProjDwConvRefIdeal.Facts] : Prop :=
  ∀ (m : (ℓ : Loc Cert.InProjDwConvRefIdeal.nD Cert.InProjDwConvRefIdeal.τ Cert.InProjDwConvRefIdeal.sig) → Buf (Elt Ideal) ℓ) (g : Dev Cert.InProjDwConvRefIdeal.nD → PrngReg), Pre_InProjDwConvRefIdeal m →
    θ_run (Cert.InProjDwConvRefIdeal.defs (F := Ideal)) (onTc (τ := Cert.InProjDwConvRefIdeal.τ) (Cert.InProjDwConvRefIdeal.main (F := Ideal))) ⟨m, fun _ => 0, g⟩ (fun r => (∀ c : Dev Cert.InProjDwConvRefIdeal.nD,
      r.2.mem ((c.tc : Thread Cert.InProjDwConvRefIdeal.nD Cert.InProjDwConvRefIdeal.τ).loc Cert.InProjDwConvRefIdeal.main_arg0) = m ((c.tc : Thread Cert.InProjDwConvRefIdeal.nD Cert.InProjDwConvRefIdeal.τ).loc Cert.InProjDwConvRefIdeal.main_arg0)
      ∧ r.2.mem ((c.tc : Thread Cert.InProjDwConvRefIdeal.nD Cert.InProjDwConvRefIdeal.τ).loc Cert.InProjDwConvRefIdeal.main_arg1) = m ((c.tc : Thread Cert.InProjDwConvRefIdeal.nD Cert.InProjDwConvRefIdeal.τ).loc Cert.InProjDwConvRefIdeal.main_arg1))
      ∧ r.2.sem = fun _ => 0)

def quiescent_InProjDwAttn [hInProjDwAttn : Cert.InProjDwAttn.Facts] : Prop :=
  ∀ (m : (ℓ : Loc Cert.InProjDwAttn.nD Cert.InProjDwAttn.τ Cert.InProjDwAttn.sig) → Buf (Elt Bits) ℓ) (g : Dev Cert.InProjDwAttn.nD → PrngReg), Pre_InProjDwAttn m →
    θ_run (Cert.InProjDwAttn.defs (F := Bits)) (onTc (τ := Cert.InProjDwAttn.τ) (Cert.InProjDwAttn.main (F := Bits))) ⟨m, fun _ => 0, g⟩ (fun r => (∀ c : Dev Cert.InProjDwAttn.nD,
      r.2.mem ((c.tc : Thread Cert.InProjDwAttn.nD Cert.InProjDwAttn.τ).loc Cert.InProjDwAttn.main_arg0) = m ((c.tc : Thread Cert.InProjDwAttn.nD Cert.InProjDwAttn.τ).loc Cert.InProjDwAttn.main_arg0)
      ∧ r.2.mem ((c.tc : Thread Cert.InProjDwAttn.nD Cert.InProjDwAttn.τ).loc Cert.InProjDwAttn.main_arg1) = m ((c.tc : Thread Cert.InProjDwAttn.nD Cert.InProjDwAttn.τ).loc Cert.InProjDwAttn.main_arg1))
      ∧ r.2.sem = fun _ => 0)

def quiescent_InProjDwAttnIdeal [hInProjDwAttnIdeal : Cert.InProjDwAttnIdeal.Facts] : Prop :=
  ∀ (m : (ℓ : Loc Cert.InProjDwAttnIdeal.nD Cert.InProjDwAttnIdeal.τ Cert.InProjDwAttnIdeal.sig) → Buf (Elt Ideal) ℓ) (g : Dev Cert.InProjDwAttnIdeal.nD → PrngReg), Pre_InProjDwAttnIdeal m →
    θ_run (Cert.InProjDwAttnIdeal.defs (F := Ideal)) (onTc (τ := Cert.InProjDwAttnIdeal.τ) (Cert.InProjDwAttnIdeal.main (F := Ideal))) ⟨m, fun _ => 0, g⟩ (fun r => (∀ c : Dev Cert.InProjDwAttnIdeal.nD,
      r.2.mem ((c.tc : Thread Cert.InProjDwAttnIdeal.nD Cert.InProjDwAttnIdeal.τ).loc Cert.InProjDwAttnIdeal.main_arg0) = m ((c.tc : Thread Cert.InProjDwAttnIdeal.nD Cert.InProjDwAttnIdeal.τ).loc Cert.InProjDwAttnIdeal.main_arg0)
      ∧ r.2.mem ((c.tc : Thread Cert.InProjDwAttnIdeal.nD Cert.InProjDwAttnIdeal.τ).loc Cert.InProjDwAttnIdeal.main_arg1) = m ((c.tc : Thread Cert.InProjDwAttnIdeal.nD Cert.InProjDwAttnIdeal.τ).loc Cert.InProjDwAttnIdeal.main_arg1))
      ∧ r.2.sem = fun _ => 0)

def quiescent_InProjDwAttnRefIdeal [hInProjDwAttnRefIdeal : Cert.InProjDwAttnRefIdeal.Facts] : Prop :=
  ∀ (m : (ℓ : Loc Cert.InProjDwAttnRefIdeal.nD Cert.InProjDwAttnRefIdeal.τ Cert.InProjDwAttnRefIdeal.sig) → Buf (Elt Ideal) ℓ) (g : Dev Cert.InProjDwAttnRefIdeal.nD → PrngReg), Pre_InProjDwAttnRefIdeal m →
    θ_run (Cert.InProjDwAttnRefIdeal.defs (F := Ideal)) (onTc (τ := Cert.InProjDwAttnRefIdeal.τ) (Cert.InProjDwAttnRefIdeal.main (F := Ideal))) ⟨m, fun _ => 0, g⟩ (fun r => (∀ c : Dev Cert.InProjDwAttnRefIdeal.nD,
      r.2.mem ((c.tc : Thread Cert.InProjDwAttnRefIdeal.nD Cert.InProjDwAttnRefIdeal.τ).loc Cert.InProjDwAttnRefIdeal.main_arg0) = m ((c.tc : Thread Cert.InProjDwAttnRefIdeal.nD Cert.InProjDwAttnRefIdeal.τ).loc Cert.InProjDwAttnRefIdeal.main_arg0)
      ∧ r.2.mem ((c.tc : Thread Cert.InProjDwAttnRefIdeal.nD Cert.InProjDwAttnRefIdeal.τ).loc Cert.InProjDwAttnRefIdeal.main_arg1) = m ((c.tc : Thread Cert.InProjDwAttnRefIdeal.nD Cert.InProjDwAttnRefIdeal.τ).loc Cert.InProjDwAttnRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3))
      ∧ r.2.sem = fun _ => 0)

def quiescent_PrenormBwd [hPrenormBwd : Cert.PrenormBwd.Facts] : Prop :=
  ∀ (m : (ℓ : Loc Cert.PrenormBwd.nD Cert.PrenormBwd.τ Cert.PrenormBwd.sig) → Buf (Elt Bits) ℓ) (g : Dev Cert.PrenormBwd.nD → PrngReg), Pre_PrenormBwd m →
    θ_run (Cert.PrenormBwd.defs (F := Bits)) (onTc (τ := Cert.PrenormBwd.τ) (Cert.PrenormBwd.main (F := Bits))) ⟨m, fun _ => 0, g⟩ (fun r => (∀ c : Dev Cert.PrenormBwd.nD,
      r.2.mem ((c.tc : Thread Cert.PrenormBwd.nD Cert.PrenormBwd.τ).loc Cert.PrenormBwd.main_arg0) = m ((c.tc : Thread Cert.PrenormBwd.nD Cert.PrenormBwd.τ).loc Cert.PrenormBwd.main_arg0)
      ∧ r.2.mem ((c.tc : Thread Cert.PrenormBwd.nD Cert.PrenormBwd.τ).loc Cert.PrenormBwd.main_arg1) = m ((c.tc : Thread Cert.PrenormBwd.nD Cert.PrenormBwd.τ).loc Cert.PrenormBwd.main_arg1)
      ∧ r.2.mem ((c.tc : Thread Cert.PrenormBwd.nD Cert.PrenormBwd.τ).loc Cert.PrenormBwd.main_arg2) = m ((c.tc : Thread Cert.PrenormBwd.nD Cert.PrenormBwd.τ).loc Cert.PrenormBwd.main_arg2)
      ∧ r.2.mem ((c.tc : Thread Cert.PrenormBwd.nD Cert.PrenormBwd.τ).loc Cert.PrenormBwd.main_arg3) = m ((c.tc : Thread Cert.PrenormBwd.nD Cert.PrenormBwd.τ).loc Cert.PrenormBwd.main_arg3)
      ∧ r.2.mem ((c.tc : Thread Cert.PrenormBwd.nD Cert.PrenormBwd.τ).loc Cert.PrenormBwd.main_arg4) = m ((c.tc : Thread Cert.PrenormBwd.nD Cert.PrenormBwd.τ).loc Cert.PrenormBwd.main_arg4))
      ∧ r.2.sem = fun _ => 0)

def quiescent_PrenormBwdIdeal [hPrenormBwdIdeal : Cert.PrenormBwdIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4))
      ∧ r.2.sem = fun _ => 0)

def quiescent_PrenormBwdRefIdeal [hPrenormBwdRefIdeal : Cert.PrenormBwdRefIdeal.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4))
      ∧ r.2.sem = fun _ => 0)

def quiescent_SumRows [hSumRows : Cert.SumRows.Facts] : Prop :=
  ∀ (m : (ℓ : Loc Cert.SumRows.nD Cert.SumRows.τ Cert.SumRows.sig) → Buf (Elt Bits) ℓ) (g : Dev Cert.SumRows.nD → PrngReg), Pre_SumRows m →
    θ_run (Cert.SumRows.defs (F := Bits)) (onTc (τ := Cert.SumRows.τ) (Cert.SumRows.main (F := Bits))) ⟨m, fun _ => 0, g⟩ (fun r => (∀ c : Dev Cert.SumRows.nD,
      r.2.mem ((c.tc : Thread Cert.SumRows.nD Cert.SumRows.τ).loc Cert.SumRows.main_arg0) = m ((c.tc : Thread Cert.SumRows.nD Cert.SumRows.τ).loc Cert.SumRows.main_arg0)
      ∧ r.2.mem ((c.tc : Thread Cert.SumRows.nD Cert.SumRows.τ).loc Cert.SumRows.main_arg1) = m ((c.tc : Thread Cert.SumRows.nD Cert.SumRows.τ).loc Cert.SumRows.main_arg1))
      ∧ r.2.sem = fun _ => 0)

def quiescent_SumRowsIdeal [hSumRowsIdeal : Cert.SumRowsIdeal.Facts] : Prop :=
  ∀ (m : (ℓ : Loc Cert.SumRowsIdeal.nD Cert.SumRowsIdeal.τ Cert.SumRowsIdeal.sig) → Buf (Elt Ideal) ℓ) (g : Dev Cert.SumRowsIdeal.nD → PrngReg), Pre_SumRowsIdeal m →
    θ_run (Cert.SumRowsIdeal.defs (F := Ideal)) (onTc (τ := Cert.SumRowsIdeal.τ) (Cert.SumRowsIdeal.main (F := Ideal))) ⟨m, fun _ => 0, g⟩ (fun r => (∀ c : Dev Cert.SumRowsIdeal.nD,
      r.2.mem ((c.tc : Thread Cert.SumRowsIdeal.nD Cert.SumRowsIdeal.τ).loc Cert.SumRowsIdeal.main_arg0) = m ((c.tc : Thread Cert.SumRowsIdeal.nD Cert.SumRowsIdeal.τ).loc Cert.SumRowsIdeal.main_arg0)
      ∧ r.2.mem ((c.tc : Thread Cert.SumRowsIdeal.nD Cert.SumRowsIdeal.τ).loc Cert.SumRowsIdeal.main_arg1) = m ((c.tc : Thread Cert.SumRowsIdeal.nD Cert.SumRowsIdeal.τ).loc Cert.SumRowsIdeal.main_arg1))
      ∧ r.2.sem = fun _ => 0)

def quiescent_SumRowsRefIdeal [hSumRowsRefIdeal : Cert.SumRowsRefIdeal.Facts] : Prop :=
  ∀ (m : (ℓ : Loc Cert.SumRowsRefIdeal.nD Cert.SumRowsRefIdeal.τ Cert.SumRowsRefIdeal.sig) → Buf (Elt Ideal) ℓ) (g : Dev Cert.SumRowsRefIdeal.nD → PrngReg), Pre_SumRowsRefIdeal m →
    θ_run (Cert.SumRowsRefIdeal.defs (F := Ideal)) (onTc (τ := Cert.SumRowsRefIdeal.τ) (Cert.SumRowsRefIdeal.main (F := Ideal))) ⟨m, fun _ => 0, g⟩ (fun r => (∀ c : Dev Cert.SumRowsRefIdeal.nD,
      r.2.mem ((c.tc : Thread Cert.SumRowsRefIdeal.nD Cert.SumRowsRefIdeal.τ).loc Cert.SumRowsRefIdeal.main_arg0) = m ((c.tc : Thread Cert.SumRowsRefIdeal.nD Cert.SumRowsRefIdeal.τ).loc Cert.SumRowsRefIdeal.main_arg0)
      ∧ r.2.mem ((c.tc : Thread Cert.SumRowsRefIdeal.nD Cert.SumRowsRefIdeal.τ).loc Cert.SumRowsRefIdeal.main_arg1) = m ((c.tc : Thread Cert.SumRowsRefIdeal.nD Cert.SumRowsRefIdeal.τ).loc Cert.SumRowsRefIdeal.main_arg1))
      ∧ r.2.sem = fun _ => 0)

def quiescent_AdamwVectors [hAdamwVectors : Cert.AdamwVectors.Facts] : Prop :=
  ∀ (m : (ℓ : Loc Cert.AdamwVectors.nD Cert.AdamwVectors.τ Cert.AdamwVectors.sig) → Buf (Elt Bits) ℓ) (g : Dev Cert.AdamwVectors.nD → PrngReg), Pre_AdamwVectors m →
    θ_run (Cert.AdamwVectors.defs (F := Bits)) (onTc (τ := Cert.AdamwVectors.τ) (Cert.AdamwVectors.main (F := Bits))) ⟨m, fun _ => 0, g⟩ (fun r => (∀ c : Dev Cert.AdamwVectors.nD,
      r.2.mem ((c.tc : Thread Cert.AdamwVectors.nD Cert.AdamwVectors.τ).loc Cert.AdamwVectors.main_arg0) = m ((c.tc : Thread Cert.AdamwVectors.nD Cert.AdamwVectors.τ).loc Cert.AdamwVectors.main_arg0)
      ∧ r.2.mem ((c.tc : Thread Cert.AdamwVectors.nD Cert.AdamwVectors.τ).loc Cert.AdamwVectors.main_arg1) = m ((c.tc : Thread Cert.AdamwVectors.nD Cert.AdamwVectors.τ).loc Cert.AdamwVectors.main_arg1)
      ∧ r.2.mem ((c.tc : Thread Cert.AdamwVectors.nD Cert.AdamwVectors.τ).loc Cert.AdamwVectors.main_arg2) = m ((c.tc : Thread Cert.AdamwVectors.nD Cert.AdamwVectors.τ).loc Cert.AdamwVectors.main_arg2)
      ∧ r.2.mem ((c.tc : Thread Cert.AdamwVectors.nD Cert.AdamwVectors.τ).loc Cert.AdamwVectors.main_arg3) = m ((c.tc : Thread Cert.AdamwVectors.nD Cert.AdamwVectors.τ).loc Cert.AdamwVectors.main_arg3)
      ∧ r.2.mem ((c.tc : Thread Cert.AdamwVectors.nD Cert.AdamwVectors.τ).loc Cert.AdamwVectors.main_arg4) = m ((c.tc : Thread Cert.AdamwVectors.nD Cert.AdamwVectors.τ).loc Cert.AdamwVectors.main_arg4)
      ∧ r.2.mem ((c.tc : Thread Cert.AdamwVectors.nD Cert.AdamwVectors.τ).loc Cert.AdamwVectors.main_arg5) = m ((c.tc : Thread Cert.AdamwVectors.nD Cert.AdamwVectors.τ).loc Cert.AdamwVectors.main_arg5)
      ∧ r.2.mem ((c.tc : Thread Cert.AdamwVectors.nD Cert.AdamwVectors.τ).loc Cert.AdamwVectors.main_arg6) = m ((c.tc : Thread Cert.AdamwVectors.nD Cert.AdamwVectors.τ).loc Cert.AdamwVectors.main_arg6)
      ∧ r.2.mem ((c.tc : Thread Cert.AdamwVectors.nD Cert.AdamwVectors.τ).loc Cert.AdamwVectors.main_arg7) = m ((c.tc : Thread Cert.AdamwVectors.nD Cert.AdamwVectors.τ).loc Cert.AdamwVectors.main_arg7)
      ∧ r.2.mem ((c.tc : Thread Cert.AdamwVectors.nD Cert.AdamwVectors.τ).loc Cert.AdamwVectors.main_arg8) = m ((c.tc : Thread Cert.AdamwVectors.nD Cert.AdamwVectors.τ).loc Cert.AdamwVectors.main_arg8)
      ∧ r.2.mem ((c.tc : Thread Cert.AdamwVectors.nD Cert.AdamwVectors.τ).loc Cert.AdamwVectors.main_arg9) = m ((c.tc : Thread Cert.AdamwVectors.nD Cert.AdamwVectors.τ).loc Cert.AdamwVectors.main_arg9))
      ∧ r.2.sem = fun _ => 0)

def quiescent_AdamwVectorsIdeal [hAdamwVectorsIdeal : Cert.AdamwVectorsIdeal.Facts] : Prop :=
  ∀ (m : (ℓ : Loc Cert.AdamwVectorsIdeal.nD Cert.AdamwVectorsIdeal.τ Cert.AdamwVectorsIdeal.sig) → Buf (Elt Ideal) ℓ) (g : Dev Cert.AdamwVectorsIdeal.nD → PrngReg), Pre_AdamwVectorsIdeal m →
    θ_run (Cert.AdamwVectorsIdeal.defs (F := Ideal)) (onTc (τ := Cert.AdamwVectorsIdeal.τ) (Cert.AdamwVectorsIdeal.main (F := Ideal))) ⟨m, fun _ => 0, g⟩ (fun r => (∀ c : Dev Cert.AdamwVectorsIdeal.nD,
      r.2.mem ((c.tc : Thread Cert.AdamwVectorsIdeal.nD Cert.AdamwVectorsIdeal.τ).loc Cert.AdamwVectorsIdeal.main_arg0) = m ((c.tc : Thread Cert.AdamwVectorsIdeal.nD Cert.AdamwVectorsIdeal.τ).loc Cert.AdamwVectorsIdeal.main_arg0)
      ∧ r.2.mem ((c.tc : Thread Cert.AdamwVectorsIdeal.nD Cert.AdamwVectorsIdeal.τ).loc Cert.AdamwVectorsIdeal.main_arg1) = m ((c.tc : Thread Cert.AdamwVectorsIdeal.nD Cert.AdamwVectorsIdeal.τ).loc Cert.AdamwVectorsIdeal.main_arg1)
      ∧ r.2.mem ((c.tc : Thread Cert.AdamwVectorsIdeal.nD Cert.AdamwVectorsIdeal.τ).loc Cert.AdamwVectorsIdeal.main_arg2) = m ((c.tc : Thread Cert.AdamwVectorsIdeal.nD Cert.AdamwVectorsIdeal.τ).loc Cert.AdamwVectorsIdeal.main_arg2)
      ∧ r.2.mem ((c.tc : Thread Cert.AdamwVectorsIdeal.nD Cert.AdamwVectorsIdeal.τ).loc Cert.AdamwVectorsIdeal.main_arg3) = m ((c.tc : Thread Cert.AdamwVectorsIdeal.nD Cert.AdamwVectorsIdeal.τ).loc Cert.AdamwVectorsIdeal.main_arg3)
      ∧ r.2.mem ((c.tc : Thread Cert.AdamwVectorsIdeal.nD Cert.AdamwVectorsIdeal.τ).loc Cert.AdamwVectorsIdeal.main_arg4) = m ((c.tc : Thread Cert.AdamwVectorsIdeal.nD Cert.AdamwVectorsIdeal.τ).loc Cert.AdamwVectorsIdeal.main_arg4)
      ∧ r.2.mem ((c.tc : Thread Cert.AdamwVectorsIdeal.nD Cert.AdamwVectorsIdeal.τ).loc Cert.AdamwVectorsIdeal.main_arg5) = m ((c.tc : Thread Cert.AdamwVectorsIdeal.nD Cert.AdamwVectorsIdeal.τ).loc Cert.AdamwVectorsIdeal.main_arg5)
      ∧ r.2.mem ((c.tc : Thread Cert.AdamwVectorsIdeal.nD Cert.AdamwVectorsIdeal.τ).loc Cert.AdamwVectorsIdeal.main_arg6) = m ((c.tc : Thread Cert.AdamwVectorsIdeal.nD Cert.AdamwVectorsIdeal.τ).loc Cert.AdamwVectorsIdeal.main_arg6)
      ∧ r.2.mem ((c.tc : Thread Cert.AdamwVectorsIdeal.nD Cert.AdamwVectorsIdeal.τ).loc Cert.AdamwVectorsIdeal.main_arg7) = m ((c.tc : Thread Cert.AdamwVectorsIdeal.nD Cert.AdamwVectorsIdeal.τ).loc Cert.AdamwVectorsIdeal.main_arg7)
      ∧ r.2.mem ((c.tc : Thread Cert.AdamwVectorsIdeal.nD Cert.AdamwVectorsIdeal.τ).loc Cert.AdamwVectorsIdeal.main_arg8) = m ((c.tc : Thread Cert.AdamwVectorsIdeal.nD Cert.AdamwVectorsIdeal.τ).loc Cert.AdamwVectorsIdeal.main_arg8)
      ∧ r.2.mem ((c.tc : Thread Cert.AdamwVectorsIdeal.nD Cert.AdamwVectorsIdeal.τ).loc Cert.AdamwVectorsIdeal.main_arg9) = m ((c.tc : Thread Cert.AdamwVectorsIdeal.nD Cert.AdamwVectorsIdeal.τ).loc Cert.AdamwVectorsIdeal.main_arg9))
      ∧ r.2.sem = fun _ => 0)

def quiescent_AdamwVectorsRefIdeal [hAdamwVectorsRefIdeal : Cert.AdamwVectorsRefIdeal.Facts] : Prop :=
  ∀ (m : (ℓ : Loc Cert.AdamwVectorsRefIdeal.nD Cert.AdamwVectorsRefIdeal.τ Cert.AdamwVectorsRefIdeal.sig) → Buf (Elt Ideal) ℓ) (g : Dev Cert.AdamwVectorsRefIdeal.nD → PrngReg), Pre_AdamwVectorsRefIdeal m →
    θ_run (Cert.AdamwVectorsRefIdeal.defs (F := Ideal)) (onTc (τ := Cert.AdamwVectorsRefIdeal.τ) (Cert.AdamwVectorsRefIdeal.main (F := Ideal))) ⟨m, fun _ => 0, g⟩ (fun r => (∀ c : Dev Cert.AdamwVectorsRefIdeal.nD,
      r.2.mem ((c.tc : Thread Cert.AdamwVectorsRefIdeal.nD Cert.AdamwVectorsRefIdeal.τ).loc Cert.AdamwVectorsRefIdeal.main_arg0) = m ((c.tc : Thread Cert.AdamwVectorsRefIdeal.nD Cert.AdamwVectorsRefIdeal.τ).loc Cert.AdamwVectorsRefIdeal.main_arg0)
      ∧ r.2.mem ((c.tc : Thread Cert.AdamwVectorsRefIdeal.nD Cert.AdamwVectorsRefIdeal.τ).loc Cert.AdamwVectorsRefIdeal.main_arg1) = m ((c.tc : Thread Cert.AdamwVectorsRefIdeal.nD Cert.AdamwVectorsRefIdeal.τ).loc Cert.AdamwVectorsRefIdeal.main_arg1)
      ∧ r.2.mem ((c.tc : Thread Cert.AdamwVectorsRefIdeal.nD Cert.AdamwVectorsRefIdeal.τ).loc Cert.AdamwVectorsRefIdeal.main_arg2) = m ((c.tc : Thread Cert.AdamwVectorsRefIdeal.nD Cert.AdamwVectorsRefIdeal.τ).loc Cert.AdamwVectorsRefIdeal.main_arg2)
      ∧ r.2.mem ((c.tc : Thread Cert.AdamwVectorsRefIdeal.nD Cert.AdamwVectorsRefIdeal.τ).loc Cert.AdamwVectorsRefIdeal.main_arg3) = m ((c.tc : Thread Cert.AdamwVectorsRefIdeal.nD Cert.AdamwVectorsRefIdeal.τ).loc Cert.AdamwVectorsRefIdeal.main_arg3)
      ∧ r.2.mem ((c.tc : Thread Cert.AdamwVectorsRefIdeal.nD Cert.AdamwVectorsRefIdeal.τ).loc Cert.AdamwVectorsRefIdeal.main_arg4) = m ((c.tc : Thread Cert.AdamwVectorsRefIdeal.nD Cert.AdamwVectorsRefIdeal.τ).loc Cert.AdamwVectorsRefIdeal.main_arg4)
      ∧ r.2.mem ((c.tc : Thread Cert.AdamwVectorsRefIdeal.nD Cert.AdamwVectorsRefIdeal.τ).loc Cert.AdamwVectorsRefIdeal.main_arg5) = m ((c.tc : Thread Cert.AdamwVectorsRefIdeal.nD Cert.AdamwVectorsRefIdeal.τ).loc Cert.AdamwVectorsRefIdeal.main_arg5)
      ∧ r.2.mem ((c.tc : Thread Cert.AdamwVectorsRefIdeal.nD Cert.AdamwVectorsRefIdeal.τ).loc Cert.AdamwVectorsRefIdeal.main_arg6) = m ((c.tc : Thread Cert.AdamwVectorsRefIdeal.nD Cert.AdamwVectorsRefIdeal.τ).loc Cert.AdamwVectorsRefIdeal.main_arg6)
      ∧ r.2.mem ((c.tc : Thread Cert.AdamwVectorsRefIdeal.nD Cert.AdamwVectorsRefIdeal.τ).loc Cert.AdamwVectorsRefIdeal.main_arg7) = m ((c.tc : Thread Cert.AdamwVectorsRefIdeal.nD Cert.AdamwVectorsRefIdeal.τ).loc Cert.AdamwVectorsRefIdeal.main_arg7)
      ∧ r.2.mem ((c.tc : Thread Cert.AdamwVectorsRefIdeal.nD Cert.AdamwVectorsRefIdeal.τ).loc Cert.AdamwVectorsRefIdeal.main_arg8) = m ((c.tc : Thread Cert.AdamwVectorsRefIdeal.nD Cert.AdamwVectorsRefIdeal.τ).loc Cert.AdamwVectorsRefIdeal.main_arg8)
      ∧ r.2.mem ((c.tc : Thread Cert.AdamwVectorsRefIdeal.nD Cert.AdamwVectorsRefIdeal.τ).loc Cert.AdamwVectorsRefIdeal.main_arg9) = m ((c.tc : Thread Cert.AdamwVectorsRefIdeal.nD Cert.AdamwVectorsRefIdeal.τ).loc Cert.AdamwVectorsRefIdeal.main_arg9))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3)
      ∧ r.2.mem ((c.tc : Thread Cert.AdamwConv.nD Cert.AdamwConv.τ).loc Cert.AdamwConv.main_arg4) = m ((c.tc : Thread Cert.AdamwConv.nD Cert.AdamwConv.τ).loc Cert.AdamwConv.main_arg4)
      ∧ r.2.mem ((c.tc : Thread Cert.AdamwConv.nD Cert.AdamwConv.τ).loc Cert.AdamwConv.main_arg5) = m ((c.tc : Thread Cert.AdamwConv.nD Cert.AdamwConv.τ).loc Cert.AdamwConv.main_arg5)
      ∧ r.2.mem ((c.tc : Thread Cert.AdamwConv.nD Cert.AdamwConv.τ).loc Cert.AdamwConv.main_arg6) = m ((c.tc : Thread Cert.AdamwConv.nD Cert.AdamwConv.τ).loc Cert.AdamwConv.main_arg6)
      ∧ r.2.mem ((c.tc : Thread Cert.AdamwConv.nD Cert.AdamwConv.τ).loc Cert.AdamwConv.main_arg7) = m ((c.tc : Thread Cert.AdamwConv.nD Cert.AdamwConv.τ).loc Cert.AdamwConv.main_arg7))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3)
      ∧ r.2.mem ((c.tc : Thread Cert.AdamwConvIdeal.nD Cert.AdamwConvIdeal.τ).loc Cert.AdamwConvIdeal.main_arg4) = m ((c.tc : Thread Cert.AdamwConvIdeal.nD Cert.AdamwConvIdeal.τ).loc Cert.AdamwConvIdeal.main_arg4)
      ∧ r.2.mem ((c.tc : Thread Cert.AdamwConvIdeal.nD Cert.AdamwConvIdeal.τ).loc Cert.AdamwConvIdeal.main_arg5) = m ((c.tc : Thread Cert.AdamwConvIdeal.nD Cert.AdamwConvIdeal.τ).loc Cert.AdamwConvIdeal.main_arg5)
      ∧ r.2.mem ((c.tc : Thread Cert.AdamwConvIdeal.nD Cert.AdamwConvIdeal.τ).loc Cert.AdamwConvIdeal.main_arg6) = m ((c.tc : Thread Cert.AdamwConvIdeal.nD Cert.AdamwConvIdeal.τ).loc Cert.AdamwConvIdeal.main_arg6)
      ∧ r.2.mem ((c.tc : Thread Cert.AdamwConvIdeal.nD Cert.AdamwConvIdeal.τ).loc Cert.AdamwConvIdeal.main_arg7) = m ((c.tc : Thread Cert.AdamwConvIdeal.nD Cert.AdamwConvIdeal.τ).loc Cert.AdamwConvIdeal.main_arg7))
      ∧ r.2.sem = fun _ => 0)

def quiescent_AdamwConvRefIdeal [hAdamwConvRefIdeal : Cert.AdamwConvRefIdeal.Facts] : Prop :=
  ∀ (m : (ℓ : Loc Cert.AdamwConvRefIdeal.nD Cert.AdamwConvRefIdeal.τ Cert.AdamwConvRefIdeal.sig) → Buf (Elt Ideal) ℓ) (g : Dev Cert.AdamwConvRefIdeal.nD → PrngReg), Pre_AdamwConvRefIdeal m →
    θ_run (Cert.AdamwConvRefIdeal.defs (F := Ideal)) (onTc (τ := Cert.AdamwConvRefIdeal.τ) (Cert.AdamwConvRefIdeal.main (F := Ideal))) ⟨m, fun _ => 0, g⟩ (fun r => (∀ c : Dev Cert.AdamwConvRefIdeal.nD,
      r.2.mem ((c.tc : Thread Cert.AdamwConvRefIdeal.nD Cert.AdamwConvRefIdeal.τ).loc Cert.AdamwConvRefIdeal.main_arg0) = m ((c.tc : Thread Cert.AdamwConvRefIdeal.nD Cert.AdamwConvRefIdeal.τ).loc Cert.AdamwConvRefIdeal.main_arg0)
      ∧ r.2.mem ((c.tc : Thread Cert.AdamwConvRefIdeal.nD Cert.AdamwConvRefIdeal.τ).loc Cert.AdamwConvRefIdeal.main_arg1) = m ((c.tc : Thread Cert.AdamwConvRefIdeal.nD Cert.AdamwConvRefIdeal.τ).loc Cert.AdamwConvRefIdeal.main_arg1)
      ∧ r.2.mem ((c.tc : Thread Cert.AdamwConvRefIdeal.nD Cert.AdamwConvRefIdeal.τ).loc Cert.AdamwConvRefIdeal.main_arg2) = m ((c.tc : Thread Cert.AdamwConvRefIdeal.nD Cert.AdamwConvRefIdeal.τ).loc Cert.AdamwConvRefIdeal.main_arg2)
      ∧ r.2.mem ((c.tc : Thread Cert.AdamwConvRefIdeal.nD Cert.AdamwConvRefIdeal.τ).loc Cert.AdamwConvRefIdeal.main_arg3) = m ((c.tc : Thread Cert.AdamwConvRefIdeal.nD Cert.AdamwConvRefIdeal.τ).loc Cert.AdamwConvRefIdeal.main_arg3)
      ∧ r.2.mem ((c.tc : Thread Cert.AdamwConvRefIdeal.nD Cert.AdamwConvRefIdeal.τ).loc Cert.AdamwConvRefIdeal.main_arg4) = m ((c.tc : Thread Cert.AdamwConvRefIdeal.nD Cert.AdamwConvRefIdeal.τ).loc Cert.AdamwConvRefIdeal.main_arg4)
      ∧ r.2.mem ((c.tc : Thread Cert.AdamwConvRefIdeal.nD Cert.AdamwConvRefIdeal.τ).loc Cert.AdamwConvRefIdeal.main_arg5) = m ((c.tc : Thread Cert.AdamwConvRefIdeal.nD Cert.AdamwConvRefIdeal.τ).loc Cert.AdamwConvRefIdeal.main_arg5)
      ∧ r.2.mem ((c.tc : Thread Cert.AdamwConvRefIdeal.nD Cert.AdamwConvRefIdeal.τ).loc Cert.AdamwConvRefIdeal.main_arg6) = m ((c.tc : Thread Cert.AdamwConvRefIdeal.nD Cert.AdamwConvRefIdeal.τ).loc Cert.AdamwConvRefIdeal.main_arg6)
      ∧ r.2.mem ((c.tc : Thread Cert.AdamwConvRefIdeal.nD Cert.AdamwConvRefIdeal.τ).loc Cert.AdamwConvRefIdeal.main_arg7) = m ((c.tc : Thread Cert.AdamwConvRefIdeal.nD Cert.AdamwConvRefIdeal.τ).loc Cert.AdamwConvRefIdeal.main_arg7))
      ∧ r.2.sem = fun _ => 0)

def quiescent_AdamwNorms [hAdamwNorms : Cert.AdamwNorms.Facts] : Prop :=
  ∀ (m : (ℓ : Loc Cert.AdamwNorms.nD Cert.AdamwNorms.τ Cert.AdamwNorms.sig) → Buf (Elt Bits) ℓ) (g : Dev Cert.AdamwNorms.nD → PrngReg), Pre_AdamwNorms m →
    θ_run (Cert.AdamwNorms.defs (F := Bits)) (onTc (τ := Cert.AdamwNorms.τ) (Cert.AdamwNorms.main (F := Bits))) ⟨m, fun _ => 0, g⟩ (fun r => (∀ c : Dev Cert.AdamwNorms.nD,
      r.2.mem ((c.tc : Thread Cert.AdamwNorms.nD Cert.AdamwNorms.τ).loc Cert.AdamwNorms.main_arg0) = m ((c.tc : Thread Cert.AdamwNorms.nD Cert.AdamwNorms.τ).loc Cert.AdamwNorms.main_arg0)
      ∧ r.2.mem ((c.tc : Thread Cert.AdamwNorms.nD Cert.AdamwNorms.τ).loc Cert.AdamwNorms.main_arg1) = m ((c.tc : Thread Cert.AdamwNorms.nD Cert.AdamwNorms.τ).loc Cert.AdamwNorms.main_arg1)
      ∧ r.2.mem ((c.tc : Thread Cert.AdamwNorms.nD Cert.AdamwNorms.τ).loc Cert.AdamwNorms.main_arg2) = m ((c.tc : Thread Cert.AdamwNorms.nD Cert.AdamwNorms.τ).loc Cert.AdamwNorms.main_arg2)
      ∧ r.2.mem ((c.tc : Thread Cert.AdamwNorms.nD Cert.AdamwNorms.τ).loc Cert.AdamwNorms.main_arg3) = m ((c.tc : Thread Cert.AdamwNorms.nD Cert.AdamwNorms.τ).loc Cert.AdamwNorms.main_arg3)
      ∧ r.2.mem ((c.tc : Thread Cert.AdamwNorms.nD Cert.AdamwNorms.τ).loc Cert.AdamwNorms.main_arg4) = m ((c.tc : Thread Cert.AdamwNorms.nD Cert.AdamwNorms.τ).loc Cert.AdamwNorms.main_arg4)
      ∧ r.2.mem ((c.tc : Thread Cert.AdamwNorms.nD Cert.AdamwNorms.τ).loc Cert.AdamwNorms.main_arg5) = m ((c.tc : Thread Cert.AdamwNorms.nD Cert.AdamwNorms.τ).loc Cert.AdamwNorms.main_arg5)
      ∧ r.2.mem ((c.tc : Thread Cert.AdamwNorms.nD Cert.AdamwNorms.τ).loc Cert.AdamwNorms.main_arg6) = m ((c.tc : Thread Cert.AdamwNorms.nD Cert.AdamwNorms.τ).loc Cert.AdamwNorms.main_arg6))
      ∧ r.2.sem = fun _ => 0)

def quiescent_AdamwNormsIdeal [hAdamwNormsIdeal : Cert.AdamwNormsIdeal.Facts] : Prop :=
  ∀ (m : (ℓ : Loc Cert.AdamwNormsIdeal.nD Cert.AdamwNormsIdeal.τ Cert.AdamwNormsIdeal.sig) → Buf (Elt Ideal) ℓ) (g : Dev Cert.AdamwNormsIdeal.nD → PrngReg), Pre_AdamwNormsIdeal m →
    θ_run (Cert.AdamwNormsIdeal.defs (F := Ideal)) (onTc (τ := Cert.AdamwNormsIdeal.τ) (Cert.AdamwNormsIdeal.main (F := Ideal))) ⟨m, fun _ => 0, g⟩ (fun r => (∀ c : Dev Cert.AdamwNormsIdeal.nD,
      r.2.mem ((c.tc : Thread Cert.AdamwNormsIdeal.nD Cert.AdamwNormsIdeal.τ).loc Cert.AdamwNormsIdeal.main_arg0) = m ((c.tc : Thread Cert.AdamwNormsIdeal.nD Cert.AdamwNormsIdeal.τ).loc Cert.AdamwNormsIdeal.main_arg0)
      ∧ r.2.mem ((c.tc : Thread Cert.AdamwNormsIdeal.nD Cert.AdamwNormsIdeal.τ).loc Cert.AdamwNormsIdeal.main_arg1) = m ((c.tc : Thread Cert.AdamwNormsIdeal.nD Cert.AdamwNormsIdeal.τ).loc Cert.AdamwNormsIdeal.main_arg1)
      ∧ r.2.mem ((c.tc : Thread Cert.AdamwNormsIdeal.nD Cert.AdamwNormsIdeal.τ).loc Cert.AdamwNormsIdeal.main_arg2) = m ((c.tc : Thread Cert.AdamwNormsIdeal.nD Cert.AdamwNormsIdeal.τ).loc Cert.AdamwNormsIdeal.main_arg2)
      ∧ r.2.mem ((c.tc : Thread Cert.AdamwNormsIdeal.nD Cert.AdamwNormsIdeal.τ).loc Cert.AdamwNormsIdeal.main_arg3) = m ((c.tc : Thread Cert.AdamwNormsIdeal.nD Cert.AdamwNormsIdeal.τ).loc Cert.AdamwNormsIdeal.main_arg3)
      ∧ r.2.mem ((c.tc : Thread Cert.AdamwNormsIdeal.nD Cert.AdamwNormsIdeal.τ).loc Cert.AdamwNormsIdeal.main_arg4) = m ((c.tc : Thread Cert.AdamwNormsIdeal.nD Cert.AdamwNormsIdeal.τ).loc Cert.AdamwNormsIdeal.main_arg4)
      ∧ r.2.mem ((c.tc : Thread Cert.AdamwNormsIdeal.nD Cert.AdamwNormsIdeal.τ).loc Cert.AdamwNormsIdeal.main_arg5) = m ((c.tc : Thread Cert.AdamwNormsIdeal.nD Cert.AdamwNormsIdeal.τ).loc Cert.AdamwNormsIdeal.main_arg5)
      ∧ r.2.mem ((c.tc : Thread Cert.AdamwNormsIdeal.nD Cert.AdamwNormsIdeal.τ).loc Cert.AdamwNormsIdeal.main_arg6) = m ((c.tc : Thread Cert.AdamwNormsIdeal.nD Cert.AdamwNormsIdeal.τ).loc Cert.AdamwNormsIdeal.main_arg6))
      ∧ r.2.sem = fun _ => 0)

def quiescent_AdamwNormsRefIdeal [hAdamwNormsRefIdeal : Cert.AdamwNormsRefIdeal.Facts] : Prop :=
  ∀ (m : (ℓ : Loc Cert.AdamwNormsRefIdeal.nD Cert.AdamwNormsRefIdeal.τ Cert.AdamwNormsRefIdeal.sig) → Buf (Elt Ideal) ℓ) (g : Dev Cert.AdamwNormsRefIdeal.nD → PrngReg), Pre_AdamwNormsRefIdeal m →
    θ_run (Cert.AdamwNormsRefIdeal.defs (F := Ideal)) (onTc (τ := Cert.AdamwNormsRefIdeal.τ) (Cert.AdamwNormsRefIdeal.main (F := Ideal))) ⟨m, fun _ => 0, g⟩ (fun r => (∀ c : Dev Cert.AdamwNormsRefIdeal.nD,
      r.2.mem ((c.tc : Thread Cert.AdamwNormsRefIdeal.nD Cert.AdamwNormsRefIdeal.τ).loc Cert.AdamwNormsRefIdeal.main_arg0) = m ((c.tc : Thread Cert.AdamwNormsRefIdeal.nD Cert.AdamwNormsRefIdeal.τ).loc Cert.AdamwNormsRefIdeal.main_arg0)
      ∧ r.2.mem ((c.tc : Thread Cert.AdamwNormsRefIdeal.nD Cert.AdamwNormsRefIdeal.τ).loc Cert.AdamwNormsRefIdeal.main_arg1) = m ((c.tc : Thread Cert.AdamwNormsRefIdeal.nD Cert.AdamwNormsRefIdeal.τ).loc Cert.AdamwNormsRefIdeal.main_arg1)
      ∧ r.2.mem ((c.tc : Thread Cert.AdamwNormsRefIdeal.nD Cert.AdamwNormsRefIdeal.τ).loc Cert.AdamwNormsRefIdeal.main_arg2) = m ((c.tc : Thread Cert.AdamwNormsRefIdeal.nD Cert.AdamwNormsRefIdeal.τ).loc Cert.AdamwNormsRefIdeal.main_arg2)
      ∧ r.2.mem ((c.tc : Thread Cert.AdamwNormsRefIdeal.nD Cert.AdamwNormsRefIdeal.τ).loc Cert.AdamwNormsRefIdeal.main_arg3) = m ((c.tc : Thread Cert.AdamwNormsRefIdeal.nD Cert.AdamwNormsRefIdeal.τ).loc Cert.AdamwNormsRefIdeal.main_arg3)
      ∧ r.2.mem ((c.tc : Thread Cert.AdamwNormsRefIdeal.nD Cert.AdamwNormsRefIdeal.τ).loc Cert.AdamwNormsRefIdeal.main_arg4) = m ((c.tc : Thread Cert.AdamwNormsRefIdeal.nD Cert.AdamwNormsRefIdeal.τ).loc Cert.AdamwNormsRefIdeal.main_arg4)
      ∧ r.2.mem ((c.tc : Thread Cert.AdamwNormsRefIdeal.nD Cert.AdamwNormsRefIdeal.τ).loc Cert.AdamwNormsRefIdeal.main_arg5) = m ((c.tc : Thread Cert.AdamwNormsRefIdeal.nD Cert.AdamwNormsRefIdeal.τ).loc Cert.AdamwNormsRefIdeal.main_arg5)
      ∧ r.2.mem ((c.tc : Thread Cert.AdamwNormsRefIdeal.nD Cert.AdamwNormsRefIdeal.τ).loc Cert.AdamwNormsRefIdeal.main_arg6) = m ((c.tc : Thread Cert.AdamwNormsRefIdeal.nD Cert.AdamwNormsRefIdeal.τ).loc Cert.AdamwNormsRefIdeal.main_arg6))
      ∧ r.2.sem = fun _ => 0)

def quiescent_AdamwAda [hAdamwAda : Cert.AdamwAda.Facts] : Prop :=
  ∀ (m : (ℓ : Loc Cert.AdamwAda.nD Cert.AdamwAda.τ Cert.AdamwAda.sig) → Buf (Elt Bits) ℓ) (g : Dev Cert.AdamwAda.nD → PrngReg), Pre_AdamwAda m →
    θ_run (Cert.AdamwAda.defs (F := Bits)) (onTc (τ := Cert.AdamwAda.τ) (Cert.AdamwAda.main (F := Bits))) ⟨m, fun _ => 0, g⟩ (fun r => (∀ c : Dev Cert.AdamwAda.nD,
      r.2.mem ((c.tc : Thread Cert.AdamwAda.nD Cert.AdamwAda.τ).loc Cert.AdamwAda.main_arg0) = m ((c.tc : Thread Cert.AdamwAda.nD Cert.AdamwAda.τ).loc Cert.AdamwAda.main_arg0)
      ∧ r.2.mem ((c.tc : Thread Cert.AdamwAda.nD Cert.AdamwAda.τ).loc Cert.AdamwAda.main_arg1) = m ((c.tc : Thread Cert.AdamwAda.nD Cert.AdamwAda.τ).loc Cert.AdamwAda.main_arg1)
      ∧ r.2.mem ((c.tc : Thread Cert.AdamwAda.nD Cert.AdamwAda.τ).loc Cert.AdamwAda.main_arg2) = m ((c.tc : Thread Cert.AdamwAda.nD Cert.AdamwAda.τ).loc Cert.AdamwAda.main_arg2)
      ∧ r.2.mem ((c.tc : Thread Cert.AdamwAda.nD Cert.AdamwAda.τ).loc Cert.AdamwAda.main_arg3) = m ((c.tc : Thread Cert.AdamwAda.nD Cert.AdamwAda.τ).loc Cert.AdamwAda.main_arg3)
      ∧ r.2.mem ((c.tc : Thread Cert.AdamwAda.nD Cert.AdamwAda.τ).loc Cert.AdamwAda.main_arg4) = m ((c.tc : Thread Cert.AdamwAda.nD Cert.AdamwAda.τ).loc Cert.AdamwAda.main_arg4)
      ∧ r.2.mem ((c.tc : Thread Cert.AdamwAda.nD Cert.AdamwAda.τ).loc Cert.AdamwAda.main_arg5) = m ((c.tc : Thread Cert.AdamwAda.nD Cert.AdamwAda.τ).loc Cert.AdamwAda.main_arg5))
      ∧ r.2.sem = fun _ => 0)

def quiescent_AdamwAdaIdeal [hAdamwAdaIdeal : Cert.AdamwAdaIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg), Pre_AdamwAdaIdeal m →
    θ_run (Cert.AdamwAdaIdeal.defs (F := Ideal)) (onTc (τ := Cert.AdamwAdaIdeal.τ) (Cert.AdamwAdaIdeal.main (F := Ideal))) ⟨m, fun _ => 0, g⟩ (fun r => (∀ c : Dev Cert.AdamwAdaIdeal.nD,
      r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
      ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
      ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
      ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3)
      ∧ r.2.mem ((c.tc : Thread Cert.AdamwAdaIdeal.nD Cert.AdamwAdaIdeal.τ).loc Cert.AdamwAdaIdeal.main_arg4) = m ((c.tc : Thread Cert.AdamwAdaIdeal.nD Cert.AdamwAdaIdeal.τ).loc Cert.AdamwAdaIdeal.main_arg4)
      ∧ r.2.mem ((c.tc : Thread Cert.AdamwAdaIdeal.nD Cert.AdamwAdaIdeal.τ).loc Cert.AdamwAdaIdeal.main_arg5) = m ((c.tc : Thread Cert.AdamwAdaIdeal.nD Cert.AdamwAdaIdeal.τ).loc Cert.AdamwAdaIdeal.main_arg5))
      ∧ r.2.sem = fun _ => 0)

def quiescent_AdamwAdaRefIdeal [hAdamwAdaRefIdeal : Cert.AdamwAdaRefIdeal.Facts] : Prop :=
  ∀ (m : (ℓ : Loc Cert.AdamwAdaRefIdeal.nD Cert.AdamwAdaRefIdeal.τ Cert.AdamwAdaRefIdeal.sig) → Buf (Elt Ideal) ℓ) (g : Dev Cert.AdamwAdaRefIdeal.nD → PrngReg), Pre_AdamwAdaRefIdeal m →
    θ_run (Cert.AdamwAdaRefIdeal.defs (F := Ideal)) (onTc (τ := Cert.AdamwAdaRefIdeal.τ) (Cert.AdamwAdaRefIdeal.main (F := Ideal))) ⟨m, fun _ => 0, g⟩ (fun r => (∀ c : Dev Cert.AdamwAdaRefIdeal.nD,
      r.2.mem ((c.tc : Thread Cert.AdamwAdaRefIdeal.nD Cert.AdamwAdaRefIdeal.τ).loc Cert.AdamwAdaRefIdeal.main_arg0) = m ((c.tc : Thread Cert.AdamwAdaRefIdeal.nD Cert.AdamwAdaRefIdeal.τ).loc Cert.AdamwAdaRefIdeal.main_arg0)
      ∧ r.2.mem ((c.tc : Thread Cert.AdamwAdaRefIdeal.nD Cert.AdamwAdaRefIdeal.τ).loc Cert.AdamwAdaRefIdeal.main_arg1) = m ((c.tc : Thread Cert.AdamwAdaRefIdeal.nD Cert.AdamwAdaRefIdeal.τ).loc Cert.AdamwAdaRefIdeal.main_arg1)
      ∧ r.2.mem ((c.tc : Thread Cert.AdamwAdaRefIdeal.nD Cert.AdamwAdaRefIdeal.τ).loc Cert.AdamwAdaRefIdeal.main_arg2) = m ((c.tc : Thread Cert.AdamwAdaRefIdeal.nD Cert.AdamwAdaRefIdeal.τ).loc Cert.AdamwAdaRefIdeal.main_arg2)
      ∧ r.2.mem ((c.tc : Thread Cert.AdamwAdaRefIdeal.nD Cert.AdamwAdaRefIdeal.τ).loc Cert.AdamwAdaRefIdeal.main_arg3) = m ((c.tc : Thread Cert.AdamwAdaRefIdeal.nD Cert.AdamwAdaRefIdeal.τ).loc Cert.AdamwAdaRefIdeal.main_arg3)
      ∧ r.2.mem ((c.tc : Thread Cert.AdamwAdaRefIdeal.nD Cert.AdamwAdaRefIdeal.τ).loc Cert.AdamwAdaRefIdeal.main_arg4) = m ((c.tc : Thread Cert.AdamwAdaRefIdeal.nD Cert.AdamwAdaRefIdeal.τ).loc Cert.AdamwAdaRefIdeal.main_arg4)
      ∧ r.2.mem ((c.tc : Thread Cert.AdamwAdaRefIdeal.nD Cert.AdamwAdaRefIdeal.τ).loc Cert.AdamwAdaRefIdeal.main_arg5) = m ((c.tc : Thread Cert.AdamwAdaRefIdeal.nD Cert.AdamwAdaRefIdeal.τ).loc Cert.AdamwAdaRefIdeal.main_arg5))
      ∧ r.2.sem = fun _ => 0)

def quiescent_InProjA [hInProjA : Cert.InProjA.Facts] [hPre_known_device : Cert.Pre_known_device.Facts] : Prop :=
  ∀ (m : (ℓ : Loc Cert.InProjA.nD Cert.InProjA.τ Cert.InProjA.sig) → Buf (Elt Bits) ℓ) (g : Dev Cert.InProjA.nD → PrngReg), Pre_InProjA m →
    θ_run (Cert.InProjA.defs (F := Bits)) (onTc (τ := Cert.InProjA.τ) (Cert.InProjA.main (F := Bits))) ⟨m, fun _ => 0, g⟩ (fun r => (∀ c : Dev Cert.InProjA.nD,
      r.2.mem ((c.tc : Thread Cert.InProjA.nD Cert.InProjA.τ).loc Cert.InProjA.main_arg0) = m ((c.tc : Thread Cert.InProjA.nD Cert.InProjA.τ).loc Cert.InProjA.main_arg0)
      ∧ r.2.mem ((c.tc : Thread Cert.InProjA.nD Cert.InProjA.τ).loc Cert.InProjA.main_arg1) = m ((c.tc : Thread Cert.InProjA.nD Cert.InProjA.τ).loc Cert.InProjA.main_arg1)
      ∧ r.2.mem ((c.tc : Thread Cert.InProjA.nD Cert.InProjA.τ).loc Cert.InProjA.main_arg2) = m ((c.tc : Thread Cert.InProjA.nD Cert.InProjA.τ).loc Cert.InProjA.main_arg2))
      ∧ r.2.sem = fun _ => 0)

def quiescent_InProjAIdeal [hInProjAIdeal : Cert.InProjAIdeal.Facts] [hPre_known_device : Cert.Pre_known_device.Facts] : Prop :=
  ∀ (m : (ℓ : Loc Cert.InProjAIdeal.nD Cert.InProjAIdeal.τ Cert.InProjAIdeal.sig) → Buf (Elt Ideal) ℓ) (g : Dev Cert.InProjAIdeal.nD → PrngReg), Pre_InProjAIdeal m →
    θ_run (Cert.InProjAIdeal.defs (F := Ideal)) (onTc (τ := Cert.InProjAIdeal.τ) (Cert.InProjAIdeal.main (F := Ideal))) ⟨m, fun _ => 0, g⟩ (fun r => (∀ c : Dev Cert.InProjAIdeal.nD,
      r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
      ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
      ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2))
      ∧ r.2.sem = fun _ => 0)

def quiescent_InProjARefIdeal [hInProjARefIdeal : Cert.InProjARefIdeal.Facts] : Prop :=
  ∀ (m : (ℓ : Loc Cert.InProjARefIdeal.nD Cert.InProjARefIdeal.τ Cert.InProjARefIdeal.sig) → Buf (Elt Ideal) ℓ) (g : Dev Cert.InProjARefIdeal.nD → PrngReg), Pre_InProjARefIdeal m →
    θ_run (Cert.InProjARefIdeal.defs (F := Ideal)) (onTc (τ := Cert.InProjARefIdeal.τ) (Cert.InProjARefIdeal.main (F := Ideal))) ⟨m, fun _ => 0, g⟩ (fun r => (∀ c : Dev Cert.InProjARefIdeal.nD,
      r.2.mem ((c.tc : Thread Cert.InProjARefIdeal.nD Cert.InProjARefIdeal.τ).loc Cert.InProjARefIdeal.main_arg0) = m ((c.tc : Thread Cert.InProjARefIdeal.nD Cert.InProjARefIdeal.τ).loc Cert.InProjARefIdeal.main_arg0)
      ∧ r.2.mem ((c.tc : Thread Cert.InProjARefIdeal.nD Cert.InProjARefIdeal.τ).loc Cert.InProjARefIdeal.main_arg1) = m ((c.tc : Thread Cert.InProjARefIdeal.nD Cert.InProjARefIdeal.τ).loc Cert.InProjARefIdeal.main_arg1)
      ∧ r.2.mem ((c.tc : Thread Cert.InProjARefIdeal.nD Cert.InProjARefIdeal.τ).loc Cert.InProjARefIdeal.main_arg2) = m ((c.tc : Thread Cert.InProjARefIdeal.nD Cert.InProjARefIdeal.τ).loc Cert.InProjARefIdeal.main_arg2))
      ∧ r.2.sem = fun _ => 0)

def quiescent_InProjARefIdeal_pre_known_device [hInProjARefIdeal : Cert.InProjARefIdeal.Facts] [hPre_known_device : Cert.Pre_known_device.Facts] : Prop :=
  ∀ (m : (ℓ : Loc Cert.InProjARefIdeal.nD Cert.InProjARefIdeal.τ Cert.InProjARefIdeal.sig) → Buf (Elt Ideal) ℓ) (g : Dev Cert.InProjARefIdeal.nD → PrngReg), Pre_InProjARefIdeal_known_device m →
    θ_run (Cert.InProjARefIdeal.defs (F := Ideal)) (onTc (τ := Cert.InProjARefIdeal.τ) (Cert.InProjARefIdeal.main (F := Ideal))) ⟨m, fun _ => 0, g⟩ (fun r => (∀ c : Dev Cert.InProjARefIdeal.nD,
      r.2.mem ((c.tc : Thread Cert.InProjARefIdeal.nD Cert.InProjARefIdeal.τ).loc Cert.InProjARefIdeal.main_arg0) = m ((c.tc : Thread Cert.InProjARefIdeal.nD Cert.InProjARefIdeal.τ).loc Cert.InProjARefIdeal.main_arg0)
      ∧ r.2.mem ((c.tc : Thread Cert.InProjARefIdeal.nD Cert.InProjARefIdeal.τ).loc Cert.InProjARefIdeal.main_arg1) = m ((c.tc : Thread Cert.InProjARefIdeal.nD Cert.InProjARefIdeal.τ).loc Cert.InProjARefIdeal.main_arg1)
      ∧ r.2.mem ((c.tc : Thread Cert.InProjARefIdeal.nD Cert.InProjARefIdeal.τ).loc Cert.InProjARefIdeal.main_arg2) = m ((c.tc : Thread Cert.InProjARefIdeal.nD Cert.InProjARefIdeal.τ).loc Cert.InProjARefIdeal.main_arg2))
      ∧ r.2.sem = fun _ => 0)

def quiescent_InProjB [hInProjB : Cert.InProjB.Facts] [hPre_known_device_of_part : Cert.Pre_known_device_of_part.Facts] : Prop :=
  ∀ (m : (ℓ : Loc Cert.InProjB.nD Cert.InProjB.τ Cert.InProjB.sig) → Buf (Elt Bits) ℓ) (g : Dev Cert.InProjB.nD → PrngReg), Pre_InProjB m →
    θ_run (Cert.InProjB.defs (F := Bits)) (onTc (τ := Cert.InProjB.τ) (Cert.InProjB.main (F := Bits))) ⟨m, fun _ => 0, g⟩ (fun r => (∀ c : Dev Cert.InProjB.nD,
      r.2.mem ((c.tc : Thread Cert.InProjB.nD Cert.InProjB.τ).loc Cert.InProjB.main_arg0) = m ((c.tc : Thread Cert.InProjB.nD Cert.InProjB.τ).loc Cert.InProjB.main_arg0)
      ∧ r.2.mem ((c.tc : Thread Cert.InProjB.nD Cert.InProjB.τ).loc Cert.InProjB.main_arg1) = m ((c.tc : Thread Cert.InProjB.nD Cert.InProjB.τ).loc Cert.InProjB.main_arg1)
      ∧ r.2.mem ((c.tc : Thread Cert.InProjB.nD Cert.InProjB.τ).loc Cert.InProjB.main_arg2) = m ((c.tc : Thread Cert.InProjB.nD Cert.InProjB.τ).loc Cert.InProjB.main_arg2)
      ∧ r.2.mem ((c.tc : Thread Cert.InProjB.nD Cert.InProjB.τ).loc Cert.InProjB.main_arg3) = m ((c.tc : Thread Cert.InProjB.nD Cert.InProjB.τ).loc Cert.InProjB.main_arg3))
      ∧ r.2.sem = fun _ => 0)

def quiescent_InProjBIdeal [hInProjBIdeal : Cert.InProjBIdeal.Facts] [hPre_known_device_of_part : Cert.Pre_known_device_of_part.Facts] : Prop :=
  ∀ (m : (ℓ : Loc Cert.InProjBIdeal.nD Cert.InProjBIdeal.τ Cert.InProjBIdeal.sig) → Buf (Elt Ideal) ℓ) (g : Dev Cert.InProjBIdeal.nD → PrngReg), Pre_InProjBIdeal m →
    θ_run (Cert.InProjBIdeal.defs (F := Ideal)) (onTc (τ := Cert.InProjBIdeal.τ) (Cert.InProjBIdeal.main (F := Ideal))) ⟨m, fun _ => 0, g⟩ (fun r => (∀ c : Dev Cert.InProjBIdeal.nD,
      r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
      ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1)
      ∧ r.2.mem ((c.tc : Thread Cert.InProjBIdeal.nD Cert.InProjBIdeal.τ).loc Cert.InProjBIdeal.main_arg2) = m ((c.tc : Thread Cert.InProjBIdeal.nD Cert.InProjBIdeal.τ).loc Cert.InProjBIdeal.main_arg2)
      ∧ r.2.mem ((c.tc : Thread Cert.InProjBIdeal.nD Cert.InProjBIdeal.τ).loc Cert.InProjBIdeal.main_arg3) = m ((c.tc : Thread Cert.InProjBIdeal.nD Cert.InProjBIdeal.τ).loc Cert.InProjBIdeal.main_arg3))
      ∧ r.2.sem = fun _ => 0)

def quiescent_InProjBRefIdeal [hInProjBRefIdeal : Cert.InProjBRefIdeal.Facts] : Prop :=
  ∀ (m : (ℓ : Loc Cert.InProjBRefIdeal.nD Cert.InProjBRefIdeal.τ Cert.InProjBRefIdeal.sig) → Buf (Elt Ideal) ℓ) (g : Dev Cert.InProjBRefIdeal.nD → PrngReg), Pre_InProjBRefIdeal m →
    θ_run (Cert.InProjBRefIdeal.defs (F := Ideal)) (onTc (τ := Cert.InProjBRefIdeal.τ) (Cert.InProjBRefIdeal.main (F := Ideal))) ⟨m, fun _ => 0, g⟩ (fun r => (∀ c : Dev Cert.InProjBRefIdeal.nD,
      r.2.mem ((c.tc : Thread Cert.InProjBRefIdeal.nD Cert.InProjBRefIdeal.τ).loc Cert.InProjBRefIdeal.main_arg0) = m ((c.tc : Thread Cert.InProjBRefIdeal.nD Cert.InProjBRefIdeal.τ).loc Cert.InProjBRefIdeal.main_arg0)
      ∧ r.2.mem ((c.tc : Thread Cert.InProjBRefIdeal.nD Cert.InProjBRefIdeal.τ).loc Cert.InProjBRefIdeal.main_arg1) = m ((c.tc : Thread Cert.InProjBRefIdeal.nD Cert.InProjBRefIdeal.τ).loc Cert.InProjBRefIdeal.main_arg1)
      ∧ r.2.mem ((c.tc : Thread Cert.InProjBRefIdeal.nD Cert.InProjBRefIdeal.τ).loc Cert.InProjBRefIdeal.main_arg2) = m ((c.tc : Thread Cert.InProjBRefIdeal.nD Cert.InProjBRefIdeal.τ).loc Cert.InProjBRefIdeal.main_arg2)
      ∧ r.2.mem ((c.tc : Thread Cert.InProjBRefIdeal.nD Cert.InProjBRefIdeal.τ).loc Cert.InProjBRefIdeal.main_arg3) = m ((c.tc : Thread Cert.InProjBRefIdeal.nD Cert.InProjBRefIdeal.τ).loc Cert.InProjBRefIdeal.main_arg3))
      ∧ r.2.sem = fun _ => 0)

def quiescent_InProjBRefIdeal_pre_known_device_of_part [hInProjBRefIdeal : Cert.InProjBRefIdeal.Facts] [hPre_known_device_of_part : Cert.Pre_known_device_of_part.Facts] : Prop :=
  ∀ (m : (ℓ : Loc Cert.InProjBRefIdeal.nD Cert.InProjBRefIdeal.τ Cert.InProjBRefIdeal.sig) → Buf (Elt Ideal) ℓ) (g : Dev Cert.InProjBRefIdeal.nD → PrngReg), Pre_InProjBRefIdeal_known_device_of_part m →
    θ_run (Cert.InProjBRefIdeal.defs (F := Ideal)) (onTc (τ := Cert.InProjBRefIdeal.τ) (Cert.InProjBRefIdeal.main (F := Ideal))) ⟨m, fun _ => 0, g⟩ (fun r => (∀ c : Dev Cert.InProjBRefIdeal.nD,
      r.2.mem ((c.tc : Thread Cert.InProjBRefIdeal.nD Cert.InProjBRefIdeal.τ).loc Cert.InProjBRefIdeal.main_arg0) = m ((c.tc : Thread Cert.InProjBRefIdeal.nD Cert.InProjBRefIdeal.τ).loc Cert.InProjBRefIdeal.main_arg0)
      ∧ r.2.mem ((c.tc : Thread Cert.InProjBRefIdeal.nD Cert.InProjBRefIdeal.τ).loc Cert.InProjBRefIdeal.main_arg1) = m ((c.tc : Thread Cert.InProjBRefIdeal.nD Cert.InProjBRefIdeal.τ).loc Cert.InProjBRefIdeal.main_arg1)
      ∧ r.2.mem ((c.tc : Thread Cert.InProjBRefIdeal.nD Cert.InProjBRefIdeal.τ).loc Cert.InProjBRefIdeal.main_arg2) = m ((c.tc : Thread Cert.InProjBRefIdeal.nD Cert.InProjBRefIdeal.τ).loc Cert.InProjBRefIdeal.main_arg2)
      ∧ r.2.mem ((c.tc : Thread Cert.InProjBRefIdeal.nD Cert.InProjBRefIdeal.τ).loc Cert.InProjBRefIdeal.main_arg3) = m ((c.tc : Thread Cert.InProjBRefIdeal.nD Cert.InProjBRefIdeal.τ).loc Cert.InProjBRefIdeal.main_arg3))
      ∧ r.2.sem = fun _ => 0)

def quiescent_InProjC [hInProjC : Cert.InProjC.Facts] [hPre_known_device_of_part : Cert.Pre_known_device_of_part.Facts] : Prop :=
  ∀ (m : (ℓ : Loc Cert.InProjC.nD Cert.InProjC.τ Cert.InProjC.sig) → Buf (Elt Bits) ℓ) (g : Dev Cert.InProjC.nD → PrngReg), Pre_InProjC m →
    θ_run (Cert.InProjC.defs (F := Bits)) (onTc (τ := Cert.InProjC.τ) (Cert.InProjC.main (F := Bits))) ⟨m, fun _ => 0, g⟩ (fun r => (∀ c : Dev Cert.InProjC.nD,
      r.2.mem ((c.tc : Thread Cert.InProjC.nD Cert.InProjC.τ).loc Cert.InProjC.main_arg0) = m ((c.tc : Thread Cert.InProjC.nD Cert.InProjC.τ).loc Cert.InProjC.main_arg0)
      ∧ r.2.mem ((c.tc : Thread Cert.InProjC.nD Cert.InProjC.τ).loc Cert.InProjC.main_arg1) = m ((c.tc : Thread Cert.InProjC.nD Cert.InProjC.τ).loc Cert.InProjC.main_arg1)
      ∧ r.2.mem ((c.tc : Thread Cert.InProjC.nD Cert.InProjC.τ).loc Cert.InProjC.main_arg2) = m ((c.tc : Thread Cert.InProjC.nD Cert.InProjC.τ).loc Cert.InProjC.main_arg2)
      ∧ r.2.mem ((c.tc : Thread Cert.InProjC.nD Cert.InProjC.τ).loc Cert.InProjC.main_arg3) = m ((c.tc : Thread Cert.InProjC.nD Cert.InProjC.τ).loc Cert.InProjC.main_arg3))
      ∧ r.2.sem = fun _ => 0)

def quiescent_InProjCIdeal [hInProjCIdeal : Cert.InProjCIdeal.Facts] [hPre_known_device_of_part : Cert.Pre_known_device_of_part.Facts] : Prop :=
  ∀ (m : (ℓ : Loc Cert.InProjCIdeal.nD Cert.InProjCIdeal.τ Cert.InProjCIdeal.sig) → Buf (Elt Ideal) ℓ) (g : Dev Cert.InProjCIdeal.nD → PrngReg), Pre_InProjCIdeal m →
    θ_run (Cert.InProjCIdeal.defs (F := Ideal)) (onTc (τ := Cert.InProjCIdeal.τ) (Cert.InProjCIdeal.main (F := Ideal))) ⟨m, fun _ => 0, g⟩ (fun r => (∀ c : Dev Cert.InProjCIdeal.nD,
      r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
      ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1)
      ∧ r.2.mem ((c.tc : Thread Cert.InProjCIdeal.nD Cert.InProjCIdeal.τ).loc Cert.InProjCIdeal.main_arg2) = m ((c.tc : Thread Cert.InProjCIdeal.nD Cert.InProjCIdeal.τ).loc Cert.InProjCIdeal.main_arg2)
      ∧ r.2.mem ((c.tc : Thread Cert.InProjCIdeal.nD Cert.InProjCIdeal.τ).loc Cert.InProjCIdeal.main_arg3) = m ((c.tc : Thread Cert.InProjCIdeal.nD Cert.InProjCIdeal.τ).loc Cert.InProjCIdeal.main_arg3))
      ∧ r.2.sem = fun _ => 0)

def quiescent_InProjCRefIdeal [hInProjCRefIdeal : Cert.InProjCRefIdeal.Facts] : Prop :=
  ∀ (m : (ℓ : Loc Cert.InProjCRefIdeal.nD Cert.InProjCRefIdeal.τ Cert.InProjCRefIdeal.sig) → Buf (Elt Ideal) ℓ) (g : Dev Cert.InProjCRefIdeal.nD → PrngReg), Pre_InProjCRefIdeal m →
    θ_run (Cert.InProjCRefIdeal.defs (F := Ideal)) (onTc (τ := Cert.InProjCRefIdeal.τ) (Cert.InProjCRefIdeal.main (F := Ideal))) ⟨m, fun _ => 0, g⟩ (fun r => (∀ c : Dev Cert.InProjCRefIdeal.nD,
      r.2.mem ((c.tc : Thread Cert.InProjCRefIdeal.nD Cert.InProjCRefIdeal.τ).loc Cert.InProjCRefIdeal.main_arg0) = m ((c.tc : Thread Cert.InProjCRefIdeal.nD Cert.InProjCRefIdeal.τ).loc Cert.InProjCRefIdeal.main_arg0)
      ∧ r.2.mem ((c.tc : Thread Cert.InProjCRefIdeal.nD Cert.InProjCRefIdeal.τ).loc Cert.InProjCRefIdeal.main_arg1) = m ((c.tc : Thread Cert.InProjCRefIdeal.nD Cert.InProjCRefIdeal.τ).loc Cert.InProjCRefIdeal.main_arg1)
      ∧ r.2.mem ((c.tc : Thread Cert.InProjCRefIdeal.nD Cert.InProjCRefIdeal.τ).loc Cert.InProjCRefIdeal.main_arg2) = m ((c.tc : Thread Cert.InProjCRefIdeal.nD Cert.InProjCRefIdeal.τ).loc Cert.InProjCRefIdeal.main_arg2)
      ∧ r.2.mem ((c.tc : Thread Cert.InProjCRefIdeal.nD Cert.InProjCRefIdeal.τ).loc Cert.InProjCRefIdeal.main_arg3) = m ((c.tc : Thread Cert.InProjCRefIdeal.nD Cert.InProjCRefIdeal.τ).loc Cert.InProjCRefIdeal.main_arg3))
      ∧ r.2.sem = fun _ => 0)

def quiescent_InProjCRefIdeal_pre_known_device_of_part [hInProjCRefIdeal : Cert.InProjCRefIdeal.Facts] [hPre_known_device_of_part : Cert.Pre_known_device_of_part.Facts] : Prop :=
  ∀ (m : (ℓ : Loc Cert.InProjCRefIdeal.nD Cert.InProjCRefIdeal.τ Cert.InProjCRefIdeal.sig) → Buf (Elt Ideal) ℓ) (g : Dev Cert.InProjCRefIdeal.nD → PrngReg), Pre_InProjCRefIdeal_known_device_of_part m →
    θ_run (Cert.InProjCRefIdeal.defs (F := Ideal)) (onTc (τ := Cert.InProjCRefIdeal.τ) (Cert.InProjCRefIdeal.main (F := Ideal))) ⟨m, fun _ => 0, g⟩ (fun r => (∀ c : Dev Cert.InProjCRefIdeal.nD,
      r.2.mem ((c.tc : Thread Cert.InProjCRefIdeal.nD Cert.InProjCRefIdeal.τ).loc Cert.InProjCRefIdeal.main_arg0) = m ((c.tc : Thread Cert.InProjCRefIdeal.nD Cert.InProjCRefIdeal.τ).loc Cert.InProjCRefIdeal.main_arg0)
      ∧ r.2.mem ((c.tc : Thread Cert.InProjCRefIdeal.nD Cert.InProjCRefIdeal.τ).loc Cert.InProjCRefIdeal.main_arg1) = m ((c.tc : Thread Cert.InProjCRefIdeal.nD Cert.InProjCRefIdeal.τ).loc Cert.InProjCRefIdeal.main_arg1)
      ∧ r.2.mem ((c.tc : Thread Cert.InProjCRefIdeal.nD Cert.InProjCRefIdeal.τ).loc Cert.InProjCRefIdeal.main_arg2) = m ((c.tc : Thread Cert.InProjCRefIdeal.nD Cert.InProjCRefIdeal.τ).loc Cert.InProjCRefIdeal.main_arg2)
      ∧ r.2.mem ((c.tc : Thread Cert.InProjCRefIdeal.nD Cert.InProjCRefIdeal.τ).loc Cert.InProjCRefIdeal.main_arg3) = m ((c.tc : Thread Cert.InProjCRefIdeal.nD Cert.InProjCRefIdeal.τ).loc Cert.InProjCRefIdeal.main_arg3))
      ∧ r.2.sem = fun _ => 0)

def quiescent_InProjD [hInProjD : Cert.InProjD.Facts] [hPre_known_device_of_part : Cert.Pre_known_device_of_part.Facts] : Prop :=
  ∀ (m : (ℓ : Loc Cert.InProjD.nD Cert.InProjD.τ Cert.InProjD.sig) → Buf (Elt Bits) ℓ) (g : Dev Cert.InProjD.nD → PrngReg), Pre_InProjD m →
    θ_run (Cert.InProjD.defs (F := Bits)) (onTc (τ := Cert.InProjD.τ) (Cert.InProjD.main (F := Bits))) ⟨m, fun _ => 0, g⟩ (fun r => (∀ c : Dev Cert.InProjD.nD,
      r.2.mem ((c.tc : Thread Cert.InProjD.nD Cert.InProjD.τ).loc Cert.InProjD.main_arg0) = m ((c.tc : Thread Cert.InProjD.nD Cert.InProjD.τ).loc Cert.InProjD.main_arg0)
      ∧ r.2.mem ((c.tc : Thread Cert.InProjD.nD Cert.InProjD.τ).loc Cert.InProjD.main_arg1) = m ((c.tc : Thread Cert.InProjD.nD Cert.InProjD.τ).loc Cert.InProjD.main_arg1)
      ∧ r.2.mem ((c.tc : Thread Cert.InProjD.nD Cert.InProjD.τ).loc Cert.InProjD.main_arg2) = m ((c.tc : Thread Cert.InProjD.nD Cert.InProjD.τ).loc Cert.InProjD.main_arg2)
      ∧ r.2.mem ((c.tc : Thread Cert.InProjD.nD Cert.InProjD.τ).loc Cert.InProjD.main_arg3) = m ((c.tc : Thread Cert.InProjD.nD Cert.InProjD.τ).loc Cert.InProjD.main_arg3))
      ∧ r.2.sem = fun _ => 0)

def quiescent_InProjDIdeal [hInProjDIdeal : Cert.InProjDIdeal.Facts] [hPre_known_device_of_part : Cert.Pre_known_device_of_part.Facts] : Prop :=
  ∀ (m : (ℓ : Loc Cert.InProjDIdeal.nD Cert.InProjDIdeal.τ Cert.InProjDIdeal.sig) → Buf (Elt Ideal) ℓ) (g : Dev Cert.InProjDIdeal.nD → PrngReg), Pre_InProjDIdeal m →
    θ_run (Cert.InProjDIdeal.defs (F := Ideal)) (onTc (τ := Cert.InProjDIdeal.τ) (Cert.InProjDIdeal.main (F := Ideal))) ⟨m, fun _ => 0, g⟩ (fun r => (∀ c : Dev Cert.InProjDIdeal.nD,
      r.2.mem ((c.tc : Thread Cert.InProjDIdeal.nD Cert.InProjDIdeal.τ).loc Cert.InProjDIdeal.main_arg0) = m ((c.tc : Thread Cert.InProjDIdeal.nD Cert.InProjDIdeal.τ).loc Cert.InProjDIdeal.main_arg0)
      ∧ r.2.mem ((c.tc : Thread Cert.InProjDIdeal.nD Cert.InProjDIdeal.τ).loc Cert.InProjDIdeal.main_arg1) = m ((c.tc : Thread Cert.InProjDIdeal.nD Cert.InProjDIdeal.τ).loc Cert.InProjDIdeal.main_arg1)
      ∧ r.2.mem ((c.tc : Thread Cert.InProjDIdeal.nD Cert.InProjDIdeal.τ).loc Cert.InProjDIdeal.main_arg2) = m ((c.tc : Thread Cert.InProjDIdeal.nD Cert.InProjDIdeal.τ).loc Cert.InProjDIdeal.main_arg2)
      ∧ r.2.mem ((c.tc : Thread Cert.InProjDIdeal.nD Cert.InProjDIdeal.τ).loc Cert.InProjDIdeal.main_arg3) = m ((c.tc : Thread Cert.InProjDIdeal.nD Cert.InProjDIdeal.τ).loc Cert.InProjDIdeal.main_arg3))
      ∧ r.2.sem = fun _ => 0)

def quiescent_InProjDRefIdeal [hInProjDRefIdeal : Cert.InProjDRefIdeal.Facts] : Prop :=
  ∀ (m : (ℓ : Loc Cert.InProjDRefIdeal.nD Cert.InProjDRefIdeal.τ Cert.InProjDRefIdeal.sig) → Buf (Elt Ideal) ℓ) (g : Dev Cert.InProjDRefIdeal.nD → PrngReg), Pre_InProjDRefIdeal m →
    θ_run (Cert.InProjDRefIdeal.defs (F := Ideal)) (onTc (τ := Cert.InProjDRefIdeal.τ) (Cert.InProjDRefIdeal.main (F := Ideal))) ⟨m, fun _ => 0, g⟩ (fun r => (∀ c : Dev Cert.InProjDRefIdeal.nD,
      r.2.mem ((c.tc : Thread Cert.InProjDRefIdeal.nD Cert.InProjDRefIdeal.τ).loc Cert.InProjDRefIdeal.main_arg0) = m ((c.tc : Thread Cert.InProjDRefIdeal.nD Cert.InProjDRefIdeal.τ).loc Cert.InProjDRefIdeal.main_arg0)
      ∧ r.2.mem ((c.tc : Thread Cert.InProjDRefIdeal.nD Cert.InProjDRefIdeal.τ).loc Cert.InProjDRefIdeal.main_arg1) = m ((c.tc : Thread Cert.InProjDRefIdeal.nD Cert.InProjDRefIdeal.τ).loc Cert.InProjDRefIdeal.main_arg1)
      ∧ r.2.mem ((c.tc : Thread Cert.InProjDRefIdeal.nD Cert.InProjDRefIdeal.τ).loc Cert.InProjDRefIdeal.main_arg2) = m ((c.tc : Thread Cert.InProjDRefIdeal.nD Cert.InProjDRefIdeal.τ).loc Cert.InProjDRefIdeal.main_arg2)
      ∧ r.2.mem ((c.tc : Thread Cert.InProjDRefIdeal.nD Cert.InProjDRefIdeal.τ).loc Cert.InProjDRefIdeal.main_arg3) = m ((c.tc : Thread Cert.InProjDRefIdeal.nD Cert.InProjDRefIdeal.τ).loc Cert.InProjDRefIdeal.main_arg3))
      ∧ r.2.sem = fun _ => 0)

def quiescent_InProjDRefIdeal_pre_known_device_of_part [hInProjDRefIdeal : Cert.InProjDRefIdeal.Facts] [hPre_known_device_of_part : Cert.Pre_known_device_of_part.Facts] : Prop :=
  ∀ (m : (ℓ : Loc Cert.InProjDRefIdeal.nD Cert.InProjDRefIdeal.τ Cert.InProjDRefIdeal.sig) → Buf (Elt Ideal) ℓ) (g : Dev Cert.InProjDRefIdeal.nD → PrngReg), Pre_InProjDRefIdeal_known_device_of_part m →
    θ_run (Cert.InProjDRefIdeal.defs (F := Ideal)) (onTc (τ := Cert.InProjDRefIdeal.τ) (Cert.InProjDRefIdeal.main (F := Ideal))) ⟨m, fun _ => 0, g⟩ (fun r => (∀ c : Dev Cert.InProjDRefIdeal.nD,
      r.2.mem ((c.tc : Thread Cert.InProjDRefIdeal.nD Cert.InProjDRefIdeal.τ).loc Cert.InProjDRefIdeal.main_arg0) = m ((c.tc : Thread Cert.InProjDRefIdeal.nD Cert.InProjDRefIdeal.τ).loc Cert.InProjDRefIdeal.main_arg0)
      ∧ r.2.mem ((c.tc : Thread Cert.InProjDRefIdeal.nD Cert.InProjDRefIdeal.τ).loc Cert.InProjDRefIdeal.main_arg1) = m ((c.tc : Thread Cert.InProjDRefIdeal.nD Cert.InProjDRefIdeal.τ).loc Cert.InProjDRefIdeal.main_arg1)
      ∧ r.2.mem ((c.tc : Thread Cert.InProjDRefIdeal.nD Cert.InProjDRefIdeal.τ).loc Cert.InProjDRefIdeal.main_arg2) = m ((c.tc : Thread Cert.InProjDRefIdeal.nD Cert.InProjDRefIdeal.τ).loc Cert.InProjDRefIdeal.main_arg2)
      ∧ r.2.mem ((c.tc : Thread Cert.InProjDRefIdeal.nD Cert.InProjDRefIdeal.τ).loc Cert.InProjDRefIdeal.main_arg3) = m ((c.tc : Thread Cert.InProjDRefIdeal.nD Cert.InProjDRefIdeal.τ).loc Cert.InProjDRefIdeal.main_arg3))
      ∧ r.2.sem = fun _ => 0)

def quiescent_InProjE [hInProjE : Cert.InProjE.Facts] [hPre_known_device_of_part : Cert.Pre_known_device_of_part.Facts] : Prop :=
  ∀ (m : (ℓ : Loc Cert.InProjE.nD Cert.InProjE.τ Cert.InProjE.sig) → Buf (Elt Bits) ℓ) (g : Dev Cert.InProjE.nD → PrngReg), Pre_InProjE m →
    θ_run (Cert.InProjE.defs (F := Bits)) (onTc (τ := Cert.InProjE.τ) (Cert.InProjE.main (F := Bits))) ⟨m, fun _ => 0, g⟩ (fun r => (∀ c : Dev Cert.InProjE.nD,
      r.2.mem ((c.tc : Thread Cert.InProjE.nD Cert.InProjE.τ).loc Cert.InProjE.main_arg0) = m ((c.tc : Thread Cert.InProjE.nD Cert.InProjE.τ).loc Cert.InProjE.main_arg0)
      ∧ r.2.mem ((c.tc : Thread Cert.InProjE.nD Cert.InProjE.τ).loc Cert.InProjE.main_arg1) = m ((c.tc : Thread Cert.InProjE.nD Cert.InProjE.τ).loc Cert.InProjE.main_arg1)
      ∧ r.2.mem ((c.tc : Thread Cert.InProjE.nD Cert.InProjE.τ).loc Cert.InProjE.main_arg2) = m ((c.tc : Thread Cert.InProjE.nD Cert.InProjE.τ).loc Cert.InProjE.main_arg2)
      ∧ r.2.mem ((c.tc : Thread Cert.InProjE.nD Cert.InProjE.τ).loc Cert.InProjE.main_arg3) = m ((c.tc : Thread Cert.InProjE.nD Cert.InProjE.τ).loc Cert.InProjE.main_arg3))
      ∧ r.2.sem = fun _ => 0)

def quiescent_InProjEIdeal [hInProjEIdeal : Cert.InProjEIdeal.Facts] [hPre_known_device_of_part : Cert.Pre_known_device_of_part.Facts] : Prop :=
  ∀ (m : (ℓ : Loc Cert.InProjEIdeal.nD Cert.InProjEIdeal.τ Cert.InProjEIdeal.sig) → Buf (Elt Ideal) ℓ) (g : Dev Cert.InProjEIdeal.nD → PrngReg), Pre_InProjEIdeal m →
    θ_run (Cert.InProjEIdeal.defs (F := Ideal)) (onTc (τ := Cert.InProjEIdeal.τ) (Cert.InProjEIdeal.main (F := Ideal))) ⟨m, fun _ => 0, g⟩ (fun r => (∀ c : Dev Cert.InProjEIdeal.nD,
      r.2.mem ((c.tc : Thread Cert.InProjEIdeal.nD Cert.InProjEIdeal.τ).loc Cert.InProjEIdeal.main_arg0) = m ((c.tc : Thread Cert.InProjEIdeal.nD Cert.InProjEIdeal.τ).loc Cert.InProjEIdeal.main_arg0)
      ∧ r.2.mem ((c.tc : Thread Cert.InProjEIdeal.nD Cert.InProjEIdeal.τ).loc Cert.InProjEIdeal.main_arg1) = m ((c.tc : Thread Cert.InProjEIdeal.nD Cert.InProjEIdeal.τ).loc Cert.InProjEIdeal.main_arg1)
      ∧ r.2.mem ((c.tc : Thread Cert.InProjEIdeal.nD Cert.InProjEIdeal.τ).loc Cert.InProjEIdeal.main_arg2) = m ((c.tc : Thread Cert.InProjEIdeal.nD Cert.InProjEIdeal.τ).loc Cert.InProjEIdeal.main_arg2)
      ∧ r.2.mem ((c.tc : Thread Cert.InProjEIdeal.nD Cert.InProjEIdeal.τ).loc Cert.InProjEIdeal.main_arg3) = m ((c.tc : Thread Cert.InProjEIdeal.nD Cert.InProjEIdeal.τ).loc Cert.InProjEIdeal.main_arg3))
      ∧ r.2.sem = fun _ => 0)

def quiescent_InProjERefIdeal [hInProjERefIdeal : Cert.InProjERefIdeal.Facts] : Prop :=
  ∀ (m : (ℓ : Loc Cert.InProjERefIdeal.nD Cert.InProjERefIdeal.τ Cert.InProjERefIdeal.sig) → Buf (Elt Ideal) ℓ) (g : Dev Cert.InProjERefIdeal.nD → PrngReg), Pre_InProjERefIdeal m →
    θ_run (Cert.InProjERefIdeal.defs (F := Ideal)) (onTc (τ := Cert.InProjERefIdeal.τ) (Cert.InProjERefIdeal.main (F := Ideal))) ⟨m, fun _ => 0, g⟩ (fun r => (∀ c : Dev Cert.InProjERefIdeal.nD,
      r.2.mem ((c.tc : Thread Cert.InProjERefIdeal.nD Cert.InProjERefIdeal.τ).loc Cert.InProjERefIdeal.main_arg0) = m ((c.tc : Thread Cert.InProjERefIdeal.nD Cert.InProjERefIdeal.τ).loc Cert.InProjERefIdeal.main_arg0)
      ∧ r.2.mem ((c.tc : Thread Cert.InProjERefIdeal.nD Cert.InProjERefIdeal.τ).loc Cert.InProjERefIdeal.main_arg1) = m ((c.tc : Thread Cert.InProjERefIdeal.nD Cert.InProjERefIdeal.τ).loc Cert.InProjERefIdeal.main_arg1)
      ∧ r.2.mem ((c.tc : Thread Cert.InProjERefIdeal.nD Cert.InProjERefIdeal.τ).loc Cert.InProjERefIdeal.main_arg2) = m ((c.tc : Thread Cert.InProjERefIdeal.nD Cert.InProjERefIdeal.τ).loc Cert.InProjERefIdeal.main_arg2)
      ∧ r.2.mem ((c.tc : Thread Cert.InProjERefIdeal.nD Cert.InProjERefIdeal.τ).loc Cert.InProjERefIdeal.main_arg3) = m ((c.tc : Thread Cert.InProjERefIdeal.nD Cert.InProjERefIdeal.τ).loc Cert.InProjERefIdeal.main_arg3))
      ∧ r.2.sem = fun _ => 0)

def quiescent_InProjERefIdeal_pre_known_device_of_part [hInProjERefIdeal : Cert.InProjERefIdeal.Facts] [hPre_known_device_of_part : Cert.Pre_known_device_of_part.Facts] : Prop :=
  ∀ (m : (ℓ : Loc Cert.InProjERefIdeal.nD Cert.InProjERefIdeal.τ Cert.InProjERefIdeal.sig) → Buf (Elt Ideal) ℓ) (g : Dev Cert.InProjERefIdeal.nD → PrngReg), Pre_InProjERefIdeal_known_device_of_part m →
    θ_run (Cert.InProjERefIdeal.defs (F := Ideal)) (onTc (τ := Cert.InProjERefIdeal.τ) (Cert.InProjERefIdeal.main (F := Ideal))) ⟨m, fun _ => 0, g⟩ (fun r => (∀ c : Dev Cert.InProjERefIdeal.nD,
      r.2.mem ((c.tc : Thread Cert.InProjERefIdeal.nD Cert.InProjERefIdeal.τ).loc Cert.InProjERefIdeal.main_arg0) = m ((c.tc : Thread Cert.InProjERefIdeal.nD Cert.InProjERefIdeal.τ).loc Cert.InProjERefIdeal.main_arg0)
      ∧ r.2.mem ((c.tc : Thread Cert.InProjERefIdeal.nD Cert.InProjERefIdeal.τ).loc Cert.InProjERefIdeal.main_arg1) = m ((c.tc : Thread Cert.InProjERefIdeal.nD Cert.InProjERefIdeal.τ).loc Cert.InProjERefIdeal.main_arg1)
      ∧ r.2.mem ((c.tc : Thread Cert.InProjERefIdeal.nD Cert.InProjERefIdeal.τ).loc Cert.InProjERefIdeal.main_arg2) = m ((c.tc : Thread Cert.InProjERefIdeal.nD Cert.InProjERefIdeal.τ).loc Cert.InProjERefIdeal.main_arg2)
      ∧ r.2.mem ((c.tc : Thread Cert.InProjERefIdeal.nD Cert.InProjERefIdeal.τ).loc Cert.InProjERefIdeal.main_arg3) = m ((c.tc : Thread Cert.InProjERefIdeal.nD Cert.InProjERefIdeal.τ).loc Cert.InProjERefIdeal.main_arg3))
      ∧ r.2.sem = fun _ => 0)

def quiescent_AdamwWOut [hAdamwWOut : Cert.AdamwWOut.Facts] [hPre_known_pair : Cert.Pre_known_pair.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3)
      ∧ r.2.mem ((c.tc : Thread Cert.AdamwWOut.nD Cert.AdamwWOut.τ).loc Cert.AdamwWOut.main_arg4) = m ((c.tc : Thread Cert.AdamwWOut.nD Cert.AdamwWOut.τ).loc Cert.AdamwWOut.main_arg4)
      ∧ r.2.mem ((c.tc : Thread Cert.AdamwWOut.nD Cert.AdamwWOut.τ).loc Cert.AdamwWOut.main_arg5) = m ((c.tc : Thread Cert.AdamwWOut.nD Cert.AdamwWOut.τ).loc Cert.AdamwWOut.main_arg5)
      ∧ r.2.mem ((c.tc : Thread Cert.AdamwWOut.nD Cert.AdamwWOut.τ).loc Cert.AdamwWOut.main_arg6) = m ((c.tc : Thread Cert.AdamwWOut.nD Cert.AdamwWOut.τ).loc Cert.AdamwWOut.main_arg6))
      ∧ r.2.sem = fun _ => 0)

def quiescent_AdamwWOutIdeal [hAdamwWOutIdeal : Cert.AdamwWOutIdeal.Facts] [hPre_known_pair : Cert.Pre_known_pair.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
      ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4)
      ∧ r.2.mem ((c.tc : Thread Cert.AdamwWOutIdeal.nD Cert.AdamwWOutIdeal.τ).loc Cert.AdamwWOutIdeal.main_arg5) = m ((c.tc : Thread Cert.AdamwWOutIdeal.nD Cert.AdamwWOutIdeal.τ).loc Cert.AdamwWOutIdeal.main_arg5)
      ∧ r.2.mem ((c.tc : Thread Cert.AdamwWOutIdeal.nD Cert.AdamwWOutIdeal.τ).loc Cert.AdamwWOutIdeal.main_arg6) = m ((c.tc : Thread Cert.AdamwWOutIdeal.nD Cert.AdamwWOutIdeal.τ).loc Cert.AdamwWOutIdeal.main_arg6))
      ∧ r.2.sem = fun _ => 0)

def quiescent_AdamwWOutRefIdeal [hAdamwWOutRefIdeal : Cert.AdamwWOutRefIdeal.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3)
      ∧ r.2.mem ((c.tc : Thread Cert.AdamwWOutRefIdeal.nD Cert.AdamwWOutRefIdeal.τ).loc Cert.AdamwWOutRefIdeal.main_arg4) = m ((c.tc : Thread Cert.AdamwWOutRefIdeal.nD Cert.AdamwWOutRefIdeal.τ).loc Cert.AdamwWOutRefIdeal.main_arg4)
      ∧ r.2.mem ((c.tc : Thread Cert.AdamwWOutRefIdeal.nD Cert.AdamwWOutRefIdeal.τ).loc Cert.AdamwWOutRefIdeal.main_arg5) = m ((c.tc : Thread Cert.AdamwWOutRefIdeal.nD Cert.AdamwWOutRefIdeal.τ).loc Cert.AdamwWOutRefIdeal.main_arg5)
      ∧ r.2.mem ((c.tc : Thread Cert.AdamwWOutRefIdeal.nD Cert.AdamwWOutRefIdeal.τ).loc Cert.AdamwWOutRefIdeal.main_arg6) = m ((c.tc : Thread Cert.AdamwWOutRefIdeal.nD Cert.AdamwWOutRefIdeal.τ).loc Cert.AdamwWOutRefIdeal.main_arg6))
      ∧ r.2.sem = fun _ => 0)

def quiescent_AdamwWOutRefIdeal_pre_known_pair [hAdamwWOutRefIdeal : Cert.AdamwWOutRefIdeal.Facts] [hPre_known_pair : Cert.Pre_known_pair.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal_known_pair m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3)
      ∧ r.2.mem ((c.tc : Thread Cert.AdamwWOutRefIdeal.nD Cert.AdamwWOutRefIdeal.τ).loc Cert.AdamwWOutRefIdeal.main_arg4) = m ((c.tc : Thread Cert.AdamwWOutRefIdeal.nD Cert.AdamwWOutRefIdeal.τ).loc Cert.AdamwWOutRefIdeal.main_arg4)
      ∧ r.2.mem ((c.tc : Thread Cert.AdamwWOutRefIdeal.nD Cert.AdamwWOutRefIdeal.τ).loc Cert.AdamwWOutRefIdeal.main_arg5) = m ((c.tc : Thread Cert.AdamwWOutRefIdeal.nD Cert.AdamwWOutRefIdeal.τ).loc Cert.AdamwWOutRefIdeal.main_arg5)
      ∧ r.2.mem ((c.tc : Thread Cert.AdamwWOutRefIdeal.nD Cert.AdamwWOutRefIdeal.τ).loc Cert.AdamwWOutRefIdeal.main_arg6) = m ((c.tc : Thread Cert.AdamwWOutRefIdeal.nD Cert.AdamwWOutRefIdeal.τ).loc Cert.AdamwWOutRefIdeal.main_arg6))
      ∧ r.2.sem = fun _ => 0)

def quiescent_AdamwWInA [hAdamwWInA : Cert.AdamwWInA.Facts] [hPre_known_pair_of_in : Cert.Pre_known_pair_of_in.Facts] : Prop :=
  ∀ (m : (ℓ : Loc Cert.AdamwWInA.nD Cert.AdamwWInA.τ Cert.AdamwWInA.sig) → Buf (Elt Bits) ℓ) (g : Dev Cert.AdamwWInA.nD → PrngReg), Pre_AdamwWInA m →
    θ_run (Cert.AdamwWInA.defs (F := Bits)) (onTc (τ := Cert.AdamwWInA.τ) (Cert.AdamwWInA.main (F := Bits))) ⟨m, fun _ => 0, g⟩ (fun r => (∀ c : Dev Cert.AdamwWInA.nD,
      r.2.mem ((c.tc : Thread Cert.AdamwWInA.nD Cert.AdamwWInA.τ).loc Cert.AdamwWInA.main_arg0) = m ((c.tc : Thread Cert.AdamwWInA.nD Cert.AdamwWInA.τ).loc Cert.AdamwWInA.main_arg0)
      ∧ r.2.mem ((c.tc : Thread Cert.AdamwWInA.nD Cert.AdamwWInA.τ).loc Cert.AdamwWInA.main_arg1) = m ((c.tc : Thread Cert.AdamwWInA.nD Cert.AdamwWInA.τ).loc Cert.AdamwWInA.main_arg1)
      ∧ r.2.mem ((c.tc : Thread Cert.AdamwWInA.nD Cert.AdamwWInA.τ).loc Cert.AdamwWInA.main_arg2) = m ((c.tc : Thread Cert.AdamwWInA.nD Cert.AdamwWInA.τ).loc Cert.AdamwWInA.main_arg2)
      ∧ r.2.mem ((c.tc : Thread Cert.AdamwWInA.nD Cert.AdamwWInA.τ).loc Cert.AdamwWInA.main_arg3) = m ((c.tc : Thread Cert.AdamwWInA.nD Cert.AdamwWInA.τ).loc Cert.AdamwWInA.main_arg3)
      ∧ r.2.mem ((c.tc : Thread Cert.AdamwWInA.nD Cert.AdamwWInA.τ).loc Cert.AdamwWInA.main_arg4) = m ((c.tc : Thread Cert.AdamwWInA.nD Cert.AdamwWInA.τ).loc Cert.AdamwWInA.main_arg4)
      ∧ r.2.mem ((c.tc : Thread Cert.AdamwWInA.nD Cert.AdamwWInA.τ).loc Cert.AdamwWInA.main_arg5) = m ((c.tc : Thread Cert.AdamwWInA.nD Cert.AdamwWInA.τ).loc Cert.AdamwWInA.main_arg5)
      ∧ r.2.mem ((c.tc : Thread Cert.AdamwWInA.nD Cert.AdamwWInA.τ).loc Cert.AdamwWInA.main_arg6) = m ((c.tc : Thread Cert.AdamwWInA.nD Cert.AdamwWInA.τ).loc Cert.AdamwWInA.main_arg6))
      ∧ r.2.sem = fun _ => 0)

def quiescent_AdamwWInAIdeal [hAdamwWInAIdeal : Cert.AdamwWInAIdeal.Facts] [hPre_known_pair_of_in : Cert.Pre_known_pair_of_in.Facts] : Prop :=
  ∀ (m : (ℓ : Loc Cert.AdamwWInAIdeal.nD Cert.AdamwWInAIdeal.τ Cert.AdamwWInAIdeal.sig) → Buf (Elt Ideal) ℓ) (g : Dev Cert.AdamwWInAIdeal.nD → PrngReg), Pre_AdamwWInAIdeal m →
    θ_run (Cert.AdamwWInAIdeal.defs (F := Ideal)) (onTc (τ := Cert.AdamwWInAIdeal.τ) (Cert.AdamwWInAIdeal.main (F := Ideal))) ⟨m, fun _ => 0, g⟩ (fun r => (∀ c : Dev Cert.AdamwWInAIdeal.nD,
      r.2.mem ((c.tc : Thread Cert.AdamwWInAIdeal.nD Cert.AdamwWInAIdeal.τ).loc Cert.AdamwWInAIdeal.main_arg0) = m ((c.tc : Thread Cert.AdamwWInAIdeal.nD Cert.AdamwWInAIdeal.τ).loc Cert.AdamwWInAIdeal.main_arg0)
      ∧ r.2.mem ((c.tc : Thread Cert.AdamwWInAIdeal.nD Cert.AdamwWInAIdeal.τ).loc Cert.AdamwWInAIdeal.main_arg1) = m ((c.tc : Thread Cert.AdamwWInAIdeal.nD Cert.AdamwWInAIdeal.τ).loc Cert.AdamwWInAIdeal.main_arg1)
      ∧ r.2.mem ((c.tc : Thread Cert.AdamwWInAIdeal.nD Cert.AdamwWInAIdeal.τ).loc Cert.AdamwWInAIdeal.main_arg2) = m ((c.tc : Thread Cert.AdamwWInAIdeal.nD Cert.AdamwWInAIdeal.τ).loc Cert.AdamwWInAIdeal.main_arg2)
      ∧ r.2.mem ((c.tc : Thread Cert.AdamwWInAIdeal.nD Cert.AdamwWInAIdeal.τ).loc Cert.AdamwWInAIdeal.main_arg3) = m ((c.tc : Thread Cert.AdamwWInAIdeal.nD Cert.AdamwWInAIdeal.τ).loc Cert.AdamwWInAIdeal.main_arg3)
      ∧ r.2.mem ((c.tc : Thread Cert.AdamwWInAIdeal.nD Cert.AdamwWInAIdeal.τ).loc Cert.AdamwWInAIdeal.main_arg4) = m ((c.tc : Thread Cert.AdamwWInAIdeal.nD Cert.AdamwWInAIdeal.τ).loc Cert.AdamwWInAIdeal.main_arg4)
      ∧ r.2.mem ((c.tc : Thread Cert.AdamwWInAIdeal.nD Cert.AdamwWInAIdeal.τ).loc Cert.AdamwWInAIdeal.main_arg5) = m ((c.tc : Thread Cert.AdamwWInAIdeal.nD Cert.AdamwWInAIdeal.τ).loc Cert.AdamwWInAIdeal.main_arg5)
      ∧ r.2.mem ((c.tc : Thread Cert.AdamwWInAIdeal.nD Cert.AdamwWInAIdeal.τ).loc Cert.AdamwWInAIdeal.main_arg6) = m ((c.tc : Thread Cert.AdamwWInAIdeal.nD Cert.AdamwWInAIdeal.τ).loc Cert.AdamwWInAIdeal.main_arg6))
      ∧ r.2.sem = fun _ => 0)

def quiescent_AdamwWInARefIdeal [hAdamwWInARefIdeal : Cert.AdamwWInARefIdeal.Facts] : Prop :=
  ∀ (m : (ℓ : Loc Cert.AdamwWInARefIdeal.nD Cert.AdamwWInARefIdeal.τ Cert.AdamwWInARefIdeal.sig) → Buf (Elt Ideal) ℓ) (g : Dev Cert.AdamwWInARefIdeal.nD → PrngReg), Pre_AdamwWInARefIdeal m →
    θ_run (Cert.AdamwWInARefIdeal.defs (F := Ideal)) (onTc (τ := Cert.AdamwWInARefIdeal.τ) (Cert.AdamwWInARefIdeal.main (F := Ideal))) ⟨m, fun _ => 0, g⟩ (fun r => (∀ c : Dev Cert.AdamwWInARefIdeal.nD,
      r.2.mem ((c.tc : Thread Cert.AdamwWInARefIdeal.nD Cert.AdamwWInARefIdeal.τ).loc Cert.AdamwWInARefIdeal.main_arg0) = m ((c.tc : Thread Cert.AdamwWInARefIdeal.nD Cert.AdamwWInARefIdeal.τ).loc Cert.AdamwWInARefIdeal.main_arg0)
      ∧ r.2.mem ((c.tc : Thread Cert.AdamwWInARefIdeal.nD Cert.AdamwWInARefIdeal.τ).loc Cert.AdamwWInARefIdeal.main_arg1) = m ((c.tc : Thread Cert.AdamwWInARefIdeal.nD Cert.AdamwWInARefIdeal.τ).loc Cert.AdamwWInARefIdeal.main_arg1)
      ∧ r.2.mem ((c.tc : Thread Cert.AdamwWInARefIdeal.nD Cert.AdamwWInARefIdeal.τ).loc Cert.AdamwWInARefIdeal.main_arg2) = m ((c.tc : Thread Cert.AdamwWInARefIdeal.nD Cert.AdamwWInARefIdeal.τ).loc Cert.AdamwWInARefIdeal.main_arg2)
      ∧ r.2.mem ((c.tc : Thread Cert.AdamwWInARefIdeal.nD Cert.AdamwWInARefIdeal.τ).loc Cert.AdamwWInARefIdeal.main_arg3) = m ((c.tc : Thread Cert.AdamwWInARefIdeal.nD Cert.AdamwWInARefIdeal.τ).loc Cert.AdamwWInARefIdeal.main_arg3)
      ∧ r.2.mem ((c.tc : Thread Cert.AdamwWInARefIdeal.nD Cert.AdamwWInARefIdeal.τ).loc Cert.AdamwWInARefIdeal.main_arg4) = m ((c.tc : Thread Cert.AdamwWInARefIdeal.nD Cert.AdamwWInARefIdeal.τ).loc Cert.AdamwWInARefIdeal.main_arg4)
      ∧ r.2.mem ((c.tc : Thread Cert.AdamwWInARefIdeal.nD Cert.AdamwWInARefIdeal.τ).loc Cert.AdamwWInARefIdeal.main_arg5) = m ((c.tc : Thread Cert.AdamwWInARefIdeal.nD Cert.AdamwWInARefIdeal.τ).loc Cert.AdamwWInARefIdeal.main_arg5)
      ∧ r.2.mem ((c.tc : Thread Cert.AdamwWInARefIdeal.nD Cert.AdamwWInARefIdeal.τ).loc Cert.AdamwWInARefIdeal.main_arg6) = m ((c.tc : Thread Cert.AdamwWInARefIdeal.nD Cert.AdamwWInARefIdeal.τ).loc Cert.AdamwWInARefIdeal.main_arg6))
      ∧ r.2.sem = fun _ => 0)

def quiescent_AdamwWInARefIdeal_pre_known_pair_of_in [hAdamwWInARefIdeal : Cert.AdamwWInARefIdeal.Facts] [hPre_known_pair_of_in : Cert.Pre_known_pair_of_in.Facts] : Prop :=
  ∀ (m : (ℓ : Loc Cert.AdamwWInARefIdeal.nD Cert.AdamwWInARefIdeal.τ Cert.AdamwWInARefIdeal.sig) → Buf (Elt Ideal) ℓ) (g : Dev Cert.AdamwWInARefIdeal.nD → PrngReg), Pre_AdamwWInARefIdeal_known_pair_of_in m →
    θ_run (Cert.AdamwWInARefIdeal.defs (F := Ideal)) (onTc (τ := Cert.AdamwWInARefIdeal.τ) (Cert.AdamwWInARefIdeal.main (F := Ideal))) ⟨m, fun _ => 0, g⟩ (fun r => (∀ c : Dev Cert.AdamwWInARefIdeal.nD,
      r.2.mem ((c.tc : Thread Cert.AdamwWInARefIdeal.nD Cert.AdamwWInARefIdeal.τ).loc Cert.AdamwWInARefIdeal.main_arg0) = m ((c.tc : Thread Cert.AdamwWInARefIdeal.nD Cert.AdamwWInARefIdeal.τ).loc Cert.AdamwWInARefIdeal.main_arg0)
      ∧ r.2.mem ((c.tc : Thread Cert.AdamwWInARefIdeal.nD Cert.AdamwWInARefIdeal.τ).loc Cert.AdamwWInARefIdeal.main_arg1) = m ((c.tc : Thread Cert.AdamwWInARefIdeal.nD Cert.AdamwWInARefIdeal.τ).loc Cert.AdamwWInARefIdeal.main_arg1)
      ∧ r.2.mem ((c.tc : Thread Cert.AdamwWInARefIdeal.nD Cert.AdamwWInARefIdeal.τ).loc Cert.AdamwWInARefIdeal.main_arg2) = m ((c.tc : Thread Cert.AdamwWInARefIdeal.nD Cert.AdamwWInARefIdeal.τ).loc Cert.AdamwWInARefIdeal.main_arg2)
      ∧ r.2.mem ((c.tc : Thread Cert.AdamwWInARefIdeal.nD Cert.AdamwWInARefIdeal.τ).loc Cert.AdamwWInARefIdeal.main_arg3) = m ((c.tc : Thread Cert.AdamwWInARefIdeal.nD Cert.AdamwWInARefIdeal.τ).loc Cert.AdamwWInARefIdeal.main_arg3)
      ∧ r.2.mem ((c.tc : Thread Cert.AdamwWInARefIdeal.nD Cert.AdamwWInARefIdeal.τ).loc Cert.AdamwWInARefIdeal.main_arg4) = m ((c.tc : Thread Cert.AdamwWInARefIdeal.nD Cert.AdamwWInARefIdeal.τ).loc Cert.AdamwWInARefIdeal.main_arg4)
      ∧ r.2.mem ((c.tc : Thread Cert.AdamwWInARefIdeal.nD Cert.AdamwWInARefIdeal.τ).loc Cert.AdamwWInARefIdeal.main_arg5) = m ((c.tc : Thread Cert.AdamwWInARefIdeal.nD Cert.AdamwWInARefIdeal.τ).loc Cert.AdamwWInARefIdeal.main_arg5)
      ∧ r.2.mem ((c.tc : Thread Cert.AdamwWInARefIdeal.nD Cert.AdamwWInARefIdeal.τ).loc Cert.AdamwWInARefIdeal.main_arg6) = m ((c.tc : Thread Cert.AdamwWInARefIdeal.nD Cert.AdamwWInARefIdeal.τ).loc Cert.AdamwWInARefIdeal.main_arg6))
      ∧ r.2.sem = fun _ => 0)

def quiescent_AdamwWInB [hAdamwWInB : Cert.AdamwWInB.Facts] [hPre_known_pair_of_last : Cert.Pre_known_pair_of_last.Facts] : Prop :=
  ∀ (m : (ℓ : Loc Cert.AdamwWInB.nD Cert.AdamwWInB.τ Cert.AdamwWInB.sig) → Buf (Elt Bits) ℓ) (g : Dev Cert.AdamwWInB.nD → PrngReg), Pre_AdamwWInB m →
    θ_run (Cert.AdamwWInB.defs (F := Bits)) (onTc (τ := Cert.AdamwWInB.τ) (Cert.AdamwWInB.main (F := Bits))) ⟨m, fun _ => 0, g⟩ (fun r => (∀ c : Dev Cert.AdamwWInB.nD,
      r.2.mem ((c.tc : Thread Cert.AdamwWInB.nD Cert.AdamwWInB.τ).loc Cert.AdamwWInB.main_arg0) = m ((c.tc : Thread Cert.AdamwWInB.nD Cert.AdamwWInB.τ).loc Cert.AdamwWInB.main_arg0)
      ∧ r.2.mem ((c.tc : Thread Cert.AdamwWInB.nD Cert.AdamwWInB.τ).loc Cert.AdamwWInB.main_arg1) = m ((c.tc : Thread Cert.AdamwWInB.nD Cert.AdamwWInB.τ).loc Cert.AdamwWInB.main_arg1)
      ∧ r.2.mem ((c.tc : Thread Cert.AdamwWInB.nD Cert.AdamwWInB.τ).loc Cert.AdamwWInB.main_arg2) = m ((c.tc : Thread Cert.AdamwWInB.nD Cert.AdamwWInB.τ).loc Cert.AdamwWInB.main_arg2)
      ∧ r.2.mem ((c.tc : Thread Cert.AdamwWInB.nD Cert.AdamwWInB.τ).loc Cert.AdamwWInB.main_arg3) = m ((c.tc : Thread Cert.AdamwWInB.nD Cert.AdamwWInB.τ).loc Cert.AdamwWInB.main_arg3)
      ∧ r.2.mem ((c.tc : Thread Cert.AdamwWInB.nD Cert.AdamwWInB.τ).loc Cert.AdamwWInB.main_arg4) = m ((c.tc : Thread Cert.AdamwWInB.nD Cert.AdamwWInB.τ).loc Cert.AdamwWInB.main_arg4)
      ∧ r.2.mem ((c.tc : Thread Cert.AdamwWInB.nD Cert.AdamwWInB.τ).loc Cert.AdamwWInB.main_arg5) = m ((c.tc : Thread Cert.AdamwWInB.nD Cert.AdamwWInB.τ).loc Cert.AdamwWInB.main_arg5)
      ∧ r.2.mem ((c.tc : Thread Cert.AdamwWInB.nD Cert.AdamwWInB.τ).loc Cert.AdamwWInB.main_arg6) = m ((c.tc : Thread Cert.AdamwWInB.nD Cert.AdamwWInB.τ).loc Cert.AdamwWInB.main_arg6)
      ∧ r.2.mem ((c.tc : Thread Cert.AdamwWInB.nD Cert.AdamwWInB.τ).loc Cert.AdamwWInB.main_arg7) = m ((c.tc : Thread Cert.AdamwWInB.nD Cert.AdamwWInB.τ).loc Cert.AdamwWInB.main_arg7)
      ∧ r.2.mem ((c.tc : Thread Cert.AdamwWInB.nD Cert.AdamwWInB.τ).loc Cert.AdamwWInB.main_arg8) = m ((c.tc : Thread Cert.AdamwWInB.nD Cert.AdamwWInB.τ).loc Cert.AdamwWInB.main_arg8)
      ∧ r.2.mem ((c.tc : Thread Cert.AdamwWInB.nD Cert.AdamwWInB.τ).loc Cert.AdamwWInB.main_arg9) = m ((c.tc : Thread Cert.AdamwWInB.nD Cert.AdamwWInB.τ).loc Cert.AdamwWInB.main_arg9)
      ∧ r.2.mem ((c.tc : Thread Cert.AdamwWInB.nD Cert.AdamwWInB.τ).loc Cert.AdamwWInB.main_arg10) = m ((c.tc : Thread Cert.AdamwWInB.nD Cert.AdamwWInB.τ).loc Cert.AdamwWInB.main_arg10))
      ∧ r.2.sem = fun _ => 0)

def quiescent_AdamwWInBIdeal [hAdamwWInBIdeal : Cert.AdamwWInBIdeal.Facts] [hPre_known_pair_of_last : Cert.Pre_known_pair_of_last.Facts] : Prop :=
  ∀ (m : (ℓ : Loc Cert.AdamwWInBIdeal.nD Cert.AdamwWInBIdeal.τ Cert.AdamwWInBIdeal.sig) → Buf (Elt Ideal) ℓ) (g : Dev Cert.AdamwWInBIdeal.nD → PrngReg), Pre_AdamwWInBIdeal m →
    θ_run (Cert.AdamwWInBIdeal.defs (F := Ideal)) (onTc (τ := Cert.AdamwWInBIdeal.τ) (Cert.AdamwWInBIdeal.main (F := Ideal))) ⟨m, fun _ => 0, g⟩ (fun r => (∀ c : Dev Cert.AdamwWInBIdeal.nD,
      r.2.mem ((c.tc : Thread Cert.AdamwWInBIdeal.nD Cert.AdamwWInBIdeal.τ).loc Cert.AdamwWInBIdeal.main_arg0) = m ((c.tc : Thread Cert.AdamwWInBIdeal.nD Cert.AdamwWInBIdeal.τ).loc Cert.AdamwWInBIdeal.main_arg0)
      ∧ r.2.mem ((c.tc : Thread Cert.AdamwWInBIdeal.nD Cert.AdamwWInBIdeal.τ).loc Cert.AdamwWInBIdeal.main_arg1) = m ((c.tc : Thread Cert.AdamwWInBIdeal.nD Cert.AdamwWInBIdeal.τ).loc Cert.AdamwWInBIdeal.main_arg1)
      ∧ r.2.mem ((c.tc : Thread Cert.AdamwWInBIdeal.nD Cert.AdamwWInBIdeal.τ).loc Cert.AdamwWInBIdeal.main_arg2) = m ((c.tc : Thread Cert.AdamwWInBIdeal.nD Cert.AdamwWInBIdeal.τ).loc Cert.AdamwWInBIdeal.main_arg2)
      ∧ r.2.mem ((c.tc : Thread Cert.AdamwWInBIdeal.nD Cert.AdamwWInBIdeal.τ).loc Cert.AdamwWInBIdeal.main_arg3) = m ((c.tc : Thread Cert.AdamwWInBIdeal.nD Cert.AdamwWInBIdeal.τ).loc Cert.AdamwWInBIdeal.main_arg3)
      ∧ r.2.mem ((c.tc : Thread Cert.AdamwWInBIdeal.nD Cert.AdamwWInBIdeal.τ).loc Cert.AdamwWInBIdeal.main_arg4) = m ((c.tc : Thread Cert.AdamwWInBIdeal.nD Cert.AdamwWInBIdeal.τ).loc Cert.AdamwWInBIdeal.main_arg4)
      ∧ r.2.mem ((c.tc : Thread Cert.AdamwWInBIdeal.nD Cert.AdamwWInBIdeal.τ).loc Cert.AdamwWInBIdeal.main_arg5) = m ((c.tc : Thread Cert.AdamwWInBIdeal.nD Cert.AdamwWInBIdeal.τ).loc Cert.AdamwWInBIdeal.main_arg5)
      ∧ r.2.mem ((c.tc : Thread Cert.AdamwWInBIdeal.nD Cert.AdamwWInBIdeal.τ).loc Cert.AdamwWInBIdeal.main_arg6) = m ((c.tc : Thread Cert.AdamwWInBIdeal.nD Cert.AdamwWInBIdeal.τ).loc Cert.AdamwWInBIdeal.main_arg6)
      ∧ r.2.mem ((c.tc : Thread Cert.AdamwWInBIdeal.nD Cert.AdamwWInBIdeal.τ).loc Cert.AdamwWInBIdeal.main_arg7) = m ((c.tc : Thread Cert.AdamwWInBIdeal.nD Cert.AdamwWInBIdeal.τ).loc Cert.AdamwWInBIdeal.main_arg7)
      ∧ r.2.mem ((c.tc : Thread Cert.AdamwWInBIdeal.nD Cert.AdamwWInBIdeal.τ).loc Cert.AdamwWInBIdeal.main_arg8) = m ((c.tc : Thread Cert.AdamwWInBIdeal.nD Cert.AdamwWInBIdeal.τ).loc Cert.AdamwWInBIdeal.main_arg8)
      ∧ r.2.mem ((c.tc : Thread Cert.AdamwWInBIdeal.nD Cert.AdamwWInBIdeal.τ).loc Cert.AdamwWInBIdeal.main_arg9) = m ((c.tc : Thread Cert.AdamwWInBIdeal.nD Cert.AdamwWInBIdeal.τ).loc Cert.AdamwWInBIdeal.main_arg9)
      ∧ r.2.mem ((c.tc : Thread Cert.AdamwWInBIdeal.nD Cert.AdamwWInBIdeal.τ).loc Cert.AdamwWInBIdeal.main_arg10) = m ((c.tc : Thread Cert.AdamwWInBIdeal.nD Cert.AdamwWInBIdeal.τ).loc Cert.AdamwWInBIdeal.main_arg10))
      ∧ r.2.sem = fun _ => 0)

def quiescent_AdamwWInBRefIdeal [hAdamwWInBRefIdeal : Cert.AdamwWInBRefIdeal.Facts] : Prop :=
  ∀ (m : (ℓ : Loc Cert.AdamwWInBRefIdeal.nD Cert.AdamwWInBRefIdeal.τ Cert.AdamwWInBRefIdeal.sig) → Buf (Elt Ideal) ℓ) (g : Dev Cert.AdamwWInBRefIdeal.nD → PrngReg), Pre_AdamwWInBRefIdeal m →
    θ_run (Cert.AdamwWInBRefIdeal.defs (F := Ideal)) (onTc (τ := Cert.AdamwWInBRefIdeal.τ) (Cert.AdamwWInBRefIdeal.main (F := Ideal))) ⟨m, fun _ => 0, g⟩ (fun r => (∀ c : Dev Cert.AdamwWInBRefIdeal.nD,
      r.2.mem ((c.tc : Thread Cert.AdamwWInBRefIdeal.nD Cert.AdamwWInBRefIdeal.τ).loc Cert.AdamwWInBRefIdeal.main_arg0) = m ((c.tc : Thread Cert.AdamwWInBRefIdeal.nD Cert.AdamwWInBRefIdeal.τ).loc Cert.AdamwWInBRefIdeal.main_arg0)
      ∧ r.2.mem ((c.tc : Thread Cert.AdamwWInBRefIdeal.nD Cert.AdamwWInBRefIdeal.τ).loc Cert.AdamwWInBRefIdeal.main_arg1) = m ((c.tc : Thread Cert.AdamwWInBRefIdeal.nD Cert.AdamwWInBRefIdeal.τ).loc Cert.AdamwWInBRefIdeal.main_arg1)
      ∧ r.2.mem ((c.tc : Thread Cert.AdamwWInBRefIdeal.nD Cert.AdamwWInBRefIdeal.τ).loc Cert.AdamwWInBRefIdeal.main_arg2) = m ((c.tc : Thread Cert.AdamwWInBRefIdeal.nD Cert.AdamwWInBRefIdeal.τ).loc Cert.AdamwWInBRefIdeal.main_arg2)
      ∧ r.2.mem ((c.tc : Thread Cert.AdamwWInBRefIdeal.nD Cert.AdamwWInBRefIdeal.τ).loc Cert.AdamwWInBRefIdeal.main_arg3) = m ((c.tc : Thread Cert.AdamwWInBRefIdeal.nD Cert.AdamwWInBRefIdeal.τ).loc Cert.AdamwWInBRefIdeal.main_arg3)
      ∧ r.2.mem ((c.tc : Thread Cert.AdamwWInBRefIdeal.nD Cert.AdamwWInBRefIdeal.τ).loc Cert.AdamwWInBRefIdeal.main_arg4) = m ((c.tc : Thread Cert.AdamwWInBRefIdeal.nD Cert.AdamwWInBRefIdeal.τ).loc Cert.AdamwWInBRefIdeal.main_arg4)
      ∧ r.2.mem ((c.tc : Thread Cert.AdamwWInBRefIdeal.nD Cert.AdamwWInBRefIdeal.τ).loc Cert.AdamwWInBRefIdeal.main_arg5) = m ((c.tc : Thread Cert.AdamwWInBRefIdeal.nD Cert.AdamwWInBRefIdeal.τ).loc Cert.AdamwWInBRefIdeal.main_arg5)
      ∧ r.2.mem ((c.tc : Thread Cert.AdamwWInBRefIdeal.nD Cert.AdamwWInBRefIdeal.τ).loc Cert.AdamwWInBRefIdeal.main_arg6) = m ((c.tc : Thread Cert.AdamwWInBRefIdeal.nD Cert.AdamwWInBRefIdeal.τ).loc Cert.AdamwWInBRefIdeal.main_arg6)
      ∧ r.2.mem ((c.tc : Thread Cert.AdamwWInBRefIdeal.nD Cert.AdamwWInBRefIdeal.τ).loc Cert.AdamwWInBRefIdeal.main_arg7) = m ((c.tc : Thread Cert.AdamwWInBRefIdeal.nD Cert.AdamwWInBRefIdeal.τ).loc Cert.AdamwWInBRefIdeal.main_arg7)
      ∧ r.2.mem ((c.tc : Thread Cert.AdamwWInBRefIdeal.nD Cert.AdamwWInBRefIdeal.τ).loc Cert.AdamwWInBRefIdeal.main_arg8) = m ((c.tc : Thread Cert.AdamwWInBRefIdeal.nD Cert.AdamwWInBRefIdeal.τ).loc Cert.AdamwWInBRefIdeal.main_arg8)
      ∧ r.2.mem ((c.tc : Thread Cert.AdamwWInBRefIdeal.nD Cert.AdamwWInBRefIdeal.τ).loc Cert.AdamwWInBRefIdeal.main_arg9) = m ((c.tc : Thread Cert.AdamwWInBRefIdeal.nD Cert.AdamwWInBRefIdeal.τ).loc Cert.AdamwWInBRefIdeal.main_arg9)
      ∧ r.2.mem ((c.tc : Thread Cert.AdamwWInBRefIdeal.nD Cert.AdamwWInBRefIdeal.τ).loc Cert.AdamwWInBRefIdeal.main_arg10) = m ((c.tc : Thread Cert.AdamwWInBRefIdeal.nD Cert.AdamwWInBRefIdeal.τ).loc Cert.AdamwWInBRefIdeal.main_arg10))
      ∧ r.2.sem = fun _ => 0)

def quiescent_AdamwWInBRefIdeal_pre_known_pair_of_last [hAdamwWInBRefIdeal : Cert.AdamwWInBRefIdeal.Facts] [hPre_known_pair_of_last : Cert.Pre_known_pair_of_last.Facts] : Prop :=
  ∀ (m : (ℓ : Loc Cert.AdamwWInBRefIdeal.nD Cert.AdamwWInBRefIdeal.τ Cert.AdamwWInBRefIdeal.sig) → Buf (Elt Ideal) ℓ) (g : Dev Cert.AdamwWInBRefIdeal.nD → PrngReg), Pre_AdamwWInBRefIdeal_known_pair_of_last m →
    θ_run (Cert.AdamwWInBRefIdeal.defs (F := Ideal)) (onTc (τ := Cert.AdamwWInBRefIdeal.τ) (Cert.AdamwWInBRefIdeal.main (F := Ideal))) ⟨m, fun _ => 0, g⟩ (fun r => (∀ c : Dev Cert.AdamwWInBRefIdeal.nD,
      r.2.mem ((c.tc : Thread Cert.AdamwWInBRefIdeal.nD Cert.AdamwWInBRefIdeal.τ).loc Cert.AdamwWInBRefIdeal.main_arg0) = m ((c.tc : Thread Cert.AdamwWInBRefIdeal.nD Cert.AdamwWInBRefIdeal.τ).loc Cert.AdamwWInBRefIdeal.main_arg0)
      ∧ r.2.mem ((c.tc : Thread Cert.AdamwWInBRefIdeal.nD Cert.AdamwWInBRefIdeal.τ).loc Cert.AdamwWInBRefIdeal.main_arg1) = m ((c.tc : Thread Cert.AdamwWInBRefIdeal.nD Cert.AdamwWInBRefIdeal.τ).loc Cert.AdamwWInBRefIdeal.main_arg1)
      ∧ r.2.mem ((c.tc : Thread Cert.AdamwWInBRefIdeal.nD Cert.AdamwWInBRefIdeal.τ).loc Cert.AdamwWInBRefIdeal.main_arg2) = m ((c.tc : Thread Cert.AdamwWInBRefIdeal.nD Cert.AdamwWInBRefIdeal.τ).loc Cert.AdamwWInBRefIdeal.main_arg2)
      ∧ r.2.mem ((c.tc : Thread Cert.AdamwWInBRefIdeal.nD Cert.AdamwWInBRefIdeal.τ).loc Cert.AdamwWInBRefIdeal.main_arg3) = m ((c.tc : Thread Cert.AdamwWInBRefIdeal.nD Cert.AdamwWInBRefIdeal.τ).loc Cert.AdamwWInBRefIdeal.main_arg3)
      ∧ r.2.mem ((c.tc : Thread Cert.AdamwWInBRefIdeal.nD Cert.AdamwWInBRefIdeal.τ).loc Cert.AdamwWInBRefIdeal.main_arg4) = m ((c.tc : Thread Cert.AdamwWInBRefIdeal.nD Cert.AdamwWInBRefIdeal.τ).loc Cert.AdamwWInBRefIdeal.main_arg4)
      ∧ r.2.mem ((c.tc : Thread Cert.AdamwWInBRefIdeal.nD Cert.AdamwWInBRefIdeal.τ).loc Cert.AdamwWInBRefIdeal.main_arg5) = m ((c.tc : Thread Cert.AdamwWInBRefIdeal.nD Cert.AdamwWInBRefIdeal.τ).loc Cert.AdamwWInBRefIdeal.main_arg5)
      ∧ r.2.mem ((c.tc : Thread Cert.AdamwWInBRefIdeal.nD Cert.AdamwWInBRefIdeal.τ).loc Cert.AdamwWInBRefIdeal.main_arg6) = m ((c.tc : Thread Cert.AdamwWInBRefIdeal.nD Cert.AdamwWInBRefIdeal.τ).loc Cert.AdamwWInBRefIdeal.main_arg6)
      ∧ r.2.mem ((c.tc : Thread Cert.AdamwWInBRefIdeal.nD Cert.AdamwWInBRefIdeal.τ).loc Cert.AdamwWInBRefIdeal.main_arg7) = m ((c.tc : Thread Cert.AdamwWInBRefIdeal.nD Cert.AdamwWInBRefIdeal.τ).loc Cert.AdamwWInBRefIdeal.main_arg7)
      ∧ r.2.mem ((c.tc : Thread Cert.AdamwWInBRefIdeal.nD Cert.AdamwWInBRefIdeal.τ).loc Cert.AdamwWInBRefIdeal.main_arg8) = m ((c.tc : Thread Cert.AdamwWInBRefIdeal.nD Cert.AdamwWInBRefIdeal.τ).loc Cert.AdamwWInBRefIdeal.main_arg8)
      ∧ r.2.mem ((c.tc : Thread Cert.AdamwWInBRefIdeal.nD Cert.AdamwWInBRefIdeal.τ).loc Cert.AdamwWInBRefIdeal.main_arg9) = m ((c.tc : Thread Cert.AdamwWInBRefIdeal.nD Cert.AdamwWInBRefIdeal.τ).loc Cert.AdamwWInBRefIdeal.main_arg9)
      ∧ r.2.mem ((c.tc : Thread Cert.AdamwWInBRefIdeal.nD Cert.AdamwWInBRefIdeal.τ).loc Cert.AdamwWInBRefIdeal.main_arg10) = m ((c.tc : Thread Cert.AdamwWInBRefIdeal.nD Cert.AdamwWInBRefIdeal.τ).loc Cert.AdamwWInBRefIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v7) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v4) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_InProjDwConv_InProjDwConvIdeal : Prop :=
  True

def algebraic_InProjDwConvIdeal_InProjDwConvRefIdeal [hInProjDwConvIdeal : Cert.InProjDwConvIdeal.Facts] [hInProjDwConvRefIdeal : Cert.InProjDwConvRefIdeal.Facts] : Prop :=
  ∀ (m : (ℓ : Loc Cert.InProjDwConvIdeal.nD Cert.InProjDwConvIdeal.τ Cert.InProjDwConvIdeal.sig) → Buf (Elt Ideal) ℓ) (g : Dev Cert.InProjDwConvIdeal.nD → PrngReg)
    (m' : (ℓ : Loc Cert.InProjDwConvRefIdeal.nD Cert.InProjDwConvRefIdeal.τ Cert.InProjDwConvRefIdeal.sig) → Buf (Elt Ideal) ℓ) (g' : Dev Cert.InProjDwConvRefIdeal.nD → PrngReg), Pre_InProjDwConvIdeal m →
    (∀ c : Dev Cert.InProjDwConvIdeal.nD,
      m' ((c.tc : Thread Cert.InProjDwConvRefIdeal.nD Cert.InProjDwConvRefIdeal.τ).loc Cert.InProjDwConvRefIdeal.main_arg0) = m ((c.tc : Thread Cert.InProjDwConvIdeal.nD Cert.InProjDwConvIdeal.τ).loc Cert.InProjDwConvIdeal.main_arg0)
      ∧ m' ((c.tc : Thread Cert.InProjDwConvRefIdeal.nD Cert.InProjDwConvRefIdeal.τ).loc Cert.InProjDwConvRefIdeal.main_arg1) = m ((c.tc : Thread Cert.InProjDwConvIdeal.nD Cert.InProjDwConvIdeal.τ).loc Cert.InProjDwConvIdeal.main_arg1)) →
    ∃ (v0 : (c : Dev Cert.InProjDwConvIdeal.nD) → Buf (Elt Ideal) ((c.tc : Thread Cert.InProjDwConvIdeal.nD Cert.InProjDwConvIdeal.τ).loc Cert.InProjDwConvIdeal.main_v0)),
      θ_run (Cert.InProjDwConvIdeal.defs (F := Ideal)) (onTc (τ := Cert.InProjDwConvIdeal.τ) (Cert.InProjDwConvIdeal.main (F := Ideal))) ⟨m, fun _ => 0, g⟩ (fun r => ∀ c : Dev Cert.InProjDwConvIdeal.nD,
          r.2.mem ((c.tc : Thread Cert.InProjDwConvIdeal.nD Cert.InProjDwConvIdeal.τ).loc Cert.InProjDwConvIdeal.main_v0) = v0 c
          ∧ r.2.mem ((c.tc : Thread Cert.InProjDwConvIdeal.nD Cert.InProjDwConvIdeal.τ).loc Cert.InProjDwConvIdeal.main_arg0) = m ((c.tc : Thread Cert.InProjDwConvIdeal.nD Cert.InProjDwConvIdeal.τ).loc Cert.InProjDwConvIdeal.main_arg0)
          ∧ r.2.mem ((c.tc : Thread Cert.InProjDwConvIdeal.nD Cert.InProjDwConvIdeal.τ).loc Cert.InProjDwConvIdeal.main_arg1) = m ((c.tc : Thread Cert.InProjDwConvIdeal.nD Cert.InProjDwConvIdeal.τ).loc Cert.InProjDwConvIdeal.main_arg1))
      ∧ θ_run (Cert.InProjDwConvRefIdeal.defs (F := Ideal)) (onTc (τ := Cert.InProjDwConvRefIdeal.τ) (Cert.InProjDwConvRefIdeal.main (F := Ideal))) ⟨m', fun _ => 0, g'⟩ (fun r => ∀ c : Dev Cert.InProjDwConvRefIdeal.nD,
          r.2.mem ((c.tc : Thread Cert.InProjDwConvRefIdeal.nD Cert.InProjDwConvRefIdeal.τ).loc Cert.InProjDwConvRefIdeal.main_v9) = v0 c
          ∧ r.2.mem ((c.tc : Thread Cert.InProjDwConvRefIdeal.nD Cert.InProjDwConvRefIdeal.τ).loc Cert.InProjDwConvRefIdeal.main_arg0) = m' ((c.tc : Thread Cert.InProjDwConvRefIdeal.nD Cert.InProjDwConvRefIdeal.τ).loc Cert.InProjDwConvRefIdeal.main_arg0)
          ∧ r.2.mem ((c.tc : Thread Cert.InProjDwConvRefIdeal.nD Cert.InProjDwConvRefIdeal.τ).loc Cert.InProjDwConvRefIdeal.main_arg1) = m' ((c.tc : Thread Cert.InProjDwConvRefIdeal.nD Cert.InProjDwConvRefIdeal.τ).loc Cert.InProjDwConvRefIdeal.main_arg1))

def preserves_InProjDwAttn_InProjDwAttnIdeal : Prop :=
  True

def algebraic_InProjDwAttnIdeal_InProjDwAttnRefIdeal [hInProjDwAttnIdeal : Cert.InProjDwAttnIdeal.Facts] [hInProjDwAttnRefIdeal : Cert.InProjDwAttnRefIdeal.Facts] : Prop :=
  ∀ (m : (ℓ : Loc Cert.InProjDwAttnIdeal.nD Cert.InProjDwAttnIdeal.τ Cert.InProjDwAttnIdeal.sig) → Buf (Elt Ideal) ℓ) (g : Dev Cert.InProjDwAttnIdeal.nD → PrngReg)
    (m' : (ℓ : Loc Cert.InProjDwAttnRefIdeal.nD Cert.InProjDwAttnRefIdeal.τ Cert.InProjDwAttnRefIdeal.sig) → Buf (Elt Ideal) ℓ) (g' : Dev Cert.InProjDwAttnRefIdeal.nD → PrngReg), Pre_InProjDwAttnIdeal m →
    (∀ c : Dev Cert.InProjDwAttnIdeal.nD,
      m' ((c.tc : Thread Cert.InProjDwAttnRefIdeal.nD Cert.InProjDwAttnRefIdeal.τ).loc Cert.InProjDwAttnRefIdeal.main_arg0) = m ((c.tc : Thread Cert.InProjDwAttnIdeal.nD Cert.InProjDwAttnIdeal.τ).loc Cert.InProjDwAttnIdeal.main_arg0)
      ∧ m' ((c.tc : Thread Cert.InProjDwAttnRefIdeal.nD Cert.InProjDwAttnRefIdeal.τ).loc Cert.InProjDwAttnRefIdeal.main_arg1) = m ((c.tc : Thread Cert.InProjDwAttnIdeal.nD Cert.InProjDwAttnIdeal.τ).loc Cert.InProjDwAttnIdeal.main_arg1)) →
    ∃ (v0 : (c : Dev Cert.InProjDwAttnIdeal.nD) → Buf (Elt Ideal) ((c.tc : Thread Cert.InProjDwAttnIdeal.nD Cert.InProjDwAttnIdeal.τ).loc Cert.InProjDwAttnIdeal.main_v0)),
      θ_run (Cert.InProjDwAttnIdeal.defs (F := Ideal)) (onTc (τ := Cert.InProjDwAttnIdeal.τ) (Cert.InProjDwAttnIdeal.main (F := Ideal))) ⟨m, fun _ => 0, g⟩ (fun r => ∀ c : Dev Cert.InProjDwAttnIdeal.nD,
          r.2.mem ((c.tc : Thread Cert.InProjDwAttnIdeal.nD Cert.InProjDwAttnIdeal.τ).loc Cert.InProjDwAttnIdeal.main_v0) = v0 c
          ∧ r.2.mem ((c.tc : Thread Cert.InProjDwAttnIdeal.nD Cert.InProjDwAttnIdeal.τ).loc Cert.InProjDwAttnIdeal.main_arg0) = m ((c.tc : Thread Cert.InProjDwAttnIdeal.nD Cert.InProjDwAttnIdeal.τ).loc Cert.InProjDwAttnIdeal.main_arg0)
          ∧ r.2.mem ((c.tc : Thread Cert.InProjDwAttnIdeal.nD Cert.InProjDwAttnIdeal.τ).loc Cert.InProjDwAttnIdeal.main_arg1) = m ((c.tc : Thread Cert.InProjDwAttnIdeal.nD Cert.InProjDwAttnIdeal.τ).loc Cert.InProjDwAttnIdeal.main_arg1))
      ∧ θ_run (Cert.InProjDwAttnRefIdeal.defs (F := Ideal)) (onTc (τ := Cert.InProjDwAttnRefIdeal.τ) (Cert.InProjDwAttnRefIdeal.main (F := Ideal))) ⟨m', fun _ => 0, g'⟩ (fun r => ∀ c : Dev Cert.InProjDwAttnRefIdeal.nD,
          r.2.mem ((c.tc : Thread Cert.InProjDwAttnRefIdeal.nD Cert.InProjDwAttnRefIdeal.τ).loc Cert.InProjDwAttnRefIdeal.main_v11) = v0 c
          ∧ r.2.mem ((c.tc : Thread Cert.InProjDwAttnRefIdeal.nD Cert.InProjDwAttnRefIdeal.τ).loc Cert.InProjDwAttnRefIdeal.main_arg0) = m' ((c.tc : Thread Cert.InProjDwAttnRefIdeal.nD Cert.InProjDwAttnRefIdeal.τ).loc Cert.InProjDwAttnRefIdeal.main_arg0)
          ∧ r.2.mem ((c.tc : Thread Cert.InProjDwAttnRefIdeal.nD Cert.InProjDwAttnRefIdeal.τ).loc Cert.InProjDwAttnRefIdeal.main_arg1) = m' ((c.tc : Thread Cert.InProjDwAttnRefIdeal.nD Cert.InProjDwAttnRefIdeal.τ).loc Cert.InProjDwAttnRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v9) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3))

def preserves_PrenormBwd_PrenormBwdIdeal : Prop :=
  True

def algebraic_PrenormBwdIdeal_PrenormBwdRefIdeal [hPrenormBwdIdeal : Cert.PrenormBwdIdeal.Facts] [hPrenormBwdRefIdeal : Cert.PrenormBwdRefIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg)
    (m' : (ℓ : Loc Cert.PrenormBwdRefIdeal.nD Cert.PrenormBwdRefIdeal.τ Cert.PrenormBwdRefIdeal.sig) → Buf (Elt Ideal) ℓ) (g' : Dev Cert.PrenormBwdRefIdeal.nD → PrngReg), Pre_PrenormBwdIdeal m →
    (∀ c : Dev Cert.PrenormBwdIdeal.nD,
      m' ((c.tc : Thread Cert.PrenormBwdRefIdeal.nD Cert.PrenormBwdRefIdeal.τ).loc Cert.PrenormBwdRefIdeal.main_arg0) = m ((c.tc : Thread Cert.PrenormBwdIdeal.nD Cert.PrenormBwdIdeal.τ).loc Cert.PrenormBwdIdeal.main_arg0)
      ∧ m' ((c.tc : Thread Cert.PrenormBwdRefIdeal.nD Cert.PrenormBwdRefIdeal.τ).loc Cert.PrenormBwdRefIdeal.main_arg1) = m ((c.tc : Thread Cert.PrenormBwdIdeal.nD Cert.PrenormBwdIdeal.τ).loc Cert.PrenormBwdIdeal.main_arg1)
      ∧ m' ((c.tc : Thread Cert.PrenormBwdRefIdeal.nD Cert.PrenormBwdRefIdeal.τ).loc Cert.PrenormBwdRefIdeal.main_arg2) = m ((c.tc : Thread Cert.PrenormBwdIdeal.nD Cert.PrenormBwdIdeal.τ).loc Cert.PrenormBwdIdeal.main_arg2)
      ∧ m' ((c.tc : Thread Cert.PrenormBwdRefIdeal.nD Cert.PrenormBwdRefIdeal.τ).loc Cert.PrenormBwdRefIdeal.main_arg3) = m ((c.tc : Thread Cert.PrenormBwdIdeal.nD Cert.PrenormBwdIdeal.τ).loc Cert.PrenormBwdIdeal.main_arg3)
      ∧ m' ((c.tc : Thread Cert.PrenormBwdRefIdeal.nD Cert.PrenormBwdRefIdeal.τ).loc Cert.PrenormBwdRefIdeal.main_arg4) = m ((c.tc : Thread Cert.PrenormBwdIdeal.nD Cert.PrenormBwdIdeal.τ).loc Cert.PrenormBwdIdeal.main_arg4)) →
    ∃ (v0 : (c : Dev Cert.PrenormBwdIdeal.nD) → Buf (Elt Ideal) ((c.tc : Thread Cert.PrenormBwdIdeal.nD Cert.PrenormBwdIdeal.τ).loc Cert.PrenormBwdIdeal.main_v0_0)),
      θ_run (Cert.PrenormBwdIdeal.defs (F := Ideal)) (onTc (τ := Cert.PrenormBwdIdeal.τ) (Cert.PrenormBwdIdeal.main (F := Ideal))) ⟨m, fun _ => 0, g⟩ (fun r => ∀ c : Dev Cert.PrenormBwdIdeal.nD,
          r.2.mem ((c.tc : Thread Cert.PrenormBwdIdeal.nD Cert.PrenormBwdIdeal.τ).loc Cert.PrenormBwdIdeal.main_v0_0) = v0 c
          ∧ r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
          ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
          ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
          ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
          ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4))
      ∧ θ_run (Cert.PrenormBwdRefIdeal.defs (F := Ideal)) (onTc (τ := Cert.PrenormBwdRefIdeal.τ) (Cert.PrenormBwdRefIdeal.main (F := Ideal))) ⟨m', fun _ => 0, g'⟩ (fun r => ∀ c : Dev Cert.PrenormBwdRefIdeal.nD,
          r.2.mem ((c.tc : Thread Cert.PrenormBwdRefIdeal.nD Cert.PrenormBwdRefIdeal.τ).loc Cert.PrenormBwdRefIdeal.main_v40) = v0 c
          ∧ r.2.mem ((c.tc : Thread Cert.PrenormBwdRefIdeal.nD Cert.PrenormBwdRefIdeal.τ).loc Cert.PrenormBwdRefIdeal.main_arg0) = m' ((c.tc : Thread Cert.PrenormBwdRefIdeal.nD Cert.PrenormBwdRefIdeal.τ).loc Cert.PrenormBwdRefIdeal.main_arg0)
          ∧ r.2.mem ((c.tc : Thread Cert.PrenormBwdRefIdeal.nD Cert.PrenormBwdRefIdeal.τ).loc Cert.PrenormBwdRefIdeal.main_arg1) = m' ((c.tc : Thread Cert.PrenormBwdRefIdeal.nD Cert.PrenormBwdRefIdeal.τ).loc Cert.PrenormBwdRefIdeal.main_arg1)
          ∧ r.2.mem ((c.tc : Thread Cert.PrenormBwdRefIdeal.nD Cert.PrenormBwdRefIdeal.τ).loc Cert.PrenormBwdRefIdeal.main_arg2) = m' ((c.tc : Thread Cert.PrenormBwdRefIdeal.nD Cert.PrenormBwdRefIdeal.τ).loc Cert.PrenormBwdRefIdeal.main_arg2)
          ∧ r.2.mem ((c.tc : Thread Cert.PrenormBwdRefIdeal.nD Cert.PrenormBwdRefIdeal.τ).loc Cert.PrenormBwdRefIdeal.main_arg3) = m' ((c.tc : Thread Cert.PrenormBwdRefIdeal.nD Cert.PrenormBwdRefIdeal.τ).loc Cert.PrenormBwdRefIdeal.main_arg3)
          ∧ r.2.mem ((c.tc : Thread Cert.PrenormBwdRefIdeal.nD Cert.PrenormBwdRefIdeal.τ).loc Cert.PrenormBwdRefIdeal.main_arg4) = m' ((c.tc : Thread Cert.PrenormBwdRefIdeal.nD Cert.PrenormBwdRefIdeal.τ).loc Cert.PrenormBwdRefIdeal.main_arg4))

def preserves_SumRows_SumRowsIdeal : Prop :=
  True

def algebraic_SumRowsIdeal_SumRowsRefIdeal [hSumRowsIdeal : Cert.SumRowsIdeal.Facts] [hSumRowsRefIdeal : Cert.SumRowsRefIdeal.Facts] : Prop :=
  ∀ (m : (ℓ : Loc Cert.SumRowsIdeal.nD Cert.SumRowsIdeal.τ Cert.SumRowsIdeal.sig) → Buf (Elt Ideal) ℓ) (g : Dev Cert.SumRowsIdeal.nD → PrngReg)
    (m' : (ℓ : Loc Cert.SumRowsRefIdeal.nD Cert.SumRowsRefIdeal.τ Cert.SumRowsRefIdeal.sig) → Buf (Elt Ideal) ℓ) (g' : Dev Cert.SumRowsRefIdeal.nD → PrngReg), Pre_SumRowsIdeal m →
    (∀ c : Dev Cert.SumRowsIdeal.nD,
      m' ((c.tc : Thread Cert.SumRowsRefIdeal.nD Cert.SumRowsRefIdeal.τ).loc Cert.SumRowsRefIdeal.main_arg0) = m ((c.tc : Thread Cert.SumRowsIdeal.nD Cert.SumRowsIdeal.τ).loc Cert.SumRowsIdeal.main_arg0)
      ∧ m' ((c.tc : Thread Cert.SumRowsRefIdeal.nD Cert.SumRowsRefIdeal.τ).loc Cert.SumRowsRefIdeal.main_arg1) = m ((c.tc : Thread Cert.SumRowsIdeal.nD Cert.SumRowsIdeal.τ).loc Cert.SumRowsIdeal.main_arg1)) →
    ∃ (v0 : (c : Dev Cert.SumRowsIdeal.nD) → Buf (Elt Ideal) ((c.tc : Thread Cert.SumRowsIdeal.nD Cert.SumRowsIdeal.τ).loc Cert.SumRowsIdeal.main_v0)) (v1 : (c : Dev Cert.SumRowsIdeal.nD) → Buf (Elt Ideal) ((c.tc : Thread Cert.SumRowsIdeal.nD Cert.SumRowsIdeal.τ).loc Cert.SumRowsIdeal.main_v2)),
      θ_run (Cert.SumRowsIdeal.defs (F := Ideal)) (onTc (τ := Cert.SumRowsIdeal.τ) (Cert.SumRowsIdeal.main (F := Ideal))) ⟨m, fun _ => 0, g⟩ (fun r => ∀ c : Dev Cert.SumRowsIdeal.nD,
          r.2.mem ((c.tc : Thread Cert.SumRowsIdeal.nD Cert.SumRowsIdeal.τ).loc Cert.SumRowsIdeal.main_v0) = v0 c
          ∧ r.2.mem ((c.tc : Thread Cert.SumRowsIdeal.nD Cert.SumRowsIdeal.τ).loc Cert.SumRowsIdeal.main_v2) = v1 c
          ∧ r.2.mem ((c.tc : Thread Cert.SumRowsIdeal.nD Cert.SumRowsIdeal.τ).loc Cert.SumRowsIdeal.main_arg0) = m ((c.tc : Thread Cert.SumRowsIdeal.nD Cert.SumRowsIdeal.τ).loc Cert.SumRowsIdeal.main_arg0)
          ∧ r.2.mem ((c.tc : Thread Cert.SumRowsIdeal.nD Cert.SumRowsIdeal.τ).loc Cert.SumRowsIdeal.main_arg1) = m ((c.tc : Thread Cert.SumRowsIdeal.nD Cert.SumRowsIdeal.τ).loc Cert.SumRowsIdeal.main_arg1))
      ∧ θ_run (Cert.SumRowsRefIdeal.defs (F := Ideal)) (onTc (τ := Cert.SumRowsRefIdeal.τ) (Cert.SumRowsRefIdeal.main (F := Ideal))) ⟨m', fun _ => 0, g'⟩ (fun r => ∀ c : Dev Cert.SumRowsRefIdeal.nD,
          r.2.mem ((c.tc : Thread Cert.SumRowsRefIdeal.nD Cert.SumRowsRefIdeal.τ).loc Cert.SumRowsRefIdeal.main_v1) = v0 c
          ∧ r.2.mem ((c.tc : Thread Cert.SumRowsRefIdeal.nD Cert.SumRowsRefIdeal.τ).loc Cert.SumRowsRefIdeal.main_v3) = v1 c
          ∧ r.2.mem ((c.tc : Thread Cert.SumRowsRefIdeal.nD Cert.SumRowsRefIdeal.τ).loc Cert.SumRowsRefIdeal.main_arg0) = m' ((c.tc : Thread Cert.SumRowsRefIdeal.nD Cert.SumRowsRefIdeal.τ).loc Cert.SumRowsRefIdeal.main_arg0)
          ∧ r.2.mem ((c.tc : Thread Cert.SumRowsRefIdeal.nD Cert.SumRowsRefIdeal.τ).loc Cert.SumRowsRefIdeal.main_arg1) = m' ((c.tc : Thread Cert.SumRowsRefIdeal.nD Cert.SumRowsRefIdeal.τ).loc Cert.SumRowsRefIdeal.main_arg1))

def preserves_AdamwVectors_AdamwVectorsIdeal : Prop :=
  True

def algebraic_AdamwVectorsIdeal_AdamwVectorsRefIdeal [hAdamwVectorsIdeal : Cert.AdamwVectorsIdeal.Facts] [hAdamwVectorsRefIdeal : Cert.AdamwVectorsRefIdeal.Facts] : Prop :=
  ∀ (m : (ℓ : Loc Cert.AdamwVectorsIdeal.nD Cert.AdamwVectorsIdeal.τ Cert.AdamwVectorsIdeal.sig) → Buf (Elt Ideal) ℓ) (g : Dev Cert.AdamwVectorsIdeal.nD → PrngReg)
    (m' : (ℓ : Loc Cert.AdamwVectorsRefIdeal.nD Cert.AdamwVectorsRefIdeal.τ Cert.AdamwVectorsRefIdeal.sig) → Buf (Elt Ideal) ℓ) (g' : Dev Cert.AdamwVectorsRefIdeal.nD → PrngReg), Pre_AdamwVectorsIdeal m →
    (∀ c : Dev Cert.AdamwVectorsIdeal.nD,
      m' ((c.tc : Thread Cert.AdamwVectorsRefIdeal.nD Cert.AdamwVectorsRefIdeal.τ).loc Cert.AdamwVectorsRefIdeal.main_arg0) = m ((c.tc : Thread Cert.AdamwVectorsIdeal.nD Cert.AdamwVectorsIdeal.τ).loc Cert.AdamwVectorsIdeal.main_arg0)
      ∧ m' ((c.tc : Thread Cert.AdamwVectorsRefIdeal.nD Cert.AdamwVectorsRefIdeal.τ).loc Cert.AdamwVectorsRefIdeal.main_arg1) = m ((c.tc : Thread Cert.AdamwVectorsIdeal.nD Cert.AdamwVectorsIdeal.τ).loc Cert.AdamwVectorsIdeal.main_arg1)
      ∧ m' ((c.tc : Thread Cert.AdamwVectorsRefIdeal.nD Cert.AdamwVectorsRefIdeal.τ).loc Cert.AdamwVectorsRefIdeal.main_arg2) = m ((c.tc : Thread Cert.AdamwVectorsIdeal.nD Cert.AdamwVectorsIdeal.τ).loc Cert.AdamwVectorsIdeal.main_arg2)
      ∧ m' ((c.tc : Thread Cert.AdamwVectorsRefIdeal.nD Cert.AdamwVectorsRefIdeal.τ).loc Cert.AdamwVectorsRefIdeal.main_arg3) = m ((c.tc : Thread Cert.AdamwVectorsIdeal.nD Cert.AdamwVectorsIdeal.τ).loc Cert.AdamwVectorsIdeal.main_arg3)
      ∧ m' ((c.tc : Thread Cert.AdamwVectorsRefIdeal.nD Cert.AdamwVectorsRefIdeal.τ).loc Cert.AdamwVectorsRefIdeal.main_arg4) = m ((c.tc : Thread Cert.AdamwVectorsIdeal.nD Cert.AdamwVectorsIdeal.τ).loc Cert.AdamwVectorsIdeal.main_arg4)
      ∧ m' ((c.tc : Thread Cert.AdamwVectorsRefIdeal.nD Cert.AdamwVectorsRefIdeal.τ).loc Cert.AdamwVectorsRefIdeal.main_arg5) = m ((c.tc : Thread Cert.AdamwVectorsIdeal.nD Cert.AdamwVectorsIdeal.τ).loc Cert.AdamwVectorsIdeal.main_arg5)
      ∧ m' ((c.tc : Thread Cert.AdamwVectorsRefIdeal.nD Cert.AdamwVectorsRefIdeal.τ).loc Cert.AdamwVectorsRefIdeal.main_arg6) = m ((c.tc : Thread Cert.AdamwVectorsIdeal.nD Cert.AdamwVectorsIdeal.τ).loc Cert.AdamwVectorsIdeal.main_arg6)
      ∧ m' ((c.tc : Thread Cert.AdamwVectorsRefIdeal.nD Cert.AdamwVectorsRefIdeal.τ).loc Cert.AdamwVectorsRefIdeal.main_arg7) = m ((c.tc : Thread Cert.AdamwVectorsIdeal.nD Cert.AdamwVectorsIdeal.τ).loc Cert.AdamwVectorsIdeal.main_arg7)
      ∧ m' ((c.tc : Thread Cert.AdamwVectorsRefIdeal.nD Cert.AdamwVectorsRefIdeal.τ).loc Cert.AdamwVectorsRefIdeal.main_arg8) = m ((c.tc : Thread Cert.AdamwVectorsIdeal.nD Cert.AdamwVectorsIdeal.τ).loc Cert.AdamwVectorsIdeal.main_arg8)
      ∧ m' ((c.tc : Thread Cert.AdamwVectorsRefIdeal.nD Cert.AdamwVectorsRefIdeal.τ).loc Cert.AdamwVectorsRefIdeal.main_arg9) = m ((c.tc : Thread Cert.AdamwVectorsIdeal.nD Cert.AdamwVectorsIdeal.τ).loc Cert.AdamwVectorsIdeal.main_arg9)) →
    ∃ (v0 : (c : Dev Cert.AdamwVectorsIdeal.nD) → Buf (Elt Ideal) ((c.tc : Thread Cert.AdamwVectorsIdeal.nD Cert.AdamwVectorsIdeal.τ).loc Cert.AdamwVectorsIdeal.main_v0_0)) (v1 : (c : Dev Cert.AdamwVectorsIdeal.nD) → Buf (Elt Ideal) ((c.tc : Thread Cert.AdamwVectorsIdeal.nD Cert.AdamwVectorsIdeal.τ).loc Cert.AdamwVectorsIdeal.main_v0_1)) (v2 : (c : Dev Cert.AdamwVectorsIdeal.nD) → Buf (Elt Ideal) ((c.tc : Thread Cert.AdamwVectorsIdeal.nD Cert.AdamwVectorsIdeal.τ).loc Cert.AdamwVectorsIdeal.main_v0_2)) (v3 : (c : Dev Cert.AdamwVectorsIdeal.nD) → Buf (Elt Ideal) ((c.tc : Thread Cert.AdamwVectorsIdeal.nD Cert.AdamwVectorsIdeal.τ).loc Cert.AdamwVectorsIdeal.main_v0_3)) (v4 : (c : Dev Cert.AdamwVectorsIdeal.nD) → Buf (Elt Ideal) ((c.tc : Thread Cert.AdamwVectorsIdeal.nD Cert.AdamwVectorsIdeal.τ).loc Cert.AdamwVectorsIdeal.main_v0_4)) (v5 : (c : Dev Cert.AdamwVectorsIdeal.nD) → Buf (Elt Ideal) ((c.tc : Thread Cert.AdamwVectorsIdeal.nD Cert.AdamwVectorsIdeal.τ).loc Cert.AdamwVectorsIdeal.main_v0_5)) (v6 : (c : Dev Cert.AdamwVectorsIdeal.nD) → Buf (Elt Ideal) ((c.tc : Thread Cert.AdamwVectorsIdeal.nD Cert.AdamwVectorsIdeal.τ).loc Cert.AdamwVectorsIdeal.main_v0_6)) (v7 : (c : Dev Cert.AdamwVectorsIdeal.nD) → Buf (Elt Ideal) ((c.tc : Thread Cert.AdamwVectorsIdeal.nD Cert.AdamwVectorsIdeal.τ).loc Cert.AdamwVectorsIdeal.main_v0_7)) (v8 : (c : Dev Cert.AdamwVectorsIdeal.nD) → Buf (Elt Ideal) ((c.tc : Thread Cert.AdamwVectorsIdeal.nD Cert.AdamwVectorsIdeal.τ).loc Cert.AdamwVectorsIdeal.main_v0_8)) (v9 : (c : Dev Cert.AdamwVectorsIdeal.nD) → Buf (Elt Ideal) ((c.tc : Thread Cert.AdamwVectorsIdeal.nD Cert.AdamwVectorsIdeal.τ).loc Cert.AdamwVectorsIdeal.main_v0_9)) (v10 : (c : Dev Cert.AdamwVectorsIdeal.nD) → Buf (Elt Ideal) ((c.tc : Thread Cert.AdamwVectorsIdeal.nD Cert.AdamwVectorsIdeal.τ).loc Cert.AdamwVectorsIdeal.main_v0_10)) (v11 : (c : Dev Cert.AdamwVectorsIdeal.nD) → Buf (Elt Ideal) ((c.tc : Thread Cert.AdamwVectorsIdeal.nD Cert.AdamwVectorsIdeal.τ).loc Cert.AdamwVectorsIdeal.main_v0_11)),
      θ_run (Cert.AdamwVectorsIdeal.defs (F := Ideal)) (onTc (τ := Cert.AdamwVectorsIdeal.τ) (Cert.AdamwVectorsIdeal.main (F := Ideal))) ⟨m, fun _ => 0, g⟩ (fun r => ∀ c : Dev Cert.AdamwVectorsIdeal.nD,
          r.2.mem ((c.tc : Thread Cert.AdamwVectorsIdeal.nD Cert.AdamwVectorsIdeal.τ).loc Cert.AdamwVectorsIdeal.main_v0_0) = v0 c
          ∧ r.2.mem ((c.tc : Thread Cert.AdamwVectorsIdeal.nD Cert.AdamwVectorsIdeal.τ).loc Cert.AdamwVectorsIdeal.main_v0_1) = v1 c
          ∧ r.2.mem ((c.tc : Thread Cert.AdamwVectorsIdeal.nD Cert.AdamwVectorsIdeal.τ).loc Cert.AdamwVectorsIdeal.main_v0_2) = v2 c
          ∧ r.2.mem ((c.tc : Thread Cert.AdamwVectorsIdeal.nD Cert.AdamwVectorsIdeal.τ).loc Cert.AdamwVectorsIdeal.main_v0_3) = v3 c
          ∧ r.2.mem ((c.tc : Thread Cert.AdamwVectorsIdeal.nD Cert.AdamwVectorsIdeal.τ).loc Cert.AdamwVectorsIdeal.main_v0_4) = v4 c
          ∧ r.2.mem ((c.tc : Thread Cert.AdamwVectorsIdeal.nD Cert.AdamwVectorsIdeal.τ).loc Cert.AdamwVectorsIdeal.main_v0_5) = v5 c
          ∧ r.2.mem ((c.tc : Thread Cert.AdamwVectorsIdeal.nD Cert.AdamwVectorsIdeal.τ).loc Cert.AdamwVectorsIdeal.main_v0_6) = v6 c
          ∧ r.2.mem ((c.tc : Thread Cert.AdamwVectorsIdeal.nD Cert.AdamwVectorsIdeal.τ).loc Cert.AdamwVectorsIdeal.main_v0_7) = v7 c
          ∧ r.2.mem ((c.tc : Thread Cert.AdamwVectorsIdeal.nD Cert.AdamwVectorsIdeal.τ).loc Cert.AdamwVectorsIdeal.main_v0_8) = v8 c
          ∧ r.2.mem ((c.tc : Thread Cert.AdamwVectorsIdeal.nD Cert.AdamwVectorsIdeal.τ).loc Cert.AdamwVectorsIdeal.main_v0_9) = v9 c
          ∧ r.2.mem ((c.tc : Thread Cert.AdamwVectorsIdeal.nD Cert.AdamwVectorsIdeal.τ).loc Cert.AdamwVectorsIdeal.main_v0_10) = v10 c
          ∧ r.2.mem ((c.tc : Thread Cert.AdamwVectorsIdeal.nD Cert.AdamwVectorsIdeal.τ).loc Cert.AdamwVectorsIdeal.main_v0_11) = v11 c
          ∧ r.2.mem ((c.tc : Thread Cert.AdamwVectorsIdeal.nD Cert.AdamwVectorsIdeal.τ).loc Cert.AdamwVectorsIdeal.main_arg0) = m ((c.tc : Thread Cert.AdamwVectorsIdeal.nD Cert.AdamwVectorsIdeal.τ).loc Cert.AdamwVectorsIdeal.main_arg0)
          ∧ r.2.mem ((c.tc : Thread Cert.AdamwVectorsIdeal.nD Cert.AdamwVectorsIdeal.τ).loc Cert.AdamwVectorsIdeal.main_arg1) = m ((c.tc : Thread Cert.AdamwVectorsIdeal.nD Cert.AdamwVectorsIdeal.τ).loc Cert.AdamwVectorsIdeal.main_arg1)
          ∧ r.2.mem ((c.tc : Thread Cert.AdamwVectorsIdeal.nD Cert.AdamwVectorsIdeal.τ).loc Cert.AdamwVectorsIdeal.main_arg2) = m ((c.tc : Thread Cert.AdamwVectorsIdeal.nD Cert.AdamwVectorsIdeal.τ).loc Cert.AdamwVectorsIdeal.main_arg2)
          ∧ r.2.mem ((c.tc : Thread Cert.AdamwVectorsIdeal.nD Cert.AdamwVectorsIdeal.τ).loc Cert.AdamwVectorsIdeal.main_arg3) = m ((c.tc : Thread Cert.AdamwVectorsIdeal.nD Cert.AdamwVectorsIdeal.τ).loc Cert.AdamwVectorsIdeal.main_arg3)
          ∧ r.2.mem ((c.tc : Thread Cert.AdamwVectorsIdeal.nD Cert.AdamwVectorsIdeal.τ).loc Cert.AdamwVectorsIdeal.main_arg4) = m ((c.tc : Thread Cert.AdamwVectorsIdeal.nD Cert.AdamwVectorsIdeal.τ).loc Cert.AdamwVectorsIdeal.main_arg4)
          ∧ r.2.mem ((c.tc : Thread Cert.AdamwVectorsIdeal.nD Cert.AdamwVectorsIdeal.τ).loc Cert.AdamwVectorsIdeal.main_arg5) = m ((c.tc : Thread Cert.AdamwVectorsIdeal.nD Cert.AdamwVectorsIdeal.τ).loc Cert.AdamwVectorsIdeal.main_arg5)
          ∧ r.2.mem ((c.tc : Thread Cert.AdamwVectorsIdeal.nD Cert.AdamwVectorsIdeal.τ).loc Cert.AdamwVectorsIdeal.main_arg6) = m ((c.tc : Thread Cert.AdamwVectorsIdeal.nD Cert.AdamwVectorsIdeal.τ).loc Cert.AdamwVectorsIdeal.main_arg6)
          ∧ r.2.mem ((c.tc : Thread Cert.AdamwVectorsIdeal.nD Cert.AdamwVectorsIdeal.τ).loc Cert.AdamwVectorsIdeal.main_arg7) = m ((c.tc : Thread Cert.AdamwVectorsIdeal.nD Cert.AdamwVectorsIdeal.τ).loc Cert.AdamwVectorsIdeal.main_arg7)
          ∧ r.2.mem ((c.tc : Thread Cert.AdamwVectorsIdeal.nD Cert.AdamwVectorsIdeal.τ).loc Cert.AdamwVectorsIdeal.main_arg8) = m ((c.tc : Thread Cert.AdamwVectorsIdeal.nD Cert.AdamwVectorsIdeal.τ).loc Cert.AdamwVectorsIdeal.main_arg8)
          ∧ r.2.mem ((c.tc : Thread Cert.AdamwVectorsIdeal.nD Cert.AdamwVectorsIdeal.τ).loc Cert.AdamwVectorsIdeal.main_arg9) = m ((c.tc : Thread Cert.AdamwVectorsIdeal.nD Cert.AdamwVectorsIdeal.τ).loc Cert.AdamwVectorsIdeal.main_arg9))
      ∧ θ_run (Cert.AdamwVectorsRefIdeal.defs (F := Ideal)) (onTc (τ := Cert.AdamwVectorsRefIdeal.τ) (Cert.AdamwVectorsRefIdeal.main (F := Ideal))) ⟨m', fun _ => 0, g'⟩ (fun r => ∀ c : Dev Cert.AdamwVectorsRefIdeal.nD,
          r.2.mem ((c.tc : Thread Cert.AdamwVectorsRefIdeal.nD Cert.AdamwVectorsRefIdeal.τ).loc Cert.AdamwVectorsRefIdeal.main_v0) = v0 c
          ∧ r.2.mem ((c.tc : Thread Cert.AdamwVectorsRefIdeal.nD Cert.AdamwVectorsRefIdeal.τ).loc Cert.AdamwVectorsRefIdeal.main_v26) = v1 c
          ∧ r.2.mem ((c.tc : Thread Cert.AdamwVectorsRefIdeal.nD Cert.AdamwVectorsRefIdeal.τ).loc Cert.AdamwVectorsRefIdeal.main_v7) = v2 c
          ∧ r.2.mem ((c.tc : Thread Cert.AdamwVectorsRefIdeal.nD Cert.AdamwVectorsRefIdeal.τ).loc Cert.AdamwVectorsRefIdeal.main_v13) = v3 c
          ∧ r.2.mem ((c.tc : Thread Cert.AdamwVectorsRefIdeal.nD Cert.AdamwVectorsRefIdeal.τ).loc Cert.AdamwVectorsRefIdeal.main_v1) = v4 c
          ∧ r.2.mem ((c.tc : Thread Cert.AdamwVectorsRefIdeal.nD Cert.AdamwVectorsRefIdeal.τ).loc Cert.AdamwVectorsRefIdeal.main_v50) = v5 c
          ∧ r.2.mem ((c.tc : Thread Cert.AdamwVectorsRefIdeal.nD Cert.AdamwVectorsRefIdeal.τ).loc Cert.AdamwVectorsRefIdeal.main_v31) = v6 c
          ∧ r.2.mem ((c.tc : Thread Cert.AdamwVectorsRefIdeal.nD Cert.AdamwVectorsRefIdeal.τ).loc Cert.AdamwVectorsRefIdeal.main_v37) = v7 c
          ∧ r.2.mem ((c.tc : Thread Cert.AdamwVectorsRefIdeal.nD Cert.AdamwVectorsRefIdeal.τ).loc Cert.AdamwVectorsRefIdeal.main_v2) = v8 c
          ∧ r.2.mem ((c.tc : Thread Cert.AdamwVectorsRefIdeal.nD Cert.AdamwVectorsRefIdeal.τ).loc Cert.AdamwVectorsRefIdeal.main_v74) = v9 c
          ∧ r.2.mem ((c.tc : Thread Cert.AdamwVectorsRefIdeal.nD Cert.AdamwVectorsRefIdeal.τ).loc Cert.AdamwVectorsRefIdeal.main_v55) = v10 c
          ∧ r.2.mem ((c.tc : Thread Cert.AdamwVectorsRefIdeal.nD Cert.AdamwVectorsRefIdeal.τ).loc Cert.AdamwVectorsRefIdeal.main_v61) = v11 c
          ∧ r.2.mem ((c.tc : Thread Cert.AdamwVectorsRefIdeal.nD Cert.AdamwVectorsRefIdeal.τ).loc Cert.AdamwVectorsRefIdeal.main_arg0) = m' ((c.tc : Thread Cert.AdamwVectorsRefIdeal.nD Cert.AdamwVectorsRefIdeal.τ).loc Cert.AdamwVectorsRefIdeal.main_arg0)
          ∧ r.2.mem ((c.tc : Thread Cert.AdamwVectorsRefIdeal.nD Cert.AdamwVectorsRefIdeal.τ).loc Cert.AdamwVectorsRefIdeal.main_arg1) = m' ((c.tc : Thread Cert.AdamwVectorsRefIdeal.nD Cert.AdamwVectorsRefIdeal.τ).loc Cert.AdamwVectorsRefIdeal.main_arg1)
          ∧ r.2.mem ((c.tc : Thread Cert.AdamwVectorsRefIdeal.nD Cert.AdamwVectorsRefIdeal.τ).loc Cert.AdamwVectorsRefIdeal.main_arg2) = m' ((c.tc : Thread Cert.AdamwVectorsRefIdeal.nD Cert.AdamwVectorsRefIdeal.τ).loc Cert.AdamwVectorsRefIdeal.main_arg2)
          ∧ r.2.mem ((c.tc : Thread Cert.AdamwVectorsRefIdeal.nD Cert.AdamwVectorsRefIdeal.τ).loc Cert.AdamwVectorsRefIdeal.main_arg3) = m' ((c.tc : Thread Cert.AdamwVectorsRefIdeal.nD Cert.AdamwVectorsRefIdeal.τ).loc Cert.AdamwVectorsRefIdeal.main_arg3)
          ∧ r.2.mem ((c.tc : Thread Cert.AdamwVectorsRefIdeal.nD Cert.AdamwVectorsRefIdeal.τ).loc Cert.AdamwVectorsRefIdeal.main_arg4) = m' ((c.tc : Thread Cert.AdamwVectorsRefIdeal.nD Cert.AdamwVectorsRefIdeal.τ).loc Cert.AdamwVectorsRefIdeal.main_arg4)
          ∧ r.2.mem ((c.tc : Thread Cert.AdamwVectorsRefIdeal.nD Cert.AdamwVectorsRefIdeal.τ).loc Cert.AdamwVectorsRefIdeal.main_arg5) = m' ((c.tc : Thread Cert.AdamwVectorsRefIdeal.nD Cert.AdamwVectorsRefIdeal.τ).loc Cert.AdamwVectorsRefIdeal.main_arg5)
          ∧ r.2.mem ((c.tc : Thread Cert.AdamwVectorsRefIdeal.nD Cert.AdamwVectorsRefIdeal.τ).loc Cert.AdamwVectorsRefIdeal.main_arg6) = m' ((c.tc : Thread Cert.AdamwVectorsRefIdeal.nD Cert.AdamwVectorsRefIdeal.τ).loc Cert.AdamwVectorsRefIdeal.main_arg6)
          ∧ r.2.mem ((c.tc : Thread Cert.AdamwVectorsRefIdeal.nD Cert.AdamwVectorsRefIdeal.τ).loc Cert.AdamwVectorsRefIdeal.main_arg7) = m' ((c.tc : Thread Cert.AdamwVectorsRefIdeal.nD Cert.AdamwVectorsRefIdeal.τ).loc Cert.AdamwVectorsRefIdeal.main_arg7)
          ∧ r.2.mem ((c.tc : Thread Cert.AdamwVectorsRefIdeal.nD Cert.AdamwVectorsRefIdeal.τ).loc Cert.AdamwVectorsRefIdeal.main_arg8) = m' ((c.tc : Thread Cert.AdamwVectorsRefIdeal.nD Cert.AdamwVectorsRefIdeal.τ).loc Cert.AdamwVectorsRefIdeal.main_arg8)
          ∧ r.2.mem ((c.tc : Thread Cert.AdamwVectorsRefIdeal.nD Cert.AdamwVectorsRefIdeal.τ).loc Cert.AdamwVectorsRefIdeal.main_arg9) = m' ((c.tc : Thread Cert.AdamwVectorsRefIdeal.nD Cert.AdamwVectorsRefIdeal.τ).loc Cert.AdamwVectorsRefIdeal.main_arg9))

def preserves_AdamwConv_AdamwConvIdeal : Prop :=
  True

def algebraic_AdamwConvIdeal_AdamwConvRefIdeal [hAdamwConvIdeal : Cert.AdamwConvIdeal.Facts] [hAdamwConvRefIdeal : Cert.AdamwConvRefIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvRefIdeal.nD Cert.AdamwConvRefIdeal.τ Cert.AdamwConvRefIdeal.sig) → Buf (Elt Ideal) ℓ) (g' : Dev Cert.AdamwConvRefIdeal.nD → PrngReg), Pre_AdamwConvIdeal m →
    (∀ c : Dev Cert.AdamwConvIdeal.nD,
      m' ((c.tc : Thread Cert.AdamwConvRefIdeal.nD Cert.AdamwConvRefIdeal.τ).loc Cert.AdamwConvRefIdeal.main_arg0) = m ((c.tc : Thread Cert.AdamwConvIdeal.nD Cert.AdamwConvIdeal.τ).loc Cert.AdamwConvIdeal.main_arg0)
      ∧ m' ((c.tc : Thread Cert.AdamwConvRefIdeal.nD Cert.AdamwConvRefIdeal.τ).loc Cert.AdamwConvRefIdeal.main_arg1) = m ((c.tc : Thread Cert.AdamwConvIdeal.nD Cert.AdamwConvIdeal.τ).loc Cert.AdamwConvIdeal.main_arg1)
      ∧ m' ((c.tc : Thread Cert.AdamwConvRefIdeal.nD Cert.AdamwConvRefIdeal.τ).loc Cert.AdamwConvRefIdeal.main_arg2) = m ((c.tc : Thread Cert.AdamwConvIdeal.nD Cert.AdamwConvIdeal.τ).loc Cert.AdamwConvIdeal.main_arg2)
      ∧ m' ((c.tc : Thread Cert.AdamwConvRefIdeal.nD Cert.AdamwConvRefIdeal.τ).loc Cert.AdamwConvRefIdeal.main_arg3) = m ((c.tc : Thread Cert.AdamwConvIdeal.nD Cert.AdamwConvIdeal.τ).loc Cert.AdamwConvIdeal.main_arg3)
      ∧ m' ((c.tc : Thread Cert.AdamwConvRefIdeal.nD Cert.AdamwConvRefIdeal.τ).loc Cert.AdamwConvRefIdeal.main_arg4) = m ((c.tc : Thread Cert.AdamwConvIdeal.nD Cert.AdamwConvIdeal.τ).loc Cert.AdamwConvIdeal.main_arg4)
      ∧ m' ((c.tc : Thread Cert.AdamwConvRefIdeal.nD Cert.AdamwConvRefIdeal.τ).loc Cert.AdamwConvRefIdeal.main_arg5) = m ((c.tc : Thread Cert.AdamwConvIdeal.nD Cert.AdamwConvIdeal.τ).loc Cert.AdamwConvIdeal.main_arg5)
      ∧ m' ((c.tc : Thread Cert.AdamwConvRefIdeal.nD Cert.AdamwConvRefIdeal.τ).loc Cert.AdamwConvRefIdeal.main_arg6) = m ((c.tc : Thread Cert.AdamwConvIdeal.nD Cert.AdamwConvIdeal.τ).loc Cert.AdamwConvIdeal.main_arg6)
      ∧ m' ((c.tc : Thread Cert.AdamwConvRefIdeal.nD Cert.AdamwConvRefIdeal.τ).loc Cert.AdamwConvRefIdeal.main_arg7) = m ((c.tc : Thread Cert.AdamwConvIdeal.nD Cert.AdamwConvIdeal.τ).loc Cert.AdamwConvIdeal.main_arg7)) →
    ∃ (v0 : (c : Dev Cert.AdamwConvIdeal.nD) → Buf (Elt Ideal) ((c.tc : Thread Cert.AdamwConvIdeal.nD Cert.AdamwConvIdeal.τ).loc Cert.AdamwConvIdeal.main_v0_0)) (v1 : (c : Dev Cert.AdamwConvIdeal.nD) → Buf (Elt Ideal) ((c.tc : Thread Cert.AdamwConvIdeal.nD Cert.AdamwConvIdeal.τ).loc Cert.AdamwConvIdeal.main_v0_1)) (v2 : (c : Dev Cert.AdamwConvIdeal.nD) → Buf (Elt Ideal) ((c.tc : Thread Cert.AdamwConvIdeal.nD Cert.AdamwConvIdeal.τ).loc Cert.AdamwConvIdeal.main_v0_2)) (v3 : (c : Dev Cert.AdamwConvIdeal.nD) → Buf (Elt Ideal) ((c.tc : Thread Cert.AdamwConvIdeal.nD Cert.AdamwConvIdeal.τ).loc Cert.AdamwConvIdeal.main_v0_3)) (v4 : (c : Dev Cert.AdamwConvIdeal.nD) → Buf (Elt Ideal) ((c.tc : Thread Cert.AdamwConvIdeal.nD Cert.AdamwConvIdeal.τ).loc Cert.AdamwConvIdeal.main_v0_4)) (v5 : (c : Dev Cert.AdamwConvIdeal.nD) → Buf (Elt Ideal) ((c.tc : Thread Cert.AdamwConvIdeal.nD Cert.AdamwConvIdeal.τ).loc Cert.AdamwConvIdeal.main_v0_5)) (v6 : (c : Dev Cert.AdamwConvIdeal.nD) → Buf (Elt Ideal) ((c.tc : Thread Cert.AdamwConvIdeal.nD Cert.AdamwConvIdeal.τ).loc Cert.AdamwConvIdeal.main_v0_6)) (v7 : (c : Dev Cert.AdamwConvIdeal.nD) → Buf (Elt Ideal) ((c.tc : Thread Cert.AdamwConvIdeal.nD Cert.AdamwConvIdeal.τ).loc Cert.AdamwConvIdeal.main_v0_7)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v0_0) = v0 c
          ∧ r.2.mem ((c.tc : Thread Cert.AdamwConvIdeal.nD Cert.AdamwConvIdeal.τ).loc Cert.AdamwConvIdeal.main_v0_1) = v1 c
          ∧ r.2.mem ((c.tc : Thread Cert.AdamwConvIdeal.nD Cert.AdamwConvIdeal.τ).loc Cert.AdamwConvIdeal.main_v0_2) = v2 c
          ∧ r.2.mem ((c.tc : Thread Cert.AdamwConvIdeal.nD Cert.AdamwConvIdeal.τ).loc Cert.AdamwConvIdeal.main_v0_3) = v3 c
          ∧ r.2.mem ((c.tc : Thread Cert.AdamwConvIdeal.nD Cert.AdamwConvIdeal.τ).loc Cert.AdamwConvIdeal.main_v0_4) = v4 c
          ∧ r.2.mem ((c.tc : Thread Cert.AdamwConvIdeal.nD Cert.AdamwConvIdeal.τ).loc Cert.AdamwConvIdeal.main_v0_5) = v5 c
          ∧ r.2.mem ((c.tc : Thread Cert.AdamwConvIdeal.nD Cert.AdamwConvIdeal.τ).loc Cert.AdamwConvIdeal.main_v0_6) = v6 c
          ∧ r.2.mem ((c.tc : Thread Cert.AdamwConvIdeal.nD Cert.AdamwConvIdeal.τ).loc Cert.AdamwConvIdeal.main_v0_7) = v7 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3)
          ∧ r.2.mem ((c.tc : Thread Cert.AdamwConvIdeal.nD Cert.AdamwConvIdeal.τ).loc Cert.AdamwConvIdeal.main_arg4) = m ((c.tc : Thread Cert.AdamwConvIdeal.nD Cert.AdamwConvIdeal.τ).loc Cert.AdamwConvIdeal.main_arg4)
          ∧ r.2.mem ((c.tc : Thread Cert.AdamwConvIdeal.nD Cert.AdamwConvIdeal.τ).loc Cert.AdamwConvIdeal.main_arg5) = m ((c.tc : Thread Cert.AdamwConvIdeal.nD Cert.AdamwConvIdeal.τ).loc Cert.AdamwConvIdeal.main_arg5)
          ∧ r.2.mem ((c.tc : Thread Cert.AdamwConvIdeal.nD Cert.AdamwConvIdeal.τ).loc Cert.AdamwConvIdeal.main_arg6) = m ((c.tc : Thread Cert.AdamwConvIdeal.nD Cert.AdamwConvIdeal.τ).loc Cert.AdamwConvIdeal.main_arg6)
          ∧ r.2.mem ((c.tc : Thread Cert.AdamwConvIdeal.nD Cert.AdamwConvIdeal.τ).loc Cert.AdamwConvIdeal.main_arg7) = m ((c.tc : Thread Cert.AdamwConvIdeal.nD Cert.AdamwConvIdeal.τ).loc Cert.AdamwConvIdeal.main_arg7))
      ∧ θ_run (Cert.AdamwConvRefIdeal.defs (F := Ideal)) (onTc (τ := Cert.AdamwConvRefIdeal.τ) (Cert.AdamwConvRefIdeal.main (F := Ideal))) ⟨m', fun _ => 0, g'⟩ (fun r => ∀ c : Dev Cert.AdamwConvRefIdeal.nD,
          r.2.mem ((c.tc : Thread Cert.AdamwConvRefIdeal.nD Cert.AdamwConvRefIdeal.τ).loc Cert.AdamwConvRefIdeal.main_arg1) = v0 c
          ∧ r.2.mem ((c.tc : Thread Cert.AdamwConvRefIdeal.nD Cert.AdamwConvRefIdeal.τ).loc Cert.AdamwConvRefIdeal.main_v24) = v1 c
          ∧ r.2.mem ((c.tc : Thread Cert.AdamwConvRefIdeal.nD Cert.AdamwConvRefIdeal.τ).loc Cert.AdamwConvRefIdeal.main_v5) = v2 c
          ∧ r.2.mem ((c.tc : Thread Cert.AdamwConvRefIdeal.nD Cert.AdamwConvRefIdeal.τ).loc Cert.AdamwConvRefIdeal.main_v11) = v3 c
          ∧ r.2.mem ((c.tc : Thread Cert.AdamwConvRefIdeal.nD Cert.AdamwConvRefIdeal.τ).loc Cert.AdamwConvRefIdeal.main_v0) = v4 c
          ∧ r.2.mem ((c.tc : Thread Cert.AdamwConvRefIdeal.nD Cert.AdamwConvRefIdeal.τ).loc Cert.AdamwConvRefIdeal.main_v48) = v5 c
          ∧ r.2.mem ((c.tc : Thread Cert.AdamwConvRefIdeal.nD Cert.AdamwConvRefIdeal.τ).loc Cert.AdamwConvRefIdeal.main_v29) = v6 c
          ∧ r.2.mem ((c.tc : Thread Cert.AdamwConvRefIdeal.nD Cert.AdamwConvRefIdeal.τ).loc Cert.AdamwConvRefIdeal.main_v35) = v7 c
          ∧ r.2.mem ((c.tc : Thread Cert.AdamwConvRefIdeal.nD Cert.AdamwConvRefIdeal.τ).loc Cert.AdamwConvRefIdeal.main_arg0) = m' ((c.tc : Thread Cert.AdamwConvRefIdeal.nD Cert.AdamwConvRefIdeal.τ).loc Cert.AdamwConvRefIdeal.main_arg0)
          ∧ r.2.mem ((c.tc : Thread Cert.AdamwConvRefIdeal.nD Cert.AdamwConvRefIdeal.τ).loc Cert.AdamwConvRefIdeal.main_arg1) = m' ((c.tc : Thread Cert.AdamwConvRefIdeal.nD Cert.AdamwConvRefIdeal.τ).loc Cert.AdamwConvRefIdeal.main_arg1)
          ∧ r.2.mem ((c.tc : Thread Cert.AdamwConvRefIdeal.nD Cert.AdamwConvRefIdeal.τ).loc Cert.AdamwConvRefIdeal.main_arg2) = m' ((c.tc : Thread Cert.AdamwConvRefIdeal.nD Cert.AdamwConvRefIdeal.τ).loc Cert.AdamwConvRefIdeal.main_arg2)
          ∧ r.2.mem ((c.tc : Thread Cert.AdamwConvRefIdeal.nD Cert.AdamwConvRefIdeal.τ).loc Cert.AdamwConvRefIdeal.main_arg3) = m' ((c.tc : Thread Cert.AdamwConvRefIdeal.nD Cert.AdamwConvRefIdeal.τ).loc Cert.AdamwConvRefIdeal.main_arg3)
          ∧ r.2.mem ((c.tc : Thread Cert.AdamwConvRefIdeal.nD Cert.AdamwConvRefIdeal.τ).loc Cert.AdamwConvRefIdeal.main_arg4) = m' ((c.tc : Thread Cert.AdamwConvRefIdeal.nD Cert.AdamwConvRefIdeal.τ).loc Cert.AdamwConvRefIdeal.main_arg4)
          ∧ r.2.mem ((c.tc : Thread Cert.AdamwConvRefIdeal.nD Cert.AdamwConvRefIdeal.τ).loc Cert.AdamwConvRefIdeal.main_arg5) = m' ((c.tc : Thread Cert.AdamwConvRefIdeal.nD Cert.AdamwConvRefIdeal.τ).loc Cert.AdamwConvRefIdeal.main_arg5)
          ∧ r.2.mem ((c.tc : Thread Cert.AdamwConvRefIdeal.nD Cert.AdamwConvRefIdeal.τ).loc Cert.AdamwConvRefIdeal.main_arg6) = m' ((c.tc : Thread Cert.AdamwConvRefIdeal.nD Cert.AdamwConvRefIdeal.τ).loc Cert.AdamwConvRefIdeal.main_arg6)
          ∧ r.2.mem ((c.tc : Thread Cert.AdamwConvRefIdeal.nD Cert.AdamwConvRefIdeal.τ).loc Cert.AdamwConvRefIdeal.main_arg7) = m' ((c.tc : Thread Cert.AdamwConvRefIdeal.nD Cert.AdamwConvRefIdeal.τ).loc Cert.AdamwConvRefIdeal.main_arg7))

def preserves_AdamwNorms_AdamwNormsIdeal : Prop :=
  True

def algebraic_AdamwNormsIdeal_AdamwNormsRefIdeal [hAdamwNormsIdeal : Cert.AdamwNormsIdeal.Facts] [hAdamwNormsRefIdeal : Cert.AdamwNormsRefIdeal.Facts] : Prop :=
  ∀ (m : (ℓ : Loc Cert.AdamwNormsIdeal.nD Cert.AdamwNormsIdeal.τ Cert.AdamwNormsIdeal.sig) → Buf (Elt Ideal) ℓ) (g : Dev Cert.AdamwNormsIdeal.nD → PrngReg)
    (m' : (ℓ : Loc Cert.AdamwNormsRefIdeal.nD Cert.AdamwNormsRefIdeal.τ Cert.AdamwNormsRefIdeal.sig) → Buf (Elt Ideal) ℓ) (g' : Dev Cert.AdamwNormsRefIdeal.nD → PrngReg), Pre_AdamwNormsIdeal m →
    (∀ c : Dev Cert.AdamwNormsIdeal.nD,
      m' ((c.tc : Thread Cert.AdamwNormsRefIdeal.nD Cert.AdamwNormsRefIdeal.τ).loc Cert.AdamwNormsRefIdeal.main_arg0) = m ((c.tc : Thread Cert.AdamwNormsIdeal.nD Cert.AdamwNormsIdeal.τ).loc Cert.AdamwNormsIdeal.main_arg0)
      ∧ m' ((c.tc : Thread Cert.AdamwNormsRefIdeal.nD Cert.AdamwNormsRefIdeal.τ).loc Cert.AdamwNormsRefIdeal.main_arg1) = m ((c.tc : Thread Cert.AdamwNormsIdeal.nD Cert.AdamwNormsIdeal.τ).loc Cert.AdamwNormsIdeal.main_arg1)
      ∧ m' ((c.tc : Thread Cert.AdamwNormsRefIdeal.nD Cert.AdamwNormsRefIdeal.τ).loc Cert.AdamwNormsRefIdeal.main_arg2) = m ((c.tc : Thread Cert.AdamwNormsIdeal.nD Cert.AdamwNormsIdeal.τ).loc Cert.AdamwNormsIdeal.main_arg2)
      ∧ m' ((c.tc : Thread Cert.AdamwNormsRefIdeal.nD Cert.AdamwNormsRefIdeal.τ).loc Cert.AdamwNormsRefIdeal.main_arg3) = m ((c.tc : Thread Cert.AdamwNormsIdeal.nD Cert.AdamwNormsIdeal.τ).loc Cert.AdamwNormsIdeal.main_arg3)
      ∧ m' ((c.tc : Thread Cert.AdamwNormsRefIdeal.nD Cert.AdamwNormsRefIdeal.τ).loc Cert.AdamwNormsRefIdeal.main_arg4) = m ((c.tc : Thread Cert.AdamwNormsIdeal.nD Cert.AdamwNormsIdeal.τ).loc Cert.AdamwNormsIdeal.main_arg4)
      ∧ m' ((c.tc : Thread Cert.AdamwNormsRefIdeal.nD Cert.AdamwNormsRefIdeal.τ).loc Cert.AdamwNormsRefIdeal.main_arg5) = m ((c.tc : Thread Cert.AdamwNormsIdeal.nD Cert.AdamwNormsIdeal.τ).loc Cert.AdamwNormsIdeal.main_arg5)
      ∧ m' ((c.tc : Thread Cert.AdamwNormsRefIdeal.nD Cert.AdamwNormsRefIdeal.τ).loc Cert.AdamwNormsRefIdeal.main_arg6) = m ((c.tc : Thread Cert.AdamwNormsIdeal.nD Cert.AdamwNormsIdeal.τ).loc Cert.AdamwNormsIdeal.main_arg6)) →
    ∃ (v0 : (c : Dev Cert.AdamwNormsIdeal.nD) → Buf (Elt Ideal) ((c.tc : Thread Cert.AdamwNormsIdeal.nD Cert.AdamwNormsIdeal.τ).loc Cert.AdamwNormsIdeal.main_v0_0)) (v1 : (c : Dev Cert.AdamwNormsIdeal.nD) → Buf (Elt Ideal) ((c.tc : Thread Cert.AdamwNormsIdeal.nD Cert.AdamwNormsIdeal.τ).loc Cert.AdamwNormsIdeal.main_v0_1)) (v2 : (c : Dev Cert.AdamwNormsIdeal.nD) → Buf (Elt Ideal) ((c.tc : Thread Cert.AdamwNormsIdeal.nD Cert.AdamwNormsIdeal.τ).loc Cert.AdamwNormsIdeal.main_v0_2)) (v3 : (c : Dev Cert.AdamwNormsIdeal.nD) → Buf (Elt Ideal) ((c.tc : Thread Cert.AdamwNormsIdeal.nD Cert.AdamwNormsIdeal.τ).loc Cert.AdamwNormsIdeal.main_v0_3)) (v4 : (c : Dev Cert.AdamwNormsIdeal.nD) → Buf (Elt Ideal) ((c.tc : Thread Cert.AdamwNormsIdeal.nD Cert.AdamwNormsIdeal.τ).loc Cert.AdamwNormsIdeal.main_v0_4)) (v5 : (c : Dev Cert.AdamwNormsIdeal.nD) → Buf (Elt Ideal) ((c.tc : Thread Cert.AdamwNormsIdeal.nD Cert.AdamwNormsIdeal.τ).loc Cert.AdamwNormsIdeal.main_v0_5)) (v6 : (c : Dev Cert.AdamwNormsIdeal.nD) → Buf (Elt Ideal) ((c.tc : Thread Cert.AdamwNormsIdeal.nD Cert.AdamwNormsIdeal.τ).loc Cert.AdamwNormsIdeal.main_v0_6)) (v7 : (c : Dev Cert.AdamwNormsIdeal.nD) → Buf (Elt Ideal) ((c.tc : Thread Cert.AdamwNormsIdeal.nD Cert.AdamwNormsIdeal.τ).loc Cert.AdamwNormsIdeal.main_v0_7)),
      θ_run (Cert.AdamwNormsIdeal.defs (F := Ideal)) (onTc (τ := Cert.AdamwNormsIdeal.τ) (Cert.AdamwNormsIdeal.main (F := Ideal))) ⟨m, fun _ => 0, g⟩ (fun r => ∀ c : Dev Cert.AdamwNormsIdeal.nD,
          r.2.mem ((c.tc : Thread Cert.AdamwNormsIdeal.nD Cert.AdamwNormsIdeal.τ).loc Cert.AdamwNormsIdeal.main_v0_0) = v0 c
          ∧ r.2.mem ((c.tc : Thread Cert.AdamwNormsIdeal.nD Cert.AdamwNormsIdeal.τ).loc Cert.AdamwNormsIdeal.main_v0_1) = v1 c
          ∧ r.2.mem ((c.tc : Thread Cert.AdamwNormsIdeal.nD Cert.AdamwNormsIdeal.τ).loc Cert.AdamwNormsIdeal.main_v0_2) = v2 c
          ∧ r.2.mem ((c.tc : Thread Cert.AdamwNormsIdeal.nD Cert.AdamwNormsIdeal.τ).loc Cert.AdamwNormsIdeal.main_v0_3) = v3 c
          ∧ r.2.mem ((c.tc : Thread Cert.AdamwNormsIdeal.nD Cert.AdamwNormsIdeal.τ).loc Cert.AdamwNormsIdeal.main_v0_4) = v4 c
          ∧ r.2.mem ((c.tc : Thread Cert.AdamwNormsIdeal.nD Cert.AdamwNormsIdeal.τ).loc Cert.AdamwNormsIdeal.main_v0_5) = v5 c
          ∧ r.2.mem ((c.tc : Thread Cert.AdamwNormsIdeal.nD Cert.AdamwNormsIdeal.τ).loc Cert.AdamwNormsIdeal.main_v0_6) = v6 c
          ∧ r.2.mem ((c.tc : Thread Cert.AdamwNormsIdeal.nD Cert.AdamwNormsIdeal.τ).loc Cert.AdamwNormsIdeal.main_v0_7) = v7 c
          ∧ r.2.mem ((c.tc : Thread Cert.AdamwNormsIdeal.nD Cert.AdamwNormsIdeal.τ).loc Cert.AdamwNormsIdeal.main_arg0) = m ((c.tc : Thread Cert.AdamwNormsIdeal.nD Cert.AdamwNormsIdeal.τ).loc Cert.AdamwNormsIdeal.main_arg0)
          ∧ r.2.mem ((c.tc : Thread Cert.AdamwNormsIdeal.nD Cert.AdamwNormsIdeal.τ).loc Cert.AdamwNormsIdeal.main_arg1) = m ((c.tc : Thread Cert.AdamwNormsIdeal.nD Cert.AdamwNormsIdeal.τ).loc Cert.AdamwNormsIdeal.main_arg1)
          ∧ r.2.mem ((c.tc : Thread Cert.AdamwNormsIdeal.nD Cert.AdamwNormsIdeal.τ).loc Cert.AdamwNormsIdeal.main_arg2) = m ((c.tc : Thread Cert.AdamwNormsIdeal.nD Cert.AdamwNormsIdeal.τ).loc Cert.AdamwNormsIdeal.main_arg2)
          ∧ r.2.mem ((c.tc : Thread Cert.AdamwNormsIdeal.nD Cert.AdamwNormsIdeal.τ).loc Cert.AdamwNormsIdeal.main_arg3) = m ((c.tc : Thread Cert.AdamwNormsIdeal.nD Cert.AdamwNormsIdeal.τ).loc Cert.AdamwNormsIdeal.main_arg3)
          ∧ r.2.mem ((c.tc : Thread Cert.AdamwNormsIdeal.nD Cert.AdamwNormsIdeal.τ).loc Cert.AdamwNormsIdeal.main_arg4) = m ((c.tc : Thread Cert.AdamwNormsIdeal.nD Cert.AdamwNormsIdeal.τ).loc Cert.AdamwNormsIdeal.main_arg4)
          ∧ r.2.mem ((c.tc : Thread Cert.AdamwNormsIdeal.nD Cert.AdamwNormsIdeal.τ).loc Cert.AdamwNormsIdeal.main_arg5) = m ((c.tc : Thread Cert.AdamwNormsIdeal.nD Cert.AdamwNormsIdeal.τ).loc Cert.AdamwNormsIdeal.main_arg5)
          ∧ r.2.mem ((c.tc : Thread Cert.AdamwNormsIdeal.nD Cert.AdamwNormsIdeal.τ).loc Cert.AdamwNormsIdeal.main_arg6) = m ((c.tc : Thread Cert.AdamwNormsIdeal.nD Cert.AdamwNormsIdeal.τ).loc Cert.AdamwNormsIdeal.main_arg6))
      ∧ θ_run (Cert.AdamwNormsRefIdeal.defs (F := Ideal)) (onTc (τ := Cert.AdamwNormsRefIdeal.τ) (Cert.AdamwNormsRefIdeal.main (F := Ideal))) ⟨m', fun _ => 0, g'⟩ (fun r => ∀ c : Dev Cert.AdamwNormsRefIdeal.nD,
          r.2.mem ((c.tc : Thread Cert.AdamwNormsRefIdeal.nD Cert.AdamwNormsRefIdeal.τ).loc Cert.AdamwNormsRefIdeal.main_v0) = v0 c
          ∧ r.2.mem ((c.tc : Thread Cert.AdamwNormsRefIdeal.nD Cert.AdamwNormsRefIdeal.τ).loc Cert.AdamwNormsRefIdeal.main_v25) = v1 c
          ∧ r.2.mem ((c.tc : Thread Cert.AdamwNormsRefIdeal.nD Cert.AdamwNormsRefIdeal.τ).loc Cert.AdamwNormsRefIdeal.main_v6) = v2 c
          ∧ r.2.mem ((c.tc : Thread Cert.AdamwNormsRefIdeal.nD Cert.AdamwNormsRefIdeal.τ).loc Cert.AdamwNormsRefIdeal.main_v12) = v3 c
          ∧ r.2.mem ((c.tc : Thread Cert.AdamwNormsRefIdeal.nD Cert.AdamwNormsRefIdeal.τ).loc Cert.AdamwNormsRefIdeal.main_v1) = v4 c
          ∧ r.2.mem ((c.tc : Thread Cert.AdamwNormsRefIdeal.nD Cert.AdamwNormsRefIdeal.τ).loc Cert.AdamwNormsRefIdeal.main_v49) = v5 c
          ∧ r.2.mem ((c.tc : Thread Cert.AdamwNormsRefIdeal.nD Cert.AdamwNormsRefIdeal.τ).loc Cert.AdamwNormsRefIdeal.main_v30) = v6 c
          ∧ r.2.mem ((c.tc : Thread Cert.AdamwNormsRefIdeal.nD Cert.AdamwNormsRefIdeal.τ).loc Cert.AdamwNormsRefIdeal.main_v36) = v7 c
          ∧ r.2.mem ((c.tc : Thread Cert.AdamwNormsRefIdeal.nD Cert.AdamwNormsRefIdeal.τ).loc Cert.AdamwNormsRefIdeal.main_arg0) = m' ((c.tc : Thread Cert.AdamwNormsRefIdeal.nD Cert.AdamwNormsRefIdeal.τ).loc Cert.AdamwNormsRefIdeal.main_arg0)
          ∧ r.2.mem ((c.tc : Thread Cert.AdamwNormsRefIdeal.nD Cert.AdamwNormsRefIdeal.τ).loc Cert.AdamwNormsRefIdeal.main_arg1) = m' ((c.tc : Thread Cert.AdamwNormsRefIdeal.nD Cert.AdamwNormsRefIdeal.τ).loc Cert.AdamwNormsRefIdeal.main_arg1)
          ∧ r.2.mem ((c.tc : Thread Cert.AdamwNormsRefIdeal.nD Cert.AdamwNormsRefIdeal.τ).loc Cert.AdamwNormsRefIdeal.main_arg2) = m' ((c.tc : Thread Cert.AdamwNormsRefIdeal.nD Cert.AdamwNormsRefIdeal.τ).loc Cert.AdamwNormsRefIdeal.main_arg2)
          ∧ r.2.mem ((c.tc : Thread Cert.AdamwNormsRefIdeal.nD Cert.AdamwNormsRefIdeal.τ).loc Cert.AdamwNormsRefIdeal.main_arg3) = m' ((c.tc : Thread Cert.AdamwNormsRefIdeal.nD Cert.AdamwNormsRefIdeal.τ).loc Cert.AdamwNormsRefIdeal.main_arg3)
          ∧ r.2.mem ((c.tc : Thread Cert.AdamwNormsRefIdeal.nD Cert.AdamwNormsRefIdeal.τ).loc Cert.AdamwNormsRefIdeal.main_arg4) = m' ((c.tc : Thread Cert.AdamwNormsRefIdeal.nD Cert.AdamwNormsRefIdeal.τ).loc Cert.AdamwNormsRefIdeal.main_arg4)
          ∧ r.2.mem ((c.tc : Thread Cert.AdamwNormsRefIdeal.nD Cert.AdamwNormsRefIdeal.τ).loc Cert.AdamwNormsRefIdeal.main_arg5) = m' ((c.tc : Thread Cert.AdamwNormsRefIdeal.nD Cert.AdamwNormsRefIdeal.τ).loc Cert.AdamwNormsRefIdeal.main_arg5)
          ∧ r.2.mem ((c.tc : Thread Cert.AdamwNormsRefIdeal.nD Cert.AdamwNormsRefIdeal.τ).loc Cert.AdamwNormsRefIdeal.main_arg6) = m' ((c.tc : Thread Cert.AdamwNormsRefIdeal.nD Cert.AdamwNormsRefIdeal.τ).loc Cert.AdamwNormsRefIdeal.main_arg6))

def preserves_AdamwAda_AdamwAdaIdeal : Prop :=
  True

def algebraic_AdamwAdaIdeal_AdamwAdaRefIdeal [hAdamwAdaIdeal : Cert.AdamwAdaIdeal.Facts] [hAdamwAdaRefIdeal : Cert.AdamwAdaRefIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg)
    (m' : (ℓ : Loc Cert.AdamwAdaRefIdeal.nD Cert.AdamwAdaRefIdeal.τ Cert.AdamwAdaRefIdeal.sig) → Buf (Elt Ideal) ℓ) (g' : Dev Cert.AdamwAdaRefIdeal.nD → PrngReg), Pre_AdamwAdaIdeal m →
    (∀ c : Dev Cert.AdamwAdaIdeal.nD,
      m' ((c.tc : Thread Cert.AdamwAdaRefIdeal.nD Cert.AdamwAdaRefIdeal.τ).loc Cert.AdamwAdaRefIdeal.main_arg0) = m ((c.tc : Thread Cert.AdamwAdaIdeal.nD Cert.AdamwAdaIdeal.τ).loc Cert.AdamwAdaIdeal.main_arg0)
      ∧ m' ((c.tc : Thread Cert.AdamwAdaRefIdeal.nD Cert.AdamwAdaRefIdeal.τ).loc Cert.AdamwAdaRefIdeal.main_arg1) = m ((c.tc : Thread Cert.AdamwAdaIdeal.nD Cert.AdamwAdaIdeal.τ).loc Cert.AdamwAdaIdeal.main_arg1)
      ∧ m' ((c.tc : Thread Cert.AdamwAdaRefIdeal.nD Cert.AdamwAdaRefIdeal.τ).loc Cert.AdamwAdaRefIdeal.main_arg2) = m ((c.tc : Thread Cert.AdamwAdaIdeal.nD Cert.AdamwAdaIdeal.τ).loc Cert.AdamwAdaIdeal.main_arg2)
      ∧ m' ((c.tc : Thread Cert.AdamwAdaRefIdeal.nD Cert.AdamwAdaRefIdeal.τ).loc Cert.AdamwAdaRefIdeal.main_arg3) = m ((c.tc : Thread Cert.AdamwAdaIdeal.nD Cert.AdamwAdaIdeal.τ).loc Cert.AdamwAdaIdeal.main_arg3)
      ∧ m' ((c.tc : Thread Cert.AdamwAdaRefIdeal.nD Cert.AdamwAdaRefIdeal.τ).loc Cert.AdamwAdaRefIdeal.main_arg4) = m ((c.tc : Thread Cert.AdamwAdaIdeal.nD Cert.AdamwAdaIdeal.τ).loc Cert.AdamwAdaIdeal.main_arg4)
      ∧ m' ((c.tc : Thread Cert.AdamwAdaRefIdeal.nD Cert.AdamwAdaRefIdeal.τ).loc Cert.AdamwAdaRefIdeal.main_arg5) = m ((c.tc : Thread Cert.AdamwAdaIdeal.nD Cert.AdamwAdaIdeal.τ).loc Cert.AdamwAdaIdeal.main_arg5)) →
    ∃ (v0 : (c : Dev Cert.AdamwAdaIdeal.nD) → Buf (Elt Ideal) ((c.tc : Thread Cert.AdamwAdaIdeal.nD Cert.AdamwAdaIdeal.τ).loc Cert.AdamwAdaIdeal.main_v0_0)) (v1 : (c : Dev Cert.AdamwAdaIdeal.nD) → Buf (Elt Ideal) ((c.tc : Thread Cert.AdamwAdaIdeal.nD Cert.AdamwAdaIdeal.τ).loc Cert.AdamwAdaIdeal.main_v0_1)) (v2 : (c : Dev Cert.AdamwAdaIdeal.nD) → Buf (Elt Ideal) ((c.tc : Thread Cert.AdamwAdaIdeal.nD Cert.AdamwAdaIdeal.τ).loc Cert.AdamwAdaIdeal.main_v0_2)) (v3 : (c : Dev Cert.AdamwAdaIdeal.nD) → Buf (Elt Ideal) ((c.tc : Thread Cert.AdamwAdaIdeal.nD Cert.AdamwAdaIdeal.τ).loc Cert.AdamwAdaIdeal.main_v0_3)),
      θ_run (Cert.AdamwAdaIdeal.defs (F := Ideal)) (onTc (τ := Cert.AdamwAdaIdeal.τ) (Cert.AdamwAdaIdeal.main (F := Ideal))) ⟨m, fun _ => 0, g⟩ (fun r => ∀ c : Dev Cert.AdamwAdaIdeal.nD,
          r.2.mem ((c.tc : Thread Cert.AdamwAdaIdeal.nD Cert.AdamwAdaIdeal.τ).loc Cert.AdamwAdaIdeal.main_v0_0) = v0 c
          ∧ r.2.mem ((c.tc : Thread Cert.AdamwAdaIdeal.nD Cert.AdamwAdaIdeal.τ).loc Cert.AdamwAdaIdeal.main_v0_1) = v1 c
          ∧ r.2.mem ((c.tc : Thread Cert.AdamwAdaIdeal.nD Cert.AdamwAdaIdeal.τ).loc Cert.AdamwAdaIdeal.main_v0_2) = v2 c
          ∧ r.2.mem ((c.tc : Thread Cert.AdamwAdaIdeal.nD Cert.AdamwAdaIdeal.τ).loc Cert.AdamwAdaIdeal.main_v0_3) = v3 c
          ∧ r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
          ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
          ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
          ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3)
          ∧ r.2.mem ((c.tc : Thread Cert.AdamwAdaIdeal.nD Cert.AdamwAdaIdeal.τ).loc Cert.AdamwAdaIdeal.main_arg4) = m ((c.tc : Thread Cert.AdamwAdaIdeal.nD Cert.AdamwAdaIdeal.τ).loc Cert.AdamwAdaIdeal.main_arg4)
          ∧ r.2.mem ((c.tc : Thread Cert.AdamwAdaIdeal.nD Cert.AdamwAdaIdeal.τ).loc Cert.AdamwAdaIdeal.main_arg5) = m ((c.tc : Thread Cert.AdamwAdaIdeal.nD Cert.AdamwAdaIdeal.τ).loc Cert.AdamwAdaIdeal.main_arg5))
      ∧ θ_run (Cert.AdamwAdaRefIdeal.defs (F := Ideal)) (onTc (τ := Cert.AdamwAdaRefIdeal.τ) (Cert.AdamwAdaRefIdeal.main (F := Ideal))) ⟨m', fun _ => 0, g'⟩ (fun r => ∀ c : Dev Cert.AdamwAdaRefIdeal.nD,
          r.2.mem ((c.tc : Thread Cert.AdamwAdaRefIdeal.nD Cert.AdamwAdaRefIdeal.τ).loc Cert.AdamwAdaRefIdeal.main_v3) = v0 c
          ∧ r.2.mem ((c.tc : Thread Cert.AdamwAdaRefIdeal.nD Cert.AdamwAdaRefIdeal.τ).loc Cert.AdamwAdaRefIdeal.main_v27) = v1 c
          ∧ r.2.mem ((c.tc : Thread Cert.AdamwAdaRefIdeal.nD Cert.AdamwAdaRefIdeal.τ).loc Cert.AdamwAdaRefIdeal.main_v8) = v2 c
          ∧ r.2.mem ((c.tc : Thread Cert.AdamwAdaRefIdeal.nD Cert.AdamwAdaRefIdeal.τ).loc Cert.AdamwAdaRefIdeal.main_v14) = v3 c
          ∧ r.2.mem ((c.tc : Thread Cert.AdamwAdaRefIdeal.nD Cert.AdamwAdaRefIdeal.τ).loc Cert.AdamwAdaRefIdeal.main_arg0) = m' ((c.tc : Thread Cert.AdamwAdaRefIdeal.nD Cert.AdamwAdaRefIdeal.τ).loc Cert.AdamwAdaRefIdeal.main_arg0)
          ∧ r.2.mem ((c.tc : Thread Cert.AdamwAdaRefIdeal.nD Cert.AdamwAdaRefIdeal.τ).loc Cert.AdamwAdaRefIdeal.main_arg1) = m' ((c.tc : Thread Cert.AdamwAdaRefIdeal.nD Cert.AdamwAdaRefIdeal.τ).loc Cert.AdamwAdaRefIdeal.main_arg1)
          ∧ r.2.mem ((c.tc : Thread Cert.AdamwAdaRefIdeal.nD Cert.AdamwAdaRefIdeal.τ).loc Cert.AdamwAdaRefIdeal.main_arg2) = m' ((c.tc : Thread Cert.AdamwAdaRefIdeal.nD Cert.AdamwAdaRefIdeal.τ).loc Cert.AdamwAdaRefIdeal.main_arg2)
          ∧ r.2.mem ((c.tc : Thread Cert.AdamwAdaRefIdeal.nD Cert.AdamwAdaRefIdeal.τ).loc Cert.AdamwAdaRefIdeal.main_arg3) = m' ((c.tc : Thread Cert.AdamwAdaRefIdeal.nD Cert.AdamwAdaRefIdeal.τ).loc Cert.AdamwAdaRefIdeal.main_arg3)
          ∧ r.2.mem ((c.tc : Thread Cert.AdamwAdaRefIdeal.nD Cert.AdamwAdaRefIdeal.τ).loc Cert.AdamwAdaRefIdeal.main_arg4) = m' ((c.tc : Thread Cert.AdamwAdaRefIdeal.nD Cert.AdamwAdaRefIdeal.τ).loc Cert.AdamwAdaRefIdeal.main_arg4)
          ∧ r.2.mem ((c.tc : Thread Cert.AdamwAdaRefIdeal.nD Cert.AdamwAdaRefIdeal.τ).loc Cert.AdamwAdaRefIdeal.main_arg5) = m' ((c.tc : Thread Cert.AdamwAdaRefIdeal.nD Cert.AdamwAdaRefIdeal.τ).loc Cert.AdamwAdaRefIdeal.main_arg5))

def preserves_InProjA_InProjAIdeal : Prop :=
  True

def algebraic_InProjAIdeal_InProjARefIdeal_on_written_a [hInProjAIdeal : Cert.InProjAIdeal.Facts] [hInProjARefIdeal : Cert.InProjARefIdeal.Facts] [hPre_known_device : Cert.Pre_known_device.Facts] [hOn_written_a : Cert.On_written_a.Facts] : Prop :=
  ∀ (m : (ℓ : Loc Cert.InProjAIdeal.nD Cert.InProjAIdeal.τ Cert.InProjAIdeal.sig) → Buf (Elt Ideal) ℓ) (g : Dev Cert.InProjAIdeal.nD → PrngReg)
    (m' : (ℓ : Loc Cert.InProjARefIdeal.nD Cert.InProjARefIdeal.τ Cert.InProjARefIdeal.sig) → Buf (Elt Ideal) ℓ) (g' : Dev Cert.InProjARefIdeal.nD → PrngReg), Pre_InProjAIdeal m →
    (∀ c : Dev Cert.InProjAIdeal.nD,
      m' ((c.tc : Thread Cert.InProjARefIdeal.nD Cert.InProjARefIdeal.τ).loc Cert.InProjARefIdeal.main_arg0) = m ((c.tc : Thread Cert.InProjAIdeal.nD Cert.InProjAIdeal.τ).loc Cert.InProjAIdeal.main_arg0)
      ∧ m' ((c.tc : Thread Cert.InProjARefIdeal.nD Cert.InProjARefIdeal.τ).loc Cert.InProjARefIdeal.main_arg1) = m ((c.tc : Thread Cert.InProjAIdeal.nD Cert.InProjAIdeal.τ).loc Cert.InProjAIdeal.main_arg1)
      ∧ m' ((c.tc : Thread Cert.InProjARefIdeal.nD Cert.InProjARefIdeal.τ).loc Cert.InProjARefIdeal.main_arg2) = m ((c.tc : Thread Cert.InProjAIdeal.nD Cert.InProjAIdeal.τ).loc Cert.InProjAIdeal.main_arg2)) →
    ∃ (v0 : (c : Dev Cert.InProjAIdeal.nD) → Buf (Elt Ideal) ((c.tc : Thread Cert.InProjAIdeal.nD Cert.InProjAIdeal.τ).loc Cert.InProjAIdeal.main_v0)),
      θ_run (Cert.InProjAIdeal.defs (F := Ideal)) (onTc (τ := Cert.InProjAIdeal.τ) (Cert.InProjAIdeal.main (F := Ideal))) ⟨m, fun _ => 0, g⟩ (fun r => ∀ c : Dev Cert.InProjAIdeal.nD,
          (∀ i : (⟨2, ![2048, 8192]⟩ : Shape).Idx, (Cert.On_written_a.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2))) i = 1#1 → r.2.mem ((c.tc : Thread Cert.InProjAIdeal.nD Cert.InProjAIdeal.τ).loc Cert.InProjAIdeal.main_v0) i = v0 c i)
          ∧ r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
          ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
          ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2))
      ∧ θ_run (Cert.InProjARefIdeal.defs (F := Ideal)) (onTc (τ := Cert.InProjARefIdeal.τ) (Cert.InProjARefIdeal.main (F := Ideal))) ⟨m', fun _ => 0, g'⟩ (fun r => ∀ c : Dev Cert.InProjARefIdeal.nD,
          (∀ i : (⟨2, ![2048, 8192]⟩ : Shape).Idx, (Cert.On_written_a.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2))) i = 1#1 → r.2.mem ((c.tc : Thread Cert.InProjARefIdeal.nD Cert.InProjARefIdeal.τ).loc Cert.InProjARefIdeal.main_v4) i = v0 c i)
          ∧ r.2.mem ((c.tc : Thread Cert.InProjARefIdeal.nD Cert.InProjARefIdeal.τ).loc Cert.InProjARefIdeal.main_arg0) = m' ((c.tc : Thread Cert.InProjARefIdeal.nD Cert.InProjARefIdeal.τ).loc Cert.InProjARefIdeal.main_arg0)
          ∧ r.2.mem ((c.tc : Thread Cert.InProjARefIdeal.nD Cert.InProjARefIdeal.τ).loc Cert.InProjARefIdeal.main_arg1) = m' ((c.tc : Thread Cert.InProjARefIdeal.nD Cert.InProjARefIdeal.τ).loc Cert.InProjARefIdeal.main_arg1)
          ∧ r.2.mem ((c.tc : Thread Cert.InProjARefIdeal.nD Cert.InProjARefIdeal.τ).loc Cert.InProjARefIdeal.main_arg2) = m' ((c.tc : Thread Cert.InProjARefIdeal.nD Cert.InProjARefIdeal.τ).loc Cert.InProjARefIdeal.main_arg2))

def preserves_InProjB_InProjBIdeal : Prop :=
  True

def algebraic_InProjBIdeal_InProjBRefIdeal [hInProjBIdeal : Cert.InProjBIdeal.Facts] [hInProjBRefIdeal : Cert.InProjBRefIdeal.Facts] [hPre_known_device_of_part : Cert.Pre_known_device_of_part.Facts] : Prop :=
  ∀ (m : (ℓ : Loc Cert.InProjBIdeal.nD Cert.InProjBIdeal.τ Cert.InProjBIdeal.sig) → Buf (Elt Ideal) ℓ) (g : Dev Cert.InProjBIdeal.nD → PrngReg)
    (m' : (ℓ : Loc Cert.InProjBRefIdeal.nD Cert.InProjBRefIdeal.τ Cert.InProjBRefIdeal.sig) → Buf (Elt Ideal) ℓ) (g' : Dev Cert.InProjBRefIdeal.nD → PrngReg), Pre_InProjBIdeal m →
    (∀ c : Dev Cert.InProjBIdeal.nD,
      m' ((c.tc : Thread Cert.InProjBRefIdeal.nD Cert.InProjBRefIdeal.τ).loc Cert.InProjBRefIdeal.main_arg0) = m ((c.tc : Thread Cert.InProjBIdeal.nD Cert.InProjBIdeal.τ).loc Cert.InProjBIdeal.main_arg0)
      ∧ m' ((c.tc : Thread Cert.InProjBRefIdeal.nD Cert.InProjBRefIdeal.τ).loc Cert.InProjBRefIdeal.main_arg1) = m ((c.tc : Thread Cert.InProjBIdeal.nD Cert.InProjBIdeal.τ).loc Cert.InProjBIdeal.main_arg1)
      ∧ m' ((c.tc : Thread Cert.InProjBRefIdeal.nD Cert.InProjBRefIdeal.τ).loc Cert.InProjBRefIdeal.main_arg2) = m ((c.tc : Thread Cert.InProjBIdeal.nD Cert.InProjBIdeal.τ).loc Cert.InProjBIdeal.main_arg2)
      ∧ m' ((c.tc : Thread Cert.InProjBRefIdeal.nD Cert.InProjBRefIdeal.τ).loc Cert.InProjBRefIdeal.main_arg3) = m ((c.tc : Thread Cert.InProjBIdeal.nD Cert.InProjBIdeal.τ).loc Cert.InProjBIdeal.main_arg3)) →
    ∃ (v0 : (c : Dev Cert.InProjBIdeal.nD) → Buf (Elt Ideal) ((c.tc : Thread Cert.InProjBIdeal.nD Cert.InProjBIdeal.τ).loc Cert.InProjBIdeal.main_v0)),
      θ_run (Cert.InProjBIdeal.defs (F := Ideal)) (onTc (τ := Cert.InProjBIdeal.τ) (Cert.InProjBIdeal.main (F := Ideal))) ⟨m, fun _ => 0, g⟩ (fun r => ∀ c : Dev Cert.InProjBIdeal.nD,
          r.2.mem ((c.tc : Thread Cert.InProjBIdeal.nD Cert.InProjBIdeal.τ).loc Cert.InProjBIdeal.main_v0) = v0 c
          ∧ r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
          ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1)
          ∧ r.2.mem ((c.tc : Thread Cert.InProjBIdeal.nD Cert.InProjBIdeal.τ).loc Cert.InProjBIdeal.main_arg2) = m ((c.tc : Thread Cert.InProjBIdeal.nD Cert.InProjBIdeal.τ).loc Cert.InProjBIdeal.main_arg2)
          ∧ r.2.mem ((c.tc : Thread Cert.InProjBIdeal.nD Cert.InProjBIdeal.τ).loc Cert.InProjBIdeal.main_arg3) = m ((c.tc : Thread Cert.InProjBIdeal.nD Cert.InProjBIdeal.τ).loc Cert.InProjBIdeal.main_arg3))
      ∧ θ_run (Cert.InProjBRefIdeal.defs (F := Ideal)) (onTc (τ := Cert.InProjBRefIdeal.τ) (Cert.InProjBRefIdeal.main (F := Ideal))) ⟨m', fun _ => 0, g'⟩ (fun r => ∀ c : Dev Cert.InProjBRefIdeal.nD,
          r.2.mem ((c.tc : Thread Cert.InProjBRefIdeal.nD Cert.InProjBRefIdeal.τ).loc Cert.InProjBRefIdeal.main_v17) = v0 c
          ∧ r.2.mem ((c.tc : Thread Cert.InProjBRefIdeal.nD Cert.InProjBRefIdeal.τ).loc Cert.InProjBRefIdeal.main_arg0) = m' ((c.tc : Thread Cert.InProjBRefIdeal.nD Cert.InProjBRefIdeal.τ).loc Cert.InProjBRefIdeal.main_arg0)
          ∧ r.2.mem ((c.tc : Thread Cert.InProjBRefIdeal.nD Cert.InProjBRefIdeal.τ).loc Cert.InProjBRefIdeal.main_arg1) = m' ((c.tc : Thread Cert.InProjBRefIdeal.nD Cert.InProjBRefIdeal.τ).loc Cert.InProjBRefIdeal.main_arg1)
          ∧ r.2.mem ((c.tc : Thread Cert.InProjBRefIdeal.nD Cert.InProjBRefIdeal.τ).loc Cert.InProjBRefIdeal.main_arg2) = m' ((c.tc : Thread Cert.InProjBRefIdeal.nD Cert.InProjBRefIdeal.τ).loc Cert.InProjBRefIdeal.main_arg2)
          ∧ r.2.mem ((c.tc : Thread Cert.InProjBRefIdeal.nD Cert.InProjBRefIdeal.τ).loc Cert.InProjBRefIdeal.main_arg3) = m' ((c.tc : Thread Cert.InProjBRefIdeal.nD Cert.InProjBRefIdeal.τ).loc Cert.InProjBRefIdeal.main_arg3))

def preserves_InProjC_InProjCIdeal : Prop :=
  True

def algebraic_InProjCIdeal_InProjCRefIdeal [hInProjCIdeal : Cert.InProjCIdeal.Facts] [hInProjCRefIdeal : Cert.InProjCRefIdeal.Facts] [hPre_known_device_of_part : Cert.Pre_known_device_of_part.Facts] : Prop :=
  ∀ (m : (ℓ : Loc Cert.InProjCIdeal.nD Cert.InProjCIdeal.τ Cert.InProjCIdeal.sig) → Buf (Elt Ideal) ℓ) (g : Dev Cert.InProjCIdeal.nD → PrngReg)
    (m' : (ℓ : Loc Cert.InProjCRefIdeal.nD Cert.InProjCRefIdeal.τ Cert.InProjCRefIdeal.sig) → Buf (Elt Ideal) ℓ) (g' : Dev Cert.InProjCRefIdeal.nD → PrngReg), Pre_InProjCIdeal m →
    (∀ c : Dev Cert.InProjCIdeal.nD,
      m' ((c.tc : Thread Cert.InProjCRefIdeal.nD Cert.InProjCRefIdeal.τ).loc Cert.InProjCRefIdeal.main_arg0) = m ((c.tc : Thread Cert.InProjCIdeal.nD Cert.InProjCIdeal.τ).loc Cert.InProjCIdeal.main_arg0)
      ∧ m' ((c.tc : Thread Cert.InProjCRefIdeal.nD Cert.InProjCRefIdeal.τ).loc Cert.InProjCRefIdeal.main_arg1) = m ((c.tc : Thread Cert.InProjCIdeal.nD Cert.InProjCIdeal.τ).loc Cert.InProjCIdeal.main_arg1)
      ∧ m' ((c.tc : Thread Cert.InProjCRefIdeal.nD Cert.InProjCRefIdeal.τ).loc Cert.InProjCRefIdeal.main_arg2) = m ((c.tc : Thread Cert.InProjCIdeal.nD Cert.InProjCIdeal.τ).loc Cert.InProjCIdeal.main_arg2)
      ∧ m' ((c.tc : Thread Cert.InProjCRefIdeal.nD Cert.InProjCRefIdeal.τ).loc Cert.InProjCRefIdeal.main_arg3) = m ((c.tc : Thread Cert.InProjCIdeal.nD Cert.InProjCIdeal.τ).loc Cert.InProjCIdeal.main_arg3)) →
    ∃ (v0 : (c : Dev Cert.InProjCIdeal.nD) → Buf (Elt Ideal) ((c.tc : Thread Cert.InProjCIdeal.nD Cert.InProjCIdeal.τ).loc Cert.InProjCIdeal.main_v0)),
      θ_run (Cert.InProjCIdeal.defs (F := Ideal)) (onTc (τ := Cert.InProjCIdeal.τ) (Cert.InProjCIdeal.main (F := Ideal))) ⟨m, fun _ => 0, g⟩ (fun r => ∀ c : Dev Cert.InProjCIdeal.nD,
          r.2.mem ((c.tc : Thread Cert.InProjCIdeal.nD Cert.InProjCIdeal.τ).loc Cert.InProjCIdeal.main_v0) = v0 c
          ∧ r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
          ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1)
          ∧ r.2.mem ((c.tc : Thread Cert.InProjCIdeal.nD Cert.InProjCIdeal.τ).loc Cert.InProjCIdeal.main_arg2) = m ((c.tc : Thread Cert.InProjCIdeal.nD Cert.InProjCIdeal.τ).loc Cert.InProjCIdeal.main_arg2)
          ∧ r.2.mem ((c.tc : Thread Cert.InProjCIdeal.nD Cert.InProjCIdeal.τ).loc Cert.InProjCIdeal.main_arg3) = m ((c.tc : Thread Cert.InProjCIdeal.nD Cert.InProjCIdeal.τ).loc Cert.InProjCIdeal.main_arg3))
      ∧ θ_run (Cert.InProjCRefIdeal.defs (F := Ideal)) (onTc (τ := Cert.InProjCRefIdeal.τ) (Cert.InProjCRefIdeal.main (F := Ideal))) ⟨m', fun _ => 0, g'⟩ (fun r => ∀ c : Dev Cert.InProjCRefIdeal.nD,
          r.2.mem ((c.tc : Thread Cert.InProjCRefIdeal.nD Cert.InProjCRefIdeal.τ).loc Cert.InProjCRefIdeal.main_v17) = v0 c
          ∧ r.2.mem ((c.tc : Thread Cert.InProjCRefIdeal.nD Cert.InProjCRefIdeal.τ).loc Cert.InProjCRefIdeal.main_arg0) = m' ((c.tc : Thread Cert.InProjCRefIdeal.nD Cert.InProjCRefIdeal.τ).loc Cert.InProjCRefIdeal.main_arg0)
          ∧ r.2.mem ((c.tc : Thread Cert.InProjCRefIdeal.nD Cert.InProjCRefIdeal.τ).loc Cert.InProjCRefIdeal.main_arg1) = m' ((c.tc : Thread Cert.InProjCRefIdeal.nD Cert.InProjCRefIdeal.τ).loc Cert.InProjCRefIdeal.main_arg1)
          ∧ r.2.mem ((c.tc : Thread Cert.InProjCRefIdeal.nD Cert.InProjCRefIdeal.τ).loc Cert.InProjCRefIdeal.main_arg2) = m' ((c.tc : Thread Cert.InProjCRefIdeal.nD Cert.InProjCRefIdeal.τ).loc Cert.InProjCRefIdeal.main_arg2)
          ∧ r.2.mem ((c.tc : Thread Cert.InProjCRefIdeal.nD Cert.InProjCRefIdeal.τ).loc Cert.InProjCRefIdeal.main_arg3) = m' ((c.tc : Thread Cert.InProjCRefIdeal.nD Cert.InProjCRefIdeal.τ).loc Cert.InProjCRefIdeal.main_arg3))

def preserves_InProjD_InProjDIdeal : Prop :=
  True

def algebraic_InProjDIdeal_InProjDRefIdeal [hInProjDIdeal : Cert.InProjDIdeal.Facts] [hInProjDRefIdeal : Cert.InProjDRefIdeal.Facts] [hPre_known_device_of_part : Cert.Pre_known_device_of_part.Facts] : Prop :=
  ∀ (m : (ℓ : Loc Cert.InProjDIdeal.nD Cert.InProjDIdeal.τ Cert.InProjDIdeal.sig) → Buf (Elt Ideal) ℓ) (g : Dev Cert.InProjDIdeal.nD → PrngReg)
    (m' : (ℓ : Loc Cert.InProjDRefIdeal.nD Cert.InProjDRefIdeal.τ Cert.InProjDRefIdeal.sig) → Buf (Elt Ideal) ℓ) (g' : Dev Cert.InProjDRefIdeal.nD → PrngReg), Pre_InProjDIdeal m →
    (∀ c : Dev Cert.InProjDIdeal.nD,
      m' ((c.tc : Thread Cert.InProjDRefIdeal.nD Cert.InProjDRefIdeal.τ).loc Cert.InProjDRefIdeal.main_arg0) = m ((c.tc : Thread Cert.InProjDIdeal.nD Cert.InProjDIdeal.τ).loc Cert.InProjDIdeal.main_arg0)
      ∧ m' ((c.tc : Thread Cert.InProjDRefIdeal.nD Cert.InProjDRefIdeal.τ).loc Cert.InProjDRefIdeal.main_arg1) = m ((c.tc : Thread Cert.InProjDIdeal.nD Cert.InProjDIdeal.τ).loc Cert.InProjDIdeal.main_arg1)
      ∧ m' ((c.tc : Thread Cert.InProjDRefIdeal.nD Cert.InProjDRefIdeal.τ).loc Cert.InProjDRefIdeal.main_arg2) = m ((c.tc : Thread Cert.InProjDIdeal.nD Cert.InProjDIdeal.τ).loc Cert.InProjDIdeal.main_arg2)
      ∧ m' ((c.tc : Thread Cert.InProjDRefIdeal.nD Cert.InProjDRefIdeal.τ).loc Cert.InProjDRefIdeal.main_arg3) = m ((c.tc : Thread Cert.InProjDIdeal.nD Cert.InProjDIdeal.τ).loc Cert.InProjDIdeal.main_arg3)) →
    ∃ (v0 : (c : Dev Cert.InProjDIdeal.nD) → Buf (Elt Ideal) ((c.tc : Thread Cert.InProjDIdeal.nD Cert.InProjDIdeal.τ).loc Cert.InProjDIdeal.main_v0)),
      θ_run (Cert.InProjDIdeal.defs (F := Ideal)) (onTc (τ := Cert.InProjDIdeal.τ) (Cert.InProjDIdeal.main (F := Ideal))) ⟨m, fun _ => 0, g⟩ (fun r => ∀ c : Dev Cert.InProjDIdeal.nD,
          r.2.mem ((c.tc : Thread Cert.InProjDIdeal.nD Cert.InProjDIdeal.τ).loc Cert.InProjDIdeal.main_v0) = v0 c
          ∧ r.2.mem ((c.tc : Thread Cert.InProjDIdeal.nD Cert.InProjDIdeal.τ).loc Cert.InProjDIdeal.main_arg0) = m ((c.tc : Thread Cert.InProjDIdeal.nD Cert.InProjDIdeal.τ).loc Cert.InProjDIdeal.main_arg0)
          ∧ r.2.mem ((c.tc : Thread Cert.InProjDIdeal.nD Cert.InProjDIdeal.τ).loc Cert.InProjDIdeal.main_arg1) = m ((c.tc : Thread Cert.InProjDIdeal.nD Cert.InProjDIdeal.τ).loc Cert.InProjDIdeal.main_arg1)
          ∧ r.2.mem ((c.tc : Thread Cert.InProjDIdeal.nD Cert.InProjDIdeal.τ).loc Cert.InProjDIdeal.main_arg2) = m ((c.tc : Thread Cert.InProjDIdeal.nD Cert.InProjDIdeal.τ).loc Cert.InProjDIdeal.main_arg2)
          ∧ r.2.mem ((c.tc : Thread Cert.InProjDIdeal.nD Cert.InProjDIdeal.τ).loc Cert.InProjDIdeal.main_arg3) = m ((c.tc : Thread Cert.InProjDIdeal.nD Cert.InProjDIdeal.τ).loc Cert.InProjDIdeal.main_arg3))
      ∧ θ_run (Cert.InProjDRefIdeal.defs (F := Ideal)) (onTc (τ := Cert.InProjDRefIdeal.τ) (Cert.InProjDRefIdeal.main (F := Ideal))) ⟨m', fun _ => 0, g'⟩ (fun r => ∀ c : Dev Cert.InProjDRefIdeal.nD,
          r.2.mem ((c.tc : Thread Cert.InProjDRefIdeal.nD Cert.InProjDRefIdeal.τ).loc Cert.InProjDRefIdeal.main_v14) = v0 c
          ∧ r.2.mem ((c.tc : Thread Cert.InProjDRefIdeal.nD Cert.InProjDRefIdeal.τ).loc Cert.InProjDRefIdeal.main_arg0) = m' ((c.tc : Thread Cert.InProjDRefIdeal.nD Cert.InProjDRefIdeal.τ).loc Cert.InProjDRefIdeal.main_arg0)
          ∧ r.2.mem ((c.tc : Thread Cert.InProjDRefIdeal.nD Cert.InProjDRefIdeal.τ).loc Cert.InProjDRefIdeal.main_arg1) = m' ((c.tc : Thread Cert.InProjDRefIdeal.nD Cert.InProjDRefIdeal.τ).loc Cert.InProjDRefIdeal.main_arg1)
          ∧ r.2.mem ((c.tc : Thread Cert.InProjDRefIdeal.nD Cert.InProjDRefIdeal.τ).loc Cert.InProjDRefIdeal.main_arg2) = m' ((c.tc : Thread Cert.InProjDRefIdeal.nD Cert.InProjDRefIdeal.τ).loc Cert.InProjDRefIdeal.main_arg2)
          ∧ r.2.mem ((c.tc : Thread Cert.InProjDRefIdeal.nD Cert.InProjDRefIdeal.τ).loc Cert.InProjDRefIdeal.main_arg3) = m' ((c.tc : Thread Cert.InProjDRefIdeal.nD Cert.InProjDRefIdeal.τ).loc Cert.InProjDRefIdeal.main_arg3))

def preserves_InProjE_InProjEIdeal : Prop :=
  True

def algebraic_InProjEIdeal_InProjERefIdeal [hInProjEIdeal : Cert.InProjEIdeal.Facts] [hInProjERefIdeal : Cert.InProjERefIdeal.Facts] [hPre_known_device_of_part : Cert.Pre_known_device_of_part.Facts] : Prop :=
  ∀ (m : (ℓ : Loc Cert.InProjEIdeal.nD Cert.InProjEIdeal.τ Cert.InProjEIdeal.sig) → Buf (Elt Ideal) ℓ) (g : Dev Cert.InProjEIdeal.nD → PrngReg)
    (m' : (ℓ : Loc Cert.InProjERefIdeal.nD Cert.InProjERefIdeal.τ Cert.InProjERefIdeal.sig) → Buf (Elt Ideal) ℓ) (g' : Dev Cert.InProjERefIdeal.nD → PrngReg), Pre_InProjEIdeal m →
    (∀ c : Dev Cert.InProjEIdeal.nD,
      m' ((c.tc : Thread Cert.InProjERefIdeal.nD Cert.InProjERefIdeal.τ).loc Cert.InProjERefIdeal.main_arg0) = m ((c.tc : Thread Cert.InProjEIdeal.nD Cert.InProjEIdeal.τ).loc Cert.InProjEIdeal.main_arg0)
      ∧ m' ((c.tc : Thread Cert.InProjERefIdeal.nD Cert.InProjERefIdeal.τ).loc Cert.InProjERefIdeal.main_arg1) = m ((c.tc : Thread Cert.InProjEIdeal.nD Cert.InProjEIdeal.τ).loc Cert.InProjEIdeal.main_arg1)
      ∧ m' ((c.tc : Thread Cert.InProjERefIdeal.nD Cert.InProjERefIdeal.τ).loc Cert.InProjERefIdeal.main_arg2) = m ((c.tc : Thread Cert.InProjEIdeal.nD Cert.InProjEIdeal.τ).loc Cert.InProjEIdeal.main_arg2)
      ∧ m' ((c.tc : Thread Cert.InProjERefIdeal.nD Cert.InProjERefIdeal.τ).loc Cert.InProjERefIdeal.main_arg3) = m ((c.tc : Thread Cert.InProjEIdeal.nD Cert.InProjEIdeal.τ).loc Cert.InProjEIdeal.main_arg3)) →
    ∃ (v0 : (c : Dev Cert.InProjEIdeal.nD) → Buf (Elt Ideal) ((c.tc : Thread Cert.InProjEIdeal.nD Cert.InProjEIdeal.τ).loc Cert.InProjEIdeal.main_v0)),
      θ_run (Cert.InProjEIdeal.defs (F := Ideal)) (onTc (τ := Cert.InProjEIdeal.τ) (Cert.InProjEIdeal.main (F := Ideal))) ⟨m, fun _ => 0, g⟩ (fun r => ∀ c : Dev Cert.InProjEIdeal.nD,
          r.2.mem ((c.tc : Thread Cert.InProjEIdeal.nD Cert.InProjEIdeal.τ).loc Cert.InProjEIdeal.main_v0) = v0 c
          ∧ r.2.mem ((c.tc : Thread Cert.InProjEIdeal.nD Cert.InProjEIdeal.τ).loc Cert.InProjEIdeal.main_arg0) = m ((c.tc : Thread Cert.InProjEIdeal.nD Cert.InProjEIdeal.τ).loc Cert.InProjEIdeal.main_arg0)
          ∧ r.2.mem ((c.tc : Thread Cert.InProjEIdeal.nD Cert.InProjEIdeal.τ).loc Cert.InProjEIdeal.main_arg1) = m ((c.tc : Thread Cert.InProjEIdeal.nD Cert.InProjEIdeal.τ).loc Cert.InProjEIdeal.main_arg1)
          ∧ r.2.mem ((c.tc : Thread Cert.InProjEIdeal.nD Cert.InProjEIdeal.τ).loc Cert.InProjEIdeal.main_arg2) = m ((c.tc : Thread Cert.InProjEIdeal.nD Cert.InProjEIdeal.τ).loc Cert.InProjEIdeal.main_arg2)
          ∧ r.2.mem ((c.tc : Thread Cert.InProjEIdeal.nD Cert.InProjEIdeal.τ).loc Cert.InProjEIdeal.main_arg3) = m ((c.tc : Thread Cert.InProjEIdeal.nD Cert.InProjEIdeal.τ).loc Cert.InProjEIdeal.main_arg3))
      ∧ θ_run (Cert.InProjERefIdeal.defs (F := Ideal)) (onTc (τ := Cert.InProjERefIdeal.τ) (Cert.InProjERefIdeal.main (F := Ideal))) ⟨m', fun _ => 0, g'⟩ (fun r => ∀ c : Dev Cert.InProjERefIdeal.nD,
          r.2.mem ((c.tc : Thread Cert.InProjERefIdeal.nD Cert.InProjERefIdeal.τ).loc Cert.InProjERefIdeal.main_v14) = v0 c
          ∧ r.2.mem ((c.tc : Thread Cert.InProjERefIdeal.nD Cert.InProjERefIdeal.τ).loc Cert.InProjERefIdeal.main_arg0) = m' ((c.tc : Thread Cert.InProjERefIdeal.nD Cert.InProjERefIdeal.τ).loc Cert.InProjERefIdeal.main_arg0)
          ∧ r.2.mem ((c.tc : Thread Cert.InProjERefIdeal.nD Cert.InProjERefIdeal.τ).loc Cert.InProjERefIdeal.main_arg1) = m' ((c.tc : Thread Cert.InProjERefIdeal.nD Cert.InProjERefIdeal.τ).loc Cert.InProjERefIdeal.main_arg1)
          ∧ r.2.mem ((c.tc : Thread Cert.InProjERefIdeal.nD Cert.InProjERefIdeal.τ).loc Cert.InProjERefIdeal.main_arg2) = m' ((c.tc : Thread Cert.InProjERefIdeal.nD Cert.InProjERefIdeal.τ).loc Cert.InProjERefIdeal.main_arg2)
          ∧ r.2.mem ((c.tc : Thread Cert.InProjERefIdeal.nD Cert.InProjERefIdeal.τ).loc Cert.InProjERefIdeal.main_arg3) = m' ((c.tc : Thread Cert.InProjERefIdeal.nD Cert.InProjERefIdeal.τ).loc Cert.InProjERefIdeal.main_arg3))

def preserves_AdamwWOut_AdamwWOutIdeal : Prop :=
  True

def algebraic_AdamwWOutIdeal_AdamwWOutRefIdeal [hAdamwWOutIdeal : Cert.AdamwWOutIdeal.Facts] [hAdamwWOutRefIdeal : Cert.AdamwWOutRefIdeal.Facts] [hPre_known_pair : Cert.Pre_known_pair.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutRefIdeal.nD Cert.AdamwWOutRefIdeal.τ Cert.AdamwWOutRefIdeal.sig) → Buf (Elt Ideal) ℓ) (g' : Dev Cert.AdamwWOutRefIdeal.nD → PrngReg), Pre_AdamwWOutIdeal m →
    (∀ c : Dev Cert.AdamwWOutIdeal.nD,
      m' ((c.tc : Thread Cert.AdamwWOutRefIdeal.nD Cert.AdamwWOutRefIdeal.τ).loc Cert.AdamwWOutRefIdeal.main_arg0) = m ((c.tc : Thread Cert.AdamwWOutIdeal.nD Cert.AdamwWOutIdeal.τ).loc Cert.AdamwWOutIdeal.main_arg0)
      ∧ m' ((c.tc : Thread Cert.AdamwWOutRefIdeal.nD Cert.AdamwWOutRefIdeal.τ).loc Cert.AdamwWOutRefIdeal.main_arg1) = m ((c.tc : Thread Cert.AdamwWOutIdeal.nD Cert.AdamwWOutIdeal.τ).loc Cert.AdamwWOutIdeal.main_arg1)
      ∧ m' ((c.tc : Thread Cert.AdamwWOutRefIdeal.nD Cert.AdamwWOutRefIdeal.τ).loc Cert.AdamwWOutRefIdeal.main_arg2) = m ((c.tc : Thread Cert.AdamwWOutIdeal.nD Cert.AdamwWOutIdeal.τ).loc Cert.AdamwWOutIdeal.main_arg2)
      ∧ m' ((c.tc : Thread Cert.AdamwWOutRefIdeal.nD Cert.AdamwWOutRefIdeal.τ).loc Cert.AdamwWOutRefIdeal.main_arg3) = m ((c.tc : Thread Cert.AdamwWOutIdeal.nD Cert.AdamwWOutIdeal.τ).loc Cert.AdamwWOutIdeal.main_arg3)
      ∧ m' ((c.tc : Thread Cert.AdamwWOutRefIdeal.nD Cert.AdamwWOutRefIdeal.τ).loc Cert.AdamwWOutRefIdeal.main_arg4) = m ((c.tc : Thread Cert.AdamwWOutIdeal.nD Cert.AdamwWOutIdeal.τ).loc Cert.AdamwWOutIdeal.main_arg4)
      ∧ m' ((c.tc : Thread Cert.AdamwWOutRefIdeal.nD Cert.AdamwWOutRefIdeal.τ).loc Cert.AdamwWOutRefIdeal.main_arg5) = m ((c.tc : Thread Cert.AdamwWOutIdeal.nD Cert.AdamwWOutIdeal.τ).loc Cert.AdamwWOutIdeal.main_arg5)
      ∧ m' ((c.tc : Thread Cert.AdamwWOutRefIdeal.nD Cert.AdamwWOutRefIdeal.τ).loc Cert.AdamwWOutRefIdeal.main_arg6) = m ((c.tc : Thread Cert.AdamwWOutIdeal.nD Cert.AdamwWOutIdeal.τ).loc Cert.AdamwWOutIdeal.main_arg6)) →
    ∃ (v0 : (c : Dev Cert.AdamwWOutIdeal.nD) → Buf (Elt Ideal) ((c.tc : Thread Cert.AdamwWOutIdeal.nD Cert.AdamwWOutIdeal.τ).loc Cert.AdamwWOutIdeal.main_v0_0)) (v1 : (c : Dev Cert.AdamwWOutIdeal.nD) → Buf (Elt Ideal) ((c.tc : Thread Cert.AdamwWOutIdeal.nD Cert.AdamwWOutIdeal.τ).loc Cert.AdamwWOutIdeal.main_v0_1)) (v2 : (c : Dev Cert.AdamwWOutIdeal.nD) → Buf (Elt Ideal) ((c.tc : Thread Cert.AdamwWOutIdeal.nD Cert.AdamwWOutIdeal.τ).loc Cert.AdamwWOutIdeal.main_v0_2)) (v3 : (c : Dev Cert.AdamwWOutIdeal.nD) → Buf (Elt Ideal) ((c.tc : Thread Cert.AdamwWOutIdeal.nD Cert.AdamwWOutIdeal.τ).loc Cert.AdamwWOutIdeal.main_v0_3)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v0_0) = v0 c
          ∧ r.2.mem ((c.tc : Thread Cert.AdamwWOutIdeal.nD Cert.AdamwWOutIdeal.τ).loc Cert.AdamwWOutIdeal.main_v0_1) = v1 c
          ∧ r.2.mem ((c.tc : Thread Cert.AdamwWOutIdeal.nD Cert.AdamwWOutIdeal.τ).loc Cert.AdamwWOutIdeal.main_v0_2) = v2 c
          ∧ r.2.mem ((c.tc : Thread Cert.AdamwWOutIdeal.nD Cert.AdamwWOutIdeal.τ).loc Cert.AdamwWOutIdeal.main_v0_3) = v3 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
          ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4)
          ∧ r.2.mem ((c.tc : Thread Cert.AdamwWOutIdeal.nD Cert.AdamwWOutIdeal.τ).loc Cert.AdamwWOutIdeal.main_arg5) = m ((c.tc : Thread Cert.AdamwWOutIdeal.nD Cert.AdamwWOutIdeal.τ).loc Cert.AdamwWOutIdeal.main_arg5)
          ∧ r.2.mem ((c.tc : Thread Cert.AdamwWOutIdeal.nD Cert.AdamwWOutIdeal.τ).loc Cert.AdamwWOutIdeal.main_arg6) = m ((c.tc : Thread Cert.AdamwWOutIdeal.nD Cert.AdamwWOutIdeal.τ).loc Cert.AdamwWOutIdeal.main_arg6))
      ∧ θ_run (Cert.AdamwWOutRefIdeal.defs (F := Ideal)) (onTc (τ := Cert.AdamwWOutRefIdeal.τ) (Cert.AdamwWOutRefIdeal.main (F := Ideal))) ⟨m', fun _ => 0, g'⟩ (fun r => ∀ c : Dev Cert.AdamwWOutRefIdeal.nD,
          r.2.mem ((c.tc : Thread Cert.AdamwWOutRefIdeal.nD Cert.AdamwWOutRefIdeal.τ).loc Cert.AdamwWOutRefIdeal.main_v27) = v0 c
          ∧ r.2.mem ((c.tc : Thread Cert.AdamwWOutRefIdeal.nD Cert.AdamwWOutRefIdeal.τ).loc Cert.AdamwWOutRefIdeal.main_v51) = v1 c
          ∧ r.2.mem ((c.tc : Thread Cert.AdamwWOutRefIdeal.nD Cert.AdamwWOutRefIdeal.τ).loc Cert.AdamwWOutRefIdeal.main_v32) = v2 c
          ∧ r.2.mem ((c.tc : Thread Cert.AdamwWOutRefIdeal.nD Cert.AdamwWOutRefIdeal.τ).loc Cert.AdamwWOutRefIdeal.main_v38) = v3 c
          ∧ r.2.mem ((c.tc : Thread Cert.AdamwWOutRefIdeal.nD Cert.AdamwWOutRefIdeal.τ).loc Cert.AdamwWOutRefIdeal.main_arg0) = m' ((c.tc : Thread Cert.AdamwWOutRefIdeal.nD Cert.AdamwWOutRefIdeal.τ).loc Cert.AdamwWOutRefIdeal.main_arg0)
          ∧ r.2.mem ((c.tc : Thread Cert.AdamwWOutRefIdeal.nD Cert.AdamwWOutRefIdeal.τ).loc Cert.AdamwWOutRefIdeal.main_arg1) = m' ((c.tc : Thread Cert.AdamwWOutRefIdeal.nD Cert.AdamwWOutRefIdeal.τ).loc Cert.AdamwWOutRefIdeal.main_arg1)
          ∧ r.2.mem ((c.tc : Thread Cert.AdamwWOutRefIdeal.nD Cert.AdamwWOutRefIdeal.τ).loc Cert.AdamwWOutRefIdeal.main_arg2) = m' ((c.tc : Thread Cert.AdamwWOutRefIdeal.nD Cert.AdamwWOutRefIdeal.τ).loc Cert.AdamwWOutRefIdeal.main_arg2)
          ∧ r.2.mem ((c.tc : Thread Cert.AdamwWOutRefIdeal.nD Cert.AdamwWOutRefIdeal.τ).loc Cert.AdamwWOutRefIdeal.main_arg3) = m' ((c.tc : Thread Cert.AdamwWOutRefIdeal.nD Cert.AdamwWOutRefIdeal.τ).loc Cert.AdamwWOutRefIdeal.main_arg3)
          ∧ r.2.mem ((c.tc : Thread Cert.AdamwWOutRefIdeal.nD Cert.AdamwWOutRefIdeal.τ).loc Cert.AdamwWOutRefIdeal.main_arg4) = m' ((c.tc : Thread Cert.AdamwWOutRefIdeal.nD Cert.AdamwWOutRefIdeal.τ).loc Cert.AdamwWOutRefIdeal.main_arg4)
          ∧ r.2.mem ((c.tc : Thread Cert.AdamwWOutRefIdeal.nD Cert.AdamwWOutRefIdeal.τ).loc Cert.AdamwWOutRefIdeal.main_arg5) = m' ((c.tc : Thread Cert.AdamwWOutRefIdeal.nD Cert.AdamwWOutRefIdeal.τ).loc Cert.AdamwWOutRefIdeal.main_arg5)
          ∧ r.2.mem ((c.tc : Thread Cert.AdamwWOutRefIdeal.nD Cert.AdamwWOutRefIdeal.τ).loc Cert.AdamwWOutRefIdeal.main_arg6) = m' ((c.tc : Thread Cert.AdamwWOutRefIdeal.nD Cert.AdamwWOutRefIdeal.τ).loc Cert.AdamwWOutRefIdeal.main_arg6))

def preserves_AdamwWInA_AdamwWInAIdeal : Prop :=
  True

def algebraic_AdamwWInAIdeal_AdamwWInARefIdeal_on_first_rows [hAdamwWInAIdeal : Cert.AdamwWInAIdeal.Facts] [hAdamwWInARefIdeal : Cert.AdamwWInARefIdeal.Facts] [hPre_known_pair_of_in : Cert.Pre_known_pair_of_in.Facts] [hOn_first_rows : Cert.On_first_rows.Facts] : Prop :=
  ∀ (m : (ℓ : Loc Cert.AdamwWInAIdeal.nD Cert.AdamwWInAIdeal.τ Cert.AdamwWInAIdeal.sig) → Buf (Elt Ideal) ℓ) (g : Dev Cert.AdamwWInAIdeal.nD → PrngReg)
    (m' : (ℓ : Loc Cert.AdamwWInARefIdeal.nD Cert.AdamwWInARefIdeal.τ Cert.AdamwWInARefIdeal.sig) → Buf (Elt Ideal) ℓ) (g' : Dev Cert.AdamwWInARefIdeal.nD → PrngReg), Pre_AdamwWInAIdeal m →
    (∀ c : Dev Cert.AdamwWInAIdeal.nD,
      m' ((c.tc : Thread Cert.AdamwWInARefIdeal.nD Cert.AdamwWInARefIdeal.τ).loc Cert.AdamwWInARefIdeal.main_arg0) = m ((c.tc : Thread Cert.AdamwWInAIdeal.nD Cert.AdamwWInAIdeal.τ).loc Cert.AdamwWInAIdeal.main_arg0)
      ∧ m' ((c.tc : Thread Cert.AdamwWInARefIdeal.nD Cert.AdamwWInARefIdeal.τ).loc Cert.AdamwWInARefIdeal.main_arg1) = m ((c.tc : Thread Cert.AdamwWInAIdeal.nD Cert.AdamwWInAIdeal.τ).loc Cert.AdamwWInAIdeal.main_arg1)
      ∧ m' ((c.tc : Thread Cert.AdamwWInARefIdeal.nD Cert.AdamwWInARefIdeal.τ).loc Cert.AdamwWInARefIdeal.main_arg2) = m ((c.tc : Thread Cert.AdamwWInAIdeal.nD Cert.AdamwWInAIdeal.τ).loc Cert.AdamwWInAIdeal.main_arg2)
      ∧ m' ((c.tc : Thread Cert.AdamwWInARefIdeal.nD Cert.AdamwWInARefIdeal.τ).loc Cert.AdamwWInARefIdeal.main_arg3) = m ((c.tc : Thread Cert.AdamwWInAIdeal.nD Cert.AdamwWInAIdeal.τ).loc Cert.AdamwWInAIdeal.main_arg3)
      ∧ m' ((c.tc : Thread Cert.AdamwWInARefIdeal.nD Cert.AdamwWInARefIdeal.τ).loc Cert.AdamwWInARefIdeal.main_arg4) = m ((c.tc : Thread Cert.AdamwWInAIdeal.nD Cert.AdamwWInAIdeal.τ).loc Cert.AdamwWInAIdeal.main_arg4)
      ∧ m' ((c.tc : Thread Cert.AdamwWInARefIdeal.nD Cert.AdamwWInARefIdeal.τ).loc Cert.AdamwWInARefIdeal.main_arg5) = m ((c.tc : Thread Cert.AdamwWInAIdeal.nD Cert.AdamwWInAIdeal.τ).loc Cert.AdamwWInAIdeal.main_arg5)
      ∧ m' ((c.tc : Thread Cert.AdamwWInARefIdeal.nD Cert.AdamwWInARefIdeal.τ).loc Cert.AdamwWInARefIdeal.main_arg6) = m ((c.tc : Thread Cert.AdamwWInAIdeal.nD Cert.AdamwWInAIdeal.τ).loc Cert.AdamwWInAIdeal.main_arg6)) →
    ∃ (v0 : (c : Dev Cert.AdamwWInAIdeal.nD) → Buf (Elt Ideal) ((c.tc : Thread Cert.AdamwWInAIdeal.nD Cert.AdamwWInAIdeal.τ).loc Cert.AdamwWInAIdeal.main_v0_0)) (v1 : (c : Dev Cert.AdamwWInAIdeal.nD) → Buf (Elt Ideal) ((c.tc : Thread Cert.AdamwWInAIdeal.nD Cert.AdamwWInAIdeal.τ).loc Cert.AdamwWInAIdeal.main_v0_1)) (v2 : (c : Dev Cert.AdamwWInAIdeal.nD) → Buf (Elt Ideal) ((c.tc : Thread Cert.AdamwWInAIdeal.nD Cert.AdamwWInAIdeal.τ).loc Cert.AdamwWInAIdeal.main_v0_2)) (v3 : (c : Dev Cert.AdamwWInAIdeal.nD) → Buf (Elt Ideal) ((c.tc : Thread Cert.AdamwWInAIdeal.nD Cert.AdamwWInAIdeal.τ).loc Cert.AdamwWInAIdeal.main_v0_3)),
      θ_run (Cert.AdamwWInAIdeal.defs (F := Ideal)) (onTc (τ := Cert.AdamwWInAIdeal.τ) (Cert.AdamwWInAIdeal.main (F := Ideal))) ⟨m, fun _ => 0, g⟩ (fun r => ∀ c : Dev Cert.AdamwWInAIdeal.nD,
          (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).1 i = 1#1 → r.2.mem ((c.tc : Thread Cert.AdamwWInAIdeal.nD Cert.AdamwWInAIdeal.τ).loc Cert.AdamwWInAIdeal.main_v0_0) i = v0 c i)
          ∧ (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).2.1 i = 1#1 → r.2.mem ((c.tc : Thread Cert.AdamwWInAIdeal.nD Cert.AdamwWInAIdeal.τ).loc Cert.AdamwWInAIdeal.main_v0_1) i = v1 c i)
          ∧ (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).2.2.1 i = 1#1 → r.2.mem ((c.tc : Thread Cert.AdamwWInAIdeal.nD Cert.AdamwWInAIdeal.τ).loc Cert.AdamwWInAIdeal.main_v0_2) i = v2 c i)
          ∧ (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).2.2.2 i = 1#1 → r.2.mem ((c.tc : Thread Cert.AdamwWInAIdeal.nD Cert.AdamwWInAIdeal.τ).loc Cert.AdamwWInAIdeal.main_v0_3) i = v3 c i)
          ∧ r.2.mem ((c.tc : Thread Cert.AdamwWInAIdeal.nD Cert.AdamwWInAIdeal.τ).loc Cert.AdamwWInAIdeal.main_arg0) = m ((c.tc : Thread Cert.AdamwWInAIdeal.nD Cert.AdamwWInAIdeal.τ).loc Cert.AdamwWInAIdeal.main_arg0)
          ∧ r.2.mem ((c.tc : Thread Cert.AdamwWInAIdeal.nD Cert.AdamwWInAIdeal.τ).loc Cert.AdamwWInAIdeal.main_arg1) = m ((c.tc : Thread Cert.AdamwWInAIdeal.nD Cert.AdamwWInAIdeal.τ).loc Cert.AdamwWInAIdeal.main_arg1)
          ∧ r.2.mem ((c.tc : Thread Cert.AdamwWInAIdeal.nD Cert.AdamwWInAIdeal.τ).loc Cert.AdamwWInAIdeal.main_arg2) = m ((c.tc : Thread Cert.AdamwWInAIdeal.nD Cert.AdamwWInAIdeal.τ).loc Cert.AdamwWInAIdeal.main_arg2)
          ∧ r.2.mem ((c.tc : Thread Cert.AdamwWInAIdeal.nD Cert.AdamwWInAIdeal.τ).loc Cert.AdamwWInAIdeal.main_arg3) = m ((c.tc : Thread Cert.AdamwWInAIdeal.nD Cert.AdamwWInAIdeal.τ).loc Cert.AdamwWInAIdeal.main_arg3)
          ∧ r.2.mem ((c.tc : Thread Cert.AdamwWInAIdeal.nD Cert.AdamwWInAIdeal.τ).loc Cert.AdamwWInAIdeal.main_arg4) = m ((c.tc : Thread Cert.AdamwWInAIdeal.nD Cert.AdamwWInAIdeal.τ).loc Cert.AdamwWInAIdeal.main_arg4)
          ∧ r.2.mem ((c.tc : Thread Cert.AdamwWInAIdeal.nD Cert.AdamwWInAIdeal.τ).loc Cert.AdamwWInAIdeal.main_arg5) = m ((c.tc : Thread Cert.AdamwWInAIdeal.nD Cert.AdamwWInAIdeal.τ).loc Cert.AdamwWInAIdeal.main_arg5)
          ∧ r.2.mem ((c.tc : Thread Cert.AdamwWInAIdeal.nD Cert.AdamwWInAIdeal.τ).loc Cert.AdamwWInAIdeal.main_arg6) = m ((c.tc : Thread Cert.AdamwWInAIdeal.nD Cert.AdamwWInAIdeal.τ).loc Cert.AdamwWInAIdeal.main_arg6))
      ∧ θ_run (Cert.AdamwWInARefIdeal.defs (F := Ideal)) (onTc (τ := Cert.AdamwWInARefIdeal.τ) (Cert.AdamwWInARefIdeal.main (F := Ideal))) ⟨m', fun _ => 0, g'⟩ (fun r => ∀ c : Dev Cert.AdamwWInARefIdeal.nD,
          (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).1 i = 1#1 → r.2.mem ((c.tc : Thread Cert.AdamwWInARefIdeal.nD Cert.AdamwWInARefIdeal.τ).loc Cert.AdamwWInARefIdeal.main_v27) i = v0 c i)
          ∧ (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).2.1 i = 1#1 → r.2.mem ((c.tc : Thread Cert.AdamwWInARefIdeal.nD Cert.AdamwWInARefIdeal.τ).loc Cert.AdamwWInARefIdeal.main_v51) i = v1 c i)
          ∧ (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).2.2.1 i = 1#1 → r.2.mem ((c.tc : Thread Cert.AdamwWInARefIdeal.nD Cert.AdamwWInARefIdeal.τ).loc Cert.AdamwWInARefIdeal.main_v32) i = v2 c i)
          ∧ (∀ i : (⟨2, ![2048, 1024]⟩ : Shape).Idx, (Cert.On_first_rows.fn (F := Ideal) (m ((c.tc : Thread Cert.AdamwWInAIdeal.nD Cert.AdamwWInAIdeal.τ).loc Cert.AdamwWInAIdeal.main_arg0)) (m ((c.tc : Thread Cert.AdamwWInAIdeal.nD Cert.AdamwWInAIdeal.τ).loc Cert.AdamwWInAIdeal.main_arg1)) (m ((c.tc : Thread Cert.AdamwWInAIdeal.nD Cert.AdamwWInAIdeal.τ).loc Cert.AdamwWInAIdeal.main_arg2)) (m ((c.tc : Thread Cert.AdamwWInAIdeal.nD Cert.AdamwWInAIdeal.τ).loc Cert.AdamwWInAIdeal.main_arg3)) (m ((c.tc : Thread Cert.AdamwWInAIdeal.nD Cert.AdamwWInAIdeal.τ).loc Cert.AdamwWInAIdeal.main_arg4)) (m ((c.tc : Thread Cert.AdamwWInAIdeal.nD Cert.AdamwWInAIdeal.τ).loc Cert.AdamwWInAIdeal.main_arg5)) (m ((c.tc : Thread Cert.AdamwWInAIdeal.nD Cert.AdamwWInAIdeal.τ).loc Cert.AdamwWInAIdeal.main_arg6))).2.2.2 i = 1#1 → r.2.mem ((c.tc : Thread Cert.AdamwWInARefIdeal.nD Cert.AdamwWInARefIdeal.τ).loc Cert.AdamwWInARefIdeal.main_v38) i = v3 c i)
          ∧ r.2.mem ((c.tc : Thread Cert.AdamwWInARefIdeal.nD Cert.AdamwWInARefIdeal.τ).loc Cert.AdamwWInARefIdeal.main_arg0) = m' ((c.tc : Thread Cert.AdamwWInARefIdeal.nD Cert.AdamwWInARefIdeal.τ).loc Cert.AdamwWInARefIdeal.main_arg0)
          ∧ r.2.mem ((c.tc : Thread Cert.AdamwWInARefIdeal.nD Cert.AdamwWInARefIdeal.τ).loc Cert.AdamwWInARefIdeal.main_arg1) = m' ((c.tc : Thread Cert.AdamwWInARefIdeal.nD Cert.AdamwWInARefIdeal.τ).loc Cert.AdamwWInARefIdeal.main_arg1)
          ∧ r.2.mem ((c.tc : Thread Cert.AdamwWInARefIdeal.nD Cert.AdamwWInARefIdeal.τ).loc Cert.AdamwWInARefIdeal.main_arg2) = m' ((c.tc : Thread Cert.AdamwWInARefIdeal.nD Cert.AdamwWInARefIdeal.τ).loc Cert.AdamwWInARefIdeal.main_arg2)
          ∧ r.2.mem ((c.tc : Thread Cert.AdamwWInARefIdeal.nD Cert.AdamwWInARefIdeal.τ).loc Cert.AdamwWInARefIdeal.main_arg3) = m' ((c.tc : Thread Cert.AdamwWInARefIdeal.nD Cert.AdamwWInARefIdeal.τ).loc Cert.AdamwWInARefIdeal.main_arg3)
          ∧ r.2.mem ((c.tc : Thread Cert.AdamwWInARefIdeal.nD Cert.AdamwWInARefIdeal.τ).loc Cert.AdamwWInARefIdeal.main_arg4) = m' ((c.tc : Thread Cert.AdamwWInARefIdeal.nD Cert.AdamwWInARefIdeal.τ).loc Cert.AdamwWInARefIdeal.main_arg4)
          ∧ r.2.mem ((c.tc : Thread Cert.AdamwWInARefIdeal.nD Cert.AdamwWInARefIdeal.τ).loc Cert.AdamwWInARefIdeal.main_arg5) = m' ((c.tc : Thread Cert.AdamwWInARefIdeal.nD Cert.AdamwWInARefIdeal.τ).loc Cert.AdamwWInARefIdeal.main_arg5)
          ∧ r.2.mem ((c.tc : Thread Cert.AdamwWInARefIdeal.nD Cert.AdamwWInARefIdeal.τ).loc Cert.AdamwWInARefIdeal.main_arg6) = m' ((c.tc : Thread Cert.AdamwWInARefIdeal.nD Cert.AdamwWInARefIdeal.τ).loc Cert.AdamwWInARefIdeal.main_arg6))

def preserves_AdamwWInB_AdamwWInBIdeal : Prop :=
  True

def algebraic_AdamwWInBIdeal_AdamwWInBRefIdeal [hAdamwWInBIdeal : Cert.AdamwWInBIdeal.Facts] [hAdamwWInBRefIdeal : Cert.AdamwWInBRefIdeal.Facts] [hPre_known_pair_of_last : Cert.Pre_known_pair_of_last.Facts] : Prop :=
  ∀ (m : (ℓ : Loc Cert.AdamwWInBIdeal.nD Cert.AdamwWInBIdeal.τ Cert.AdamwWInBIdeal.sig) → Buf (Elt Ideal) ℓ) (g : Dev Cert.AdamwWInBIdeal.nD → PrngReg)
    (m' : (ℓ : Loc Cert.AdamwWInBRefIdeal.nD Cert.AdamwWInBRefIdeal.τ Cert.AdamwWInBRefIdeal.sig) → Buf (Elt Ideal) ℓ) (g' : Dev Cert.AdamwWInBRefIdeal.nD → PrngReg), Pre_AdamwWInBIdeal m →
    (∀ c : Dev Cert.AdamwWInBIdeal.nD,
      m' ((c.tc : Thread Cert.AdamwWInBRefIdeal.nD Cert.AdamwWInBRefIdeal.τ).loc Cert.AdamwWInBRefIdeal.main_arg0) = m ((c.tc : Thread Cert.AdamwWInBIdeal.nD Cert.AdamwWInBIdeal.τ).loc Cert.AdamwWInBIdeal.main_arg0)
      ∧ m' ((c.tc : Thread Cert.AdamwWInBRefIdeal.nD Cert.AdamwWInBRefIdeal.τ).loc Cert.AdamwWInBRefIdeal.main_arg1) = m ((c.tc : Thread Cert.AdamwWInBIdeal.nD Cert.AdamwWInBIdeal.τ).loc Cert.AdamwWInBIdeal.main_arg1)
      ∧ m' ((c.tc : Thread Cert.AdamwWInBRefIdeal.nD Cert.AdamwWInBRefIdeal.τ).loc Cert.AdamwWInBRefIdeal.main_arg2) = m ((c.tc : Thread Cert.AdamwWInBIdeal.nD Cert.AdamwWInBIdeal.τ).loc Cert.AdamwWInBIdeal.main_arg2)
      ∧ m' ((c.tc : Thread Cert.AdamwWInBRefIdeal.nD Cert.AdamwWInBRefIdeal.τ).loc Cert.AdamwWInBRefIdeal.main_arg3) = m ((c.tc : Thread Cert.AdamwWInBIdeal.nD Cert.AdamwWInBIdeal.τ).loc Cert.AdamwWInBIdeal.main_arg3)
      ∧ m' ((c.tc : Thread Cert.AdamwWInBRefIdeal.nD Cert.AdamwWInBRefIdeal.τ).loc Cert.AdamwWInBRefIdeal.main_arg4) = m ((c.tc : Thread Cert.AdamwWInBIdeal.nD Cert.AdamwWInBIdeal.τ).loc Cert.AdamwWInBIdeal.main_arg4)
      ∧ m' ((c.tc : Thread Cert.AdamwWInBRefIdeal.nD Cert.AdamwWInBRefIdeal.τ).loc Cert.AdamwWInBRefIdeal.main_arg5) = m ((c.tc : Thread Cert.AdamwWInBIdeal.nD Cert.AdamwWInBIdeal.τ).loc Cert.AdamwWInBIdeal.main_arg5)
      ∧ m' ((c.tc : Thread Cert.AdamwWInBRefIdeal.nD Cert.AdamwWInBRefIdeal.τ).loc Cert.AdamwWInBRefIdeal.main_arg6) = m ((c.tc : Thread Cert.AdamwWInBIdeal.nD Cert.AdamwWInBIdeal.τ).loc Cert.AdamwWInBIdeal.main_arg6)
      ∧ m' ((c.tc : Thread Cert.AdamwWInBRefIdeal.nD Cert.AdamwWInBRefIdeal.τ).loc Cert.AdamwWInBRefIdeal.main_arg7) = m ((c.tc : Thread Cert.AdamwWInBIdeal.nD Cert.AdamwWInBIdeal.τ).loc Cert.AdamwWInBIdeal.main_arg7)
      ∧ m' ((c.tc : Thread Cert.AdamwWInBRefIdeal.nD Cert.AdamwWInBRefIdeal.τ).loc Cert.AdamwWInBRefIdeal.main_arg8) = m ((c.tc : Thread Cert.AdamwWInBIdeal.nD Cert.AdamwWInBIdeal.τ).loc Cert.AdamwWInBIdeal.main_arg8)
      ∧ m' ((c.tc : Thread Cert.AdamwWInBRefIdeal.nD Cert.AdamwWInBRefIdeal.τ).loc Cert.AdamwWInBRefIdeal.main_arg9) = m ((c.tc : Thread Cert.AdamwWInBIdeal.nD Cert.AdamwWInBIdeal.τ).loc Cert.AdamwWInBIdeal.main_arg9)
      ∧ m' ((c.tc : Thread Cert.AdamwWInBRefIdeal.nD Cert.AdamwWInBRefIdeal.τ).loc Cert.AdamwWInBRefIdeal.main_arg10) = m ((c.tc : Thread Cert.AdamwWInBIdeal.nD Cert.AdamwWInBIdeal.τ).loc Cert.AdamwWInBIdeal.main_arg10)) →
    ∃ (v0 : (c : Dev Cert.AdamwWInBIdeal.nD) → Buf (Elt Ideal) ((c.tc : Thread Cert.AdamwWInBIdeal.nD Cert.AdamwWInBIdeal.τ).loc Cert.AdamwWInBIdeal.main_v0_0)) (v1 : (c : Dev Cert.AdamwWInBIdeal.nD) → Buf (Elt Ideal) ((c.tc : Thread Cert.AdamwWInBIdeal.nD Cert.AdamwWInBIdeal.τ).loc Cert.AdamwWInBIdeal.main_v0_1)) (v2 : (c : Dev Cert.AdamwWInBIdeal.nD) → Buf (Elt Ideal) ((c.tc : Thread Cert.AdamwWInBIdeal.nD Cert.AdamwWInBIdeal.τ).loc Cert.AdamwWInBIdeal.main_v0_2)) (v3 : (c : Dev Cert.AdamwWInBIdeal.nD) → Buf (Elt Ideal) ((c.tc : Thread Cert.AdamwWInBIdeal.nD Cert.AdamwWInBIdeal.τ).loc Cert.AdamwWInBIdeal.main_v0_3)),
      θ_run (Cert.AdamwWInBIdeal.defs (F := Ideal)) (onTc (τ := Cert.AdamwWInBIdeal.τ) (Cert.AdamwWInBIdeal.main (F := Ideal))) ⟨m, fun _ => 0, g⟩ (fun r => ∀ c : Dev Cert.AdamwWInBIdeal.nD,
          r.2.mem ((c.tc : Thread Cert.AdamwWInBIdeal.nD Cert.AdamwWInBIdeal.τ).loc Cert.AdamwWInBIdeal.main_v0_0) = v0 c
          ∧ r.2.mem ((c.tc : Thread Cert.AdamwWInBIdeal.nD Cert.AdamwWInBIdeal.τ).loc Cert.AdamwWInBIdeal.main_v0_1) = v1 c
          ∧ r.2.mem ((c.tc : Thread Cert.AdamwWInBIdeal.nD Cert.AdamwWInBIdeal.τ).loc Cert.AdamwWInBIdeal.main_v0_2) = v2 c
          ∧ r.2.mem ((c.tc : Thread Cert.AdamwWInBIdeal.nD Cert.AdamwWInBIdeal.τ).loc Cert.AdamwWInBIdeal.main_v0_3) = v3 c
          ∧ r.2.mem ((c.tc : Thread Cert.AdamwWInBIdeal.nD Cert.AdamwWInBIdeal.τ).loc Cert.AdamwWInBIdeal.main_arg0) = m ((c.tc : Thread Cert.AdamwWInBIdeal.nD Cert.AdamwWInBIdeal.τ).loc Cert.AdamwWInBIdeal.main_arg0)
          ∧ r.2.mem ((c.tc : Thread Cert.AdamwWInBIdeal.nD Cert.AdamwWInBIdeal.τ).loc Cert.AdamwWInBIdeal.main_arg1) = m ((c.tc : Thread Cert.AdamwWInBIdeal.nD Cert.AdamwWInBIdeal.τ).loc Cert.AdamwWInBIdeal.main_arg1)
          ∧ r.2.mem ((c.tc : Thread Cert.AdamwWInBIdeal.nD Cert.AdamwWInBIdeal.τ).loc Cert.AdamwWInBIdeal.main_arg2) = m ((c.tc : Thread Cert.AdamwWInBIdeal.nD Cert.AdamwWInBIdeal.τ).loc Cert.AdamwWInBIdeal.main_arg2)
          ∧ r.2.mem ((c.tc : Thread Cert.AdamwWInBIdeal.nD Cert.AdamwWInBIdeal.τ).loc Cert.AdamwWInBIdeal.main_arg3) = m ((c.tc : Thread Cert.AdamwWInBIdeal.nD Cert.AdamwWInBIdeal.τ).loc Cert.AdamwWInBIdeal.main_arg3)
          ∧ r.2.mem ((c.tc : Thread Cert.AdamwWInBIdeal.nD Cert.AdamwWInBIdeal.τ).loc Cert.AdamwWInBIdeal.main_arg4) = m ((c.tc : Thread Cert.AdamwWInBIdeal.nD Cert.AdamwWInBIdeal.τ).loc Cert.AdamwWInBIdeal.main_arg4)
          ∧ r.2.mem ((c.tc : Thread Cert.AdamwWInBIdeal.nD Cert.AdamwWInBIdeal.τ).loc Cert.AdamwWInBIdeal.main_arg5) = m ((c.tc : Thread Cert.AdamwWInBIdeal.nD Cert.AdamwWInBIdeal.τ).loc Cert.AdamwWInBIdeal.main_arg5)
          ∧ r.2.mem ((c.tc : Thread Cert.AdamwWInBIdeal.nD Cert.AdamwWInBIdeal.τ).loc Cert.AdamwWInBIdeal.main_arg6) = m ((c.tc : Thread Cert.AdamwWInBIdeal.nD Cert.AdamwWInBIdeal.τ).loc Cert.AdamwWInBIdeal.main_arg6)
          ∧ r.2.mem ((c.tc : Thread Cert.AdamwWInBIdeal.nD Cert.AdamwWInBIdeal.τ).loc Cert.AdamwWInBIdeal.main_arg7) = m ((c.tc : Thread Cert.AdamwWInBIdeal.nD Cert.AdamwWInBIdeal.τ).loc Cert.AdamwWInBIdeal.main_arg7)
          ∧ r.2.mem ((c.tc : Thread Cert.AdamwWInBIdeal.nD Cert.AdamwWInBIdeal.τ).loc Cert.AdamwWInBIdeal.main_arg8) = m ((c.tc : Thread Cert.AdamwWInBIdeal.nD Cert.AdamwWInBIdeal.τ).loc Cert.AdamwWInBIdeal.main_arg8)
          ∧ r.2.mem ((c.tc : Thread Cert.AdamwWInBIdeal.nD Cert.AdamwWInBIdeal.τ).loc Cert.AdamwWInBIdeal.main_arg9) = m ((c.tc : Thread Cert.AdamwWInBIdeal.nD Cert.AdamwWInBIdeal.τ).loc Cert.AdamwWInBIdeal.main_arg9)
          ∧ r.2.mem ((c.tc : Thread Cert.AdamwWInBIdeal.nD Cert.AdamwWInBIdeal.τ).loc Cert.AdamwWInBIdeal.main_arg10) = m ((c.tc : Thread Cert.AdamwWInBIdeal.nD Cert.AdamwWInBIdeal.τ).loc Cert.AdamwWInBIdeal.main_arg10))
      ∧ θ_run (Cert.AdamwWInBRefIdeal.defs (F := Ideal)) (onTc (τ := Cert.AdamwWInBRefIdeal.τ) (Cert.AdamwWInBRefIdeal.main (F := Ideal))) ⟨m', fun _ => 0, g'⟩ (fun r => ∀ c : Dev Cert.AdamwWInBRefIdeal.nD,
          r.2.mem ((c.tc : Thread Cert.AdamwWInBRefIdeal.nD Cert.AdamwWInBRefIdeal.τ).loc Cert.AdamwWInBRefIdeal.main_v54) = v0 c
          ∧ r.2.mem ((c.tc : Thread Cert.AdamwWInBRefIdeal.nD Cert.AdamwWInBRefIdeal.τ).loc Cert.AdamwWInBRefIdeal.main_v57) = v1 c
          ∧ r.2.mem ((c.tc : Thread Cert.AdamwWInBRefIdeal.nD Cert.AdamwWInBRefIdeal.τ).loc Cert.AdamwWInBRefIdeal.main_v60) = v2 c
          ∧ r.2.mem ((c.tc : Thread Cert.AdamwWInBRefIdeal.nD Cert.AdamwWInBRefIdeal.τ).loc Cert.AdamwWInBRefIdeal.main_v63) = v3 c
          ∧ r.2.mem ((c.tc : Thread Cert.AdamwWInBRefIdeal.nD Cert.AdamwWInBRefIdeal.τ).loc Cert.AdamwWInBRefIdeal.main_arg0) = m' ((c.tc : Thread Cert.AdamwWInBRefIdeal.nD Cert.AdamwWInBRefIdeal.τ).loc Cert.AdamwWInBRefIdeal.main_arg0)
          ∧ r.2.mem ((c.tc : Thread Cert.AdamwWInBRefIdeal.nD Cert.AdamwWInBRefIdeal.τ).loc Cert.AdamwWInBRefIdeal.main_arg1) = m' ((c.tc : Thread Cert.AdamwWInBRefIdeal.nD Cert.AdamwWInBRefIdeal.τ).loc Cert.AdamwWInBRefIdeal.main_arg1)
          ∧ r.2.mem ((c.tc : Thread Cert.AdamwWInBRefIdeal.nD Cert.AdamwWInBRefIdeal.τ).loc Cert.AdamwWInBRefIdeal.main_arg2) = m' ((c.tc : Thread Cert.AdamwWInBRefIdeal.nD Cert.AdamwWInBRefIdeal.τ).loc Cert.AdamwWInBRefIdeal.main_arg2)
          ∧ r.2.mem ((c.tc : Thread Cert.AdamwWInBRefIdeal.nD Cert.AdamwWInBRefIdeal.τ).loc Cert.AdamwWInBRefIdeal.main_arg3) = m' ((c.tc : Thread Cert.AdamwWInBRefIdeal.nD Cert.AdamwWInBRefIdeal.τ).loc Cert.AdamwWInBRefIdeal.main_arg3)
          ∧ r.2.mem ((c.tc : Thread Cert.AdamwWInBRefIdeal.nD Cert.AdamwWInBRefIdeal.τ).loc Cert.AdamwWInBRefIdeal.main_arg4) = m' ((c.tc : Thread Cert.AdamwWInBRefIdeal.nD Cert.AdamwWInBRefIdeal.τ).loc Cert.AdamwWInBRefIdeal.main_arg4)
          ∧ r.2.mem ((c.tc : Thread Cert.AdamwWInBRefIdeal.nD Cert.AdamwWInBRefIdeal.τ).loc Cert.AdamwWInBRefIdeal.main_arg5) = m' ((c.tc : Thread Cert.AdamwWInBRefIdeal.nD Cert.AdamwWInBRefIdeal.τ).loc Cert.AdamwWInBRefIdeal.main_arg5)
          ∧ r.2.mem ((c.tc : Thread Cert.AdamwWInBRefIdeal.nD Cert.AdamwWInBRefIdeal.τ).loc Cert.AdamwWInBRefIdeal.main_arg6) = m' ((c.tc : Thread Cert.AdamwWInBRefIdeal.nD Cert.AdamwWInBRefIdeal.τ).loc Cert.AdamwWInBRefIdeal.main_arg6)
          ∧ r.2.mem ((c.tc : Thread Cert.AdamwWInBRefIdeal.nD Cert.AdamwWInBRefIdeal.τ).loc Cert.AdamwWInBRefIdeal.main_arg7) = m' ((c.tc : Thread Cert.AdamwWInBRefIdeal.nD Cert.AdamwWInBRefIdeal.τ).loc Cert.AdamwWInBRefIdeal.main_arg7)
          ∧ r.2.mem ((c.tc : Thread Cert.AdamwWInBRefIdeal.nD Cert.AdamwWInBRefIdeal.τ).loc Cert.AdamwWInBRefIdeal.main_arg8) = m' ((c.tc : Thread Cert.AdamwWInBRefIdeal.nD Cert.AdamwWInBRefIdeal.τ).loc Cert.AdamwWInBRefIdeal.main_arg8)
          ∧ r.2.mem ((c.tc : Thread Cert.AdamwWInBRefIdeal.nD Cert.AdamwWInBRefIdeal.τ).loc Cert.AdamwWInBRefIdeal.main_arg9) = m' ((c.tc : Thread Cert.AdamwWInBRefIdeal.nD Cert.AdamwWInBRefIdeal.τ).loc Cert.AdamwWInBRefIdeal.main_arg9)
          ∧ r.2.mem ((c.tc : Thread Cert.AdamwWInBRefIdeal.nD Cert.AdamwWInBRefIdeal.τ).loc Cert.AdamwWInBRefIdeal.main_arg10) = m' ((c.tc : Thread Cert.AdamwWInBRefIdeal.nD Cert.AdamwWInBRefIdeal.τ).loc Cert.AdamwWInBRefIdeal.main_arg10))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjRefIdeal : Cert.OutProjRefIdeal.Facts) (hOutProjDw : Cert.OutProjDw.Facts) (hOutProjDwIdeal : Cert.OutProjDwIdeal.Facts) (hOutProjDwRefIdeal : Cert.OutProjDwRefIdeal.Facts) (hOutProjDx : Cert.OutProjDx.Facts) (hOutProjDxIdeal : Cert.OutProjDxIdeal.Facts) (hOutProjDxRefIdeal : Cert.OutProjDxRefIdeal.Facts) (hInProjDwConv : Cert.InProjDwConv.Facts) (hInProjDwConvIdeal : Cert.InProjDwConvIdeal.Facts) (hInProjDwConvRefIdeal : Cert.InProjDwConvRefIdeal.Facts) (hInProjDwAttn : Cert.InProjDwAttn.Facts) (hInProjDwAttnIdeal : Cert.InProjDwAttnIdeal.Facts) (hInProjDwAttnRefIdeal : Cert.InProjDwAttnRefIdeal.Facts) (hInProjDx : Cert.InProjDx.Facts) (hInProjDxIdeal : Cert.InProjDxIdeal.Facts) (hInProjDxRefIdeal : Cert.InProjDxRefIdeal.Facts) (hPrenormBwd : Cert.PrenormBwd.Facts) (hPrenormBwdIdeal : Cert.PrenormBwdIdeal.Facts) (hPrenormBwdRefIdeal : Cert.PrenormBwdRefIdeal.Facts) (hSumRows : Cert.SumRows.Facts) (hSumRowsIdeal : Cert.SumRowsIdeal.Facts) (hSumRowsRefIdeal : Cert.SumRowsRefIdeal.Facts) (hAdamwVectors : Cert.AdamwVectors.Facts) (hAdamwVectorsIdeal : Cert.AdamwVectorsIdeal.Facts) (hAdamwVectorsRefIdeal : Cert.AdamwVectorsRefIdeal.Facts) (hAdamwConv : Cert.AdamwConv.Facts) (hAdamwConvIdeal : Cert.AdamwConvIdeal.Facts) (hAdamwConvRefIdeal : Cert.AdamwConvRefIdeal.Facts) (hAdamwNorms : Cert.AdamwNorms.Facts) (hAdamwNormsIdeal : Cert.AdamwNormsIdeal.Facts) (hAdamwNormsRefIdeal : Cert.AdamwNormsRefIdeal.Facts) (hAdamwAda : Cert.AdamwAda.Facts) (hAdamwAdaIdeal : Cert.AdamwAdaIdeal.Facts) (hAdamwAdaRefIdeal : Cert.AdamwAdaRefIdeal.Facts) (hInProjA : Cert.InProjA.Facts) (hInProjAIdeal : Cert.InProjAIdeal.Facts) (hInProjARefIdeal : Cert.InProjARefIdeal.Facts) (hInProjB : Cert.InProjB.Facts) (hInProjBIdeal : Cert.InProjBIdeal.Facts) (hInProjBRefIdeal : Cert.InProjBRefIdeal.Facts) (hInProjC : Cert.InProjC.Facts) (hInProjCIdeal : Cert.InProjCIdeal.Facts) (hInProjCRefIdeal : Cert.InProjCRefIdeal.Facts) (hInProjD : Cert.InProjD.Facts) (hInProjDIdeal : Cert.InProjDIdeal.Facts) (hInProjDRefIdeal : Cert.InProjDRefIdeal.Facts) (hInProjE : Cert.InProjE.Facts) (hInProjEIdeal : Cert.InProjEIdeal.Facts) (hInProjERefIdeal : Cert.InProjERefIdeal.Facts) (hAdamwWOut : Cert.AdamwWOut.Facts) (hAdamwWOutIdeal : Cert.AdamwWOutIdeal.Facts) (hAdamwWOutRefIdeal : Cert.AdamwWOutRefIdeal.Facts) (hAdamwWInA : Cert.AdamwWInA.Facts) (hAdamwWInAIdeal : Cert.AdamwWInAIdeal.Facts) (hAdamwWInARefIdeal : Cert.AdamwWInARefIdeal.Facts) (hAdamwWInB : Cert.AdamwWInB.Facts) (hAdamwWInBIdeal : Cert.AdamwWInBIdeal.Facts) (hAdamwWInBRefIdeal : Cert.AdamwWInBRefIdeal.Facts) (hPre_finite : Cert.Pre_finite.Facts) (hPre_known_device : Cert.Pre_known_device.Facts) (hPre_known_device_of_part : Cert.Pre_known_device_of_part.Facts) (hPre_known_pair : Cert.Pre_known_pair.Facts) (hPre_known_pair_of_in : Cert.Pre_known_pair_of_in.Facts) (hPre_known_pair_of_last : Cert.Pre_known_pair_of_last.Facts) (hOn_written_a : Cert.On_written_a.Facts) (hOn_first_rows : Cert.On_first_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_InProjDwConv (hInProjDwConv := hInProjDwConv)
    ∧ quiescent_InProjDwConvIdeal (hInProjDwConvIdeal := hInProjDwConvIdeal)
    ∧ quiescent_InProjDwConvRefIdeal (hInProjDwConvRefIdeal := hInProjDwConvRefIdeal)
    ∧ quiescent_InProjDwAttn (hInProjDwAttn := hInProjDwAttn)
    ∧ quiescent_InProjDwAttnIdeal (hInProjDwAttnIdeal := hInProjDwAttnIdeal)
    ∧ quiescent_InProjDwAttnRefIdeal (hInProjDwAttnRefIdeal := hInProjDwAttnRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_PrenormBwd (hPrenormBwd := hPrenormBwd)
    ∧ quiescent_PrenormBwdIdeal (hPrenormBwdIdeal := hPrenormBwdIdeal)
    ∧ quiescent_PrenormBwdRefIdeal (hPrenormBwdRefIdeal := hPrenormBwdRefIdeal)
    ∧ quiescent_SumRows (hSumRows := hSumRows)
    ∧ quiescent_SumRowsIdeal (hSumRowsIdeal := hSumRowsIdeal)
    ∧ quiescent_SumRowsRefIdeal (hSumRowsRefIdeal := hSumRowsRefIdeal)
    ∧ quiescent_AdamwVectors (hAdamwVectors := hAdamwVectors)
    ∧ quiescent_AdamwVectorsIdeal (hAdamwVectorsIdeal := hAdamwVectorsIdeal)
    ∧ quiescent_AdamwVectorsRefIdeal (hAdamwVectorsRefIdeal := hAdamwVectorsRefIdeal)
    ∧ quiescent_AdamwConv (hAdamwConv := hAdamwConv)
    ∧ quiescent_AdamwConvIdeal (hAdamwConvIdeal := hAdamwConvIdeal)
    ∧ quiescent_AdamwConvRefIdeal (hAdamwConvRefIdeal := hAdamwConvRefIdeal)
    ∧ quiescent_AdamwNorms (hAdamwNorms := hAdamwNorms)
    ∧ quiescent_AdamwNormsIdeal (hAdamwNormsIdeal := hAdamwNormsIdeal)
    ∧ quiescent_AdamwNormsRefIdeal (hAdamwNormsRefIdeal := hAdamwNormsRefIdeal)
    ∧ quiescent_AdamwAda (hAdamwAda := hAdamwAda)
    ∧ quiescent_AdamwAdaIdeal (hAdamwAdaIdeal := hAdamwAdaIdeal)
    ∧ quiescent_AdamwAdaRefIdeal (hAdamwAdaRefIdeal := hAdamwAdaRefIdeal)
    ∧ quiescent_InProjA (hInProjA := hInProjA) (hPre_known_device := hPre_known_device)
    ∧ quiescent_InProjAIdeal (hInProjAIdeal := hInProjAIdeal) (hPre_known_device := hPre_known_device)
    ∧ quiescent_InProjARefIdeal (hInProjARefIdeal := hInProjARefIdeal)
    ∧ quiescent_InProjARefIdeal_pre_known_device (hInProjARefIdeal := hInProjARefIdeal) (hPre_known_device := hPre_known_device)
    ∧ quiescent_InProjB (hInProjB := hInProjB) (hPre_known_device_of_part := hPre_known_device_of_part)
    ∧ quiescent_InProjBIdeal (hInProjBIdeal := hInProjBIdeal) (hPre_known_device_of_part := hPre_known_device_of_part)
    ∧ quiescent_InProjBRefIdeal (hInProjBRefIdeal := hInProjBRefIdeal)
    ∧ quiescent_InProjBRefIdeal_pre_known_device_of_part (hInProjBRefIdeal := hInProjBRefIdeal) (hPre_known_device_of_part := hPre_known_device_of_part)
    ∧ quiescent_InProjC (hInProjC := hInProjC) (hPre_known_device_of_part := hPre_known_device_of_part)
    ∧ quiescent_InProjCIdeal (hInProjCIdeal := hInProjCIdeal) (hPre_known_device_of_part := hPre_known_device_of_part)
    ∧ quiescent_InProjCRefIdeal (hInProjCRefIdeal := hInProjCRefIdeal)
    ∧ quiescent_InProjCRefIdeal_pre_known_device_of_part (hInProjCRefIdeal := hInProjCRefIdeal) (hPre_known_device_of_part := hPre_known_device_of_part)
    ∧ quiescent_InProjD (hInProjD := hInProjD) (hPre_known_device_of_part := hPre_known_device_of_part)
    ∧ quiescent_InProjDIdeal (hInProjDIdeal := hInProjDIdeal) (hPre_known_device_of_part := hPre_known_device_of_part)
    ∧ quiescent_InProjDRefIdeal (hInProjDRefIdeal := hInProjDRefIdeal)
    ∧ quiescent_InProjDRefIdeal_pre_known_device_of_part (hInProjDRefIdeal := hInProjDRefIdeal) (hPre_known_device_of_part := hPre_known_device_of_part)
    ∧ quiescent_InProjE (hInProjE := hInProjE) (hPre_known_device_of_part := hPre_known_device_of_part)
    ∧ quiescent_InProjEIdeal (hInProjEIdeal := hInProjEIdeal) (hPre_known_device_of_part := hPre_known_device_of_part)
    ∧ quiescent_InProjERefIdeal (hInProjERefIdeal := hInProjERefIdeal)
    ∧ quiescent_InProjERefIdeal_pre_known_device_of_part (hInProjERefIdeal := hInProjERefIdeal) (hPre_known_device_of_part := hPre_known_device_of_part)
    ∧ quiescent_AdamwWOut (hAdamwWOut := hAdamwWOut) (hPre_known_pair := hPre_known_pair)
    ∧ quiescent_AdamwWOutIdeal (hAdamwWOutIdeal := hAdamwWOutIdeal) (hPre_known_pair := hPre_known_pair)
    ∧ quiescent_AdamwWOutRefIdeal (hAdamwWOutRefIdeal := hAdamwWOutRefIdeal)
    ∧ quiescent_AdamwWOutRefIdeal_pre_known_pair (hAdamwWOutRefIdeal := hAdamwWOutRefIdeal) (hPre_known_pair := hPre_known_pair)
    ∧ quiescent_AdamwWInA (hAdamwWInA := hAdamwWInA) (hPre_known_pair_of_in := hPre_known_pair_of_in)
    ∧ quiescent_AdamwWInAIdeal (hAdamwWInAIdeal := hAdamwWInAIdeal) (hPre_known_pair_of_in := hPre_known_pair_of_in)
    ∧ quiescent_AdamwWInARefIdeal (hAdamwWInARefIdeal := hAdamwWInARefIdeal)
    ∧ quiescent_AdamwWInARefIdeal_pre_known_pair_of_in (hAdamwWInARefIdeal := hAdamwWInARefIdeal) (hPre_known_pair_of_in := hPre_known_pair_of_in)
    ∧ quiescent_AdamwWInB (hAdamwWInB := hAdamwWInB) (hPre_known_pair_of_last := hPre_known_pair_of_last)
    ∧ quiescent_AdamwWInBIdeal (hAdamwWInBIdeal := hAdamwWInBIdeal) (hPre_known_pair_of_last := hPre_known_pair_of_last)
    ∧ quiescent_AdamwWInBRefIdeal (hAdamwWInBRefIdeal := hAdamwWInBRefIdeal)
    ∧ quiescent_AdamwWInBRefIdeal_pre_known_pair_of_last (hAdamwWInBRefIdeal := hAdamwWInBRefIdeal) (hPre_known_pair_of_last := hPre_known_pair_of_last)
    ∧ preserves_Kernel_KernelIdeal
    ∧ algebraic_KernelIdeal_ReferenceIdeal_pre_finite (hKernelIdeal := hKernelIdeal) (hReferenceIdeal := hReferenceIdeal) (hPre_finite := hPre_finite)
    ∧ preserves_OutProj_OutProjIdeal
    ∧ algebraic_OutProjIdeal_OutProjRefIdeal (hOutProjIdeal := hOutProjIdeal) (hOutProjRefIdeal := hOutProjRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_InProjDwConv_InProjDwConvIdeal
    ∧ algebraic_InProjDwConvIdeal_InProjDwConvRefIdeal (hInProjDwConvIdeal := hInProjDwConvIdeal) (hInProjDwConvRefIdeal := hInProjDwConvRefIdeal)
    ∧ preserves_InProjDwAttn_InProjDwAttnIdeal
    ∧ algebraic_InProjDwAttnIdeal_InProjDwAttnRefIdeal (hInProjDwAttnIdeal := hInProjDwAttnIdeal) (hInProjDwAttnRefIdeal := hInProjDwAttnRefIdeal)
    ∧ preserves_InProjDx_InProjDxIdeal
    ∧ algebraic_InProjDxIdeal_InProjDxRefIdeal (hInProjDxIdeal := hInProjDxIdeal) (hInProjDxRefIdeal := hInProjDxRefIdeal)
    ∧ preserves_PrenormBwd_PrenormBwdIdeal
    ∧ algebraic_PrenormBwdIdeal_PrenormBwdRefIdeal (hPrenormBwdIdeal := hPrenormBwdIdeal) (hPrenormBwdRefIdeal := hPrenormBwdRefIdeal)
    ∧ preserves_SumRows_SumRowsIdeal
    ∧ algebraic_SumRowsIdeal_SumRowsRefIdeal (hSumRowsIdeal := hSumRowsIdeal) (hSumRowsRefIdeal := hSumRowsRefIdeal)
    ∧ preserves_AdamwVectors_AdamwVectorsIdeal
    ∧ algebraic_AdamwVectorsIdeal_AdamwVectorsRefIdeal (hAdamwVectorsIdeal := hAdamwVectorsIdeal) (hAdamwVectorsRefIdeal := hAdamwVectorsRefIdeal)
    ∧ preserves_AdamwConv_AdamwConvIdeal
    ∧ algebraic_AdamwConvIdeal_AdamwConvRefIdeal (hAdamwConvIdeal := hAdamwConvIdeal) (hAdamwConvRefIdeal := hAdamwConvRefIdeal)
    ∧ preserves_AdamwNorms_AdamwNormsIdeal
    ∧ algebraic_AdamwNormsIdeal_AdamwNormsRefIdeal (hAdamwNormsIdeal := hAdamwNormsIdeal) (hAdamwNormsRefIdeal := hAdamwNormsRefIdeal)
    ∧ preserves_AdamwAda_AdamwAdaIdeal
    ∧ algebraic_AdamwAdaIdeal_AdamwAdaRefIdeal (hAdamwAdaIdeal := hAdamwAdaIdeal) (hAdamwAdaRefIdeal := hAdamwAdaRefIdeal)
    ∧ preserves_InProjA_InProjAIdeal
    ∧ algebraic_InProjAIdeal_InProjARefIdeal_on_written_a (hInProjAIdeal := hInProjAIdeal) (hInProjARefIdeal := hInProjARefIdeal) (hPre_known_device := hPre_known_device) (hOn_written_a := hOn_written_a)
    ∧ preserves_InProjB_InProjBIdeal
    ∧ algebraic_InProjBIdeal_InProjBRefIdeal (hInProjBIdeal := hInProjBIdeal) (hInProjBRefIdeal := hInProjBRefIdeal) (hPre_known_device_of_part := hPre_known_device_of_part)
    ∧ preserves_InProjC_InProjCIdeal
    ∧ algebraic_InProjCIdeal_InProjCRefIdeal (hInProjCIdeal := hInProjCIdeal) (hInProjCRefIdeal := hInProjCRefIdeal) (hPre_known_device_of_part := hPre_known_device_of_part)
    ∧ preserves_InProjD_InProjDIdeal
    ∧ algebraic_InProjDIdeal_InProjDRefIdeal (hInProjDIdeal := hInProjDIdeal) (hInProjDRefIdeal := hInProjDRefIdeal) (hPre_known_device_of_part := hPre_known_device_of_part)
    ∧ preserves_InProjE_InProjEIdeal
    ∧ algebraic_InProjEIdeal_InProjERefIdeal (hInProjEIdeal := hInProjEIdeal) (hInProjERefIdeal := hInProjERefIdeal) (hPre_known_device_of_part := hPre_known_device_of_part)
    ∧ preserves_AdamwWOut_AdamwWOutIdeal
    ∧ algebraic_AdamwWOutIdeal_AdamwWOutRefIdeal (hAdamwWOutIdeal := hAdamwWOutIdeal) (hAdamwWOutRefIdeal := hAdamwWOutRefIdeal) (hPre_known_pair := hPre_known_pair)
    ∧ preserves_AdamwWInA_AdamwWInAIdeal
    ∧ algebraic_AdamwWInAIdeal_AdamwWInARefIdeal_on_first_rows (hAdamwWInAIdeal := hAdamwWInAIdeal) (hAdamwWInARefIdeal := hAdamwWInARefIdeal) (hPre_known_pair_of_in := hPre_known_pair_of_in) (hOn_first_rows := hOn_first_rows)
    ∧ preserves_AdamwWInB_AdamwWInBIdeal
    ∧ algebraic_AdamwWInBIdeal_AdamwWInBRefIdeal (hAdamwWInBIdeal := hAdamwWInBIdeal) (hAdamwWInBRefIdeal := hAdamwWInBRefIdeal) (hPre_known_pair_of_last := hPre_known_pair_of_last)
-- ==== On_first_rows.lean ====
abbrev S4x2048x1024 : Shape := ⟨3, ![4, 2048, 1024]⟩
abbrev S2 : Shape := ⟨1, ![2]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩

class Facts : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)

variable [Facts]

def fn {F : FTy → Type} [FloatOps F] (main_arg0 : FVec F S4x2048x1024 .bf16) (main_arg1 : FVec F S4x2048x1024 .bf16) (main_arg2 : FVec F S4x2048x1024 .bf16) (main_arg3 : IVec S2 32) (main_arg4 : FVec F S2048x1024 .f32) (main_arg5 : FVec F S2048x1024 .f32) (main_arg6 : FVec F S2048x1024 .f32) : IVec S2048x1024 1 × IVec S2048x1024 1 × IVec S2048x1024 1 × IVec S2048x1024 1 :=
  let main_v0 : IVec S2048 32 := iotaInDim S2048 32 0
  let main_c : IVec S_ 32 := constantI S_ 32 1536#32
  let main_v1 : IVec S2048 32 := broadcastInDim S2048 ![] bcast_S_S2048 main_c
  let main_v2 : IVec S2048 1 := cmpi .slt main_v0 main_v1
  let main_v3 : IVec S2048x1 1 := broadcastInDim S2048x1 ![0] bcast_S2048_S2048x1_0 main_v2
  let main_v4 : IVec S2048x1024 1 := broadcastInDim S2048x1024 ![0, 1] bcast_S2048x1_S2048x1024_0_1 main_v3
  (main_v4, main_v4, main_v4, main_v4)
-- ==== On_written_a.lean ====
abbrev S2048x2048 : Shape := ⟨2, ![2048, 2048]⟩
abbrev S8x2048x1024 : Shape := ⟨3, ![8, 2048, 1024]⟩
abbrev S1 : Shape := ⟨1, ![1]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S8192 : Shape := ⟨1, ![8192]⟩
abbrev S2048x8192 : Shape := ⟨2, ![2048, 8192]⟩

class Facts : Prop where
  shapeCasts_S1_S_ : S1.ShapeCasts S_
  bcast_S_S8 : S_.BroadcastsInDim S8 (![] : Fin 0 → Fin S8.rank)
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  shapeCasts_S8x1024_S8192 : S8x1024.ShapeCasts S8192
  bcast_S8192_S2048x8192_1 : S8192.BroadcastsInDim S2048x8192 (![1] : Fin 1 → Fin S2048x8192.rank)

variable [Facts]

def fn {F : FTy → Type} [FloatOps F] (main_arg0 : FVec F S2048x2048 .bf16) (main_arg1 : FVec F S8x2048x1024 .bf16) (main_arg2 : IVec S1 32) : IVec S2048x8192 1 :=
  let main_v0 : IVec S8 32 := iotaInDim S8 32 0
  let main_v1 : IVec S_ 32 := shapeCast S_ main_arg2 shapeCasts_S1_S_
  let main_v2 : IVec S8 32 := broadcastInDim S8 ![] bcast_S_S8 main_v1
  let main_v3 : IVec S8 32 := xori main_v0 main_v2
  let main_c : IVec S_ 32 := constantI S_ 32 0#32
  let main_v4 : IVec S8 32 := broadcastInDim S8 ![] bcast_S_S8 main_c
  let main_v5 : IVec S8 1 := cmpi .eq main_v3 main_v4
  let main_c_0 : IVec S_ 32 := constantI S_ 32 1#32
  let main_v6 : IVec S8 32 := broadcastInDim S8 ![] bcast_S_S8 main_c_0
  let main_v7 : IVec S8 1 := cmpi .eq main_v3 main_v6
  let main_v8 : IVec S8 1 := ori main_v5 main_v7
  let main_v9 : IVec S8x1 1 := broadcastInDim S8x1 ![0] bcast_S8_S8x1_0 main_v8
  let main_v10 : IVec S8x1024 1 := broadcastInDim S8x1024 ![0, 1] bcast_S8x1_S8x1024_0_1 main_v9
  let main_v11 : IVec S8192 1 := shapeCast S8192 main_v10 shapeCasts_S8x1024_S8192
  let main_v12 : IVec S2048x8192 1 := broadcastInDim S2048x8192 ![1] bcast_S8192_S2048x8192_1 main_v11
  main_v12
-- ==== Pre_finite.lean ====
abbrev S2048x8192 : Shape := ⟨2, ![2048, 8192]⟩
abbrev S2048x2048 : Shape := ⟨2, ![2048, 2048]⟩
abbrev S3x1024 : Shape := ⟨2, ![3, 1024]⟩
abbrev S1x1024 : Shape := ⟨2, ![1, 1024]⟩
abbrev S8x256x2048 : Shape := ⟨3, ![8, 256, 2048]⟩
abbrev S2048x4096 : Shape := ⟨2, ![2048, 4096]⟩
abbrev S_ : Shape := ⟨0, ![]⟩
abbrev S2048x1024 : Shape := ⟨2, ![2048, 1024]⟩

class Facts : Prop where
  slices_S2048x8192_S2048x4096_0_0 : S2048x8192.Slices ![0, 0] S2048x4096
  bcast_S_S2048x4096 : S_.BroadcastsInDim S2048x4096 (![] : Fin 0 → Fin S2048x4096.rank)
  slices_S2048x2048_S2048x1024_0_0 : S2048x2048.Slices ![0, 0] S2048x1024
  bcast_S_S2048x1024 : S_.BroadcastsInDim S2048x1024 (![] : Fin 0 → Fin S2048x1024.rank)
  bcast_S_S3x1024 : S_.BroadcastsInDim S3x1024 (![] : Fin 0 → Fin S3x1024.rank)
  bcast_S_S1x1024 : S_.BroadcastsInDim S1x1024 (![] : Fin 0 → Fin S1x1024.rank)

variable [Facts]

def fn {F : FTy → Type} [FloatOps F] (main_arg0 : FVec F S2048x8192 .f32) (main_arg1 : FVec F S2048x2048 .f32) (main_arg2 : FVec F S3x1024 .f32) (main_arg3 : FVec F S1x1024 .f32) (main_arg4 : FVec F S1x1024 .f32) (main_arg5 : FVec F S8x256x2048 .bf16) : IVec S2048x4096 1 × IVec S2048x1024 1 × IVec S3x1024 1 × IVec S1x1024 1 × IVec S1x1024 1 :=
  let main_v0 : FVec F S2048x4096 .f32 := (extractStridedSlice S2048x4096 ![0, 0] · slices_S2048x8192_S2048x4096_0_0) main_arg0
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_v4 : FVec F S2048x1024 .f32 := (extractStridedSlice S2048x1024 ![0, 0] · slices_S2048x2048_S2048x1024_0_0) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S3x1024 .f32 := Host.absf main_arg2
  let main_cst_1 : FVec F S_ .f32 := constant S_ .f32 0x7F800000#32
  let main_v9 : FVec F S3x1024 .f32 := broadcastInDim S3x1024 ![] bcast_S_S3x1024 main_cst_1
  let main_v10 : IVec S3x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_known_device.lean ====
abbrev S2048x2048 : Shape := ⟨2, ![2048, 2048]⟩
abbrev S8x2048x1024 : Shape := ⟨3, ![8, 2048, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x2048 .bf16) (main_arg1 : FVec F S8x2048x1024 .bf16) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_known_device_of_part.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x2048 .bf16) (main_arg1 : FVec F S8x2048x1024 .bf16) (main_arg2 : IVec S1 32) (main_arg3 : FVec F S2048x8192 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_known_pair.lean ====
abbrev S4x256x2048 : Shape := ⟨3, ![4, 256, 2048]⟩
abbrev S2 : Shape := ⟨1, ![2]⟩
abbrev S256x2048 : Shape := ⟨2, ![256, 2048]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S4x256x2048 .bf16) (main_arg1 : FVec F S4x256x2048 .bf16) (main_arg2 : FVec F S4x256x2048 .bf16) (main_arg3 : IVec S2 32) (main_arg4 : FVec F S256x2048 .f32) (main_arg5 : FVec F S256x2048 .f32) (main_arg6 : FVec F S256x2048 .f32) : IVec S_ 1 × IVec S_ 1 :=
  let main_v0 : IVec S1 32 := (extractStridedSlice S1 ![1] · slices_S2_S1_1) main_arg3
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg3
  let main_v4 : IVec S_ 32 := shapeCast S_ main_v3 shapeCasts_S1_S_
  let main_c_0 : IVec S_ 32 := constantI S_ 32 4#32
  let main_v5 : IVec S_ 1 := cmpi .slt main_v4 main_c_0
  (main_v2, main_v5)
-- ==== Pre_known_pair_of_in.lean ====
abbrev S4x2048x1024 : Shape := ⟨3, ![4, 2048, 1024]⟩
abbrev S2 : Shape := ⟨1, ![2]⟩
abbrev S2048x1024 : Shape := ⟨2, ![2048, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S4x2048x1024 .bf16) (main_arg1 : FVec F S4x2048x1024 .bf16) (main_arg2 : FVec F S4x2048x1024 .bf16) (main_arg3 : IVec S2 32) (main_arg4 : FVec F S2048x1024 .f32) (main_arg5 : FVec F S2048x1024 .f32) (main_arg6 : FVec F S2048x1024 .f32) : IVec S_ 1 × IVec S_ 1 :=
  let main_v0 : IVec S1 32 := (extractStridedSlice S1 ![1] · slices_S2_S1_1) main_arg3
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg3
  let main_v4 : IVec S_ 32 := shapeCast S_ main_v3 shapeCasts_S1_S_
  let main_c_0 : IVec S_ 32 := constantI S_ 32 4#32
  let main_v5 : IVec S_ 1 := cmpi .slt main_v4 main_c_0
  (main_v2, main_v5)
-- ==== Pre_known_pair_of_last.lean ====
abbrev S4x2048x1024 : Shape := ⟨3, ![4, 2048, 1024]⟩
abbrev S2 : Shape := ⟨1, ![2]⟩
abbrev S2048x1024 : Shape := ⟨2, ![2048, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S4x2048x1024 .bf16) (main_arg1 : FVec F S4x2048x1024 .bf16) (main_arg2 : FVec F S4x2048x1024 .bf16) (main_arg3 : IVec S2 32) (main_arg4 : FVec F S2048x1024 .f32) (main_arg5 : FVec F S2048x1024 .f32) (main_arg6 : FVec F S2048x1024 .f32) (main_arg7 : FVec F S2048x1024 .f32) (main_arg8 : FVec F S2048x1024 .f32) (main_arg9 : FVec F S2048x1024 .f32) (main_arg10 : FVec F S2048x1024 .f32) : IVec S_ 1 × IVec S_ 1 :=
  let main_v0 : IVec S1 32 := (extractStridedSlice S1 ![1] · slices_S2_S1_1) main_arg3
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg3
  let main_v4 : IVec S_ 32 := shapeCast S_ main_v3 shapeCasts_S1_S_
  let main_c_0 : IVec S_ 32 := constantI S_ 32 4#32
  let main_v5 : IVec S_ 1 := cmpi .slt main_v4 main_c_0
  (main_v2, main_v5)
-- ==== Kernel.lean ====
abbrev S2048x8192 : Shape := ⟨2, ![2048, 8192]⟩
abbrev S2048x2048 : Shape := ⟨2, ![2048, 2048]⟩
abbrev S3x1024 : Shape := ⟨2, ![3, 1024]⟩
abbrev S1x1024 : Shape := ⟨2, ![1, 1024]⟩
abbrev S8x256x2048 : Shape := ⟨3, ![8, 256, 2048]⟩
abbrev S_ : Shape := ⟨0, ![]⟩
abbrev S5x1024 : Shape := ⟨2, ![5, 1024]⟩
abbrev S8x1024 : Shape := ⟨2, ![8, 1024]⟩
abbrev S2048x4096 : Shape := ⟨2, ![2048, 4096]⟩
abbrev S256x1024 : Shape := ⟨2, ![256, 1024]⟩
abbrev S256x4096 : Shape := ⟨2, ![256, 4096]⟩
abbrev S272x1 : Shape := ⟨2, ![272, 1]⟩
abbrev S272x1024 : Shape := ⟨2, ![272, 1024]⟩
abbrev S272 : Shape := ⟨1, ![272]⟩
abbrev S1024 : Shape := ⟨1, ![1024]⟩

abbrev nBuf : Space → Nat
  | .hbm => 11
  | .vmem => 36
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S3x1024, .f32⟩
  | .hbm, ⟨3, _⟩ => ⟨S1x1024, .f32⟩
  | .hbm, ⟨4, _⟩ => ⟨S1x1024, .f32⟩
  | .hbm, ⟨5, _⟩ => ⟨S8x256x2048, .bf16⟩
  | .hbm, ⟨6, _⟩ => ⟨S_, .f32⟩
  | .hbm, ⟨7, _⟩ => ⟨S5x1024, .f32⟩
  | .hbm, ⟨8, _⟩ => ⟨S8x1024, .f32⟩
  | .hbm, ⟨9, _⟩ => ⟨S2048x4096, .bf16⟩
  | .hbm, ⟨10, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S256x1024, .f32⟩
  | .local _ .vmem, ⟨27, _⟩ => ⟨S256x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S1x1024, .f32⟩
  | .local _ .vmem, ⟨32, _⟩ => ⟨S1x1024, .f32⟩
  | .local _ .vmem, ⟨33, _⟩ => ⟨S256x4096, .bf16⟩
  | .local _ .vmem, ⟨34, _⟩ => ⟨S256x4096, .bf16⟩
  | .local _ .vmem, ⟨35, _⟩ => ⟨S8x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_60 : BitVec 32 := 0#32
  let v171 : BitVec 1 := Scalar.cmpi .eq arg0 c0_i32_60
  let v172 : BitVec 32 := Scalar.extui v171
  let c0_i32_61 : BitVec 32 := 0#32
  let v173 : BitVec 1 := Scalar.cmpi .ne v172 c0_i32_61
  v173

def k0_cond2 (i : grid0.Coords) : BitVec 1 :=
  let arg0 : BitVec 32 := BitVec.ofNat 32 (i 0).val
  let c0_i32_62 : BitVec 32 := 0#32
  let v174 : BitVec 1 := Scalar.cmpi .sgt arg0 c0_i32_62
  let v175 : BitVec 32 := Scalar.extui v174
  let c0_i32_63 : BitVec 32 := 0#32
  let v176 : BitVec 1 := Scalar.cmpi .ne v175 c0_i32_63
  v176

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_10 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S2048x8192 : Shape := ⟨2, ![2048, 8192]⟩
abbrev S2048x2048 : Shape := ⟨2, ![2048, 2048]⟩
abbrev S3x1024 : Shape := ⟨2, ![3, 1024]⟩
abbrev S1x1024 : Shape := ⟨2, ![1, 1024]⟩
abbrev S8x256x2048 : Shape := ⟨3, ![8, 256, 2048]⟩
abbrev S2048x4096 : Shape := ⟨2, ![2048, 4096]⟩
abbrev S2048x1024 : Shape := ⟨2, ![2048, 1024]⟩
abbrev S_ : Shape := ⟨0, ![]⟩
abbrev S2047x1024 : Shape := ⟨2, ![2047, 1024]⟩
abbrev S1024 : Shape := ⟨1, ![1024]⟩
abbrev S2048 : Shape := ⟨1, ![2048]⟩
abbrev S2048x1 : Shape := ⟨2, ![2048, 1]⟩
abbrev S8x1024 : Shape := ⟨2, ![8, 1024]⟩

abbrev nBuf : Space → Nat
  | .hbm => 162
  | .vmem => 0
  | .smem => 0
  | _ => 0

abbrev hbmTy0_0 (i : Nat) : BufTy := match i % 128 with
  | 0 => ⟨S2048x8192, .f32⟩
  | 1 => ⟨S2048x2048, .f32⟩
  | 2 => ⟨S3x1024, .f32⟩
  | 3 => ⟨S1x1024, .f32⟩
  | 4 => ⟨S1x1024, .f32⟩
  | 5 => ⟨S8x256x2048, .bf16⟩
  | 6 => ⟨S2048x4096, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S1x1024, .f32⟩
  | 15 => ⟨S2047x1024, .f32⟩
  | 16 => ⟨S2048x1024, .f32⟩
  | 17 => ⟨S_, .f32⟩
  | 18 => ⟨S1x1024, .f32⟩
  | 19 => ⟨S2047x1024, .f32⟩
  | 20 => ⟨S2048x1024, .f32⟩
  | 21 => ⟨S_, .f32⟩
  | 22 => ⟨S1x1024, .f32⟩
  | 23 => ⟨S1x1024, .f32⟩
  | 24 => ⟨S1024, .f32⟩
  | 25 => ⟨S1x1024, .f32⟩
  | 26 => ⟨S2048x1024, .f32⟩
  | 27 => ⟨S2048x1024, .f32⟩
  | 28 => ⟨S1x1024, .f32⟩
  | 29 => ⟨S1024, .f32⟩
  | 30 => ⟨S1x1024, .f32⟩
  | 31 => ⟨S2048x1024, .f32⟩
  | 32 => ⟨S2048x1024, .f32⟩
  | 33 => ⟨S2048x1024, .f32⟩
  | 34 => ⟨S1x1024, .f32⟩
  | 35 => ⟨S1024, .f32⟩
  | 36 => ⟨S1x1024, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S_, .f32⟩
  | 45 => ⟨S2048, .f32⟩
  | 46 => ⟨S2048x1, .f32⟩
  | 47 => ⟨S_, .f32⟩
  | 48 => ⟨S2048x1, .f32⟩
  | 49 => ⟨S2048x1, .f32⟩
  | 50 => ⟨S_, .f32⟩
  | 51 => ⟨S2048x1, .f32⟩
  | 52 => ⟨S2048x1, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S2048x1024, .f32⟩
  | 77 => ⟨S2048x1024, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S2048x1024, .f32⟩
  | 89 => ⟨S_, .f32⟩
  | 90 => ⟨S2048, .f32⟩
  | 91 => ⟨S2048x1, .f32⟩
  | 92 => ⟨S2048x1024, .f32⟩
  | 93 => ⟨S2048x1024, .f32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S_, .f32⟩
  | 108 => ⟨S1024, .f32⟩
  | 109 => ⟨S1x1024, .f32⟩
  | 110 => ⟨S2048x1024, .f32⟩
  | 111 => ⟨S2048x1024, .f32⟩
  | 112 => ⟨S2048x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S1x1024, .f32⟩
  | 119 => ⟨S_, .f32⟩
  | 120 => ⟨S3x1024, .f32⟩
  | 121 => ⟨S2048x1024, .f32⟩
  | 122 => ⟨S2048x1024, .f32⟩
  | 123 => ⟨S2048x1024, .f32⟩
  | 124 => ⟨S_, .f32⟩
  | 125 => ⟨S1024, .f32⟩
  | 126 => ⟨S1x1024, .f32⟩
  | 127 => ⟨S_, .f32⟩
  | _ => ⟨S2048x8192, .f32⟩

abbrev hbmTy0_1 (i : Nat) : BufTy := match i % 128 with
  | 0 => ⟨S1024, .f32⟩
  | 1 => ⟨S1x1024, .f32⟩
  | 2 => ⟨S_, .f32⟩
  | 3 => ⟨S3x1024, .f32⟩
  | 4 => ⟨S3x1024, .f32⟩
  | 5 => ⟨S2048x1024, .f32⟩
  | 6 => ⟨S2048x1024, .f32⟩
  | 7 => ⟨S2048x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S1x1024, .f32⟩
  | 14 => ⟨S_, .f32⟩
  | 15 => ⟨S3x1024, .f32⟩
  | 16 => ⟨S3x1024, .f32⟩
  | 17 => ⟨S2047x1024, .f32⟩
  | 18 => ⟨S1x1024, .f32⟩
  | 19 => ⟨S_, .f32⟩
  | 20 => ⟨S2048x1024, .f32⟩
  | 21 => ⟨S2048x1024, .f32⟩
  | 22 => ⟨S1x1024, .f32⟩
  | 23 => ⟨S2047x1024, .f32⟩
  | 24 => ⟨S_, .f32⟩
  | 25 => ⟨S2048x1024, .f32⟩
  | 26 => ⟨S2048x1024, .f32⟩
  | 27 => ⟨S2048x1024, .f32⟩
  | 28 => ⟨S2048x1024, .f32⟩
  | 29 => ⟨S2048x4096, .f32⟩
  | 30 => ⟨S2048x4096, .bf16⟩
  | 31 => ⟨S_, .f32⟩
  | 32 => ⟨S3x1024, .f32⟩
  | 33 => ⟨S8x1024, .f32⟩
  | _ => ⟨S2048x8192, .f32⟩

abbrev hbmTy (i : Nat) : BufTy := match i / 128 with
  | 0 => hbmTy0_0 i
  | 1 => hbmTy0_1 i
  | _ => ⟨S2048x8192, .f32⟩

abbrev bufTy : (tb : Table) → Fin (tcTables nBuf tb) → BufTy
  | .hbm, ⟨i, _⟩ => hbmTy i
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v49_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v49_1 : Ref sig .tc := ⟨.hbm, 73, rfl⟩
abbrev main_v49_0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_8 : Ref sig .tc := ⟨.hbm, 95, rfl⟩
abbrev main_v65 : Ref sig .tc := ⟨.hbm, 96, rfl⟩
abbrev main_v66 : Ref sig .tc := ⟨.hbm, 97, rfl⟩
abbrev main_cst_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_10 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_11 : Ref sig .tc := ⟨.hbm, 113, rfl⟩
abbrev main_v80 : Ref sig .tc := ⟨.hbm, 114, rfl⟩
abbrev main_v81 : Ref sig .tc := ⟨.hbm, 115, rfl⟩
abbrev main_cst_12 : Ref sig .tc := ⟨.hbm, 116, rfl⟩
abbrev main_v82 : Ref sig .tc := ⟨.hbm, 117, rfl⟩
abbrev main_v83 : Ref sig .tc := ⟨.hbm, 118, rfl⟩
abbrev main_cst_13 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_cst_15 : Ref sig .tc := ⟨.hbm, 127, rfl⟩
abbrev main_v90 : Ref sig .tc := ⟨.hbm, 128, rfl⟩
abbrev main_v91 : Ref sig .tc := ⟨.hbm, 129, rfl⟩
abbrev main_cst_16 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_17 : Ref sig .tc := ⟨.hbm, 136, rfl⟩
abbrev main_v97 : Ref sig .tc := ⟨.hbm, 137, rfl⟩
abbrev main_v98 : Ref sig .tc := ⟨.hbm, 138, rfl⟩
abbrev main_cst_18 : Ref sig .tc := ⟨.hbm, 139, rfl⟩
abbrev main_v99 : Ref sig .tc := ⟨.hbm, 140, rfl⟩
abbrev main_v100 : Ref sig .tc := ⟨.hbm, 141, rfl⟩
abbrev main_cst_19 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_21 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_22 : Ref sig .tc := ⟨.hbm, 159, rfl⟩
abbrev main_v115 : Ref sig .tc := ⟨.hbm, 160, rfl⟩
abbrev main_v116 : Ref sig .tc := ⟨.hbm, 161, rfl⟩

abbrev nD : Nat := 1
abbrev τ : Topo := Topo.v7x

variable {F : FTy → Type} [FloatOps F]
-- ==== OutProj.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProjDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutProjDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjDwConv.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwConvRefIdeal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .bf16⟩
  | .hbm, ⟨3, _⟩ => ⟨S2048x4096, .bf16⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | .hbm, ⟨11, _⟩ => ⟨S2048x4x1024, .bf16⟩
  | .hbm, ⟨12, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InProjDwAttn.lean ====
abbrev S2048x2048 : Shape := ⟨2, ![2048, 2048]⟩
abbrev S4x2048x1024 : Shape := ⟨3, ![4, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwAttnRefIdeal.lean ====
abbrev S2048x2048 : Shape := ⟨2, ![2048, 2048]⟩
abbrev S4x2048x1024 : Shape := ⟨3, ![4, 2048, 1024]⟩
abbrev S_ : Shape := ⟨0, ![]⟩
abbrev S2048x4096 : Shape := ⟨2, ![2048, 4096]⟩
abbrev S2048x4x1024 : Shape := ⟨3, ![2048, 4, 1024]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S_, .bf16⟩
  | .hbm, ⟨3, _⟩ => ⟨S2048x4096, .bf16⟩
  | .hbm, ⟨4, _⟩ => ⟨S2048x4x1024, .bf16⟩
  | .hbm, ⟨5, _⟩ => ⟨S2048x4096, .bf16⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S4096x2048, .f32⟩
  | .hbm, ⟨11, _⟩ => ⟨S2048x4096, .f32⟩
  | .hbm, ⟨12, _⟩ => ⟨S2048x4096, .bf16⟩
  | .hbm, ⟨13, _⟩ => ⟨S2048x4x1024, .bf16⟩
  | .hbm, ⟨14, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== InProjDx.lean ====
abbrev S2048x4096 : Shape := ⟨2, ![2048, 4096]⟩
abbrev S4x2048x1024 : Shape := ⟨3, ![4, 2048, 1024]⟩
abbrev S8x2048x1024 : Shape := ⟨3, ![8, 2048, 1024]⟩
abbrev S2048x2048 : Shape := ⟨2, ![2048, 2048]⟩
abbrev S512x4096 : Shape := ⟨2, ![512, 4096]⟩
abbrev S4x512x1024 : Shape := ⟨3, ![4, 512, 1024]⟩
abbrev S8x512x1024 : Shape := ⟨3, ![8, 512, 1024]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S8x2048x1024, .bf16⟩
  | .hbm, ⟨3, _⟩ => ⟨S8x2048x1024, .bf16⟩
  | .hbm, ⟨4, _⟩ => ⟨S2048x2048, .f32⟩
  | .local _ .vmem, ⟨0, _⟩ => ⟨S512x4096, .bf16⟩
  | .local _ .vmem, ⟨1, _⟩ => ⟨S512x4096, .bf16⟩
  | .local _ .vmem, ⟨2, _⟩ => ⟨S4x512x1024, .bf16⟩
  | .local _ .vmem, ⟨3, _⟩ => ⟨S4x512x1024, .bf16⟩
  | .local _ .vmem, ⟨4, _⟩ => ⟨S8x512x1024, .bf16⟩
  | .local _ .vmem, ⟨5, _⟩ => ⟨S8x512x1024, .bf16⟩
  | .local _ .vmem, ⟨6, _⟩ => ⟨S512x512, .f32⟩
  | .local _ .vmem, ⟨7, _⟩ => ⟨S512x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjDxRefIdeal.lean ====
abbrev S2048x4096 : Shape := ⟨2, ![2048, 4096]⟩
abbrev S4x2048x1024 : Shape := ⟨3, ![4, 2048, 1024]⟩
abbrev S8x2048x1024 : Shape := ⟨3, ![8, 2048, 1024]⟩
abbrev S_ : Shape := ⟨0, ![]⟩
abbrev S2048x2048 : Shape := ⟨2, ![2048, 2048]⟩
abbrev S2048x4x1024 : Shape := ⟨3, ![2048, 4, 1024]⟩
abbrev S2048x8192 : Shape := ⟨2, ![2048, 8192]⟩
abbrev S2048x8x1024 : Shape := ⟨3, ![2048, 8, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S8x2048x1024, .bf16⟩
  | .hbm, ⟨3, _⟩ => ⟨S8x2048x1024, .bf16⟩
  | .hbm, ⟨4, _⟩ => ⟨S_, .f32⟩
  | .hbm, ⟨5, _⟩ => ⟨S2048x2048, .f32⟩
  | .hbm, ⟨6, _⟩ => ⟨S2048x4x1024, .bf16⟩
  | .hbm, ⟨7, _⟩ => ⟨S2048x4096, .bf16⟩
  | .hbm, ⟨8, _⟩ => ⟨S2048x8192, .bf16⟩
  | .hbm, ⟨9, _⟩ => ⟨S2048x8x1024, .bf16⟩
  | .hbm, ⟨10, _⟩ => ⟨S2048x8192, .bf16⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== PrenormBwd.lean ====
abbrev S2048x2048 : Shape := ⟨2, ![2048, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_25 : BitVec 32 := 0#32
  let v62 : BitVec 1 := Scalar.cmpi .eq arg0 c0_i32_25
  let v63 : BitVec 32 := Scalar.extui v62
  let c0_i32_26 : BitVec 32 := 0#32
  let v64 : BitVec 1 := Scalar.cmpi .ne v63 c0_i32_26
  v64

def k0_cond2 (i : grid0.Coords) : BitVec 1 :=
  let arg0 : BitVec 32 := BitVec.ofNat 32 (i 0).val
  let c0_i32_27 : BitVec 32 := 0#32
  let v65 : BitVec 1 := Scalar.cmpi .sgt arg0 c0_i32_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PrenormBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== SumRows.lean ====
abbrev S8x16512 : Shape := ⟨2, ![8, 16512]⟩
abbrev S1x16512 : Shape := ⟨2, ![1, 16512]⟩
abbrev S1x1 : Shape := ⟨2, ![1, 1]⟩
abbrev S_ : Shape := ⟨0, ![]⟩

abbrev nBuf : Space → Nat
  | .hbm => 5
  | .vmem => 2
  | .smem => 0
  | _ => 0

abbrev bufTy : (tb : Table) → Fin (tcTables nBuf tb) → BufTy
  | .hbm, ⟨0, _⟩ => ⟨S8x16512, .f32⟩
  | .hbm, ⟨1, _⟩ => ⟨S8x16512, .f32⟩
  | .hbm, ⟨2, _⟩ => ⟨S8x16512, .f32⟩
  | .hbm, ⟨3, _⟩ => ⟨S1x1, .f32⟩
  | .hbm, ⟨4, _⟩ => ⟨S_, .f32⟩
  | .local _ .vmem, ⟨0, _⟩ => ⟨S8x16512, .f32⟩
  | .local _ .vmem, ⟨1, _⟩ => ⟨S8x16512, .f32⟩
  | _, _ => ⟨S8x16512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRowsRefIdeal.lean ====
abbrev S8x16512 : Shape := ⟨2, ![8, 16512]⟩
abbrev S_ : Shape := ⟨0, ![]⟩
abbrev S16512 : Shape := ⟨1, ![16512]⟩
abbrev S1 : Shape := ⟨1, ![1]⟩

abbrev nBuf : Space → Nat
  | .hbm => 7
  | .vmem => 0
  | .smem => 0
  | _ => 0

abbrev bufTy : (tb : Table) → Fin (tcTables nBuf tb) → BufTy
  | .hbm, ⟨0, _⟩ => ⟨S8x16512, .f32⟩
  | .hbm, ⟨1, _⟩ => ⟨S8x16512, .f32⟩
  | .hbm, ⟨2, _⟩ => ⟨S_, .f32⟩
  | .hbm, ⟨3, _⟩ => ⟨S16512, .f32⟩
  | .hbm, ⟨4, _⟩ => ⟨S8x16512, .f32⟩
  | .hbm, ⟨5, _⟩ => ⟨S1, .f32⟩
  | .hbm, ⟨6, _⟩ => ⟨S_, .f32⟩
  | _, _ => ⟨S8x16512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamwVectors.lean ====
abbrev S8x16512 : Shape := ⟨2, ![8, 16512]⟩
abbrev S1x6144 : Shape := ⟨2, ![1, 6144]⟩
abbrev S1x2048 : Shape := ⟨2, ![1, 2048]⟩

abbrev nBuf : Space → Nat
  | .hbm => 22
  | .vmem => 22
  | .smem => 0
  | _ => 0

abbrev bufTy : (tb : Table) → Fin (tcTables nBuf tb) → BufTy
  | .hbm, ⟨0, _⟩ => ⟨S8x16512, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x6144, .f32⟩
  | .hbm, ⟨11, _⟩ => ⟨S1x6144, .f32⟩
  | .hbm, ⟨12, _⟩ => ⟨S1x6144, .f32⟩
  | .hbm, ⟨13, _⟩ => ⟨S1x6144, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .local _ .vmem, ⟨0, _⟩ => ⟨S8x16512, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x6144, .f32⟩
  | .local _ .vmem, ⟨11, _⟩ => ⟨S1x6144, .f32⟩
  | .local _ .vmem, ⟨12, _⟩ => ⟨S1x6144, .f32⟩
  | .local _ .vmem, ⟨13, _⟩ => ⟨S1x6144, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | _, _ => ⟨S8x16512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S8x16512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== AdamwVectorsRefIdeal.lean ====
abbrev S8x16512 : Shape := ⟨2, ![8, 16512]⟩
abbrev S1x6144 : Shape := ⟨2, ![1, 6144]⟩
abbrev S1x2048 : Shape := ⟨2, ![1, 2048]⟩
abbrev S_ : Shape := ⟨0, ![]⟩

abbrev nBuf : Space → Nat
  | .hbm => 112
  | .vmem => 0
  | .smem => 0
  | _ => 0

abbrev bufTy : (tb : Table) → Fin (tcTables nBuf tb) → BufTy
  | .hbm, ⟨0, _⟩ => ⟨S8x16512, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x6144, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x6144, .f32⟩
  | .hbm, ⟨15, _⟩ => ⟨S1x6144, .f32⟩
  | .hbm, ⟨16, _⟩ => ⟨S_, .f32⟩
  | .hbm, ⟨17, _⟩ => ⟨S1x6144, .f32⟩
  | .hbm, ⟨18, _⟩ => ⟨S1x6144, .f32⟩
  | .hbm, ⟨19, _⟩ => ⟨S1x6144, .f32⟩
  | .hbm, ⟨20, _⟩ => ⟨S_, .f32⟩
  | .hbm, ⟨21, _⟩ => ⟨S1x6144, .f32⟩
  | .hbm, ⟨22, _⟩ => ⟨S1x6144, .f32⟩
  | .hbm, ⟨23, _⟩ => ⟨S1x6144, .f32⟩
  | .hbm, ⟨24, _⟩ => ⟨S_, .f32⟩
  | .hbm, ⟨25, _⟩ => ⟨S1x6144, .f32⟩
  | .hbm, ⟨26, _⟩ => ⟨S1x6144, .f32⟩
  | .hbm, ⟨27, _⟩ => ⟨S1x6144, .f32⟩
  | .hbm, ⟨28, _⟩ => ⟨S_, .f32⟩
  | .hbm, ⟨29, _⟩ => ⟨S1x6144, .f32⟩
  | .hbm, ⟨30, _⟩ => ⟨S1x6144, .f32⟩
  | .hbm, ⟨31, _⟩ => ⟨S_, .f32⟩
  | .hbm, ⟨32, _⟩ => ⟨S1x6144, .f32⟩
  | .hbm, ⟨33, _⟩ => ⟨S1x6144, .f32⟩
  | .hbm, ⟨34, _⟩ => ⟨S1x6144, .f32⟩
  | .hbm, ⟨35, _⟩ => ⟨S_, .f32⟩
  | .hbm, ⟨36, _⟩ => ⟨S1x6144, .f32⟩
  | .hbm, ⟨37, _⟩ => ⟨S1x6144, .f32⟩
  | .hbm, ⟨38, _⟩ => ⟨S1x6144, .f32⟩
  | .hbm, ⟨39, _⟩ => ⟨S_, .f32⟩
  | .hbm, ⟨40, _⟩ => ⟨S1x6144, .f32⟩
  | .hbm, ⟨41, _⟩ => ⟨S1x6144, .f32⟩
  | .hbm, ⟨42, _⟩ => ⟨S1x6144, .f32⟩
  | .hbm, ⟨43, _⟩ => ⟨S_, .f32⟩
  | .hbm, ⟨44, _⟩ => ⟨S1x6144, .f32⟩
  | .hbm, ⟨45, _⟩ => ⟨S1x6144, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S_, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S_, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S_, .f32⟩
  | .hbm, ⟨62, _⟩ => ⟨S1x2048, .f32⟩
  | .hbm, ⟨63, _⟩ => ⟨S1x2048, .f32⟩
  | .hbm, ⟨64, _⟩ => ⟨S_, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S_, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S_, .f32⟩
  | .hbm, ⟨77, _⟩ => ⟨S1x2048, .f32⟩
  | .hbm, ⟨78, _⟩ => ⟨S1x2048, .f32⟩
  | .hbm, ⟨79, _⟩ => ⟨S_, .f32⟩
  | .hbm, ⟨80, _⟩ => ⟨S1x2048, .f32⟩
  | .hbm, ⟨81, _⟩ => ⟨S1x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S_, .f32⟩
  | .hbm, ⟨87, _⟩ => ⟨S1x2048, .f32⟩
  | .hbm, ⟨88, _⟩ => ⟨S1x2048, .f32⟩
  | .hbm, ⟨89, _⟩ => ⟨S1x2048, .f32⟩
  | .hbm, ⟨90, _⟩ => ⟨S_, .f32⟩
  | .hbm, ⟨91, _⟩ => ⟨S1x2048, .f32⟩
  | .hbm, ⟨92, _⟩ => ⟨S1x2048, .f32⟩
  | .hbm, ⟨93, _⟩ => ⟨S1x2048, .f32⟩
  | .hbm, ⟨94, _⟩ => ⟨S_, .f32⟩
  | .hbm, ⟨95, _⟩ => ⟨S1x2048, .f32⟩
  | .hbm, ⟨96, _⟩ => ⟨S1x2048, .f32⟩
  | .hbm, ⟨97, _⟩ => ⟨S_, .f32⟩
  | .hbm, ⟨98, _⟩ => ⟨S1x2048, .f32⟩
  | .hbm, ⟨99, _⟩ => ⟨S1x2048, .f32⟩
  | .hbm, ⟨100, _⟩ => ⟨S1x2048, .f32⟩
  | .hbm, ⟨101, _⟩ => ⟨S_, .f32⟩
  | .hbm, ⟨102, _⟩ => ⟨S1x2048, .f32⟩
  | .hbm, ⟨103, _⟩ => ⟨S1x2048, .f32⟩
  | .hbm, ⟨104, _⟩ => ⟨S1x2048, .f32⟩
  | .hbm, ⟨105, _⟩ => ⟨S_, .f32⟩
  | .hbm, ⟨106, _⟩ => ⟨S1x2048, .f32⟩
  | .hbm, ⟨107, _⟩ => ⟨S1x2048, .f32⟩
  | .hbm, ⟨108, _⟩ => ⟨S1x2048, .f32⟩
  | .hbm, ⟨109, _⟩ => ⟨S_, .f32⟩
  | .hbm, ⟨110, _⟩ => ⟨S1x2048, .f32⟩
  | .hbm, ⟨111, _⟩ => ⟨S1x2048, .f32⟩
  | _, _ => ⟨S8x16512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_15 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_v50 : Ref sig .tc := ⟨.hbm, 78, rfl⟩
abbrev main_cst_17 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_19 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_20 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_21 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_23 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_24 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_25 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]
-- ==== AdamwConv.lean ====
abbrev S8x16512 : Shape := ⟨2, ![8, 16512]⟩
abbrev S3x1x128 : Shape := ⟨3, ![3, 1, 128]⟩
abbrev S1x1024 : Shape := ⟨2, ![1, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8x16512, .f32⟩
  | .hbm, ⟨1, _⟩ => ⟨S3x1x128, .f32⟩
  | .hbm, ⟨2, _⟩ => ⟨S3x1x128, .f32⟩
  | .hbm, ⟨3, _⟩ => ⟨S3x1x128, .f32⟩
  | .hbm, ⟨4, _⟩ => ⟨S3x1x128, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S3x1x128, .f32⟩
  | .hbm, ⟨9, _⟩ => ⟨S3x1x128, .f32⟩
  | .hbm, ⟨10, _⟩ => ⟨S3x1x128, .f32⟩
  | .hbm, ⟨11, _⟩ => ⟨S3x1x128, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S8x16512, .f32⟩
  | .local _ .vmem, ⟨1, _⟩ => ⟨S3x1x128, .f32⟩
  | .local _ .vmem, ⟨2, _⟩ => ⟨S3x1x128, .f32⟩
  | .local _ .vmem, ⟨3, _⟩ => ⟨S3x1x128, .f32⟩
  | .local _ .vmem, ⟨4, _⟩ => ⟨S3x1x128, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S3x1x128, .f32⟩
  | .local _ .vmem, ⟨9, _⟩ => ⟨S3x1x128, .f32⟩
  | .local _ .vmem, ⟨10, _⟩ => ⟨S3x1x128, .f32⟩
  | .local _ .vmem, ⟨11, _⟩ => ⟨S3x1x128, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S8x16512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8x16512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== AdamwConvRefIdeal.lean ====
abbrev S8x16512 : Shape := ⟨2, ![8, 16512]⟩
abbrev S3x1x128 : Shape := ⟨3, ![3, 1, 128]⟩
abbrev S1x1024 : Shape := ⟨2, ![1, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S8x16512, .f32⟩
  | .hbm, ⟨1, _⟩ => ⟨S3x1x128, .f32⟩
  | .hbm, ⟨2, _⟩ => ⟨S3x1x128, .f32⟩
  | .hbm, ⟨3, _⟩ => ⟨S3x1x128, .f32⟩
  | .hbm, ⟨4, _⟩ => ⟨S3x1x128, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S3x1x128, .f32⟩
  | .hbm, ⟨11, _⟩ => ⟨S3x1x128, .f32⟩
  | .hbm, ⟨12, _⟩ => ⟨S_, .f32⟩
  | .hbm, ⟨13, _⟩ => ⟨S3x1x128, .f32⟩
  | .hbm, ⟨14, _⟩ => ⟨S3x1x128, .f32⟩
  | .hbm, ⟨15, _⟩ => ⟨S3x1x128, .f32⟩
  | .hbm, ⟨16, _⟩ => ⟨S_, .f32⟩
  | .hbm, ⟨17, _⟩ => ⟨S3x1x128, .f32⟩
  | .hbm, ⟨18, _⟩ => ⟨S3x1x128, .f32⟩
  | .hbm, ⟨19, _⟩ => ⟨S3x1x128, .f32⟩
  | .hbm, ⟨20, _⟩ => ⟨S_, .f32⟩
  | .hbm, ⟨21, _⟩ => ⟨S3x1x128, .f32⟩
  | .hbm, ⟨22, _⟩ => ⟨S3x1x128, .f32⟩
  | .hbm, ⟨23, _⟩ => ⟨S3x1x128, .f32⟩
  | .hbm, ⟨24, _⟩ => ⟨S_, .f32⟩
  | .hbm, ⟨25, _⟩ => ⟨S3x1x128, .f32⟩
  | .hbm, ⟨26, _⟩ => ⟨S3x1x128, .f32⟩
  | .hbm, ⟨27, _⟩ => ⟨S_, .f32⟩
  | .hbm, ⟨28, _⟩ => ⟨S3x1x128, .f32⟩
  | .hbm, ⟨29, _⟩ => ⟨S3x1x128, .f32⟩
  | .hbm, ⟨30, _⟩ => ⟨S3x1x128, .f32⟩
  | .hbm, ⟨31, _⟩ => ⟨S_, .f32⟩
  | .hbm, ⟨32, _⟩ => ⟨S3x1x128, .f32⟩
  | .hbm, ⟨33, _⟩ => ⟨S3x1x128, .f32⟩
  | .hbm, ⟨34, _⟩ => ⟨S3x1x128, .f32⟩
  | .hbm, ⟨35, _⟩ => ⟨S_, .f32⟩
  | .hbm, ⟨36, _⟩ => ⟨S3x1x128, .f32⟩
  | .hbm, ⟨37, _⟩ => ⟨S3x1x128, .f32⟩
  | .hbm, ⟨38, _⟩ => ⟨S3x1x128, .f32⟩
  | .hbm, ⟨39, _⟩ => ⟨S_, .f32⟩
  | .hbm, ⟨40, _⟩ => ⟨S3x1x128, .f32⟩
  | .hbm, ⟨41, _⟩ => ⟨S3x1x128, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | _, _ => ⟨S8x16512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_cst_13 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_14 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_15 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_16 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== AdamwNorms.lean ====
abbrev S8x16512 : Shape := ⟨2, ![8, 16512]⟩
abbrev S1x1024 : Shape := ⟨2, ![1, 1024]⟩

abbrev nBuf : Space → Nat
  | .hbm => 15
  | .vmem => 15
  | .smem => 0
  | _ => 0

abbrev bufTy : (tb : Table) → Fin (tcTables nBuf tb) → BufTy
  | .hbm, ⟨0, _⟩ => ⟨S8x16512, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S8x16512, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S8x16512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8x16512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== AdamwNormsRefIdeal.lean ====
abbrev S8x16512 : Shape := ⟨2, ![8, 16512]⟩
abbrev S1x1024 : Shape := ⟨2, ![1, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S8x16512, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | _, _ => ⟨S8x16512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_15 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_16 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== AdamwAda.lean ====
abbrev S2048x8 : Shape := ⟨2, ![2048, 8]⟩
abbrev S8x768 : Shape := ⟨2, ![8, 768]⟩
abbrev S2048x768 : Shape := ⟨2, ![2048, 768]⟩
abbrev S8x16512 : Shape := ⟨2, ![8, 16512]⟩
abbrev S512x8 : Shape := ⟨2, ![512, 8]⟩
abbrev S512x768 : Shape := ⟨2, ![512, 768]⟩

abbrev nBuf : Space → Nat
  | .hbm => 10
  | .vmem => 17
  | .smem => 0
  | _ => 0

abbrev bufTy : (tb : Table) → Fin (tcTables nBuf tb) → BufTy
  | .hbm, ⟨0, _⟩ => ⟨S2048x8, .f32⟩
  | .hbm, ⟨1, _⟩ => ⟨S8x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S8x16512, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .local _ .vmem, ⟨0, _⟩ => ⟨S512x8, .f32⟩
  | .local _ .vmem, ⟨1, _⟩ => ⟨S512x8, .f32⟩
  | .local _ .vmem, ⟨2, _⟩ => ⟨S8x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwAdaRefIdeal.lean ====
abbrev S2048x8 : Shape := ⟨2, ![2048, 8]⟩
abbrev S8x768 : Shape := ⟨2, ![8, 768]⟩
abbrev S2048x768 : Shape := ⟨2, ![2048, 768]⟩
abbrev S8x16512 : Shape := ⟨2, ![8, 16512]⟩
abbrev S8x2048 : Shape := ⟨2, ![8, 2048]⟩
abbrev S768x2048 : Shape := ⟨2, ![768, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S8x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S8x16512, .f32⟩
  | .hbm, ⟨6, _⟩ => ⟨S8x2048, .f32⟩
  | .hbm, ⟨7, _⟩ => ⟨S8x768, .f32⟩
  | .hbm, ⟨8, _⟩ => ⟨S768x2048, .f32⟩
  | .hbm, ⟨9, _⟩ => ⟨S2048x768, .f32⟩
  | .hbm, ⟨10, _⟩ => ⟨S_, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S2048x768, .f32⟩
  | .hbm, ⟨25, _⟩ => ⟨S_, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | .hbm, ⟨39, _⟩ => ⟨S2048x768, .f32⟩
  | .hbm, ⟨40, _⟩ => ⟨S_, .f32⟩
  | .hbm, ⟨41, _⟩ => ⟨S2048x768, .f32⟩
  | .hbm, ⟨42, _⟩ => ⟨S2048x768, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== InProjA.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli c1_i32 arg0
  let c0_i32 : BitVec 32 := 0#32
  let v2 : BitVec 32 := Scalar.addi c0_i32 v1
  let v3 : BitVec 32 := Scalar.xori v0 v2
  let c0_i32_0 : BitVec 32 := 0#32
  let c0_i32_1 : BitVec 32 := 0#32
  let c0_i32_2 : BitVec 32 := 0#32
  ![v3.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli c1_i32 arg0
  let c0_i32 : BitVec 32 := 0#32
  let v2 : BitVec 32 := Scalar.addi c0_i32 v1
  let v3 : BitVec 32 := Scalar.xori v0 v2
  let c0_i32_0 : BitVec 32 := 0#32
  ![arg1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjARefIdeal.lean ====
abbrev S2048x2048 : Shape := ⟨2, ![2048, 2048]⟩
abbrev S8x2048x1024 : Shape := ⟨3, ![8, 2048, 1024]⟩
abbrev S1 : Shape := ⟨1, ![1]⟩
abbrev S2048x8x1024 : Shape := ⟨3, ![2048, 8, 1024]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S1, .i32⟩
  | .hbm, ⟨3, _⟩ => ⟨S2048x8x1024, .bf16⟩
  | .hbm, ⟨4, _⟩ => ⟨S2048x8192, .bf16⟩
  | .hbm, ⟨5, _⟩ => ⟨S2048x2048, .f32⟩
  | .hbm, ⟨6, _⟩ => ⟨S2048x8192, .f32⟩
  | .hbm, ⟨7, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjB.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .hbm, ⟨3, _⟩ => ⟨S2048x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let c2_i32_0 : BitVec 32 := 2#32
  let v2 : BitVec 32 := Scalar.addi c2_i32_0 v1
  let v3 : BitVec 32 := Scalar.xori v0 v2
  let c0_i32 : BitVec 32 := 0#32
  let c0_i32_1 : BitVec 32 := 0#32
  let c0_i32_2 : BitVec 32 := 0#32
  ![v3.toNat, c0_i32.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let c2_i32_0 : BitVec 32 := 2#32
  let v2 : BitVec 32 := Scalar.addi c2_i32_0 v1
  let v3 : BitVec 32 := Scalar.xori v0 v2
  let c0_i32 : BitVec 32 := 0#32
  ![arg1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjBRefIdeal.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S8192 : Shape := ⟨1, ![8192]⟩
abbrev S2048x8x1024 : Shape := ⟨3, ![2048, 8, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S1, .i32⟩
  | .hbm, ⟨3, _⟩ => ⟨S2048x8192, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8, .i1⟩
  | .hbm, ⟨15, _⟩ => ⟨S8x1, .i1⟩
  | .hbm, ⟨16, _⟩ => ⟨S8x1024, .i1⟩
  | .hbm, ⟨17, _⟩ => ⟨S8192, .i1⟩
  | .hbm, ⟨18, _⟩ => ⟨S2048x8x1024, .bf16⟩
  | .hbm, ⟨19, _⟩ => ⟨S2048x8192, .bf16⟩
  | .hbm, ⟨20, _⟩ => ⟨S2048x2048, .f32⟩
  | .hbm, ⟨21, _⟩ => ⟨S2048x8192, .f32⟩
  | .hbm, ⟨22, _⟩ => ⟨S2048x8192, .f32⟩
  | .hbm, ⟨23, _⟩ => ⟨S2048x8192, .i1⟩
  | .hbm, ⟨24, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProjC.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .hbm, ⟨3, _⟩ => ⟨S2048x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let c3_i32 : BitVec 32 := 3#32
  let v2 : BitVec 32 := Scalar.addi c3_i32 v1
  let v3 : BitVec 32 := Scalar.xori v0 v2
  let c0_i32 : BitVec 32 := 0#32
  let c0_i32_0 : BitVec 32 := 0#32
  let c0_i32_1 : BitVec 32 := 0#32
  ![v3.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let c3_i32 : BitVec 32 := 3#32
  let v2 : BitVec 32 := Scalar.addi c3_i32 v1
  let v3 : BitVec 32 := Scalar.xori v0 v2
  let c0_i32 : BitVec 32 := 0#32
  ![arg1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjCRefIdeal.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S8192 : Shape := ⟨1, ![8192]⟩
abbrev S2048x8x1024 : Shape := ⟨3, ![2048, 8, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S1, .i32⟩
  | .hbm, ⟨3, _⟩ => ⟨S2048x8192, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8, .i1⟩
  | .hbm, ⟨15, _⟩ => ⟨S8x1, .i1⟩
  | .hbm, ⟨16, _⟩ => ⟨S8x1024, .i1⟩
  | .hbm, ⟨17, _⟩ => ⟨S8192, .i1⟩
  | .hbm, ⟨18, _⟩ => ⟨S2048x8x1024, .bf16⟩
  | .hbm, ⟨19, _⟩ => ⟨S2048x8192, .bf16⟩
  | .hbm, ⟨20, _⟩ => ⟨S2048x2048, .f32⟩
  | .hbm, ⟨21, _⟩ => ⟨S2048x8192, .f32⟩
  | .hbm, ⟨22, _⟩ => ⟨S2048x8192, .f32⟩
  | .hbm, ⟨23, _⟩ => ⟨S2048x8192, .i1⟩
  | .hbm, ⟨24, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProjD.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .hbm, ⟨3, _⟩ => ⟨S2048x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli c1_i32 arg0
  let c6_i32 : BitVec 32 := 6#32
  let v2 : BitVec 32 := Scalar.addi c6_i32 v1
  let v3 : BitVec 32 := Scalar.xori v0 v2
  let c0_i32 : BitVec 32 := 0#32
  let c0_i32_0 : BitVec 32 := 0#32
  let c0_i32_1 : BitVec 32 := 0#32
  ![v3.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli c1_i32 arg0
  let c6_i32 : BitVec 32 := 6#32
  let v2 : BitVec 32 := Scalar.addi c6_i32 v1
  let v3 : BitVec 32 := Scalar.xori v0 v2
  let c0_i32 : BitVec 32 := 0#32
  ![arg1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjDRefIdeal.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S8192 : Shape := ⟨1, ![8192]⟩
abbrev S2048x8x1024 : Shape := ⟨3, ![2048, 8, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S1, .i32⟩
  | .hbm, ⟨3, _⟩ => ⟨S2048x8192, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S8x1, .i1⟩
  | .hbm, ⟨12, _⟩ => ⟨S8x1024, .i1⟩
  | .hbm, ⟨13, _⟩ => ⟨S8192, .i1⟩
  | .hbm, ⟨14, _⟩ => ⟨S2048x8x1024, .bf16⟩
  | .hbm, ⟨15, _⟩ => ⟨S2048x8192, .bf16⟩
  | .hbm, ⟨16, _⟩ => ⟨S2048x2048, .f32⟩
  | .hbm, ⟨17, _⟩ => ⟨S2048x8192, .f32⟩
  | .hbm, ⟨18, _⟩ => ⟨S2048x8192, .f32⟩
  | .hbm, ⟨19, _⟩ => ⟨S2048x8192, .i1⟩
  | .hbm, ⟨20, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InProjE.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .hbm, ⟨3, _⟩ => ⟨S2048x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli c1_i32 arg0
  let c7_i32 : BitVec 32 := 7#32
  let v2 : BitVec 32 := Scalar.addi c7_i32 v1
  let v3 : BitVec 32 := Scalar.xori v0 v2
  let c0_i32 : BitVec 32 := 0#32
  let c0_i32_0 : BitVec 32 := 0#32
  let c0_i32_1 : BitVec 32 := 0#32
  ![v3.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli c1_i32 arg0
  let c7_i32 : BitVec 32 := 7#32
  let v2 : BitVec 32 := Scalar.addi c7_i32 v1
  let v3 : BitVec 32 := Scalar.xori v0 v2
  let c0_i32 : BitVec 32 := 0#32
  ![arg1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjERefIdeal.lean ====
abbrev S2048x2048 : Shape := ⟨2, ![2048, 2048]⟩
abbrev S8x2048x1024 : Shape := ⟨3, ![8, 2048, 1024]⟩
abbrev S1 : Shape := ⟨1, ![1]⟩
abbrev S2048x8192 : Shape := ⟨2, ![2048, 8192]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S8192 : Shape := ⟨1, ![8192]⟩
abbrev S2048x8x1024 : Shape := ⟨3, ![2048, 8, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S1, .i32⟩
  | .hbm, ⟨3, _⟩ => ⟨S2048x8192, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S8x1, .i1⟩
  | .hbm, ⟨12, _⟩ => ⟨S8x1024, .i1⟩
  | .hbm, ⟨13, _⟩ => ⟨S8192, .i1⟩
  | .hbm, ⟨14, _⟩ => ⟨S2048x8x1024, .bf16⟩
  | .hbm, ⟨15, _⟩ => ⟨S2048x8192, .bf16⟩
  | .hbm, ⟨16, _⟩ => ⟨S2048x2048, .f32⟩
  | .hbm, ⟨17, _⟩ => ⟨S2048x8192, .f32⟩
  | .hbm, ⟨18, _⟩ => ⟨S2048x8192, .f32⟩
  | .hbm, ⟨19, _⟩ => ⟨S2048x8192, .i1⟩
  | .hbm, ⟨20, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AdamwWOut.lean ====
abbrev S4x256x2048 : Shape := ⟨3, ![4, 256, 2048]⟩
abbrev S2 : Shape := ⟨1, ![2]⟩
abbrev S256x2048 : Shape := ⟨2, ![256, 2048]⟩
abbrev S4x128x2048 : Shape := ⟨3, ![4, 128, 2048]⟩
abbrev S1x128x2048 : Shape := ⟨3, ![1, 128, 2048]⟩
abbrev S1 : Shape := ⟨1, ![1]⟩
abbrev S128x2048 : Shape := ⟨2, ![128, 2048]⟩

abbrev nBuf : Space → Nat
  | .hbm => 10
  | .vmem => 20
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S4x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .smem, ⟨0, _⟩ => ⟨S2, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamwWOutRefIdeal.lean ====
abbrev S4x256x2048 : Shape := ⟨3, ![4, 256, 2048]⟩
abbrev S2 : Shape := ⟨1, ![2]⟩
abbrev S256x2048 : Shape := ⟨2, ![256, 2048]⟩
abbrev S1 : Shape := ⟨1, ![1]⟩
abbrev S_ : Shape := ⟨0, ![]⟩
abbrev S1x256x2048 : Shape := ⟨3, ![1, 256, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S4x256x2048, .bf16⟩
  | .hbm, ⟨3, _⟩ => ⟨S2, .i32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S4x256x2048, .bf16⟩
  | .hbm, ⟨12, _⟩ => ⟨S1x256x2048, .bf16⟩
  | .hbm, ⟨13, _⟩ => ⟨S256x2048, .bf16⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1x256x2048, .bf16⟩
  | .hbm, ⟨19, _⟩ => ⟨S256x2048, .bf16⟩
  | .hbm, ⟨20, _⟩ => ⟨S256x2048, .bf16⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S1x256x2048, .bf16⟩
  | .hbm, ⟨26, _⟩ => ⟨S256x2048, .bf16⟩
  | .hbm, ⟨27, _⟩ => ⟨S256x2048, .bf16⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S1x256x2048, .bf16⟩
  | .hbm, ⟨33, _⟩ => ⟨S256x2048, .bf16⟩
  | .hbm, ⟨34, _⟩ => ⟨S256x2048, .bf16⟩
  | .hbm, ⟨35, _⟩ => ⟨S256x2048, .f32⟩
  | .hbm, ⟨36, _⟩ => ⟨S4x256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S_, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S_, .f32⟩
  | .hbm, ⟨56, _⟩ => ⟨S256x2048, .f32⟩
  | .hbm, ⟨57, _⟩ => ⟨S256x2048, .f32⟩
  | .hbm, ⟨58, _⟩ => ⟨S_, .f32⟩
  | .hbm, ⟨59, _⟩ => ⟨S256x2048, .f32⟩
  | .hbm, ⟨60, _⟩ => ⟨S256x2048, .f32⟩
  | .hbm, ⟨61, _⟩ => ⟨S256x2048, .f32⟩
  | .hbm, ⟨62, _⟩ => ⟨S_, .f32⟩
  | .hbm, ⟨63, _⟩ => ⟨S256x2048, .f32⟩
  | .hbm, ⟨64, _⟩ => ⟨S256x2048, .f32⟩
  | .hbm, ⟨65, _⟩ => ⟨S256x2048, .f32⟩
  | .hbm, ⟨66, _⟩ => ⟨S_, .f32⟩
  | .hbm, ⟨67, _⟩ => ⟨S256x2048, .f32⟩
  | .hbm, ⟨68, _⟩ => ⟨S256x2048, .f32⟩
  | .hbm, ⟨69, _⟩ => ⟨S256x2048, .f32⟩
  | .hbm, ⟨70, _⟩ => ⟨S_, .f32⟩
  | .hbm, ⟨71, _⟩ => ⟨S256x2048, .f32⟩
  | .hbm, ⟨72, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== AdamwWInA.lean ====
abbrev S4x2048x1024 : Shape := ⟨3, ![4, 2048, 1024]⟩
abbrev S2 : Shape := ⟨1, ![2]⟩
abbrev S2048x1024 : Shape := ⟨2, ![2048, 1024]⟩
abbrev S4x256x1024 : Shape := ⟨3, ![4, 256, 1024]⟩
abbrev S1x256x1024 : Shape := ⟨3, ![1, 256, 1024]⟩
abbrev S1 : Shape := ⟨1, ![1]⟩
abbrev S256x1024 : Shape := ⟨2, ![256, 1024]⟩

abbrev nBuf : Space → Nat
  | .hbm => 10
  | .vmem => 20
  | .smem => 1
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .smem, ⟨0, _⟩ => ⟨S2, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![6], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamwWInARefIdeal.lean ====
abbrev S4x2048x1024 : Shape := ⟨3, ![4, 2048, 1024]⟩
abbrev S2 : Shape := ⟨1, ![2]⟩
abbrev S2048x1024 : Shape := ⟨2, ![2048, 1024]⟩
abbrev S1 : Shape := ⟨1, ![1]⟩
abbrev S_ : Shape := ⟨0, ![]⟩
abbrev S1x2048x1024 : Shape := ⟨3, ![1, 2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S2, .i32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S4x2048x1024, .bf16⟩
  | .hbm, ⟨12, _⟩ => ⟨S1x2048x1024, .bf16⟩
  | .hbm, ⟨13, _⟩ => ⟨S2048x1024, .bf16⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1x2048x1024, .bf16⟩
  | .hbm, ⟨19, _⟩ => ⟨S2048x1024, .bf16⟩
  | .hbm, ⟨20, _⟩ => ⟨S2048x1024, .bf16⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S1x2048x1024, .bf16⟩
  | .hbm, ⟨26, _⟩ => ⟨S2048x1024, .bf16⟩
  | .hbm, ⟨27, _⟩ => ⟨S2048x1024, .bf16⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S1x2048x1024, .bf16⟩
  | .hbm, ⟨33, _⟩ => ⟨S2048x1024, .bf16⟩
  | .hbm, ⟨34, _⟩ => ⟨S2048x1024, .bf16⟩
  | .hbm, ⟨35, _⟩ => ⟨S2048x1024, .f32⟩
  | .hbm, ⟨36, _⟩ => ⟨S4x2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== AdamwWInB.lean ====
abbrev S4x2048x1024 : Shape := ⟨3, ![4, 2048, 1024]⟩
abbrev S2 : Shape := ⟨1, ![2]⟩
abbrev S2048x1024 : Shape := ⟨2, ![2048, 1024]⟩
abbrev S4x256x1024 : Shape := ⟨3, ![4, 256, 1024]⟩
abbrev S1x256x1024 : Shape := ⟨3, ![1, 256, 1024]⟩
abbrev S1 : Shape := ⟨1, ![1]⟩
abbrev S256x1024 : Shape := ⟨2, ![256, 1024]⟩

abbrev nBuf : Space → Nat
  | .hbm => 14
  | .vmem => 20
  | .smem => 1
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .smem, ⟨0, _⟩ => ⟨S2, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![c0_i32.toNat, v0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c6_i32 : BitVec 32 := 6#32
  let v1 : BitVec 32 := Scalar.addi arg0 c6_i32
  let c0_i32 : BitVec 32 := 0#32
  let c0_i32_0 : BitVec 32 := 0#32
  ![v0.toNat, v1.toNat, c0_i32.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c6_i32 : BitVec 32 := 6#32
  let v1 : BitVec 32 := Scalar.addi arg0 c6_i32
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamwWInBRefIdeal.lean ====
abbrev S4x2048x1024 : Shape := ⟨3, ![4, 2048, 1024]⟩
abbrev S2 : Shape := ⟨1, ![2]⟩
abbrev S2048x1024 : Shape := ⟨2, ![2048, 1024]⟩
abbrev S1 : Shape := ⟨1, ![1]⟩
abbrev S_ : Shape := ⟨0, ![]⟩
abbrev S1x2048x1024 : Shape := ⟨3, ![1, 2048, 1024]⟩
abbrev S1536x1024 : Shape := ⟨2, ![1536, 1024]⟩
abbrev S512x1024 : Shape := ⟨2, ![512, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S2, .i32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S4x2048x1024, .bf16⟩
  | .hbm, ⟨16, _⟩ => ⟨S1x2048x1024, .bf16⟩
  | .hbm, ⟨17, _⟩ => ⟨S2048x1024, .bf16⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x2048x1024, .bf16⟩
  | .hbm, ⟨23, _⟩ => ⟨S2048x1024, .bf16⟩
  | .hbm, ⟨24, _⟩ => ⟨S2048x1024, .bf16⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S1x2048x1024, .bf16⟩
  | .hbm, ⟨30, _⟩ => ⟨S2048x1024, .bf16⟩
  | .hbm, ⟨31, _⟩ => ⟨S2048x1024, .bf16⟩
  | .hbm, ⟨32, _⟩ => ⟨S1, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S1x2048x1024, .bf16⟩
  | .hbm, ⟨37, _⟩ => ⟨S2048x1024, .bf16⟩
  | .hbm, ⟨38, _⟩ => ⟨S2048x1024, .bf16⟩
  | .hbm, ⟨39, _⟩ => ⟨S2048x1024, .f32⟩
  | .hbm, ⟨40, _⟩ => ⟨S4x2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S2048x1024, .f32⟩
  | .hbm, ⟨76, _⟩ => ⟨S2048x1024, .f32⟩
  | .hbm, ⟨77, _⟩ => ⟨S1536x1024, .f32⟩
  | .hbm, ⟨78, _⟩ => ⟨S512x1024, .f32⟩
  | .hbm, ⟨79, _⟩ => ⟨S2048x1024, .f32⟩
  | .hbm, ⟨80, _⟩ => ⟨S1536x1024, .f32⟩
  | .hbm, ⟨81, _⟩ => ⟨S512x1024, .f32⟩
  | .hbm, ⟨82, _⟩ => ⟨S2048x1024, .f32⟩
  | .hbm, ⟨83, _⟩ => ⟨S1536x1024, .f32⟩
  | .hbm, ⟨84, _⟩ => ⟨S512x1024, .f32⟩
  | .hbm, ⟨85, _⟩ => ⟨S2048x1024, .f32⟩
  | .hbm, ⟨86, _⟩ => ⟨S1536x1024, .f32⟩
  | .hbm, ⟨87, _⟩ => ⟨S512x1024, .f32⟩
  | .hbm, ⟨88, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Proof.ConvModel.lean ====
/- The gradient of the gated short convolution group as a formula over the real numbers. One value `Arr` holds the numbers of the
   arguments; the definitions below it are the steps of the gradient, each a function of a row (an integer, so that the row
   before the first and the row after the last can be named) and a lane. -/
module

public import Idealize.ShloMosaic.Lib.Pointwise

@[expose] public section

noncomputable section

namespace Cert.Conv

/-- The numbers of the arguments: the input `u`, the two gates `b` and `c`, the input `z` of the silu, the cotangent `d`, the three
    taps `w`, the bias `k` and the gain `g` of the norm. -/
structure Arr where
  u : ℤ → Fin 1024 → ℝ
  b : ℤ → Fin 1024 → ℝ
  c : ℤ → Fin 1024 → ℝ
  z : ℤ → Fin 1024 → ℝ
  d : ℤ → Fin 1024 → ℝ
  w : Fin 3 → Fin 1024 → ℝ
  k : Fin 1024 → ℝ
  g : Fin 1024 → ℝ

/-- The row lies in the array. -/
abbrev inn (r : ℤ) : Prop := 0 ≤ r ∧ r < 2048

/-- The number that the norm adds to the mean of the squares. -/
def eps : ℝ := 8796093 / 8796093022208

theorem eps_pos : 0 < eps := by unfold eps; norm_num

/-- The logistic function. -/
def sg (x : ℝ) : ℝ := 1 / (1 + Real.exp (-x))

variable (A : Arr)

/-- The gated input of the convolution, zero outside the array. -/
def tt (r : ℤ) (l : Fin 1024) : ℝ := if inn r then A.c r l * A.u r l else 0

/-- The convolution. -/
def cv (r : ℤ) (l : Fin 1024) : ℝ :=
  A.w 0 l * tt A (r - 1) l + A.w 1 l * tt A r l + A.w 2 l * tt A (r + 1) l + A.k l

/-- The gated convolution, which the norm takes. -/
def yc (r : ℤ) (l : Fin 1024) : ℝ := A.b r l * cv A r l

/-- The mean of the squares of a row, with `eps` added. -/
def var (r : ℤ) : ℝ := (∑ l, yc A r l * yc A r l) / 1024 + eps

theorem var_pos (r : ℤ) : 0 < var A r := by
  have h : 0 ≤ ∑ l, yc A r l * yc A r l := Finset.sum_nonneg fun l _ => mul_self_nonneg _
  have := eps_pos
  unfold var; positivity

/-- The factor by which the norm scales a row. -/
def rc (r : ℤ) : ℝ := (Real.sqrt (var A r))⁻¹

/-- The scaled row. -/
def yh (r : ℤ) (l : Fin 1024) : ℝ := yc A r l * rc A r

/-- The silu and its slope. -/
def sz (r : ℤ) (l : Fin 1024) : ℝ := A.z r l * sg (A.z r l)
def dsz (r : ℤ) (l : Fin 1024) : ℝ := sg (A.z r l) * (1 + A.z r l * (1 - sg (A.z r l)))

/-- The cotangent of the scaled row. -/
def wt (r : ℤ) (l : Fin 1024) : ℝ := A.d r l * A.g l * sz A r l

/-- The cotangent of the norm's argument. -/
def dyc (r : ℤ) (l : Fin 1024) : ℝ :=
  rc A r * (wt A r l - yh A r l * ((∑ l', wt A r l' * yh A r l') / 1024))

/-- The cotangent of the convolution, zero outside the array. -/
def dcv (r : ℤ) (l : Fin 1024) : ℝ := if inn r then dyc A r l * A.b r l else 0

/-- The cotangent of the gated input. -/
def dt (r : ℤ) (l : Fin 1024) : ℝ :=
  A.w 0 l * dcv A (r + 1) l + A.w 1 l * dcv A r l + A.w 2 l * dcv A (r - 1) l

/-- The four results side by side: the cotangents of `u`, `b`, `c` and `z`. -/
def dU (r : ℤ) (l : Fin 1024) : ℝ := dt A r l * A.c r l
def dB (r : ℤ) (l : Fin 1024) : ℝ := dyc A r l * cv A r l
def dC (r : ℤ) (l : Fin 1024) : ℝ := dt A r l * A.u r l
def dZ (r : ℤ) (l : Fin 1024) : ℝ := A.d r l * yh A r l * A.g l * dsz A r l

/-- What one row adds to the cotangents of the gain (0), the bias (1) and the three taps (2, 3, 4); nothing to 5, 6 and 7. -/
def part (j : Fin 8) (r : ℤ) (l : Fin 1024) : ℝ :=
  if j = 0 then A.d r l * yh A r l * sz A r l
  else if j = 1 then dcv A r l
  else if j = 2 then dcv A r l * tt A (r - 1) l
  else if j = 3 then dcv A r l * tt A r l
  else if j = 4 then dcv A r l * tt A (r + 1) l
  else 0

/-- The cotangent of the norm's argument as the derivative of the norm is written down: the derivative of `v ^ (-1/2)` is
    `-1/2` times `v ^ (-1/2) / v`, and the square contributes its two factors one after the other. -/
theorem dyc_eq (r : ℤ) (l : Fin 1024) :
    dyc A r l = wt A r l * rc A r
      + yc A r l * ((∑ l', yc A r l' * wt A r l') * (-(1 / 2) * (rc A r / var A r)) / 1024)
      + (∑ l', yc A r l' * wt A r l') * (-(1 / 2) * (rc A r / var A r)) / 1024 * yc A r l := by
  have hv := var_pos A r
  have hq : rc A r / var A r = rc A r * rc A r * rc A r := by
    have h1 : rc A r * rc A r = (var A r)⁻¹ := by
      unfold rc; rw [← mul_inv, Real.mul_self_sqrt hv.le]
    rw [h1, div_eq_mul_inv, mul_comm]
  have hs : (∑ l', wt A r l' * yh A r l') = (∑ l', yc A r l' * wt A r l') * rc A r := by
    rw [Finset.sum_mul]; exact Finset.sum_congr rfl fun l' _ => by unfold yh; ring
  unfold dyc
  rw [hs, hq]
  unfold yh
  ring

end Cert.Conv

end
-- ==== Proof.Lift.lean ====
/- The operations of the extended reals at real numbers: each gives the real operation's value. -/
module

public import Idealize.ShloMosaic.Lib.Pointwise

@[expose] public section

noncomputable section

namespace Cert.Lift

open Idealize.ShloMosaic

/-- A sum of real numbers, taken in the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient by a number other than zero. -/
theorem div_coe (a b : ℝ) (hb : b ≠ 0) : Ideal.div (a : EReal) (b : EReal) = ((a / b : ℝ) : EReal) := by
  rw [Ideal.div_coe hb, ← EReal.coe_mul, mul_one_div]

/-- The reciprocal square root of a positive number. -/
theorem rsqrt_coe (a : ℝ) (ha : 0 < a) : Ideal.rsqrt (a : EReal) = (((Real.sqrt a)⁻¹ : ℝ) : EReal) := by
  rw [Ideal.rsqrt_coe, if_neg ha.not_gt, if_neg ha.ne']

/-- The exponential. -/
theorem exp_coe (a : ℝ) : Ideal.exp (a : EReal) = ((Real.exp a : ℝ) : EReal) := by
  exact Ideal.exp_coe a

/-- The logistic function. -/
theorem logistic_coe (a : ℝ) : Ideal.logistic (a : EReal) = ((1 / (1 + Real.exp (-a)) : ℝ) : EReal) := by
  unfold Ideal.logistic
  rw [← EReal.coe_neg, exp_coe]
  have h : (1 : ℝ) + Real.exp (-a) ≠ 0 := by positivity
  have := div_coe 1 (1 + Real.exp (-a)) h
  rw [← this]; norm_cast

/-- A number smaller than `⊤` in absolute value is a real number. -/
theorem coe_toReal_of_abs_lt {a : EReal} (h : max a (-a) < ⊤) : ((a.toReal : ℝ) : EReal) = a := by
  refine EReal.coe_toReal ?_ ?_
  · rintro rfl; simp at h
  · rintro rfl; simp at h

/-- The literals of the two programs. -/
theorem lit_1024 : Ideal.ofBits .f32 1149239296#32 = ((1024 : ℝ) : EReal) := by
  simp [Ideal.ofBits, Ideal.ieee, -EReal.coe_mul]; norm_num

theorem lit_eps : Ideal.ofBits .f32 897988541#32 = ((8796093 / 8796093022208 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- A quotient by 1024. -/
theorem div_1024 (a : ℝ) : Ideal.div (a : EReal) (Ideal.ofBits .f32 1149239296#32) = ((a / 1024 : ℝ) : EReal) := by
  rw [lit_1024, div_coe _ _ (by norm_num)]

end Cert.Lift

end
-- ==== Proof.ConvBody.lean ====
/- What the gradient's kernel computes of one block of rows, read at an element: each named value of the body, at a row of the extended
   block (8 rows before it, its 256 rows, 8 rows after it), is the formula of the model at that row of the whole array. -/
module

public import proofs.«01_k».proof.Proof.Gen.KernelIdeal.Skeleton
public import proofs.«01_k».proof.Proof.ConvModel
public import proofs.«01_k».proof.Proof.Lift

@[expose] public section

set_option maxRecDepth 16384

noncomputable section

namespace Cert.Conv

open Cert.KernelIdeal Cert.KernelIdeal.Gen Idealize.ShloMosaic Cert.Lift

/-- The row of the array that row `q` of block `t`'s extended block stands for. -/
abbrev R (t : ℕ) (q : ℕ) : ℤ := 256 * (t : ℤ) + (q : ℤ) - 8

/-- What the body is given of block `t`: the extended blocks hold the model's rows wherever the row lies in the array. -/
structure Ext (A : Arr) (t : ℕ) (v9 : IVec S272x1 1) (v13 v17 v21 v25 v29 : FVec Ideal S272x1024 .f32)
    (v30 : Vec Ideal S8x1024 .f32) (v50 v72 : Vec Ideal S1x1024 .f32) : Prop where
  mask : ∀ q : Fin 272, v9 (ix2 q 0) = BitVec.ofBool (decide (inn (R t q)))
  u : ∀ (q : Fin 272) l, inn (R t q) → v13 (ix2 q l) = ((A.u (R t q) l : ℝ) : EReal)
  b : ∀ (q : Fin 272) l, inn (R t q) → v17 (ix2 q l) = ((A.b (R t q) l : ℝ) : EReal)
  c : ∀ (q : Fin 272) l, inn (R t q) → v21 (ix2 q l) = ((A.c (R t q) l : ℝ) : EReal)
  z : ∀ (q : Fin 272) l, inn (R t q) → v25 (ix2 q l) = ((A.z (R t q) l : ℝ) : EReal)
  d : ∀ (q : Fin 272) l, inn (R t q) → v29 (ix2 q l) = ((A.d (R t q) l : ℝ) : EReal)
  w0 : ∀ l, v30 (ix2 0 l) = ((A.w 0 l : ℝ) : EReal)
  w1 : ∀ l, v30 (ix2 1 l) = ((A.w 1 l : ℝ) : EReal)
  w2 : ∀ l, v30 (ix2 2 l) = ((A.w 2 l : ℝ) : EReal)
  k : ∀ l, v50 (ix2 0 l) = ((A.k l : ℝ) : EReal)
  g : ∀ l, v72 (ix2 0 l) = ((A.g l : ℝ) : EReal)

variable {A : Arr} {t : ℕ} {v9 : IVec S272x1 1} {v13 v17 v21 v25 v29 : FVec Ideal S272x1024 .f32}
  {v30 : Vec Ideal S8x1024 .f32} {v50 v72 : Vec Ideal S1x1024 .f32}

theorem sel_ofBool {α : Type} (p : Prop) [Decidable p] (x y : α) :
    Scalar.select (BitVec.ofBool (decide p)) x y = if p then x else y := by
  by_cases h : p <;> simp [Scalar.select, h]

theorem t_at (H : Ext A t v9 v13 v17 v21 v25 v29 v30 v50 v72) (q : Fin 272) (l : Fin 1024) :
    k0_pay10 v9 v13 v21 (ix2 q l) = ((tt A (R t q) l : ℝ) : EReal) := by
  pointwise [k0_pay10]
  rw [H.mask, sel_ofBool]
  unfold tt
  split
  · rename_i h; rw [H.c q l h, H.u q l h, EReal.coe_mul]
  · simp

theorem R_before (q : ℕ) (h : 1 ≤ q) (h' : q < 272) : R t ((q + 272 - 1) % 272) = R t q - 1 := by
  have : (q + 272 - 1) % 272 = q - 1 := by omega
  rw [this]; unfold R; omega

theorem R_after (q : ℕ) (h : q ≤ 270) : R t ((q + 272 - 271) % 272) = R t q + 1 := by
  have : (q + 272 - 271) % 272 = q + 1 := by omega
  rw [this]; unfold R; omega

theorem before_at (H : Ext A t v9 v13 v17 v21 v25 v29 v30 v50 v72) (q : Fin 272) (l : Fin 1024) (hq : 1 ≤ q.val) :
    k0_pay11 v9 v13 v21 (ix2 q l) = ((tt A (R t q - 1) l : ℝ) : EReal) := by
  pointwise [k0_pay11]
  rw [t_at H, ← R_before q.val hq q.isLt]

theorem after_at (H : Ext A t v9 v13 v17 v21 v25 v29 v30 v50 v72) (q : Fin 272) (l : Fin 1024) (hq : q.val ≤ 270) :
    k0_pay12 v9 v13 v21 (ix2 q l) = ((tt A (R t q + 1) l : ℝ) : EReal) := by
  pointwise [k0_pay12]
  rw [t_at H, ← R_after q.val hq]

theorem cv_at (H : Ext A t v9 v13 v17 v21 v25 v29 v30 v50 v72) (q : Fin 272) (l : Fin 1024) (h1 : 1 ≤ q.val) (h2 : q.val ≤ 270) :
    k0_pay13 v9 v13 v21 v30 v50 (ix2 q l) = ((cv A (R t q) l : ℝ) : EReal) := by
  pointwise [k0_pay13, k0_pay9]
  rw [before_at H q l h1, t_at H, after_at H q l h2, H.k, H.w0, H.w1, H.w2]
  simp only [cv, EReal.coe_add, EReal.coe_mul]

theorem yc_at (H : Ext A t v9 v13 v17 v21 v25 v29 v30 v50 v72) (q : Fin 272) (l : Fin 1024) (h1 : 1 ≤ q.val) (h2 : q.val ≤ 270)
    (h : inn (R t q)) : k0_pay14 v9 v13 v17 v21 v30 v50 (ix2 q l) = ((yc A (R t q) l : ℝ) : EReal) := by
  pointwise [k0_pay14]
  rw [cv_at H q l h1 h2, H.b q l h, yc, EReal.coe_mul]

theorem rc_at (H : Ext A t v9 v13 v17 v21 v25 v29 v30 v50 v72) (q : Fin 272) (h1 : 1 ≤ q.val) (h2 : q.val ≤ 270)
    (h : inn (R t q)) : k0_pay15 v9 v13 v17 v21 v30 v50 (ix2 q 0) = ((rc A (R t q) : ℝ) : EReal) := by
  pointwise [k0_pay15]
  simp only [yc_at H q _ h1 h2 h, ← EReal.coe_mul, sum_coe, div_1024, lit_eps, ← EReal.coe_add]
  exact rsqrt_coe _ (var_pos A _)

theorem yh_at (H : Ext A t v9 v13 v17 v21 v25 v29 v30 v50 v72) (q : Fin 272) (l : Fin 1024) (h1 : 1 ≤ q.val) (h2 : q.val ≤ 270)
    (h : inn (R t q)) : k0_pay16 v9 v13 v17 v21 v30 v50 (ix2 q l) = ((yh A (R t q) l : ℝ) : EReal) := by
  pointwise [k0_pay16]
  rw [yc_at H q l h1 h2 h, rc_at H q h1 h2 h, yh, EReal.coe_mul]

theorem sz_at (H : Ext A t v9 v13 v17 v21 v25 v29 v30 v50 v72) (q : Fin 272) (l : Fin 1024)
    (h : inn (R t q)) : k0_pay18 v25 (ix2 q l) = ((sz A (R t q) l : ℝ) : EReal) := by
  pointwise [k0_pay18, k0_pay17]
  rw [H.z q l h, logistic_coe, ← EReal.coe_mul]; rfl

theorem dsz_at (H : Ext A t v9 v13 v17 v21 v25 v29 v30 v50 v72) (q : Fin 272) (l : Fin 1024)
    (h : inn (R t q)) : k0_pay19 v25 (ix2 q l) = ((dsz A (R t q) l : ℝ) : EReal) := by
  pointwise [k0_pay19, k0_pay17]
  rw [H.z q l h, logistic_coe, ← EReal.coe_one, ← EReal.coe_sub, ← EReal.coe_mul, ← EReal.coe_add, ← EReal.coe_mul]; rfl

/-- What the second half of the body takes from the first: the factor of the norm, the scaled rows and the silu. -/
structure Mid (A : Arr) (t : ℕ) (v61 : FVec Ideal S272x1 .f32) (v63 v65 : FVec Ideal S272x1024 .f32) : Prop where
  rc : ∀ q : Fin 272, 1 ≤ q.val → q.val ≤ 270 → inn (R t q) → v61 (ix2 q 0) = ((rc A (R t q) : ℝ) : EReal)
  yh : ∀ (q : Fin 272) l, 1 ≤ q.val → q.val ≤ 270 → inn (R t q) → v63 (ix2 q l) = ((yh A (R t q) l : ℝ) : EReal)
  sz : ∀ (q : Fin 272) l, inn (R t q) → v65 (ix2 q l) = ((sz A (R t q) l : ℝ) : EReal)

theorem mid (H : Ext A t v9 v13 v17 v21 v25 v29 v30 v50 v72) :
    Mid A t (k0_pay15 v9 v13 v17 v21 v30 v50) (k0_pay16 v9 v13 v17 v21 v30 v50) (k0_pay18 v25) :=
  ⟨fun q h1 h2 h => rc_at H q h1 h2 h, fun q l h1 h2 h => yh_at H q l h1 h2 h, fun q l h => sz_at H q l h⟩

variable {v61 : FVec Ideal S272x1 .f32} {v63 v65 : FVec Ideal S272x1024 .f32}

theorem dyc_at (H : Ext A t v9 v13 v17 v21 v25 v29 v30 v50 v72) (M : Mid A t v61 v63 v65) (q : Fin 272) (l : Fin 1024)
    (h1 : 1 ≤ q.val) (h2 : q.val ≤ 270) (h : inn (R t q)) :
    k0_pay20 v29 v61 v63 v65 v72 (ix2 q l) = ((dyc A (R t q) l : ℝ) : EReal) := by
  pointwise [k0_pay20]
  simp only [H.d q _ h, H.g, M.sz q _ h, M.yh q _ h1 h2 h, M.rc q h1 h2 h,
    ← EReal.coe_mul, sum_coe, div_1024, ← EReal.coe_sub]
  rfl

theorem dcv_at (H : Ext A t v9 v13 v17 v21 v25 v29 v30 v50 v72) (M : Mid A t v61 v63 v65) (q : Fin 272) (l : Fin 1024)
    (h1 : 1 ≤ q.val) (h2 : q.val ≤ 270) :
    k0_pay21 v9 v17 v29 v61 v63 v65 v72 (ix2 q l) = ((dcv A (R t q) l : ℝ) : EReal) := by
  pointwise [k0_pay21]
  rw [H.mask, sel_ofBool]
  unfold dcv
  split
  · rename_i h; rw [dyc_at H M q l h1 h2 h, H.b q l h, EReal.coe_mul]
  · simp

theorem dt_at (H : Ext A t v9 v13 v17 v21 v25 v29 v30 v50 v72) (M : Mid A t v61 v63 v65) (q : Fin 272) (l : Fin 1024)
    (h1 : 2 ≤ q.val) (h2 : q.val ≤ 269) :
    k0_pay22 v9 v17 v29 (k0_pay9 v30) v61 v63 v65 v72 (ix2 q l) = ((dt A (R t q) l : ℝ) : EReal) := by
  pointwise [k0_pay22, k0_pay9]
  rw [dcv_at H M _ l (by show 1 ≤ (q.val + 272 - 271) % 272; omega) (by show (q.val + 272 - 271) % 272 ≤ 270; omega),
    dcv_at H M q l (by omega) (by omega),
    dcv_at H M _ l (by show 1 ≤ (q.val + 272 - 1) % 272; omega) (by show (q.val + 272 - 1) % 272 ≤ 270; omega),
    R_after q.val (by omega), R_before q.val (by omega) q.isLt, H.w0, H.w1, H.w2]
  simp only [dt, EReal.coe_add, EReal.coe_mul]

/-! The block of the first result: four pieces side by side. Row `p` of the block is row `p + 8` of the extended block and row
`256 t + p` of the array. -/

theorem R_mid (p : ℕ) : R t (8 + p) = 256 * (t : ℤ) + (p : ℤ) := by unfold R; omega

theorem inn_mid (ht : t < 8) (p : Fin 256) : inn (R t (8 + p.val)) := by
  have := p.isLt
  rw [R_mid]; unfold inn; omega

theorem pieceU (H : Ext A t v9 v13 v17 v21 v25 v29 v30 v50 v72) (M : Mid A t v61 v63 v65) (ht : t < 8) (p : Fin 256) (l : Fin 1024) :
    k0_pay23 v9 v17 v21 v29 (k0_pay9 v30) v61 v63 v65 v72 (ix2 p l) = ((dU A (256 * (t : ℤ) + (p.val : ℤ)) l : ℝ) : EReal) := by
  pointwise [k0_pay23]
  rw [dt_at H M _ l (by show 2 ≤ 8 + p.val; omega) (by show 8 + p.val ≤ 269; omega), H.c _ l (inn_mid ht p), ← EReal.coe_mul]
  simp only [R_mid]; rfl

theorem pieceB (H : Ext A t v9 v13 v17 v21 v25 v29 v30 v50 v72) (M : Mid A t v61 v63 v65) (ht : t < 8) (p : Fin 256) (l : Fin 1024) :
    k0_pay24 v29 (k0_pay13 v9 v13 v21 v30 v50) v61 v63 v65 v72 (ix2 p l) = ((dB A (256 * (t : ℤ) + (p.val : ℤ)) l : ℝ) : EReal) := by
  pointwise [k0_pay24]
  rw [dyc_at H M _ l (by show 1 ≤ 8 + p.val; omega) (by show 8 + p.val ≤ 270; omega) (inn_mid ht p),
    cv_at H _ l (by show 1 ≤ 8 + p.val; omega) (by show 8 + p.val ≤ 270; omega), ← EReal.coe_mul]
  simp only [R_mid]; rfl

theorem pieceC (H : Ext A t v9 v13 v17 v21 v25 v29 v30 v50 v72) (M : Mid A t v61 v63 v65) (ht : t < 8) (p : Fin 256) (l : Fin 1024) :
    k0_pay25 v9 v13 v17 v29 (k0_pay9 v30) v61 v63 v65 v72 (ix2 p l) = ((dC A (256 * (t : ℤ) + (p.val : ℤ)) l : ℝ) : EReal) := by
  pointwise [k0_pay25]
  rw [dt_at H M _ l (by show 2 ≤ 8 + p.val; omega) (by show 8 + p.val ≤ 269; omega), H.u _ l (inn_mid ht p), ← EReal.coe_mul]
  simp only [R_mid]; rfl

theorem pieceZ (H : Ext A t v9 v13 v17 v21 v25 v29 v30 v50 v72) (M : Mid A t v61 v63 v65) (ht : t < 8) (p : Fin 256) (l : Fin 1024) :
    k0_pay27 (k0_pay19 v25) (k0_pay26 v29 v63) v72 (ix2 p l) = ((dZ A (256 * (t : ℤ) + (p.val : ℤ)) l : ℝ) : EReal) := by
  pointwise [k0_pay27, k0_pay26]
  rw [H.d _ l (inn_mid ht p), M.yh _ l (by show 1 ≤ 8 + p.val; omega) (by show 8 + p.val ≤ 270; omega) (inn_mid ht p),
    dsz_at H _ l (inn_mid ht p), H.g, ← EReal.coe_mul, ← EReal.coe_mul, ← EReal.coe_mul]
  simp only [R_mid]; rfl

/-- What one block adds to row `j` of the second result. -/
def blockPart (A : Arr) (t : ℕ) (j : Fin 8) (l : Fin 1024) : ℝ := ∑ p : Fin 256, part A j (256 * (t : ℤ) + (p.val : ℤ)) l

theorem update_at (H : Ext A t v9 v13 v17 v21 v25 v29 v30 v50 v72) (M : Mid A t v61 v63 v65) (ht : t < 8) (j : Fin 8) (l : Fin 1024) :
    k0_pay1 (k0_pay28 (k0_pay10 v9 v13 v21) (k0_pay21 v9 v17 v29 v61 v63 v65 v72))
      (k0_pay29 (k0_pay12 v9 v13 v21) (k0_pay21 v9 v17 v29 v61 v63 v65 v72)) (iota .tc S8x1024 32 [0] iota_S8x1024_d0_w32)
      (k0_pay30 v29 (k0_pay11 v9 v13 v21) v63 v65 (k0_pay21 v9 v17 v29 v61 v63 v65 v72)) k0_pay31 (ix2 j l)
      = ((blockPart A t j l : ℝ) : EReal) := by
  pointwise [k0_pay1, k0_pay28, k0_pay29, k0_pay30, k0_pay31]
  have e : ∀ x : Fin 256, (⟨8 + x.val, by omega⟩ : Fin 272).val = 8 + x.val := fun _ => rfl
  have n1 : ∀ x : Fin 256, 1 ≤ (⟨8 + x.val, by omega⟩ : Fin 272).val := fun x => by rw [e]; omega
  have n2 : ∀ x : Fin 256, (⟨8 + x.val, by omega⟩ : Fin 272).val ≤ 270 := fun x => by rw [e]; omega
  have hd : ∀ x : Fin 256, v29 (ix2 ⟨8 + x.val, by omega⟩ l) = _ := fun x => H.d _ l (inn_mid ht x)
  have hs : ∀ x : Fin 256, v65 (ix2 ⟨8 + x.val, by omega⟩ l) = _ := fun x => M.sz _ l (inn_mid ht x)
  simp only [dcv_at H M _ l (n1 _) (n2 _), t_at H, before_at H _ l (n1 _), after_at H _ l (n2 _), hd,
    M.yh _ l (n1 _) (n2 _) (inn_mid ht _), hs, ← EReal.coe_mul, sum_coe, R_mid]
  rw [← EReal.coe_zero]
  fin_cases j <;> simp [blockPart, part, Scalar.select, IntOp.cmpi]

end Cert.Conv

end
-- ==== Proof.ConvRef.lean ====
/- What the reference computes, read at an element: each value of the derivative is the formula of the model at that row and lane. -/
module

public import proofs.«01_k».proof.Proof.Gen.ReferenceIdeal.Read
public import proofs.«01_k».proof.Proof.ConvModel
public import proofs.«01_k».proof.Proof.Lift

@[expose] public section

set_option maxRecDepth 16384

noncomputable section

namespace Cert.Conv

open Cert.ReferenceIdeal Cert.ReferenceIdeal.Read Idealize.ShloMosaic Cert.Lift

/-- The arguments hold the numbers of the model. -/
structure Known (A : Arr) (x0 : Vec Ideal S2048x8192 .f32) (x1 : Vec Ideal S2048x2048 .f32) (x2 : Vec Ideal S3x1024 .f32)
    (x3 x4 : Vec Ideal S1x1024 .f32) : Prop where
  u : ∀ (r : Fin 2048) (l : Fin 1024), x0 (ix2 r ⟨l.val, by omega⟩) = ((A.u r.val l : ℝ) : EReal)
  b : ∀ (r : Fin 2048) (l : Fin 1024), x0 (ix2 r ⟨1024 + l.val, by omega⟩) = ((A.b r.val l : ℝ) : EReal)
  c : ∀ (r : Fin 2048) (l : Fin 1024), x0 (ix2 r ⟨2048 + l.val, by omega⟩) = ((A.c r.val l : ℝ) : EReal)
  z : ∀ (r : Fin 2048) (l : Fin 1024), x0 (ix2 r ⟨3072 + l.val, by omega⟩) = ((A.z r.val l : ℝ) : EReal)
  d : ∀ (r : Fin 2048) (l : Fin 1024), x1 (ix2 r ⟨l.val, by omega⟩) = ((A.d r.val l : ℝ) : EReal)
  w : ∀ (j : Fin 3) (l : Fin 1024), x2 (ix2 j l) = ((A.w j l : ℝ) : EReal)
  k : ∀ l : Fin 1024, x3 (ix2 0 l) = ((A.k l : ℝ) : EReal)
  g : ∀ l : Fin 1024, x4 (ix2 0 l) = ((A.g l : ℝ) : EReal)

variable {A : Arr} {x0 : Vec Ideal S2048x8192 .f32} {x1 : Vec Ideal S2048x2048 .f32} {x2 : Vec Ideal S3x1024 .f32}
  {x3 x4 : Vec Ideal S1x1024 .f32} (H : Known A x0 x1 x2 x3 x4) (r : Fin 2048) (l : Fin 1024)
include H

theorem ref_u : val_main_v1 (F := Ideal) x0 (ix2 r l) = ((A.u r.val l : ℝ) : EReal) := by
  pointwise [val_main_v1, val_main_v0]; exact H.u r l
theorem ref_b : val_main_v2 (F := Ideal) x0 (ix2 r l) = ((A.b r.val l : ℝ) : EReal) := by
  pointwise [val_main_v2, val_main_v0]; exact H.b r l
theorem ref_c : val_main_v3 (F := Ideal) x0 (ix2 r l) = ((A.c r.val l : ℝ) : EReal) := by
  pointwise [val_main_v3, val_main_v0]; exact H.c r l
theorem ref_z : val_main_v4 (F := Ideal) x0 (ix2 r l) = ((A.z r.val l : ℝ) : EReal) := by
  pointwise [val_main_v4, val_main_v0]; exact H.z r l
theorem ref_d : val_main_v5 (F := Ideal) x1 (ix2 r l) = ((A.d r.val l : ℝ) : EReal) := by
  pointwise [val_main_v5]; exact H.d r l

omit H in
theorem inn_row : inn ((r.val : ℕ) : ℤ) := by have := r.isLt; unfold inn; omega

omit H in
theorem tt_out (s : ℤ) (h : ¬ inn s) : tt A s l = 0 := if_neg h
omit H in
theorem dcv_out (s : ℤ) (h : ¬ inn s) : dcv A s l = 0 := if_neg h

theorem ref_t : val_main_v6 (F := Ideal) x0 (ix2 r l) = ((tt A r.val l : ℝ) : EReal) := by
  pointwise [val_main_v6]
  rw [ref_c H, ref_u H, tt, if_pos (inn_row r), EReal.coe_mul]

theorem ref_before : val_main_v9 (F := Ideal) x0 (ix2 r l) = ((tt A (r.val - 1) l : ℝ) : EReal) := by
  pointwise [val_main_v9, val_main_v8, val_main_v7, val_main_cst]
  split
  · rw [tt_out l _ (by unfold inn; omega), EReal.coe_zero]
  · rw [ref_t H]; congr 2; show ((r.val - 1 : ℕ) : ℤ) = _; omega

theorem ref_after : val_main_v12 (F := Ideal) x0 (ix2 r l) = ((tt A (r.val + 1) l : ℝ) : EReal) := by
  pointwise [val_main_v12, val_main_v11, val_main_v10, val_main_cst_0, val_main_v7, val_main_cst]
  split
  · rw [ref_t H]; congr 2; show ((1 + r.val : ℕ) : ℤ) = _; omega
  · rw [tt_out l _ (by unfold inn; omega), EReal.coe_zero]

theorem ref_cv : val_main_v32 (F := Ideal) x0 x2 x3 (ix2 r l) = ((cv A r.val l : ℝ) : EReal) := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14]
  rw [ref_before H, ref_after H, ref_t H, H.k, H.w, H.w, H.w]
  simp only [cv, EReal.coe_add, EReal.coe_mul]

theorem ref_yc : val_main_v33 (F := Ideal) x0 x2 x3 (ix2 r l) = ((yc A r.val l : ℝ) : EReal) := by
  pointwise [val_main_v33]
  rw [ref_cv H, ref_b H, yc, EReal.coe_mul]

theorem ref_var : val_main_v40 (F := Ideal) x0 x2 x3 (ix2 r 0) = ((var A r.val : ℝ) : EReal) := by
  pointwise [val_main_v40, val_main_v39, val_main_v38, val_main_v37, val_main_v36, val_main_v35, val_main_v34, val_main_cst_2, val_main_cst_3,
    val_main_cst_4]
  simp only [ref_yc H, ← EReal.coe_mul, sum_coe, div_1024, lit_eps, ← EReal.coe_add]
  rfl

theorem ref_rc : val_main_v41 (F := Ideal) x0 x2 x3 (ix2 r 0) = ((rc A r.val : ℝ) : EReal) := by
  pointwise [val_main_v41]
  rw [ref_var H]; exact rsqrt_coe _ (var_pos A _)

theorem ref_rv : val_main_v44 (F := Ideal) x0 x2 x3 (ix2 r 0) = ((-(1 / 2) * (rc A r.val / var A r.val) : ℝ) : EReal) := by
  pointwise [val_main_v44, val_main_v43, val_main_v42, val_main_cst_5]
  rw [ref_var H, ref_rc H, div_coe _ _ (var_pos A _).ne', lit_neg_half, ← EReal.coe_mul]

theorem ref_yh : val_main_v46 (F := Ideal) x0 x2 x3 (ix2 r l) = ((yh A r.val l : ℝ) : EReal) := by
  pointwise [val_main_v46, val_main_v45]
  rw [ref_yc H, ref_rc H, yh, EReal.coe_mul]

theorem ref_yg : val_main_v48 (F := Ideal) x0 x2 x3 x4 (ix2 r l) = ((yh A r.val l * A.g l : ℝ) : EReal) := by
  pointwise [val_main_v48, val_main_v47]
  rw [ref_yh H, H.g, EReal.coe_mul]

theorem ref_sg : val_main_v49_2 (F := Ideal) x0 (ix2 r l) = ((sg (A.z r.val l) : ℝ) : EReal) := by
  pointwise [val_main_v49_2, val_main_call0_v4, val_main_call0_v3, val_main_call0_v2, val_main_call0_v1, val_main_call0_v0, val_main_call0_cst,
    val_main_call0_cst_0]
  rw [ref_z H]
  exact logistic_coe _

theorem ref_sz : val_main_v49_0 (F := Ideal) x0 (ix2 r l) = ((sz A r.val l : ℝ) : EReal) := by
  pointwise [val_main_v49_0]
  rw [ref_z H, ref_sg H, ← EReal.coe_mul]; rfl

theorem ref_slope : val_main_v49_1 (F := Ideal) x0 (ix2 r l) = ((sg (A.z r.val l) * (1 - sg (A.z r.val l)) : ℝ) : EReal) := by
  pointwise [val_main_v49_1, val_main_call0_v7, val_main_call0_v6, val_main_call0_cst_1]
  rw [ref_sg H, ← EReal.coe_one, ← EReal.coe_sub, ← EReal.coe_mul]

theorem ref_dZ : val_main_v53 (F := Ideal) x0 x1 x2 x3 x4 (ix2 r l) = ((dZ A r.val l : ℝ) : EReal) := by
  pointwise [val_main_v53, val_main_call1_v2, val_main_call1_v1, val_main_call1_v0, val_main_v51]
  rw [ref_z H, ref_sg H, ref_slope H, ref_yg H, ref_d H]
  simp only [← EReal.coe_mul, ← EReal.coe_add]
  congr 1; unfold dZ dsz; ring

theorem ref_ds : val_main_v52 (F := Ideal) x0 x1 (ix2 r l) = ((A.d r.val l * sz A r.val l : ℝ) : EReal) := by
  pointwise [val_main_v52]
  rw [ref_d H, ref_sz H, EReal.coe_mul]

theorem ref_wt : val_main_v58 (F := Ideal) x0 x1 x4 (ix2 r l) = ((wt A r.val l : ℝ) : EReal) := by
  pointwise [val_main_v58, val_main_v57]
  rw [ref_ds H, H.g, ← EReal.coe_mul]; congr 1; unfold wt; ring

theorem ref_row : val_main_v68 (F := Ideal) x0 x1 x2 x3 x4 (ix2 r l)
    = (((∑ l', yc A r.val l' * wt A r.val l') * (-(1 / 2) * (rc A r.val / var A r.val)) / 1024 : ℝ) : EReal) := by
  pointwise [val_main_v68, val_main_v67, val_main_v66, val_main_v65, val_main_v64, val_main_v61, val_main_v60, val_main_v59, val_main_cst_7,
    val_main_cst_8, val_main_cst_9]
  simp only [Fin.sum_univ_one, ref_rv H, ref_yc H, ref_wt H, ← EReal.coe_mul, sum_coe, div_1024]

theorem ref_dyc : val_main_v72 (F := Ideal) x0 x1 x2 x3 x4 (ix2 r l) = ((dyc A r.val l : ℝ) : EReal) := by
  pointwise [val_main_v72, val_main_v71, val_main_v70, val_main_v69, val_main_v63, val_main_v62]
  rw [ref_wt H, ref_rc H, ref_yc H, ref_row H, dyc_eq]
  simp only [← EReal.coe_mul, ← EReal.coe_add]

theorem ref_dcv : val_main_v73 (F := Ideal) x0 x1 x2 x3 x4 (ix2 r l) = ((dcv A r.val l : ℝ) : EReal) := by
  pointwise [val_main_v73]
  rw [ref_b H, ref_dyc H, dcv, if_pos (inn_row r), ← EReal.coe_mul, mul_comm]

theorem ref_dB : val_main_v74 (F := Ideal) x0 x1 x2 x3 x4 (ix2 r l) = ((dB A r.val l : ℝ) : EReal) := by
  pointwise [val_main_v74]
  rw [ref_dyc H, ref_cv H, ← EReal.coe_mul]; rfl

theorem ref_dt : val_main_v110 (F := Ideal) x0 x1 x2 x3 x4 (ix2 r l) = ((dt A r.val l : ℝ) : EReal) := by
  pointwise [val_main_v110, val_main_v109, val_main_v108, val_main_v106, val_main_v105, val_main_v103, val_main_v95, val_main_v94, val_main_v86,
    val_main_v85, val_main_v78, val_main_v77, val_main_v27, val_main_v26, val_main_v25, val_main_v21, val_main_v20, val_main_v19, val_main_v16,
    val_main_v15, val_main_v14, val_main_cst_20, val_main_cst_21]
  rw [ref_dcv H, H.w]
  have e1 : (if h : 1 ≤ r.val ∧ r.val - 1 < 2047 then
        x2 (ix2 2 l) * val_main_v73 (F := Ideal) x0 x1 x2 x3 x4 (ix2 ⟨r.val - 1, by omega⟩ l) else 0)
      = ((A.w 2 l * dcv A (r.val - 1) l : ℝ) : EReal) := by
    split
    · rename_i h
      rw [ref_dcv H, H.w, ← EReal.coe_mul]
      have : ((r.val - 1 : ℕ) : ℤ) = (r.val : ℤ) - 1 := by omega
      simp only [this]
    · rw [dcv_out l _ (by unfold inn; omega), mul_zero, EReal.coe_zero]
  have e2 : (if h : r.val < 2047 then
        x2 (ix2 0 l) * val_main_v73 (F := Ideal) x0 x1 x2 x3 x4 (ix2 ⟨1 + r.val, by omega⟩ l) else 0)
      = ((A.w 0 l * dcv A (r.val + 1) l : ℝ) : EReal) := by
    split
    · rename_i h
      rw [ref_dcv H, H.w, ← EReal.coe_mul]
      have : ((1 + r.val : ℕ) : ℤ) = (r.val : ℤ) + 1 := by omega
      simp only [this]
    · rw [dcv_out l _ (by unfold inn; omega), mul_zero, EReal.coe_zero]
  rw [e1, e2, ← EReal.coe_mul, ← EReal.coe_add, ← EReal.coe_add]
  congr 1; unfold dt; ring

theorem ref_dU : val_main_v111 (F := Ideal) x0 x1 x2 x3 x4 (ix2 r l) = ((dU A r.val l : ℝ) : EReal) := by
  pointwise [val_main_v111]
  rw [ref_dt H, ref_c H, ← EReal.coe_mul, mul_comm]; rfl

theorem ref_dC : val_main_v112 (F := Ideal) x0 x1 x2 x3 x4 (ix2 r l) = ((dC A r.val l : ℝ) : EReal) := by
  pointwise [val_main_v112]
  rw [ref_dt H, ref_u H, ← EReal.coe_mul]; rfl

theorem ref_sums (j : Fin 8) : val_main_v116 (F := Ideal) x0 x1 x2 x3 x4 (ix2 j l) = ((∑ r : Fin 2048, part A j r.val l : ℝ) : EReal) := by
  pointwise [val_main_v116, val_main_v115, val_main_v102, val_main_v101, val_main_v100, val_main_v99, val_main_v98, val_main_v97, val_main_v96,
    val_main_v93, val_main_v92, val_main_v91, val_main_v90, val_main_v89, val_main_v88, val_main_v87, val_main_v84, val_main_v83, val_main_v82,
    val_main_v81, val_main_v80, val_main_v79, val_main_v76, val_main_v75, val_main_v56, val_main_v55, val_main_v54, val_main_cst_6,
    val_main_cst_10, val_main_cst_11, val_main_cst_12, val_main_cst_13, val_main_cst_14, val_main_cst_15, val_main_cst_16, val_main_cst_17,
    val_main_cst_18, val_main_cst_19, val_main_cst_22]
  simp only [ref_yh H, ref_ds H, ref_dcv H, ref_after H, ref_before H, ref_t H, ← EReal.coe_mul, sum_coe, Fin.sum_univ_one]
  fin_cases j <;> simp [part, mul_assoc, mul_left_comm]

end Cert.Conv

end
-- ==== Proof.ConvBlocks.lean ====
/- What the gradient's kernel leaves in its two output arrays: the blocks it is given are the rows of the arguments, so each block of
   the first output and the accumulated second output are the model's formulas. -/
module

public import proofs.«01_k».proof.Proof.Gen.KernelIdeal.Value
public import proofs.«01_k».proof.Proof.ConvBody
public import proofs.«01_k».proof.Proof.ConvRef
public import Idealize.ShloMosaic.Lib.Pipeline.ValueKit

@[expose] public section

set_option maxRecDepth 16384

noncomputable section

namespace Cert.Conv

open Cert.KernelIdeal Cert.KernelIdeal.Gen Idealize.ShloMosaic Idealize.ShloMosaic.TcCoe Idealize.SL Cert.Lift

variable (m : (ℓ : Loc nD τ sig) → Buf (Elt Ideal) ℓ) (c : Dev nD) {A : Arr}

/-- The arguments that the program is started with hold the numbers of the model. -/
abbrev KnownAt (A : Arr) : Prop := Known A (m ((c : Thread nD τ).loc main_arg0)) (m ((c : Thread nD τ).loc main_arg1))
  (m ((c : Thread nD τ).loc main_arg2)) (m ((c : Thread nD τ).loc main_arg3)) (m ((c : Thread nD τ).loc main_arg4))

/-- The block before point `t`'s, its own and the one after it, as rows: an index per window. -/
theorem idx_a : ∀ t : Fin cfg0.N,
    (win0_0.index t 0 = t.val * 32 - 1 ∧ win0_0.index t 1 = 0) ∧ (win0_1.index t 0 = t.val ∧ win0_1.index t 1 = 0)
    ∧ (win0_2.index t 0 = min ((t.val + 1) * 32) 255 ∧ win0_2.index t 1 = 0)
    ∧ (win0_3.index t 0 = t.val * 32 - 1 ∧ win0_3.index t 1 = 1) ∧ (win0_4.index t 0 = t.val ∧ win0_4.index t 1 = 1)
    ∧ (win0_5.index t 0 = min ((t.val + 1) * 32) 255 ∧ win0_5.index t 1 = 1) := by decide +kernel
theorem idx_b : ∀ t : Fin cfg0.N,
    (win0_6.index t 0 = t.val * 32 - 1 ∧ win0_6.index t 1 = 2) ∧ (win0_7.index t 0 = t.val ∧ win0_7.index t 1 = 2)
    ∧ (win0_8.index t 0 = min ((t.val + 1) * 32) 255 ∧ win0_8.index t 1 = 2)
    ∧ (win0_9.index t 0 = t.val * 32 - 1 ∧ win0_9.index t 1 = 3) ∧ (win0_10.index t 0 = t.val ∧ win0_10.index t 1 = 3)
    ∧ (win0_11.index t 0 = min ((t.val + 1) * 32) 255 ∧ win0_11.index t 1 = 3) := by decide +kernel
theorem idx_c : ∀ t : Fin cfg0.N,
    (win0_12.index t 0 = t.val * 32 - 1 ∧ win0_12.index t 1 = 0) ∧ (win0_13.index t 0 = t.val ∧ win0_13.index t 1 = 0)
    ∧ (win0_14.index t 0 = min ((t.val + 1) * 32) 255 ∧ win0_14.index t 1 = 0)
    ∧ (win0_15.index t 0 = 0 ∧ win0_15.index t 1 = 0) ∧ (win0_16.index t 0 = 0 ∧ win0_16.index t 1 = 0)
    ∧ (win0_17.index t 0 = 0 ∧ win0_17.index t 1 = 0) ∧ (win0_18.index t 0 = t.val ∧ win0_18.index t 1 = 0) := by decide +kernel

theorem N8 (t : Fin cfg0.N) : t.val < 8 := t.isLt

theorem mask_num : ∀ t : Fin 8, ∀ q : Fin 272, IntOp.andi
      (IntOp.cmpi CmpIPredicate.sge
        (IntOp.addi (BitVec.ofNat 32 q.val) (Scalar.subi (Scalar.muli (BitVec.ofNat 32 t.val) 256#32) 8#32)) 0#32)
      (IntOp.cmpi CmpIPredicate.slt
        (IntOp.addi (BitVec.ofNat 32 q.val) (Scalar.subi (Scalar.muli (BitVec.ofNat 32 t.val) 256#32) 8#32)) 2048#32) =
    BitVec.ofBool (decide (inn (R t.val q.val))) := by
  unfold inn R
  decide +kernel

/-- The mask of point `t` holds where the extended row lies in the sequence. -/
theorem mask_at (t : Fin cfg0.N) (q : Fin 272) : k0_pay3 (grid0.coords t) (ix2 q 0) = BitVec.ofBool (decide (inn (R t.val q.val))) := by
  have hc : (grid0.coords t 0).val = t.val := by revert t; decide +kernel
  pointwise [k0_pay3]
  rw [hc]
  exact mask_num ⟨t.val, N8 t⟩ q

/-- A row of the sequence, counted from its start. -/
theorem row_nat {t q : ℕ} (h : inn (R t q)) : ∃ n : ℕ, n < 2048 ∧ n + 8 = t * 256 + q ∧ R t q = (n : ℤ) := by
  unfold inn R at h
  exact ⟨t * 256 + q - 8, by omega, by omega, by unfold R; omega⟩

section
variable {m c} (H : KnownAt m c A)
include H

theorem ext_u (t : Fin cfg0.N) (q : Fin 272) (l : Fin 1024) (h : inn (R t.val q.val)) :
    k0_pay4 (iblk m c 0 t) (iblk m c 1 t) (iblk m c 2 t) (ix2 q l) = ((A.u (R t.val q.val) l : ℝ) : EReal) := by
  have ht := N8 t
  obtain ⟨n, hn, e, eR⟩ := row_nat h
  rw [eR]
  refine Eq.trans ?_ (H.u ⟨n, hn⟩ l)
  pointwise [k0_pay4]
  split_ifs <;> blk_ext [iblk, V, idx_a t] <;> omega

theorem ext_b (t : Fin cfg0.N) (q : Fin 272) (l : Fin 1024) (h : inn (R t.val q.val)) :
    k0_pay5 (iblk m c 3 t) (iblk m c 4 t) (iblk m c 5 t) (ix2 q l) = ((A.b (R t.val q.val) l : ℝ) : EReal) := by
  have ht := N8 t
  obtain ⟨n, hn, e, eR⟩ := row_nat h
  rw [eR]
  refine Eq.trans ?_ (H.b ⟨n, hn⟩ l)
  pointwise [k0_pay5]
  split_ifs <;> blk_ext [iblk, V, idx_a t] <;> omega

theorem ext_c (t : Fin cfg0.N) (q : Fin 272) (l : Fin 1024) (h : inn (R t.val q.val)) :
    k0_pay6 (iblk m c 6 t) (iblk m c 7 t) (iblk m c 8 t) (ix2 q l) = ((A.c (R t.val q.val) l : ℝ) : EReal) := by
  have ht := N8 t
  obtain ⟨n, hn, e, eR⟩ := row_nat h
  rw [eR]
  refine Eq.trans ?_ (H.c ⟨n, hn⟩ l)
  pointwise [k0_pay6]
  split_ifs <;> blk_ext [iblk, V, idx_b t] <;> omega

theorem ext_z (t : Fin cfg0.N) (q : Fin 272) (l : Fin 1024) (h : inn (R t.val q.val)) :
    k0_pay7 (iblk m c 9 t) (iblk m c 10 t) (iblk m c 11 t) (ix2 q l) = ((A.z (R t.val q.val) l : ℝ) : EReal) := by
  have ht := N8 t
  obtain ⟨n, hn, e, eR⟩ := row_nat h
  rw [eR]
  refine Eq.trans ?_ (H.z ⟨n, hn⟩ l)
  pointwise [k0_pay7]
  split_ifs <;> blk_ext [iblk, V, idx_b t] <;> omega

theorem ext_d (t : Fin cfg0.N) (q : Fin 272) (l : Fin 1024) (h : inn (R t.val q.val)) :
    k0_pay8 (iblk m c 12 t) (iblk m c 13 t) (iblk m c 14 t) (ix2 q l) = ((A.d (R t.val q.val) l : ℝ) : EReal) := by
  have ht := N8 t
  obtain ⟨n, hn, e, eR⟩ := row_nat h
  rw [eR]
  refine Eq.trans ?_ (H.d ⟨n, hn⟩ l)
  pointwise [k0_pay8]
  split_ifs <;> blk_ext [iblk, V, idx_c t] <;> omega

theorem ext_w (t : Fin cfg0.N) (j : Fin 3) (l : Fin 1024) :
    iblk m c 15 t (ix2 ⟨j.val, by omega⟩ l) = ((A.w j l : ℝ) : EReal) := by
  refine Eq.trans ?_ (H.w j l)
  have e : iblk m c 15 t (ix2 (⟨j.val, by omega⟩ : Fin 8) l) = V m c main_v1 (ix2 (⟨j.val, by omega⟩ : Fin 8) l) := by
    blk_ext [iblk, idx_c t]
  rw [e]
  entry_read
  pointwise []

theorem ext_k (t : Fin cfg0.N) (l : Fin 1024) : iblk m c 16 t (ix2 0 l) = ((A.k l : ℝ) : EReal) := by
  refine Eq.trans ?_ (H.k l)
  blk_ext [iblk, V, idx_c t]

theorem ext_g (t : Fin cfg0.N) (l : Fin 1024) : iblk m c 17 t (ix2 0 l) = ((A.g l : ℝ) : EReal) := by
  refine Eq.trans ?_ (H.g l)
  blk_ext [iblk, V, idx_c t]

/-- What point `t` is given. -/
theorem ext (t : Fin cfg0.N) : Ext A t.val (k0_pay3 (grid0.coords t)) (k0_pay4 (iblk m c 0 t) (iblk m c 1 t) (iblk m c 2 t))
    (k0_pay5 (iblk m c 3 t) (iblk m c 4 t) (iblk m c 5 t)) (k0_pay6 (iblk m c 6 t) (iblk m c 7 t) (iblk m c 8 t))
    (k0_pay7 (iblk m c 9 t) (iblk m c 10 t) (iblk m c 11 t)) (k0_pay8 (iblk m c 12 t) (iblk m c 13 t) (iblk m c 14 t))
    (iblk m c 15 t) (iblk m c 16 t) (iblk m c 17 t) :=
  ⟨mask_at t, fun q l h => ext_u H t q l h, fun q l h => ext_b H t q l h, fun q l h => ext_c H t q l h,
    fun q l h => ext_z H t q l h, fun q l h => ext_d H t q l h, ext_w H t 0, ext_w H t 1, ext_w H t 2, ext_k H t, ext_g H t⟩

end

end Cert.Conv

end
-- ==== Proof.ConvArrays.lean ====
/- The two arrays of the gradient's kernel after its run: every entry is the model's formula. -/
module

public import proofs.«01_k».proof.Proof.ConvBlocks
public import Idealize.ShloMosaic.Lib.Pipeline.ValueKit.Tiles

@[expose] public section

set_option maxRecDepth 16384

noncomputable section

namespace Cert.Conv

open Cert.KernelIdeal Cert.KernelIdeal.Gen Idealize.ShloMosaic Idealize.ShloMosaic.TcCoe Idealize.SL Cert.Lift

variable (m : (ℓ : Loc nD τ sig) → Buf (Elt Ideal) ℓ) (c : Dev nD) {A : Arr}

/-- Row `r` of the first result: the four gradients side by side. -/
def outRow (A : Arr) (r : ℤ) (q : Fin 4096) : ℝ :=
  if h : q.val < 1024 then dU A r ⟨q.val, h⟩
  else if h1 : q.val < 2048 then dB A r ⟨q.val - 1024, by omega⟩
  else if h2 : q.val < 3072 then dC A r ⟨q.val - 2048, by omega⟩
  else dZ A r ⟨q.val - 3072, by omega⟩

theorem outRow_u (r : ℤ) (q : Fin 4096) (l : Fin 1024) (h : q.val = l.val) : outRow A r q = dU A r l := by
  have := l.isLt
  unfold outRow; rw [dif_pos (by omega)]; congr 1; exact Fin.ext h
theorem outRow_b (r : ℤ) (q : Fin 4096) (l : Fin 1024) (h : q.val = 1024 + l.val) : outRow A r q = dB A r l := by
  have := l.isLt
  unfold outRow; rw [dif_neg (by omega), dif_pos (by omega)]; congr 1; apply Fin.ext; show q.val - 1024 = _; omega
theorem outRow_c (r : ℤ) (q : Fin 4096) (l : Fin 1024) (h : q.val = 2048 + l.val) : outRow A r q = dC A r l := by
  have := l.isLt
  unfold outRow; rw [dif_neg (by omega), dif_neg (by omega), dif_pos (by omega)]; congr 1; apply Fin.ext; show q.val - 2048 = _; omega
theorem outRow_z (r : ℤ) (q : Fin 4096) (l : Fin 1024) (h : q.val = 3072 + l.val) : outRow A r q = dZ A r l := by
  have := l.isLt
  unfold outRow; rw [dif_neg (by omega), dif_neg (by omega), dif_neg (by omega)]; congr 1; apply Fin.ext; show q.val - 3072 = _; omega

theorem outRow_congr {r r' : ℤ} {q q' : Fin 4096} (h : r = r') (h1 : q.val = q'.val) : outRow A r q = outRow A r' q' := by
  rw [h, Fin.ext h1]

/-- Row sums of eight blocks of 256 rows are the sum over the 2048 rows. -/
theorem sum_blocks (f : ℤ → ℝ) : ∑ k ∈ Finset.range 8, ∑ p : Fin 256, f (256 * (k : ℤ) + (p.val : ℤ)) = ∑ r : Fin 2048, f r.val := by
  rw [Finset.sum_range, ← Fintype.sum_prod_type', ← (finProdFinEquiv (m := 8) (n := 256)).sum_comp]
  refine Finset.sum_congr rfl fun x _ => congrArg f ?_
  show _ = ((x.2.val + 256 * x.1.val : ℕ) : ℤ)
  push_cast
  ring

/-- The update is added to what the point before left. -/
theorem pay2_at (v139 v143 : FVec Ideal S1x1024 .f32) (v144 v161 : IVec S8x1024 32) (v160 : FVec Ideal S8x1024 .f32)
    (v177 : Vec Ideal S8x1024 .f32) (j : Fin 8) (l : Fin 1024) :
    k0_pay2 v139 v143 v144 v160 v161 v177 (ix2 j l) = v177 (ix2 j l) + k0_pay1 v139 v143 v144 v160 v161 (ix2 j l) := by
  show shapeCast S8x1024 v177 shapeCasts_S8x1024_S8x1024 (ix2 j l) + _ = _
  rw [shapeCast_self]

section
variable {m c} (H : KnownAt m c A)
include H

/-- The block of the first output that point `t` leaves. -/
theorem point_rows (t : Fin cfg0.N) (i : S256x4096.Idx) :
    (outsAt0 m c t.val t.isLt).1 i = ((outRow A (256 * (t.val : ℤ) + ((i 0).val : ℤ)) (i 1) : ℝ) : EReal) := by
  have ht := N8 t
  have E := ext H t
  have M := mid E
  rcases Nat.eq_zero_or_pos (t.val % 8) with hz | hz
  · rw [outsAt0_A m c t hz (by omega)]; frame_out
    canon_tiles x h
    · rw [outRow_z _ _ (x 1) h1, h0, eq_ix2 x]; exact pieceZ E M ht (x 0) (x 1)
    · rw [outRow_c _ _ (x 1) h1, h0, eq_ix2 x]; exact pieceC E M ht (x 0) (x 1)
    · rw [outRow_b _ _ (x 1) h1, h0, eq_ix2 x]; exact pieceB E M ht (x 0) (x 1)
    · rw [outRow_u _ _ (x 1) h1, h0, eq_ix2 x]; exact pieceU E M ht (x 0) (x 1)
  · rw [outsAt0_B m c t (by omega) (by omega)]; frame_out
    canon_tiles x h
    · rw [outRow_z _ _ (x 1) h1, h0, eq_ix2 x]; exact pieceZ E M ht (x 0) (x 1)
    · rw [outRow_c _ _ (x 1) h1, h0, eq_ix2 x]; exact pieceC E M ht (x 0) (x 1)
    · rw [outRow_b _ _ (x 1) h1, h0, eq_ix2 x]; exact pieceB E M ht (x 0) (x 1)
    · rw [outRow_u _ _ (x 1) h1, h0, eq_ix2 x]; exact pieceU E M ht (x 0) (x 1)

/-- The first point starts the second output. -/
theorem sums_first (t : Fin cfg0.N) (h : t.val = 0) (j : Fin 8) (l : Fin 1024) :
    (outsAt0 m c t.val t.isLt).2 (ix2 j l) = ((blockPart A t.val j l : ℝ) : EReal) := by
  have ht := N8 t
  have E := ext H t
  have M := mid E
  rw [outsAt0_A m c t (by omega) (by omega)]; frame_out
  exact update_at E M ht j l

/-- Each later point adds its block's part. -/
theorem sums_step (t : Fin cfg0.N) (h : t.val ≠ 0) (j : Fin 8) (l : Fin 1024) :
    (outsAt0 m c t.val t.isLt).2 (ix2 j l) = (outsAt0 m c (t.val - 1) (Nat.lt_of_le_of_lt (Nat.sub_le _ _) t.isLt)).2 (ix2 j l)
      + ((blockPart A t.val j l : ℝ) : EReal) := by
  have ht := N8 t
  have E := ext H t
  have M := mid E
  rw [outsAt0_B m c t (by omega) (by omega)]; frame_out
  rw [← update_at E M ht j l]
  exact pay2_at _ _ _ _ _ _ j l

/-- After point `n` the second output holds the sums over the blocks up to `n`. -/
theorem sums_upto (n : ℕ) (hn : n < cfg0.N) (j : Fin 8) (l : Fin 1024) :
    (outsAt0 m c n hn).2 (ix2 j l) = ((∑ k ∈ Finset.range (n + 1), blockPart A k j l : ℝ) : EReal) := by
  induction n with
  | zero => rw [Finset.sum_range_one]; exact sums_first H ⟨0, hn⟩ rfl j l
  | succ n ih =>
    rw [Finset.sum_range_succ, EReal.coe_add, ← ih (by omega)]
    exact sums_step H ⟨n + 1, hn⟩ (by simp) j l

theorem sums_upto_idx (n : ℕ) (hn : n < cfg0.N) (i : S8x1024.Idx) :
    (outsAt0 m c n hn).2 i = ((∑ k ∈ Finset.range (n + 1), blockPart A k (i 0) (i 1) : ℝ) : EReal) := by
  rw [eq_ix2 i]; exact sums_upto H n hn (i 0) (i 1)

omit H in
theorem t7 : t0_7.val = 7 := rfl

/-- The first output after the run. -/
theorem rows_array (i : S2048x4096.Idx) :
    (dats m 0 c).arrAt 18 cfg0.N i = ((outRow A ((i 0).val : ℤ) (i 1) : ℝ) : EReal) := by
  refine congrFun (g := fun i : S2048x4096.Idx => ((outRow A ((i 0).val : ℤ) (i 1) : ℝ) : EReal)) ?_ i
  refine (dats m 0 c).arrAt_eq_of_covers 18 _ (by decide +kernel) fun t hf y => ?_
  blk_simp
  rw [after0_18, point_rows H]
  refine congrArg (fun x : ℝ => (x : EReal)) (outRow_congr ?_ ?_)
  · rw [(idx_c t).2.2.2.2.2.2.1]; push_cast; ring
  · blk_simp
    rw [(idx_c t).2.2.2.2.2.2.2]
    omega

/-- The second output after the run. -/
theorem sums_array (j : Fin 8) (l : Fin 1024) :
    (dats m 0 c).arrAt 19 cfg0.N (ix2 j l) = ((∑ r : Fin 2048, part A j (r.val : ℤ) l : ℝ) : EReal) := by
  refine congrFun (g := fun i : S8x1024.Idx => ((∑ r : Fin 2048, part A (i 0) (r.val : ℤ) (i 1) : ℝ) : EReal)) ?_ (ix2 j l)
  refine (dats m 0 c).arrAt_eq_of_after_last 19 t0_7 (by decide +kernel) _ fun i => ?_
  blk_simp
  rw [after0_19]
  rw [sums_upto_idx H t0_7.val t0_7.isLt, t7]
  exact congrArg (fun x : ℝ => (x : EReal)) (sum_blocks fun r => part A (i 0) r (i 1))

end

end Cert.Conv

end
-- ==== Proof.ConvClaim.lean ====
/- The gradient of the gated convolution: where the numbers that the calculation reads are finite, the kernel's two results are the
   reference's. -/
module

public import proofs.«01_k».proof.Defs
public import proofs.«01_k».proof.Proof.ConvArrays
public import Idealize.ShloMosaic.Lib.Claim

@[expose] public section

set_option maxRecDepth 16384

noncomputable section

namespace Cert.Conv

open Idealize.ShloMosaic Idealize.ShloMosaic.TcCoe Idealize.SL Cert.Lift

/-- The side conditions of the precondition's operations. -/
theorem preFacts : Cert.Pre_finite.Facts := ⟨by decide, by decide, by decide, by decide, by decide, by decide⟩

/-- The bit of the comparison with infinity says that the number is finite. -/
theorem finite_of_bit {a : EReal} (h : Ideal.cmp .olt (max a (-a)) (Ideal.ofBits .f32 0x7F800000#32) = 1#1) : ((a.toReal : ℝ) : EReal) = a := by
  refine coe_toReal_of_abs_lt ?_
  have e : Ideal.ofBits .f32 0x7F800000#32 = (⊤ : EReal) := by simp [Ideal.ofBits, Ideal.ieee]
  rw [e] at h
  by_contra hn
  simp [Ideal.cmp, hn] at h

/-- Row `r` of an array of 2048 rows. -/
def row (r : ℤ) : Fin 2048 := ⟨r.toNat % 2048, Nat.mod_lt _ (by decide)⟩

theorem row_val (r : Fin 2048) : row (r.val : ℤ) = r := by
  apply Fin.ext; show (r.val : ℤ).toNat % 2048 = r.val; rw [Int.toNat_natCast, Nat.mod_eq_of_lt r.isLt]

/-- The numbers that the arguments hold. -/
def arrOf (x0 : FVec Ideal Cert.ReferenceIdeal.S2048x8192 .f32) (x1 : FVec Ideal Cert.ReferenceIdeal.S2048x2048 .f32)
    (x2 : FVec Ideal Cert.ReferenceIdeal.S3x1024 .f32) (x3 x4 : FVec Ideal Cert.ReferenceIdeal.S1x1024 .f32) : Arr where
  u r l := (x0 (ix2 (row r) ⟨l.val, by omega⟩)).toReal
  b r l := (x0 (ix2 (row r) ⟨1024 + l.val, by omega⟩)).toReal
  c r l := (x0 (ix2 (row r) ⟨2048 + l.val, by omega⟩)).toReal
  z r l := (x0 (ix2 (row r) ⟨3072 + l.val, by omega⟩)).toReal
  d r l := (x1 (ix2 (row r) ⟨l.val, by omega⟩)).toReal
  w j l := (x2 (ix2 j l)).toReal
  k l := (x3 (ix2 0 l)).toReal
  g l := (x4 (ix2 0 l)).toReal

/-- Under the precondition the arguments hold these numbers. -/
theorem known_of_pre (x0 : FVec Ideal Cert.ReferenceIdeal.S2048x8192 .f32) (x1 : FVec Ideal Cert.ReferenceIdeal.S2048x2048 .f32)
    (x2 : FVec Ideal Cert.ReferenceIdeal.S3x1024 .f32) (x3 x4 : FVec Ideal Cert.ReferenceIdeal.S1x1024 .f32)
    (x5 : FVec Ideal Cert.Pre_finite.S8x256x2048 .bf16)
    (h0 : (@Cert.Pre_finite.fn preFacts Ideal _ x0 x1 x2 x3 x4 x5).1 = fun _ => 1#1)
    (h1 : (@Cert.Pre_finite.fn preFacts Ideal _ x0 x1 x2 x3 x4 x5).2.1 = fun _ => 1#1)
    (h2 : (@Cert.Pre_finite.fn preFacts Ideal _ x0 x1 x2 x3 x4 x5).2.2.1 = fun _ => 1#1)
    (h3 : (@Cert.Pre_finite.fn preFacts Ideal _ x0 x1 x2 x3 x4 x5).2.2.2.1 = fun _ => 1#1)
    (h4 : (@Cert.Pre_finite.fn preFacts Ideal _ x0 x1 x2 x3 x4 x5).2.2.2.2 = fun _ => 1#1) :
    Known (arrOf x0 x1 x2 x3 x4) x0 x1 x2 x3 x4 := by
  have f0 : ∀ (r : Fin 2048) (q : Fin 4096), (((x0 (ix2 r ⟨q.val, by omega⟩)).toReal : ℝ) : EReal) = x0 (ix2 r ⟨q.val, by omega⟩) := fun r q => by
    refine finite_of_bit ?_
    rw [← congrFun h0 (ix2 r q)]
    pointwise [Cert.Pre_finite.fn]
    rfl
  have f1 : ∀ (r : Fin 2048) (q : Fin 1024), (((x1 (ix2 r ⟨q.val, by omega⟩)).toReal : ℝ) : EReal) = x1 (ix2 r ⟨q.val, by omega⟩) := fun r q => by
    refine finite_of_bit ?_
    rw [← congrFun h1 (ix2 r q)]
    pointwise [Cert.Pre_finite.fn]
    rfl
  have f2 : ∀ (r : Fin 3) (q : Fin 1024), (((x2 (ix2 r q)).toReal : ℝ) : EReal) = x2 (ix2 r q) := fun r q => by
    refine finite_of_bit ?_
    rw [← congrFun h2 (ix2 r q)]
    pointwise [Cert.Pre_finite.fn]
    rfl
  have f3 : ∀ (q : Fin 1024), (((x3 (ix2 0 q)).toReal : ℝ) : EReal) = x3 (ix2 0 q) := fun q => by
    refine finite_of_bit ?_
    rw [← congrFun h3 (ix2 0 q)]
    pointwise [Cert.Pre_finite.fn]
    rfl
  have f4 : ∀ (q : Fin 1024), (((x4 (ix2 0 q)).toReal : ℝ) : EReal) = x4 (ix2 0 q) := fun q => by
    refine finite_of_bit ?_
    rw [← congrFun h4 (ix2 0 q)]
    pointwise [Cert.Pre_finite.fn]
    rfl
  have e : ∀ r : Fin 2048, row ((r.val : ℕ) : ℤ) = r := row_val
  constructor
  · intro r l; rw [← f0 r ⟨l.val, by omega⟩]; simp only [arrOf, e]
  · intro r l; rw [← f0 r ⟨1024 + l.val, by omega⟩]; simp only [arrOf, e]
  · intro r l; rw [← f0 r ⟨2048 + l.val, by omega⟩]; simp only [arrOf, e]
  · intro r l; rw [← f0 r ⟨3072 + l.val, by omega⟩]; simp only [arrOf, e]
  · intro r l; rw [← f1 r l]; simp only [arrOf, e]
  · intro j l; exact (f2 j l).symm
  · intro l; exact (f3 l).symm
  · intro l; exact (f4 l).symm

open Cert.ReferenceIdeal.Read in
/-- The reference's first result, entry by entry. -/
theorem ref_rows {A : Arr} {x0 : FVec Ideal Cert.ReferenceIdeal.S2048x8192 .f32} {x1 : FVec Ideal Cert.ReferenceIdeal.S2048x2048 .f32}
    {x2 : FVec Ideal Cert.ReferenceIdeal.S3x1024 .f32} {x3 x4 : FVec Ideal Cert.ReferenceIdeal.S1x1024 .f32}
    (H : Known A x0 x1 x2 x3 x4) (r : Fin 2048) (q : Fin 4096) :
    val_main_v114 (F := Ideal) x0 x1 x2 x3 x4 (ix2 r q) = ((outRow A (r.val : ℤ) q : ℝ) : EReal) := by
  pointwise [val_main_v114, val_main_v113]
  simp only [ref_dU H, ref_dB H, ref_dC H, ref_dZ H]
  have hq : q.val < 4096 := q.isLt
  by_cases h1 : q.val < 1024
  · rw [dif_pos h1, outRow_u _ q ⟨q.val, h1⟩ rfl]
  rw [dif_neg h1]
  by_cases h2 : q.val - 1024 < 1024
  · rw [dif_pos h2, outRow_b _ q ⟨q.val - 1024, h2⟩ (by show q.val = 1024 + (q.val - 1024); omega)]
  rw [dif_neg h2]
  by_cases h3 : q.val - 1024 - 1024 < 1024
  · rw [dif_pos h3, outRow_c _ q ⟨q.val - 1024 - 1024, h3⟩ (by show q.val = 2048 + (q.val - 1024 - 1024); omega)]
  rw [dif_neg h3, outRow_z _ q ⟨q.val - 1024 - 1024 - 1024, by omega⟩ (by show q.val = 3072 + (q.val - 1024 - 1024 - 1024); omega)]

/-- Where the numbers read are finite, the kernel's two results are the reference's. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  refine ⟨fun c => (Cert.KernelIdeal.Gen.dats m 0 c).arrAt 18 Cert.KernelIdeal.cfg0.N, fun c => (Cert.KernelIdeal.Gen.dats m 0 c).arrAt 19 Cert.KernelIdeal.cfg0.N, ?_, ?_⟩
  · run_from Cert.KernelIdeal.Value.run_blocks m g
  · have K : ∀ c, KnownAt m c _ := fun c => known_of_pre _ _ _ _ _ _ (hpre c).1 (hpre c).2.1 (hpre c).2.2.1 (hpre c).2.2.2.1 (hpre c).2.2.2.2
    run_from Cert.ReferenceIdeal.Value.run m' g'
    · refine (Cert.ReferenceIdeal.Read.val_main_v114_eq _).trans ?_
      obtain ⟨e0, e1, e2, e3, e4, _⟩ := hagree c
      show Cert.ReferenceIdeal.Read.val_main_v114 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
      rw [e0, e1, e2, e3, e4]
      funext i
      rw [eq_ix2 i]
      exact (ref_rows (K c) (i 0) (i 1)).trans (rows_array (K c) (ix2 (i 0) (i 1))).symm
    · refine (Cert.ReferenceIdeal.Read.val_main_v116_eq _).trans ?_
      obtain ⟨e0, e1, e2, e3, e4, _⟩ := hagree c
      show Cert.ReferenceIdeal.Read.val_main_v116 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
      rw [e0, e1, e2, e3, e4]
      funext i
      rw [eq_ix2 i]
      exact (ref_sums (K c) (i 1) (i 0)).trans (sums_array (K c) (i 0) (i 1)).symm

end Cert.Conv

end
-- ==== Proof.OutProjValue.lean ====
/- The forward product of the mixed groups with `w_out`: four tiles, each one product over the whole contracted axis. -/
module

public import proofs.«01_k».proof.Defs
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import Idealize.ShloMosaic.Lib.Pipeline.ValueKit.Tiles
public import Idealize.ShloMosaic.Lib.Pipeline.ValueKit
public import Idealize.ShloMosaic.Lib.Claim
public import Idealize.ShloMosaic.Lib.Pointwise

@[expose] public section

set_option maxRecDepth 16384

noncomputable section

namespace Cert.OutProjValue

open Cert.OutProjIdeal Cert.OutProjIdeal.Gen Idealize.ShloMosaic Idealize.ShloMosaic.TcCoe Idealize.SL

variable (m : (ℓ : Loc nD τ sig) → Buf (Elt Ideal) ℓ) (c : Dev nD)

theorem idx : ∀ t : Fin cfg0.N,
    win0_0.index t 0 = win0_2.index t 0 ∧ win0_0.index t 1 = 0 ∧ win0_1.index t 0 = 0 ∧ win0_1.index t 1 = win0_2.index t 1 := by decide +kernel

/-- The two operands. -/
abbrev lhs : S2048x2048.Idx → EReal := m ((c : Thread nD τ).loc main_arg0)
abbrev rhs : S2048x2048.Idx → EReal := m ((c : Thread nD τ).loc main_arg1)

/-- The array after the run: the product. -/
theorem value : (dats m 0 c).arrAt 2 cfg0.N = fun i : S2048x2048.Idx => ∑ k : Fin 2048,
    lhs m c (ix2 (i 0) k) * rhs m c (ix2 k (i 1)) := by
  refine (dats m 0 c).arrAt_eq_of_covers 2 _ (by decide +kernel) fun t hf y => ?_
  blk_simp
  rw [after0_2]
  frame_out
  rw [eq_ix2 y]
  pointwise [k0_pay1]
  refine Fin.sum_fin_congr fun k => ?_
  congr 1
  · blk_ext [iblk, V, idx t]
  · blk_ext [iblk, V, idx t]

/-- The kernel's product is the reference's. -/
theorem algebraic : Cert.algebraic_OutProjIdeal_OutProjRefIdeal (hOutProjIdeal := Cert.OutProjIdeal.Gen.facts)
    (hOutProjRefIdeal := Cert.OutProjRefIdeal.Gen.facts) := by
  intro m g m' g' _ hagree
  refine ⟨fun c => (dats m 0 c).arrAt 2 cfg0.N, ?_, ?_⟩
  · run_from Cert.OutProjIdeal.Value.run_blocks m g
  · run_from Cert.OutProjRefIdeal.Value.run m' g'
    refine (Cert.OutProjRefIdeal.Read.val_main_v2_eq (F := Ideal) _ _).trans ?_
    rw [value]
    funext i
    rw [eq_ix2 i]
    pointwise [Cert.OutProjRefIdeal.Read.val_main_v2, Cert.OutProjRefIdeal.Read.val_main_v1, Cert.OutProjRefIdeal.Read.val_main_v0]

end Cert.OutProjValue

end
-- ==== Proof.OutProjDwValue.lean ====
/- The gradient of `w_out`: four tiles of `ycatᵀ · dy`, each one product over all the tokens. -/
module

public import proofs.«01_k».proof.Defs
public import proofs.«01_k».proof.Proof.Gen.OutProjDwIdeal
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.Gen.OutProjDwRefIdeal.Read
public import Idealize.ShloMosaic.Lib.Pipeline.ValueKit.Tiles
public import Idealize.ShloMosaic.Lib.Pipeline.ValueKit
public import Idealize.ShloMosaic.Lib.Claim
public import Idealize.ShloMosaic.Lib.Pointwise

@[expose] public section

set_option maxRecDepth 16384

noncomputable section

namespace Cert.OutProjDwValue

open Cert.OutProjDwIdeal Cert.OutProjDwIdeal.Gen Idealize.ShloMosaic Idealize.ShloMosaic.TcCoe Idealize.SL

variable (m : (ℓ : Loc nD τ sig) → Buf (Elt Ideal) ℓ) (c : Dev nD)

theorem idx : ∀ t : Fin cfg0.N,
    win0_0.index t 0 = 0 ∧ win0_0.index t 1 = win0_2.index t 0 ∧ win0_1.index t 0 = 0 ∧ win0_1.index t 1 = win0_2.index t 1 := by decide +kernel

/-- The two operands. -/
abbrev lhs : S2048x2048.Idx → EReal := m ((c : Thread nD τ).loc main_arg0)
abbrev rhs : S2048x2048.Idx → EReal := m ((c : Thread nD τ).loc main_arg1)

/-- The array after the run: the product over the tokens. -/
theorem value : (dats m 0 c).arrAt 2 cfg0.N = fun i : S2048x2048.Idx => ∑ k : Fin 2048,
    lhs m c (ix2 k (i 0)) * rhs m c (ix2 k (i 1)) := by
  refine (dats m 0 c).arrAt_eq_of_covers 2 _ (by decide +kernel) fun t hf y => ?_
  blk_simp
  rw [after0_2]
  frame_out
  rw [eq_ix2 y]
  pointwise [k0_pay1]
  refine Fin.sum_fin_congr fun k => ?_
  congr 1
  · blk_ext [iblk, V, idx t]
  · blk_ext [iblk, V, idx t]

/-- The kernel's product is the reference's. -/
theorem algebraic : Cert.algebraic_OutProjDwIdeal_OutProjDwRefIdeal (hOutProjDwIdeal := Cert.OutProjDwIdeal.Gen.facts)
    (hOutProjDwRefIdeal := Cert.OutProjDwRefIdeal.Gen.facts) := by
  intro m g m' g' _ hagree
  refine ⟨fun c => (dats m 0 c).arrAt 2 cfg0.N, ?_, ?_⟩
  · run_from Cert.OutProjDwIdeal.Value.run_blocks m g
  · run_from Cert.OutProjDwRefIdeal.Value.run m' g'
    refine (Cert.OutProjDwRefIdeal.Read.val_main_v7_eq (F := Ideal) _ _).trans ?_
    rw [value]
    funext i
    rw [eq_ix2 i]
    open Cert.OutProjDwRefIdeal.Read in
    pointwise [val_main_v7, val_main_v6, val_main_v5, val_main_v4, val_main_v1]
    exact Fin.sum_fin_congr fun k => mul_comm _ _

end Cert.OutProjDwValue

end
-- ==== Proof.OutProjDxValue.lean ====
/- The gradient of the mixed groups: four tiles of `dy · w_outᵀ`, each one product over the whole contracted axis. -/
module

public import proofs.«01_k».proof.Defs
public import proofs.«01_k».proof.Proof.Gen.OutProjDxIdeal
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.Gen.OutProjDxRefIdeal.Read
public import Idealize.ShloMosaic.Lib.Pipeline.ValueKit.Tiles
public import Idealize.ShloMosaic.Lib.Pipeline.ValueKit
public import Idealize.ShloMosaic.Lib.Claim
public import Idealize.ShloMosaic.Lib.Pointwise

@[expose] public section

set_option maxRecDepth 16384

noncomputable section

namespace Cert.OutProjDxValue

open Cert.OutProjDxIdeal Cert.OutProjDxIdeal.Gen Idealize.ShloMosaic Idealize.ShloMosaic.TcCoe Idealize.SL

variable (m : (ℓ : Loc nD τ sig) → Buf (Elt Ideal) ℓ) (c : Dev nD)

theorem idx : ∀ t : Fin cfg0.N,
    win0_0.index t 0 = win0_2.index t 0 ∧ win0_0.index t 1 = 0 ∧ win0_1.index t 0 = win0_2.index t 1 ∧ win0_1.index t 1 = 0 := by decide +kernel

/-- The two operands. -/
abbrev lhs : S2048x2048.Idx → EReal := m ((c : Thread nD τ).loc main_arg0)
abbrev rhs : S2048x2048.Idx → EReal := m ((c : Thread nD τ).loc main_arg1)

/-- The array after the run: the product with the transposed weights. -/
theorem value : (dats m 0 c).arrAt 2 cfg0.N = fun i : S2048x2048.Idx => ∑ k : Fin 2048,
    lhs m c (ix2 (i 0) k) * rhs m c (ix2 (i 1) k) := by
  refine (dats m 0 c).arrAt_eq_of_covers 2 _ (by decide +kernel) fun t hf y => ?_
  blk_simp
  rw [after0_2]
  frame_out
  rw [eq_ix2 y]
  pointwise [k0_pay1]
  refine Fin.sum_fin_congr fun k => ?_
  congr 1
  · blk_ext [iblk, V, idx t]
  · blk_ext [iblk, V, idx t]

/-- The kernel's product is the reference's. -/
theorem algebraic : Cert.algebraic_OutProjDxIdeal_OutProjDxRefIdeal (hOutProjDxIdeal := Cert.OutProjDxIdeal.Gen.facts)
    (hOutProjDxRefIdeal := Cert.OutProjDxRefIdeal.Gen.facts) := by
  intro m g m' g' _ hagree
  refine ⟨fun c => (dats m 0 c).arrAt 2 cfg0.N, ?_, ?_⟩
  · run_from Cert.OutProjDxIdeal.Value.run_blocks m g
  · run_from Cert.OutProjDxRefIdeal.Value.run m' g'
    refine (Cert.OutProjDxRefIdeal.Read.val_main_v4_eq (F := Ideal) _ _).trans ?_
    rw [value]
    funext i
    rw [eq_ix2 i]
    open Cert.OutProjDxRefIdeal.Read in
    pointwise [val_main_v4, val_main_v3, val_main_v1]

end Cert.OutProjDxValue

end
-- ==== Proof.InProjDwConvValue.lean ====
/- The gradient of the columns of `w_in` that the convolution's group uses, in slabs of 1024 columns: eight tiles of
   `hᵀ · dproj`, each one product over all the tokens. -/
module

public import proofs.«01_k».proof.Defs
public import proofs.«01_k».proof.Proof.Gen.InProjDwConvIdeal
public import proofs.«01_k».proof.Proof.Gen.InProjDwConvIdeal.Value
public import proofs.«01_k».proof.Proof.Gen.InProjDwConvRefIdeal
public import proofs.«01_k».proof.Proof.Gen.InProjDwConvRefIdeal.Run
public import proofs.«01_k».proof.Proof.Gen.InProjDwConvRefIdeal.Read
public import Idealize.ShloMosaic.Lib.Pipeline.ValueKit.Tiles
public import Idealize.ShloMosaic.Lib.Pipeline.ValueKit
public import Idealize.ShloMosaic.Lib.Claim
public import Idealize.ShloMosaic.Lib.Pointwise

@[expose] public section

set_option maxRecDepth 16384

noncomputable section

namespace Cert.InProjDwConvValue

open Cert.InProjDwConvIdeal Cert.InProjDwConvIdeal.Gen Idealize.ShloMosaic Idealize.ShloMosaic.TcCoe Idealize.SL

variable (m : (ℓ : Loc nD τ sig) → Buf (Elt Ideal) ℓ) (c : Dev nD)

theorem idx : ∀ t : Fin cfg0.N,
    win0_0.index t 0 = 0 ∧ win0_0.index t 1 = win0_2.index t 1 ∧ win0_1.index t 0 = 0 ∧ win0_1.index t 1 = win0_2.index t 0 ∧ win0_2.index t 2 = 0 := by decide +kernel

/-- The column of a slab lies among the group's columns. -/
theorem slab_lt (s : Fin 4) (l : Fin 1024) : s.val * 1024 + l.val < 4096 := by omega

/-- The two operands. -/
abbrev lhs : S2048x2048.Idx → EReal := m ((c : Thread nD τ).loc main_arg0)
abbrev rhs : S2048x4096.Idx → EReal := m ((c : Thread nD τ).loc main_arg1)

/-- The array after the run: slab `i 0`'s product over the tokens. -/
theorem value : (dats m 0 c).arrAt 2 cfg0.N = fun i : S4x2048x1024.Idx => ∑ k : Fin 2048,
    lhs m c (ix2 k (i 1)) * rhs m c (ix2 k ⟨(i 0).val * 1024 + (i 2).val, slab_lt (i 0) (i 2)⟩) := by
  refine (dats m 0 c).arrAt_eq_of_covers 2 _ (by decide +kernel) fun t hf y => ?_
  blk_simp
  rw [after0_2]
  frame_out
  rw [eq_ix3 y]
  pointwise [k0_pay1]
  refine Fin.sum_fin_congr fun k => ?_
  congr 1
  · blk_ext [iblk, V, idx t]
  · blk_ext [iblk, V, idx t]

/-- The kernel's product is the reference's. -/
theorem algebraic : Cert.algebraic_InProjDwConvIdeal_InProjDwConvRefIdeal (hInProjDwConvIdeal := Cert.InProjDwConvIdeal.Gen.facts)
    (hInProjDwConvRefIdeal := Cert.InProjDwConvRefIdeal.Gen.facts) := by
  intro m g m' g' _ hagree
  refine ⟨fun c => (dats m 0 c).arrAt 2 cfg0.N, ?_, ?_⟩
  · run_from Cert.InProjDwConvIdeal.Value.run_blocks m g
  · run_from Cert.InProjDwConvRefIdeal.Value.run m' g'
    refine (Cert.InProjDwConvRefIdeal.Read.val_main_v9_eq (F := Ideal) _ _).trans ?_
    rw [value]
    funext i
    rw [eq_ix3 i]
    open Cert.InProjDwConvRefIdeal.Read in
    pointwise [val_main_v9, val_main_v8, val_main_v7, val_main_v6, val_main_v5, val_main_v4, val_main_v1]
    exact Fin.sum_fin_congr fun k => mul_comm _ _

end Cert.InProjDwConvValue

end
-- ==== Proof.InProjDwAttnValue.lean ====
/- The gradient of the columns of `w_in` that the attention's group uses, in slabs of 1024 columns: eight tiles of
   `hᵀ · dproj`, the cotangent in slabs too, each one product over all the tokens. -/
module

public import proofs.«01_k».proof.Defs
public import proofs.«01_k».proof.Proof.Gen.InProjDwAttnIdeal
public import proofs.«01_k».proof.Proof.Gen.InProjDwAttnIdeal.Value
public import proofs.«01_k».proof.Proof.Gen.InProjDwAttnRefIdeal
public import proofs.«01_k».proof.Proof.Gen.InProjDwAttnRefIdeal.Run
public import proofs.«01_k».proof.Proof.Gen.InProjDwAttnRefIdeal.Read
public import Idealize.ShloMosaic.Lib.Pipeline.ValueKit.Tiles
public import Idealize.ShloMosaic.Lib.Pipeline.ValueKit
public import Idealize.ShloMosaic.Lib.Claim
public import Idealize.ShloMosaic.Lib.Pointwise

@[expose] public section

set_option maxRecDepth 16384

noncomputable section

namespace Cert.InProjDwAttnValue

open Cert.InProjDwAttnIdeal Cert.InProjDwAttnIdeal.Gen Idealize.ShloMosaic Idealize.ShloMosaic.TcCoe Idealize.SL

variable (m : (ℓ : Loc nD τ sig) → Buf (Elt Ideal) ℓ) (c : Dev nD)

theorem idx : ∀ t : Fin cfg0.N,
    win0_0.index t 0 = 0 ∧ win0_0.index t 1 = win0_2.index t 1 ∧ win0_1.index t 0 = win0_2.index t 0 ∧ win0_1.index t 1 = 0 ∧ win0_1.index t 2 = 0 ∧ win0_2.index t 2 = 0 := by decide +kernel

/-- The two operands. -/
abbrev lhs : S2048x2048.Idx → EReal := m ((c : Thread nD τ).loc main_arg0)
abbrev rhs : S4x2048x1024.Idx → EReal := m ((c : Thread nD τ).loc main_arg1)

/-- The array after the run: slab `i 0`'s product over the tokens. -/
theorem value : (dats m 0 c).arrAt 2 cfg0.N = fun i : S4x2048x1024.Idx => ∑ k : Fin 2048,
    lhs m c (ix2 k (i 1)) * rhs m c (ix3 (i 0) k (i 2)) := by
  refine (dats m 0 c).arrAt_eq_of_covers 2 _ (by decide +kernel) fun t hf y => ?_
  blk_simp
  rw [after0_2]
  frame_out
  rw [eq_ix3 y]
  pointwise [k0_pay1]
  refine Fin.sum_fin_congr fun k => ?_
  congr 1
  · blk_ext [iblk, V, idx t]
  · blk_ext [iblk, V, idx t]

/-- The kernel's product is the reference's. -/
theorem algebraic : Cert.algebraic_InProjDwAttnIdeal_InProjDwAttnRefIdeal (hInProjDwAttnIdeal := Cert.InProjDwAttnIdeal.Gen.facts)
    (hInProjDwAttnRefIdeal := Cert.InProjDwAttnRefIdeal.Gen.facts) := by
  intro m g m' g' _ hagree
  refine ⟨fun c => (dats m 0 c).arrAt 2 cfg0.N, ?_, ?_⟩
  · run_from Cert.InProjDwAttnIdeal.Value.run_blocks m g
  · run_from Cert.InProjDwAttnRefIdeal.Value.run m' g'
    refine (Cert.InProjDwAttnRefIdeal.Read.val_main_v11_eq (F := Ideal) _ _).trans ?_
    rw [value]
    funext i
    rw [eq_ix3 i]
    open Cert.InProjDwAttnRefIdeal.Read in
    pointwise [val_main_v11, val_main_v10, val_main_v9, val_main_v8, val_main_v7, val_main_v6, val_main_v3, val_main_v2, val_main_v1]
    exact Fin.sum_fin_congr fun k => mul_comm _ _

end Cert.InProjDwAttnValue

end
-- ==== Proof.InProjDxValue.lean ====
/- The gradient of the normalised input: sixteen tiles of `dproj · w_inᵀ`, each one the sum of eight products over slabs
   of 1024 columns: four slabs of the cotangent side by side in one array, four in an array of slabs. -/
module

public import proofs.«01_k».proof.Defs
public import proofs.«01_k».proof.Proof.Gen.InProjDxIdeal
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.InProjDxRefIdeal.Read
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

set_option maxRecDepth 16384

noncomputable section

namespace Cert.InProjDxValue

open Cert.InProjDxIdeal Cert.InProjDxIdeal.Gen
open Idealize.ShloMosaic Idealize.ShloMosaic.TcCoe Idealize.SL

variable (m : (ℓ : Loc nD τ sig) → Buf (Elt Ideal) ℓ) (c : Dev nD)

/-- Which blocks a grid point has: rows of the cotangent, rows of the weights. -/
theorem idx : ∀ t : Fin cfg0.N,
    win0_0.index t 0 = win0_3.index t 0 ∧ win0_0.index t 1 = 0 ∧ win0_1.index t 0 = 0 ∧ win0_1.index t 1 = win0_3.index t 0 ∧
      win0_1.index t 2 = 0 ∧ win0_2.index t 0 = 0 ∧ win0_2.index t 1 = win0_3.index t 1 ∧ win0_2.index t 2 = 0 := by decide +kernel

/-- The cotangent of the convolution's columns, side by side. -/
abbrev flat : S2048x4096.Idx → EReal := m ((c : Thread nD τ).loc main_arg0)
/-- The cotangent of the attention's columns, in slabs. -/
abbrev slabs : S4x2048x1024.Idx → EReal := m ((c : Thread nD τ).loc main_arg1)
/-- The weights, in slabs. -/
abbrev weights : S8x2048x1024.Idx → EReal := m ((c : Thread nD τ).loc main_arg2)

/-- Column `k` of slab `s` of the cotangent: the first four slabs lie side by side in `a`, the last four are `b`'s slabs. -/
def cotangent (a : S2048x4096.Idx → EReal) (b : S4x2048x1024.Idx → EReal) (r : Fin 2048) (s : Fin 8) (k : Fin 1024) : EReal :=
  if h : s.val < 4 then a (ix2 r ⟨s.val * 1024 + k.val, by omega⟩) else b (ix3 ⟨s.val - 4, by omega⟩ r k)

/-- Among the first four slabs, the cotangent is what the point's block of the array side by side holds. -/
theorem block_flat (t : Fin cfg0.N) (y : S512x512.Idx) (s : Fin 8) (k : Fin 1024) (h : s.val < 4) (j : Fin 4096)
    (hj : j.val = s.val * 1024 + k.val) :
    iblk m c 0 t (ix2 (y 0) j) = cotangent (flat m c) (slabs m c) (((cfg0.win 3).blk t).view.emb y 0) s k := by
  refine Eq.trans ?_ (dif_pos h).symm
  rw [show j = ⟨s.val * 1024 + k.val, by omega⟩ from Fin.ext hj]
  blk_ext [iblk, V, idx t]

/-- Among the last four slabs, the cotangent is what the point's block of the array of slabs holds. -/
theorem block_slabs (t : Fin cfg0.N) (y : S512x512.Idx) (s : Fin 8) (k : Fin 1024) (h : ¬ s.val < 4) (j : Fin 4)
    (hj : j.val = s.val - 4) :
    iblk m c 1 t (ix3 j (y 0) k) = cotangent (flat m c) (slabs m c) (((cfg0.win 3).blk t).view.emb y 0) s k := by
  refine Eq.trans ?_ (dif_neg h).symm
  rw [show j = ⟨s.val - 4, by omega⟩ from Fin.ext hj]
  blk_ext [iblk, V, idx t]

/-- The weights of a slab are what the point's block of them holds. -/
theorem block_weights (t : Fin cfg0.N) (y : S512x512.Idx) (s : Fin 8) (k : Fin 1024) :
    iblk m c 2 t (ix3 s (y 1) k) = weights m c (ix3 s (((cfg0.win 3).blk t).view.emb y 1) k) := by
  blk_ext [iblk, V, idx t]

/-- The array after the run: the sum over the slabs of the products over each slab's columns. -/
theorem value : (dats m 0 c).arrAt 3 cfg0.N = fun i : S2048x2048.Idx =>
    ∑ s : Fin 8, ∑ k : Fin 1024, cotangent (flat m c) (slabs m c) (i 0) s k * weights m c (ix3 s (i 1) k) := by
  refine (dats m 0 c).arrAt_eq_of_covers 3 _ (by decide +kernel) fun t hf y => ?_
  blk_simp
  rw [after0_3]
  unfold outsAt0
  frame_out
  rw [eq_ix2 y]
  pointwise [k0_pay1, k0_pay2]
  rw [Fin.sum_univ_eight]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals refine Fin.sum_fin_congr fun k => congrArg₂ (· * ·) ?_ (block_weights m c t y _ k)
  · exact block_flat m c t y 0 k (by decide) _ (by simp)
  · exact block_flat m c t y 1 k (by decide) _ rfl
  · exact block_flat m c t y 2 k (by decide) _ rfl
  · exact block_flat m c t y 3 k (by decide) _ rfl
  · exact block_slabs m c t y 4 k (by decide) _ rfl
  · exact block_slabs m c t y 5 k (by decide) _ rfl
  · exact block_slabs m c t y 6 k (by decide) _ rfl
  · exact block_slabs m c t y 7 k (by decide) _ rfl

open Cert.InProjDxRefIdeal.Read in
/-- The reference's attention slabs side by side, read at column `k` of slab `s`. -/
theorem joined_slabs (b : S4x2048x1024.Idx → EReal) (r : Fin 2048) (s : Fin 4) (k : Fin 1024) :
    val_main_v2 (F := Ideal) b (ix2 r ⟨s.val * 1024 + k.val, by omega⟩) = b (ix3 s r k) := by
  pointwise [val_main_v2, val_main_v1]

open Cert.InProjDxRefIdeal.Read in
/-- The reference's joined cotangent, read at column `k` of slab `s`. -/
theorem joined (a : S2048x4096.Idx → EReal) (b : S4x2048x1024.Idx → EReal) (r : Fin 2048) (s : Fin 8) (k : Fin 1024) :
    val_main_v8 (F := Ideal) a b (ix2 r ⟨s.val * 1024 + k.val, by omega⟩) = cotangent a b r s k := by
  rw [val_main_v8_apply]
  unfold val_main_v3 cotangent
  rw [concatenate_pair_apply]
  by_cases h : s.val < 4
  · rw [dif_pos h]
    refine (dif_pos (show s.val * 1024 + k.val < 4096 by omega)).trans (congrArg a <| funext fun x => ?_)
    match x with
    | ⟨0, _⟩ => rfl
    | ⟨1, _⟩ => rfl
  · rw [dif_neg h]
    refine (dif_neg (show ¬ s.val * 1024 + k.val < 4096 by omega)).trans <|
      (congrArg (val_main_v2 (F := Ideal) b) (funext fun x => ?_)).trans (joined_slabs b r ⟨s.val - 4, by omega⟩ k)
    match x with
    | ⟨0, _⟩ => rfl
    | ⟨1, _⟩ => exact Fin.ext (show s.val * 1024 + k.val - 4096 = (s.val - 4) * 1024 + k.val by omega)

open Cert.InProjDxRefIdeal.Read in
/-- The reference's joined weights, read at column `k` of slab `s`. -/
theorem joined_weights (w : S8x2048x1024.Idx → EReal) (r : Fin 2048) (s : Fin 8) (k : Fin 1024) :
    val_main_v6 (F := Ideal) w (ix2 r ⟨s.val * 1024 + k.val, by omega⟩) = w (ix3 s r k) := by
  pointwise [val_main_v6, val_main_v5, val_main_v4]

theorem algebraic : Cert.algebraic_InProjDxIdeal_InProjDxRefIdeal
    (hInProjDxIdeal := Cert.InProjDxIdeal.Gen.facts)
    (hInProjDxRefIdeal := Cert.InProjDxRefIdeal.Gen.facts) := by
  intro m g m' g' _ hagree
  refine ⟨fun c => (dats m 0 c).arrAt 3 cfg0.N, ?_, ?_⟩
  · run_from Cert.InProjDxIdeal.Value.run_blocks m g
  · run_from Cert.InProjDxRefIdeal.Value.run m' g'
    refine (Cert.InProjDxRefIdeal.Read.val_main_v9_eq (F := Ideal) _ _ _).trans ?_
    rw [value]
    funext i
    rw [Cert.InProjDxRefIdeal.Read.val_main_v9_apply]
    refine (Fin.sum_mul_add_congr (S := 8) (n := 1024) fun s k hl => ?_).symm
    refine congrArg₂ (· * ·) ((joined _ _ _ s k).symm.trans (congrArg _ (funext fun a => ?_)))
      ((joined_weights _ _ s k).symm.trans (congrArg _ (funext fun a => ?_)))
    all_goals
      match a with
      | ⟨0, _⟩ => rfl
      | ⟨1, _⟩ => rfl

end Cert.InProjDxValue

end
-- ==== Proof.NormGrad.lean ====
/- The gradient of a row's norm over the extended reals, in the two ways in which it is written down: with the scaled row, and as the
   derivative of `v ^ (-1/2)`. They are equal whatever the numbers are, infinite ones included. -/
module

public import proofs.«01_k».proof.Proof.Lift

@[expose] public section

noncomputable section

namespace Cert.NormGrad

open Idealize.ShloMosaic Cert.Lift

theorem lit_2048 : Ideal.ofBits .f32 0x45000000#32 = ((2048 : ℝ) : EReal) := by
  simp [Ideal.ofBits, Ideal.ieee, -EReal.coe_mul]; norm_num

/-- A quotient by 2048. -/
theorem div_2048 (a : EReal) : Ideal.div a (Ideal.ofBits .f32 0x45000000#32) = a * ((1 / 2048 : ℝ) : EReal) := by
  rw [lit_2048, Ideal.div_coe (by norm_num)]

theorem square_nonneg (a : EReal) : 0 ≤ a * a := by
  induction a with
  | bot => simp
  | top => simp
  | coe r => rw [← EReal.coe_mul]; exact EReal.coe_nonneg.mpr (mul_self_nonneg r)

/-- The number under the root: the mean of the squares and the small constant. -/
def under (x : Fin 2048 → EReal) : EReal :=
  (∑ k, x k * x k) * ((1 / 2048 : ℝ) : EReal) + ((8796093 / 8796093022208 : ℝ) : EReal)

/-- The factor of the norm is a number `r` of the reals, not negative, and `r / v` is its cube. -/
theorem factor (x : Fin 2048 → EReal) : ∃ r : ℝ, 0 ≤ r ∧ Ideal.rsqrt (under x) = (r : EReal)
    ∧ Ideal.div (Ideal.rsqrt (under x)) (under x) = ((r * r * r : ℝ) : EReal) := by
  have hs : 0 ≤ ∑ k, x k * x k := Finset.sum_nonneg fun k _ => square_nonneg (x k)
  unfold under
  generalize ∑ k, x k * x k = S at hs
  induction S with
  | bot => simp at hs
  | top =>
    refine ⟨0, le_refl _, ?_⟩
    rw [EReal.top_mul_coe_of_pos (by norm_num), EReal.top_add_coe, Ideal.rsqrt_top]
    refine ⟨rfl, ?_⟩
    simp [Ideal.div]
  | coe s =>
    have hs' : 0 ≤ s := EReal.coe_nonneg.mp hs
    rw [← EReal.coe_mul, ← EReal.coe_add]
    generalize hv : s * (1 / 2048) + 8796093 / 8796093022208 = v
    have pos : 0 < v := by rw [← hv]; positivity
    refine ⟨(Real.sqrt v)⁻¹, by positivity, rsqrt_coe v pos, ?_⟩
    rw [rsqrt_coe v pos, div_coe _ _ pos.ne']
    congr 1
    have h1 : (Real.sqrt v)⁻¹ * (Real.sqrt v)⁻¹ = v⁻¹ := by rw [← mul_inv, Real.mul_self_sqrt pos.le]
    rw [h1, div_eq_mul_inv, mul_comm]

/-- A factor that is a real number, not negative, goes into a sum of two. -/
theorem mul_two {r : ℝ} (h : 0 ≤ r) (a b : EReal) : (r : EReal) * (a + b) = r * a + r * b :=
  EReal.left_distrib_of_nonneg_of_ne_top (EReal.coe_nonneg.mpr h) (EReal.coe_ne_top r) a b

/-- The same of a sum of many. -/
theorem mul_sum {ι : Type*} {r : ℝ} (h : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, mul_two h, ih]

/-- Two halves of a product with a negative number. -/
theorem halves {k : ℝ} (hk : 0 ≤ k) (a : EReal) : a * ((-(1 / 2) * k : ℝ) : EReal) + a * ((-(1 / 2) * k : ℝ) : EReal) = -(a * (k : EReal)) := by
  have e : ∀ b : EReal, b * ((-(1 / 2) * k : ℝ) : EReal) = -((((1 / 2) * k : ℝ) : EReal) * b) := fun b => by
    rw [show -(1 / 2) * k = -((1 / 2) * k) by ring, EReal.coe_neg, mul_neg, mul_comm]
  have h2 : (a : EReal) * (k : EReal) = (((1 / 2) * k : ℝ) : EReal) * a + (((1 / 2) * k : ℝ) : EReal) * a := by
    rw [← EReal.right_distrib_of_nonneg (EReal.coe_nonneg.mpr (by positivity)) (EReal.coe_nonneg.mpr (by positivity)), ← EReal.coe_add,
      mul_comm]
    congr 2; ring
  rw [e, h2]
  rcases hk.eq_or_lt with rfl | hp
  · simp
  induction a with
  | bot => rw [EReal.coe_mul_bot_of_pos (by positivity)]; rfl
  | top => rw [EReal.coe_mul_top_of_pos (by positivity)]; rfl
  | coe r => simp only [← EReal.coe_mul, ← EReal.coe_add, ← EReal.coe_neg]; congr 1; ring

/-- The gradient at one entry of a row `x`, whose scaled row has the cotangent `w`, beside what comes by the residual. -/
theorem grad (x w : Fin 2048 → EReal) (o : EReal) (l : Fin 2048) {r : ℝ} (h : 0 ≤ r) :
    o + (r : EReal) * (w l - (x l * r) * ((∑ k, w k * (x k * r)) * ((1 / 2048 : ℝ) : EReal)))
      = ((o + w l * r) + x l * (((∑ k, x k * w k) * (((-(1 / 2) : ℝ) : EReal) * ((r * r * r : ℝ) : EReal))) * ((1 / 2048 : ℝ) : EReal)))
        + (((∑ k, x k * w k) * (((-(1 / 2) : ℝ) : EReal) * ((r * r * r : ℝ) : EReal))) * ((1 / 2048 : ℝ) : EReal)) * x l := by
  have hs : ∑ k, w k * (x k * r) = (r : EReal) * ∑ k, x k * w k := by
    rw [mul_sum h]; exact Finset.sum_congr rfl fun k _ => by ac_rfl
  rw [hs]
  generalize ∑ k, x k * w k = S
  have hk : 0 ≤ r * r * r * (1 / 2048) := by positivity
  have hq : S * (((-(1 / 2) : ℝ) : EReal) * ((r * r * r : ℝ) : EReal)) * ((1 / 2048 : ℝ) : EReal)
      = S * ((-(1 / 2) * (r * r * r * (1 / 2048)) : ℝ) : EReal) := by
    rw [← EReal.coe_mul, mul_assoc, ← EReal.coe_mul]; congr 2; ring
  have hx : (r : EReal) * (x l * r * (r * S * ((1 / 2048 : ℝ) : EReal))) = (x l * S) * ((r * r * r * (1 / 2048) : ℝ) : EReal) := by
    simp only [EReal.coe_mul]; ac_rfl
  rw [hq, mul_comm (S * _) (x l), ← mul_assoc (x l) S, add_assoc, halves hk, sub_eq_add_neg, mul_two h, mul_neg, hx, mul_comm (w l),
    ← add_assoc]

end Cert.NormGrad

end
-- ==== Proof.PrenormBwdValue.lean ====
/- The gradient with respect to the tokens: what comes back by the modulated norm, and what comes by the residual. -/
module

public import proofs.«01_k».proof.Defs
public import proofs.«01_k».proof.Proof.Gen.PrenormBwdIdeal
public import proofs.«01_k».proof.Proof.Gen.PrenormBwdIdeal.Value
public import proofs.«01_k».proof.Proof.Gen.PrenormBwdRefIdeal
public import proofs.«01_k».proof.Proof.Gen.PrenormBwdRefIdeal.Run
public import proofs.«01_k».proof.Proof.Gen.PrenormBwdRefIdeal.Read
public import proofs.«01_k».proof.Proof.NormGrad
public import Idealize.ShloMosaic.Lib.Pipeline.ValueKit
public import Idealize.ShloMosaic.Lib.Claim
public import Idealize.ShloMosaic.Lib.Pointwise

@[expose] public section

set_option maxRecDepth 16384

noncomputable section

namespace Cert.PrenormBwdValue

open Cert.PrenormBwdIdeal Cert.PrenormBwdIdeal.Gen
open Idealize.ShloMosaic Idealize.ShloMosaic.TcCoe Idealize.SL Cert.NormGrad

variable (m : (ℓ : Loc nD τ sig) → Buf (Elt Ideal) ℓ) (c : Dev nD)

/-- The gradient of the modulated norm, the tokens, the residual's gradient, the scale and the gain. -/
abbrev dh : S2048x2048.Idx → EReal := m ((c : Thread nD τ).loc main_arg0)
abbrev tok : S2048x2048.Idx → EReal := m ((c : Thread nD τ).loc main_arg1)
abbrev res : S2048x2048.Idx → EReal := m ((c : Thread nD τ).loc main_arg2)
abbrev scale : S1x2048.Idx → EReal := m ((c : Thread nD τ).loc main_arg3)
abbrev gain : S1x2048.Idx → EReal := m ((c : Thread nD τ).loc main_arg4)

/-- Point `t` works on the rows from `256 t` on. -/
def row (t : Fin cfg0.N) (p : Fin 256) : Fin 2048 :=
  ⟨256 * t.val + p.val, by have ht : t.val < 8 := t.isLt; omega⟩

theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0 := by decide +kernel

theorem dh_at (t : Fin cfg0.N) (p : Fin 256) (l : Fin 2048) : iblk m c 0 t (ix2 p l) = dh m c (ix2 (row t p) l) := by
  blk_ext [iblk, V, idx t, row]
theorem tok_at (t : Fin cfg0.N) (p : Fin 256) (l : Fin 2048) : iblk m c 1 t (ix2 p l) = tok m c (ix2 (row t p) l) := by
  blk_ext [iblk, V, idx t, row]
theorem res_at (t : Fin cfg0.N) (p : Fin 256) (l : Fin 2048) : iblk m c 2 t (ix2 p l) = res m c (ix2 (row t p) l) := by
  blk_ext [iblk, V, idx t, row]
theorem scale_at (t : Fin cfg0.N) (l : Fin 2048) : iblk m c 3 t (ix2 0 l) = scale m c (ix2 0 l) := by
  blk_ext [iblk, V, idx t]
theorem gain_at (t : Fin cfg0.N) (l : Fin 2048) : iblk m c 4 t (ix2 0 l) = gain m c (ix2 0 l) := by
  blk_ext [iblk, V, idx t]

/-- The two sides of the claim at one entry, as the kernel and as the derivative have them: `w` is the scaled row's cotangent. -/
def viaRow (x w : Fin 2048 → EReal) (o : EReal) (l : Fin 2048) : EReal :=
  o + Ideal.rsqrt (under x) * (w l - (x l * Ideal.rsqrt (under x)) * ((∑ k, w k * (x k * Ideal.rsqrt (under x))) * ((1 / 2048 : ℝ) : EReal)))

def viaRoot (x w : Fin 2048 → EReal) (o : EReal) (l : Fin 2048) : EReal :=
  ((o + w l * Ideal.rsqrt (under x)) + x l * (((∑ k, x k * w k) * (((-(1 / 2) : ℝ) : EReal)
    * Ideal.div (Ideal.rsqrt (under x)) (under x))) * ((1 / 2048 : ℝ) : EReal)))
    + (((∑ k, x k * w k) * (((-(1 / 2) : ℝ) : EReal) * Ideal.div (Ideal.rsqrt (under x)) (under x))) * ((1 / 2048 : ℝ) : EReal)) * x l

theorem same (x w : Fin 2048 → EReal) (o : EReal) (l : Fin 2048) : viaRow x w o l = viaRoot x w o l := by
  obtain ⟨r, h, e, d⟩ := factor x
  unfold viaRow viaRoot
  rw [d, e]
  exact grad x w o l h

theorem lit_neg_half : Ideal.ofBits .f32 0xBF000000#32 = ((-(1 / 2) : ℝ) : EReal) := by
  simp [Ideal.ofBits, Ideal.ieee, -EReal.coe_mul]; norm_num

/-- What the body makes of a block, at row `p` and lane `l`. -/
theorem body_at (v0 v1 v19 : Vec Ideal S256x2048 .f32) (v12 v13 : Vec Ideal S1x2048 .f32) (p : Fin 256) (l : Fin 2048) :
    k0_pay5 v0 v1 v12 v13 v19 (ix2 p l)
      = viaRow (fun k => v0 (ix2 p k)) (fun k => v1 (ix2 p k) * (v12 (ix2 0 k) * (1 + v13 (ix2 0 k)))) (v19 (ix2 p l)) l := by
  pointwise [k0_pay5, k0_pay4, k0_pay3]
  simp only [div_2048, Cert.Lift.lit_eps]
  rfl

open Cert.PrenormBwdRefIdeal.Read in
/-- What the reference has at row `r` and lane `l`. -/
theorem ref_at (x0 x1 x2 : Vec Ideal S2048x2048 .f32) (x3 x4 : Vec Ideal S1x2048 .f32) (r l : Fin 2048) :
    val_main_v40 (F := Ideal) x0 x1 x2 x3 x4 (ix2 r l)
      = viaRoot (fun k => x1 (ix2 r k)) (fun k => x0 (ix2 r k) * (1 + x3 (ix2 0 k)) * x4 (ix2 0 k)) (x2 (ix2 r l)) l := by
  pointwise [val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v23, val_main_v22, val_main_v17, val_main_v16, val_main_v11, val_main_v10, val_main_v9, val_main_v8, val_main_v7,
    val_main_v6, val_main_v5, val_main_v4, val_main_v3, val_main_v2, val_main_v1, val_main_cst_7, val_main_cst_6, val_main_cst_5,
    val_main_cst_4, val_main_cst_3, val_main_cst_2, val_main_cst_1, val_main_cst_0]
  simp only [div_2048, Cert.Lift.lit_eps, lit_neg_half, Fin.sum_univ_one]
  rfl

open Cert.PrenormBwdRefIdeal.Read in
/-- One point's output is the reference's rows from `256 t` on. -/
theorem point (t : Fin cfg0.N) (p : Fin 256) (l : Fin 2048) : (outsAt0 m c t.val t.isLt).1 (ix2 p l)
    = val_main_v40 (F := Ideal) (dh m c) (tok m c) (res m c) (scale m c) (gain m c) (ix2 (row t p) l) := by
  have body : k0_pay5 (iblk m c 1 t) (iblk m c 0 t) (iblk m c 4 t) (iblk m c 3 t) (iblk m c 2 t) (ix2 p l)
      = val_main_v40 (F := Ideal) (dh m c) (tok m c) (res m c) (scale m c) (gain m c) (ix2 (row t p) l) := by
    rw [body_at, ref_at, ← same]
    simp only [dh_at, tok_at, res_at, scale_at, gain_at]
    congr 1
    funext k
    rw [mul_comm (gain m c _), mul_assoc]
  have ht : t.val < 8 := t.isLt
  rcases Nat.eq_zero_or_pos (t.val % 8) with hz | hz
  · rw [outsAt0_A m c t hz (by omega)]; frame_out
    exact body
  · rw [outsAt0_B m c t (by omega) (by omega)]; frame_out
    exact body

open Cert.PrenormBwdRefIdeal.Read in
/-- The first output after the run. -/
theorem written5 : (dats m 0 c).arrAt 5 cfg0.N
    = fun i : S2048x2048.Idx => val_main_v40 (F := Ideal) (dh m c) (tok m c) (res m c) (scale m c) (gain m c) i := by
  refine (dats m 0 c).arrAt_eq_of_covers 5 _ (by decide +kernel) fun t hf y => ?_
  blk_simp
  rw [after0_5]
  have e : (((View.whole main_v0_0).slice (win0_5.rect t)).emb y) = ix2 (row t (y 0)) (y 1) := by blk_ext [idx t, row]
  rw [e]
  refine Eq.trans ?_ (point m c t (y 0) (y 1))
  exact congrArg _ (eq_ix2 y)

/-- What the kernel leaves in its first array is what the reference has there. -/
theorem algebraic : Cert.algebraic_PrenormBwdIdeal_PrenormBwdRefIdeal (hPrenormBwdIdeal := Cert.PrenormBwdIdeal.Gen.facts)
    (hPrenormBwdRefIdeal := Cert.PrenormBwdRefIdeal.Gen.facts) := by
  intro m g m' g' _ hagree
  refine ⟨_, (θ_run _ _ _).mono (fun _ h c => ⟨(h c).1, (h c).2.2⟩) (Cert.PrenormBwdIdeal.Value.run_blocks m g),
    (θ_run _ _ _).mono (fun _ h c => ?_) (Cert.PrenormBwdRefIdeal.Value.run m' g')⟩
  obtain ⟨a0, a1, a2, a3, a4⟩ := hagree c
  obtain ⟨h0, hk⟩ := h c
  rw [Cert.PrenormBwdRefIdeal.Read.val_main_v40_eq, a0, a1, a2, a3, a4] at h0
  exact ⟨h0.trans (written5 m c).symm, hk⟩

end Cert.PrenormBwdValue

end
-- ==== Proof.SumRowsValue.lean ====
module

public import proofs.«01_k».proof.Defs
public import proofs.«01_k».proof.Proof.Gen.SumRowsIdeal
public import proofs.«01_k».proof.Proof.Gen.SumRowsIdeal.Frame
public import proofs.«01_k».proof.Proof.Gen.SumRowsRefIdeal
public import proofs.«01_k».proof.Proof.Gen.SumRowsRefIdeal.Run
public import proofs.«01_k».proof.Proof.Gen.SumRowsRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.SumRowsValue

open Cert.SumRowsIdeal Cert.SumRowsIdeal.Gen
open Idealize.ShloMosaic Idealize.ShloMosaic.TcCoe Idealize.SL

variable (m : (ℓ : Loc nD τ sig) → Buf (Elt Ideal) ℓ) (c : Dev nD)

/-- The rows to add, one per device. -/
abbrev rows : S8x16512.Idx → EReal := m ((c : Thread nD τ).loc main_arg0)

/-- The sum of the rows at a column. -/
def total (x : S8x16512.Idx → EReal) (i : S8x16512.Idx) : EReal := ∑ k : Fin 8, x (ix2 k (i 1))

theorem idx : ∀ t : Fin cfg0.N, win0_0.index t 0 = 0 ∧ win0_0.index t 1 = 0 ∧ win0_1.index t 0 = 0 ∧ win0_1.index t 1 = 0 := by
  decide +kernel

/-- Every row of the kernel's array is the sum of the rows. -/
theorem summed : (dats m 0 c).arrAt 1 cfg0.N = fun i : S8x16512.Idx => total (rows m c) i := by
  refine (dats m 0 c).arrAt_eq_of_covers 1 _ (by decide +kernel) fun t hf y => ?_
  blk_simp
  rw [after0_1]
  unfold outsAt0
  frame_out
  have e : (((View.whole main_v0).slice (win0_1.rect t)).emb y) = y := by blk_ext [idx t]
  rw [e, eq_ix2 y]
  pointwise [k0_pay1]
  unfold total
  rw [Fin.sum_univ_eight]
  iterate 7 refine congrArg₂ (· + ·) ?_ ?_
  all_goals
    refine (congrFun (Memref.IsWhole.read_unread (hs0_0 t) (iblk m c 0 t)) _).trans ?_
    show V m c main_arg0 _ = _
    rw [V_main_arg0]
    blk_ext [idx t]

open Cert.SumRowsRefIdeal.Read in
/-- The reference's first result. -/
theorem reference (x : S8x16512.Idx → EReal) : val_main_v1 (F := Ideal) x = fun i : S8x16512.Idx => total x i := by
  rw [← val_main_v1_eq]
  funext i
  rw [eq_ix2 i]
  pointwise [total]

/-- The second result is an element of the array. -/
theorem last (c : Dev nD) :
    Pipeline.afterTail₀ cfgs (dats m) 0 (V0 m) [hostOps1] c main_v2
      = shapeCast S_ (extractStridedSlice S1x1 ![0, 16384] ((dats m 0 c).arrAt 1 cfg0.N : S8x16512.Idx → EReal) slices_S8x16512_S1x1_0_16384) shapeCasts_S1x1_S_ := by
  unfold Pipeline.afterTail₀
  rw [show ((dats m 0 c).arrAt 1 cfg0.N : S8x16512.Idx → EReal) = _ from (Pipeline.withArrays_arr spec0 (by decide) c (V0 m c) (fun w => (dats m 0 c).arrAt w cfg0.N) 1).symm]
  simp only [List.flatten_cons, List.flatten_nil, List.append_nil, hostOps1]
  after_results
  rfl

open Cert.SumRowsRefIdeal.Read in
/-- The reference's second result: the element that holds the loss. -/
theorem loss (x : S8x16512.Idx → EReal) (y : S8x16512.Idx → EReal) (h : y = fun i : S8x16512.Idx => total x i) :
    val_main_v3 (F := Ideal) x = shapeCast S_ (extractStridedSlice S1x1 ![0, 16384] y slices_S8x16512_S1x1_0_16384) shapeCasts_S1x1_S_ := by
  rw [← val_main_v3_eq, h]
  funext i
  pointwise [total]

/-- The sums, and the loss among them. -/
theorem algebraic : Cert.algebraic_SumRowsIdeal_SumRowsRefIdeal (hSumRowsIdeal := Cert.SumRowsIdeal.Gen.facts)
    (hSumRowsRefIdeal := Cert.SumRowsRefIdeal.Gen.facts) := by
  intro m g m' g' _ hagree
  have both := θ_run_and (run_main m g) (unchanged m g)
  refine ⟨fun c => (dats m 0 c).arrAt 1 cfg0.N, fun c => Pipeline.afterTail₀ cfgs (dats m) 0 (V0 m) [hostOps1] c main_v2,
    (θ_run _ _ _).mono (fun r h c => ⟨(h.1 c).1 1,
      (h.1 c).2 main_v2 (Pipeline.mem_restRefs_of main_v2 (by decide) (by decide)), h.2 c⟩) both,
    (θ_run _ _ _).mono (fun _ h c => ?_) (Cert.SumRowsRefIdeal.Value.run m' g')⟩
  obtain ⟨h0, h1, hk⟩ := h c
  rw [(hagree c).1] at h0 h1
  exact ⟨h0.trans ((reference (rows m c)).trans (summed m c).symm), h1.trans ((loss (rows m c) _ (summed m c)).trans (last m c).symm), hk⟩

end Cert.SumRowsValue

end
-- ==== Proof.AdamwVectorsValue.lean ====
module

public import proofs.«01_k».proof.Defs
public import proofs.«01_k».proof.Proof.Gen.AdamwVectorsIdeal
public import proofs.«01_k».proof.Proof.Gen.AdamwVectorsIdeal.Value
public import proofs.«01_k».proof.Proof.Gen.AdamwVectorsRefIdeal
public import proofs.«01_k».proof.Proof.Gen.AdamwVectorsRefIdeal.Run
public import proofs.«01_k».proof.Proof.Gen.AdamwVectorsRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.AdamwVectorsValue

open Cert.AdamwVectorsIdeal Cert.AdamwVectorsIdeal.Gen Cert.AdamwVectorsIdeal.Value
open Idealize.ShloMosaic Idealize.ShloMosaic.TcCoe Idealize.SL

open Cert.AdamwVectorsRefIdeal.Read in
/-- What the kernel leaves in each of its arrays is what the reference has there. -/
theorem outputs (x0 : S8x16512.Idx → EReal) (x1 x2 x3 : S1x6144.Idx → EReal) (x4 x5 x6 x7 x8 x9 : S1x2048.Idx → EReal) :
    G10 (F := Ideal) x0 x1 x2 x3 x4 x5 x6 x7 x8 x9 = val_main_v0 (F := Ideal) x0
    ∧ G11 (F := Ideal) x0 x1 x2 x3 x4 x5 x6 x7 x8 x9 = val_main_v26 (F := Ideal) x0 x1 x2 x3
    ∧ G12 (F := Ideal) x0 x1 x2 x3 x4 x5 x6 x7 x8 x9 = val_main_v7 (F := Ideal) x0 x2
    ∧ G13 (F := Ideal) x0 x1 x2 x3 x4 x5 x6 x7 x8 x9 = val_main_v13 (F := Ideal) x0 x3
    ∧ G14 (F := Ideal) x0 x1 x2 x3 x4 x5 x6 x7 x8 x9 = val_main_v1 (F := Ideal) x0
    ∧ G15 (F := Ideal) x0 x1 x2 x3 x4 x5 x6 x7 x8 x9 = val_main_v50 (F := Ideal) x0 x4 x5 x6
    ∧ G16 (F := Ideal) x0 x1 x2 x3 x4 x5 x6 x7 x8 x9 = val_main_v31 (F := Ideal) x0 x5
    ∧ G17 (F := Ideal) x0 x1 x2 x3 x4 x5 x6 x7 x8 x9 = val_main_v37 (F := Ideal) x0 x6
    ∧ G18 (F := Ideal) x0 x1 x2 x3 x4 x5 x6 x7 x8 x9 = val_main_v2 (F := Ideal) x0
    ∧ G19 (F := Ideal) x0 x1 x2 x3 x4 x5 x6 x7 x8 x9 = val_main_v74 (F := Ideal) x0 x7 x8 x9
    ∧ G20 (F := Ideal) x0 x1 x2 x3 x4 x5 x6 x7 x8 x9 = val_main_v55 (F := Ideal) x0 x8
    ∧ G21 (F := Ideal) x0 x1 x2 x3 x4 x5 x6 x7 x8 x9 = val_main_v61 (F := Ideal) x0 x9 := by
  rw [← val_main_v0_eq, ← val_main_v26_eq, ← val_main_v7_eq, ← val_main_v13_eq, ← val_main_v1_eq, ← val_main_v50_eq,
    ← val_main_v31_eq, ← val_main_v37_eq, ← val_main_v2_eq, ← val_main_v74_eq, ← val_main_v55_eq, ← val_main_v61_eq]
  and_intros
  all_goals
    funext i
    simp only [G10, G11, G12, G13, G14, G15, G16, G17, G18, G19, G20, G21]
    rw [eq_ix2 i]
    pointwise [k0_pay1, k0_pay2, k0_pay3, k0_pay4, k0_pay5, k0_pay6, k0_pay7, k0_pay8, k0_pay9]

theorem algebraic : Cert.algebraic_AdamwVectorsIdeal_AdamwVectorsRefIdeal (hAdamwVectorsIdeal := Cert.AdamwVectorsIdeal.Gen.facts)
    (hAdamwVectorsRefIdeal := Cert.AdamwVectorsRefIdeal.Gen.facts) := by
  intro m g m' g' _ hagree
  refine ⟨_, _, _, _, _, _, _, _, _, _, _, _, (θ_run _ _ _).mono (fun _ h c => h c) (Cert.AdamwVectorsIdeal.Value.run m g),
    (θ_run _ _ _).mono (fun _ h c => ?_) (Cert.AdamwVectorsRefIdeal.Value.run m' g')⟩
  obtain ⟨a0, a1, a2, a3, a4, a5, a6, a7, a8, a9⟩ := hagree c
  obtain ⟨e0, e1, e2, e3, e4, e5, e6, e7, e8, e9, e10, e11⟩ := outputs (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
  obtain ⟨h0, h1, h2, h3, h4, h5, h6, h7, h8, h9, h10, h11, hk⟩ := h c
  rw [a0] at h0 h4 h8
  rw [a0, a1, a2, a3] at h1
  rw [a0, a2] at h2
  rw [a0, a3] at h3
  rw [a0, a4, a5, a6] at h5
  rw [a0, a5] at h6
  rw [a0, a6] at h7
  rw [a0, a7, a8, a9] at h9
  rw [a0, a8] at h10
  rw [a0, a9] at h11
  exact ⟨h0.trans e0.symm, h1.trans e1.symm, h2.trans e2.symm, h3.trans e3.symm, h4.trans e4.symm, h5.trans e5.symm,
    h6.trans e6.symm, h7.trans e7.symm, h8.trans e8.symm, h9.trans e9.symm, h10.trans e10.symm, h11.trans e11.symm, hk⟩

end Cert.AdamwVectorsValue

end
-- ==== Proof.AdamwConvValue.lean ====
module

public import proofs.«01_k».proof.Defs
public import proofs.«01_k».proof.Proof.Gen.AdamwConvIdeal
public import proofs.«01_k».proof.Proof.Gen.AdamwConvIdeal.Value
public import proofs.«01_k».proof.Proof.Gen.AdamwConvRefIdeal
public import proofs.«01_k».proof.Proof.Gen.AdamwConvRefIdeal.Run
public import proofs.«01_k».proof.Proof.Gen.AdamwConvRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.AdamwConvValue

open Cert.AdamwConvIdeal Cert.AdamwConvIdeal.Gen Cert.AdamwConvIdeal.Value
open Idealize.ShloMosaic Idealize.ShloMosaic.TcCoe Idealize.SL

open Cert.AdamwConvRefIdeal.Read in
/-- What the kernel leaves in each of its arrays is what the reference has there. -/
theorem outputs (x0 : S8x16512.Idx → EReal) (x1 x2 x3 x4 : S3x1x128.Idx → EReal) (x5 x6 x7 : S1x1024.Idx → EReal) :
    G8 (F := Ideal) x0 x1 x2 x3 x4 x5 x6 x7 = x1
    ∧ G9 (F := Ideal) x0 x1 x2 x3 x4 x5 x6 x7 = val_main_v24 (F := Ideal) x1 x2 x3 x4
    ∧ G10 (F := Ideal) x0 x1 x2 x3 x4 x5 x6 x7 = val_main_v5 (F := Ideal) x1 x3
    ∧ G11 (F := Ideal) x0 x1 x2 x3 x4 x5 x6 x7 = val_main_v11 (F := Ideal) x1 x4
    ∧ G12 (F := Ideal) x0 x1 x2 x3 x4 x5 x6 x7 = val_main_v0 (F := Ideal) x0
    ∧ G13 (F := Ideal) x0 x1 x2 x3 x4 x5 x6 x7 = val_main_v48 (F := Ideal) x0 x5 x6 x7
    ∧ G14 (F := Ideal) x0 x1 x2 x3 x4 x5 x6 x7 = val_main_v29 (F := Ideal) x0 x6
    ∧ G15 (F := Ideal) x0 x1 x2 x3 x4 x5 x6 x7 = val_main_v35 (F := Ideal) x0 x7 := by
  rw [← val_main_v24_eq, ← val_main_v5_eq, ← val_main_v11_eq, ← val_main_v0_eq, ← val_main_v48_eq, ← val_main_v29_eq, ← val_main_v35_eq]
  and_intros
  · rfl
  iterate 3
    funext i
    simp only [G9, G10, G11]
    rw [eq_ix3 i]
    pointwise [k0_pay1, k0_pay2, k0_pay3]
  all_goals
    funext i
    simp only [G12, G13, G14, G15]
    rw [eq_ix2 i]
    pointwise [k0_pay4, k0_pay5, k0_pay6]

theorem algebraic : Cert.algebraic_AdamwConvIdeal_AdamwConvRefIdeal (hAdamwConvIdeal := Cert.AdamwConvIdeal.Gen.facts)
    (hAdamwConvRefIdeal := Cert.AdamwConvRefIdeal.Gen.facts) := by
  intro m g m' g' _ hagree
  refine ⟨_, _, _, _, _, _, _, _, (θ_run _ _ _).mono (fun _ h c => h c) (Cert.AdamwConvIdeal.Value.run m g),
    (θ_run _ _ _).mono (fun _ h c => ?_) (Cert.AdamwConvRefIdeal.Value.run m' g')⟩
  obtain ⟨a0, a1, a2, a3, a4, a5, a6, a7⟩ := hagree c
  obtain ⟨e0, e1, e2, e3, e4, e5, e6, e7⟩ := outputs (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
  obtain ⟨h0, h1, h2, h3, h4, h5, h6, h7, hk⟩ := h c
  rw [a1] at h0
  rw [a1, a2, a3, a4] at h1
  rw [a1, a3] at h2
  rw [a1, a4] at h3
  rw [a0] at h4
  rw [a0, a5, a6, a7] at h5
  rw [a0, a6] at h6
  rw [a0, a7] at h7
  exact ⟨h0.trans e0.symm, h1.trans e1.symm, h2.trans e2.symm, h3.trans e3.symm, h4.trans e4.symm, h5.trans e5.symm, h6.trans e6.symm, h7.trans e7.symm, hk⟩

end Cert.AdamwConvValue

end
-- ==== Proof.AdamwNormsValue.lean ====
module

public import proofs.«01_k».proof.Defs
public import proofs.«01_k».proof.Proof.Gen.AdamwNormsIdeal
public import proofs.«01_k».proof.Proof.Gen.AdamwNormsIdeal.Value
public import proofs.«01_k».proof.Proof.Gen.AdamwNormsRefIdeal
public import proofs.«01_k».proof.Proof.Gen.AdamwNormsRefIdeal.Run
public import proofs.«01_k».proof.Proof.Gen.AdamwNormsRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.AdamwNormsValue

open Cert.AdamwNormsIdeal Cert.AdamwNormsIdeal.Gen Cert.AdamwNormsIdeal.Value
open Idealize.ShloMosaic Idealize.ShloMosaic.TcCoe Idealize.SL

open Cert.AdamwNormsRefIdeal.Read in
/-- What the kernel leaves in each of its arrays is what the reference has there. -/
theorem outputs (x0 : S8x16512.Idx → EReal) (x1 x2 x3 x4 x5 x6 : S1x1024.Idx → EReal) :
    G7 (F := Ideal) x0 x1 x2 x3 x4 x5 x6 = val_main_v0 (F := Ideal) x0
    ∧ G8 (F := Ideal) x0 x1 x2 x3 x4 x5 x6 = val_main_v25 (F := Ideal) x0 x1 x2 x3
    ∧ G9 (F := Ideal) x0 x1 x2 x3 x4 x5 x6 = val_main_v6 (F := Ideal) x0 x2
    ∧ G10 (F := Ideal) x0 x1 x2 x3 x4 x5 x6 = val_main_v12 (F := Ideal) x0 x3
    ∧ G11 (F := Ideal) x0 x1 x2 x3 x4 x5 x6 = val_main_v1 (F := Ideal) x0
    ∧ G12 (F := Ideal) x0 x1 x2 x3 x4 x5 x6 = val_main_v49 (F := Ideal) x0 x4 x5 x6
    ∧ G13 (F := Ideal) x0 x1 x2 x3 x4 x5 x6 = val_main_v30 (F := Ideal) x0 x5
    ∧ G14 (F := Ideal) x0 x1 x2 x3 x4 x5 x6 = val_main_v36 (F := Ideal) x0 x6 := by
  rw [← val_main_v0_eq, ← val_main_v25_eq, ← val_main_v6_eq, ← val_main_v12_eq, ← val_main_v1_eq, ← val_main_v49_eq, ← val_main_v30_eq, ← val_main_v36_eq]
  and_intros
  all_goals
    funext i
    simp only [G7, G8, G9, G10, G11, G12, G13, G14]
    rw [eq_ix2 i]
    pointwise [k0_pay1, k0_pay2, k0_pay3, k0_pay4, k0_pay5, k0_pay6]

theorem algebraic : Cert.algebraic_AdamwNormsIdeal_AdamwNormsRefIdeal (hAdamwNormsIdeal := Cert.AdamwNormsIdeal.Gen.facts)
    (hAdamwNormsRefIdeal := Cert.AdamwNormsRefIdeal.Gen.facts) := by
  intro m g m' g' _ hagree
  refine ⟨_, _, _, _, _, _, _, _, (θ_run _ _ _).mono (fun _ h c => h c) (Cert.AdamwNormsIdeal.Value.run m g),
    (θ_run _ _ _).mono (fun _ h c => ?_) (Cert.AdamwNormsRefIdeal.Value.run m' g')⟩
  obtain ⟨a0, a1, a2, a3, a4, a5, a6⟩ := hagree c
  obtain ⟨e0, e1, e2, e3, e4, e5, e6, e7⟩ := outputs (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
  obtain ⟨h0, h1, h2, h3, h4, h5, h6, h7, hk⟩ := h c
  rw [a0] at h0
  rw [a0, a1, a2, a3] at h1
  rw [a0, a2] at h2
  rw [a0, a3] at h3
  rw [a0] at h4
  rw [a0, a4, a5, a6] at h5
  rw [a0, a5] at h6
  rw [a0, a6] at h7
  exact ⟨h0.trans e0.symm, h1.trans e1.symm, h2.trans e2.symm, h3.trans e3.symm, h4.trans e4.symm, h5.trans e5.symm, h6.trans e6.symm, h7.trans e7.symm, hk⟩

end Cert.AdamwNormsValue

end
-- ==== Proof.AdamwAdaValue.lean ====
module

public import proofs.«01_k».proof.Defs
public import proofs.«01_k».proof.Proof.Gen.AdamwAdaIdeal
public import proofs.«01_k».proof.Proof.Gen.AdamwAdaIdeal.Value
public import proofs.«01_k».proof.Proof.Gen.AdamwAdaRefIdeal
public import proofs.«01_k».proof.Proof.Gen.AdamwAdaRefIdeal.Run
public import proofs.«01_k».proof.Proof.Gen.AdamwAdaRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.AdamwAdaValue

open Cert.AdamwAdaIdeal Cert.AdamwAdaIdeal.Gen
open Idealize.ShloMosaic Idealize.ShloMosaic.TcCoe Idealize.SL

variable (m : (ℓ : Loc nD τ sig) → Buf (Elt Ideal) ℓ) (c : Dev nD)

/-- The activation of the condition, its gradient, the parameter and its two moments. -/
abbrev act : S2048x8.Idx → EReal := m ((c : Thread nD τ).loc main_arg0)
abbrev dmod : S8x768.Idx → EReal := m ((c : Thread nD τ).loc main_arg1)
abbrev param : S2048x768.Idx → EReal := m ((c : Thread nD τ).loc main_arg2)
abbrev mom : S2048x768.Idx → EReal := m ((c : Thread nD τ).loc main_arg3)
abbrev vel : S2048x768.Idx → EReal := m ((c : Thread nD τ).loc main_arg4)

/-- Point `t` works on the rows from `512 t` on. -/
def row (t : Fin cfg0.N) (y : S512x768.Idx) : S2048x768.Idx :=
  ix2 ⟨512 * t.val + (y 0).val, by have ht : t.val < 4 := t.isLt; have hy : (y 0).val < 512 := (y 0).isLt; omega⟩ ⟨(y 1).val, (y 1).isLt⟩

theorem idx : ∀ t : Fin cfg0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0
    ∧ win0_8.index t 0 = t.val ∧ win0_8.index t 1 = 0 := by decide +kernel

theorem param_at (t : Fin cfg0.N) (y : S512x768.Idx) : iblk m c 2 t y = param m c (row t y) := by
  blk_ext [iblk, V, idx t, row]

theorem mom_at (t : Fin cfg0.N) (y : S512x768.Idx) : iblk m c 3 t y = mom m c (row t y) := by
  blk_ext [iblk, V, idx t, row]

theorem vel_at (t : Fin cfg0.N) (y : S512x768.Idx) : iblk m c 4 t y = vel m c (row t y) := by
  blk_ext [iblk, V, idx t, row]

open Cert.AdamwAdaRefIdeal.Read in
/-- The block's product over the eight conditions is the reference's gradient. -/
theorem gradient (t : Fin cfg0.N) (y : S512x768.Idx) :
    k0_pay1 (F := Ideal) (iblk m c 0 t) (iblk m c 1 t) y = val_main_v3 (F := Ideal) (act m c) (dmod m c) (row t y) := by
  rw [← val_main_v3_eq, eq_ix2 y]
  pointwise [k0_pay1, row]
  refine Fin.sum_fin_congr fun k => (mul_comm _ _).trans ?_
  congr 1
  · blk_ext [iblk, V, idx t]
  · blk_ext [iblk, V, idx t]

open Cert.AdamwAdaRefIdeal.Read in
/-- The gradient as the kernel leaves it. -/
theorem written5 : (dats m 0 c).arrAt 5 cfg0.N = fun i : S2048x768.Idx => val_main_v3 (F := Ideal) (act m c) (dmod m c) i := by
  refine (dats m 0 c).arrAt_eq_of_covers 5 _ (by decide +kernel) fun t hf y => ?_
  blk_simp
  rw [after0_5]
  unfold outsAt0
  frame_out
  refine (gradient m c t y).trans (congrArg _ ?_)
  blk_ext [idx t, row]

open Cert.AdamwAdaRefIdeal.Read in
/-- The step taken. -/
theorem written6 : (dats m 0 c).arrAt 6 cfg0.N
    = fun i : S2048x768.Idx => val_main_v27 (F := Ideal) (act m c) (dmod m c) (param m c) (mom m c) (vel m c) i := by
  refine (dats m 0 c).arrAt_eq_of_covers 6 _ (by decide +kernel) fun t hf y => ?_
  blk_simp
  rw [after0_6]
  unfold outsAt0
  frame_out
  have e : (((View.whole main_v0_1).slice (win0_6.rect t)).emb y) = row t y := by blk_ext [idx t, row]
  rw [e]
  pointwise [k0_pay4, k0_pay3, k0_pay2, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4]
  simp only [gradient m c t y, param_at m c t y, mom_at m c t y, vel_at m c t y]
  rfl

open Cert.AdamwAdaRefIdeal.Read in
/-- The first moment. -/
theorem written7 : (dats m 0 c).arrAt 7 cfg0.N
    = fun i : S2048x768.Idx => val_main_v8 (F := Ideal) (act m c) (dmod m c) (mom m c) i := by
  refine (dats m 0 c).arrAt_eq_of_covers 7 _ (by decide +kernel) fun t hf y => ?_
  blk_simp
  rw [after0_7]
  unfold outsAt0
  frame_out
  have e : (((View.whole main_v0_2).slice (win0_7.rect t)).emb y) = row t y := by blk_ext [idx t, row]
  rw [e]
  pointwise [k0_pay2, val_main_v8, val_main_v7, val_main_v6, val_main_v5, val_main_v4]
  simp only [gradient m c t y, mom_at m c t y]
  rfl

open Cert.AdamwAdaRefIdeal.Read in
/-- The second moment. -/
theorem written8 : (dats m 0 c).arrAt 8 cfg0.N
    = fun i : S2048x768.Idx => val_main_v14 (F := Ideal) (act m c) (dmod m c) (vel m c) i := by
  refine (dats m 0 c).arrAt_eq_of_covers 8 _ (by decide +kernel) fun t hf y => ?_
  blk_simp
  rw [after0_8]
  unfold outsAt0
  frame_out
  have e : (((View.whole main_v0_3).slice (win0_8.rect t)).emb y) = row t y := by blk_ext [idx t, row]
  rw [e]
  pointwise [k0_pay3, val_main_v14, val_main_v13, val_main_v12, val_main_v11, val_main_v10, val_main_v9]
  simp only [gradient m c t y, vel_at m c t y]
  rfl

/-- What the kernel leaves in its four arrays is what the reference has there. -/
theorem algebraic : Cert.algebraic_AdamwAdaIdeal_AdamwAdaRefIdeal (hAdamwAdaIdeal := Cert.AdamwAdaIdeal.Gen.facts)
    (hAdamwAdaRefIdeal := Cert.AdamwAdaRefIdeal.Gen.facts) := by
  intro m g m' g' _ hagree
  refine ⟨_, _, _, _, (θ_run _ _ _).mono (fun _ h c => h c) (Cert.AdamwAdaIdeal.Value.run_blocks m g),
    (θ_run _ _ _).mono (fun _ h c => ?_) (Cert.AdamwAdaRefIdeal.Value.run m' g')⟩
  obtain ⟨a0, a1, a2, a3, a4, a5⟩ := hagree c
  obtain ⟨h0, h1, h2, h3, hk⟩ := h c
  rw [a0, a1] at h0
  rw [a0, a1, a2, a3, a4] at h1
  rw [a0, a1, a3] at h2
  rw [a0, a1, a4] at h3
  exact ⟨h0.trans (written5 m c).symm, h1.trans (written6 m c).symm, h2.trans (written7 m c).symm, h3.trans (written8 m c).symm, hk⟩

end Cert.AdamwAdaValue

end
-- ==== Proof.Slots.lean ====
/- The slots of the columns of the input projection.

   The matrix is kept as eight slabs of 1024 columns each, one after another in the result.  A device
   writes some of the slabs at a time; which ones is the exclusive or of its own number with some
   constants. -/
module

public import Idealize.ShloMosaic.Lib.ValueIdxCore
public import Idealize.ShloMosaic.Lib.Pointwise
public import Idealize.ShloMosaic.PureOps

@[expose] public section

noncomputable section

namespace Cert.Slots

open Idealize.ShloMosaic

/-- The slab of a column of the result, and the column inside the slab. -/
def slot (l : Fin 8192) : Fin 8 := ⟨l / 1024, by omega⟩
def lane (l : Fin 8192) : Fin 1024 := ⟨l % 1024, by omega⟩

theorem slot_val (l : Fin 8192) : (slot l : Nat) = l / 1024 := rfl
theorem lane_val (l : Fin 8192) : (lane l : Nat) = l % 1024 := rfl

/-- The exclusive or of two of the eight numbers, as words. -/
theorem xor_eq (k : Fin 8) (d s : Fin 8) :
    IntOp.cmpi .eq (IntOp.xori (BitVec.ofNat 32 s) (BitVec.ofNat 32 d)) (BitVec.ofNat 32 k) = if (s : Nat) = d ^^^ k then 1#1 else 0#1 := by
  revert k d s
  decide +kernel

/-- The same, for either of two constants. -/
theorem either_eq (k k' d s : Fin 8) :
    IntOp.ori (IntOp.cmpi .eq (IntOp.xori (BitVec.ofNat 32 s) (BitVec.ofNat 32 d)) (BitVec.ofNat 32 k))
        (IntOp.cmpi .eq (IntOp.xori (BitVec.ofNat 32 s) (BitVec.ofNat 32 d)) (BitVec.ofNat 32 k'))
      = if (s : Nat) = d ^^^ k ∨ (s : Nat) = d ^^^ k' then 1#1 else 0#1 := by
  revert k k' d s
  decide +kernel

/-- A selection by the bit of a proposition is the case split. -/
theorem select_ite (P : Prop) [Decidable P] (a b : EReal) :
    Scalar.select (if P then 1#1 else 0#1) a b = if P then a else b := by
  by_cases h : P
  · rw [if_pos h, if_pos h]
    rfl
  · rw [if_neg h, if_neg h]
    rfl

/-- The element of the slabs that row `k`, column `l` of the joined matrix holds, found by its position. -/
theorem position (k : Fin 2048) (l : Fin 8192) (q : (⟨3, ![8, 2048, 1024]⟩ : Shape).Idx)
    (h0 : (q 0 : Nat) = (k * 8192 + l) / 1024 % 8) (h1 : (q 1 : Nat) = (k * 8192 + l) / 8192)
    (h2 : (q 2 : Nat) = (k * 8192 + l) % 1024) : q = ix3 (slot l) k (lane l) := by
  have := l.isLt
  funext a
  match a with
  | ⟨0, _⟩ => exact Fin.ext (h0.trans (by show _ = (l : Nat) / 1024; omega))
  | ⟨1, _⟩ => exact Fin.ext (h1.trans (by show _ = (k : Nat); omega))
  | ⟨2, _⟩ => exact Fin.ext (h2.trans (by show _ = (l : Nat) % 1024; omega))

/-- The rows times the slabs. -/
def product (h : (⟨2, ![2048, 2048]⟩ : Shape).Idx → EReal) (w : (⟨3, ![8, 2048, 1024]⟩ : Shape).Idx → EReal)
    (i : (⟨2, ![2048, 8192]⟩ : Shape).Idx) : EReal :=
  ∑ k : Fin 2048, h (ix2 (i 0) k) * w (ix3 (slot (i 1)) k (lane (i 1)))

end Cert.Slots

end
-- ==== Proof.Words.lean ====
/- What a comparison with two bounds says of a word. -/
module

public import Idealize.ShloMosaic.Lib.StableHlo.Predicate
public import Idealize.ShloMosaic.Lib.Pipeline.Value
public import Idealize.ShloMosaic.Lib.Pointwise

@[expose] public section

namespace Cert.Words

open Idealize.ShloMosaic

/-- A word that is at least zero and less than `n`, read signed, is one of the first `n` numbers. -/
theorem word_of_bounds (n : Nat) (hn : n < 2 ^ 31) (x : BitVec 32) (h0 : IntOp.cmpi .sge x 0#32 = 1#1)
    (h1 : IntOp.cmpi .slt x (BitVec.ofNat 32 n) = 1#1) : ∃ d : Fin n, x = BitVec.ofNat 32 d := by
  have a : (0#32).sle x = true := (StableHlo.Predicate.ofBool_eq_one_iff _).mp h0
  have b : x.slt (BitVec.ofNat 32 n) = true := (StableHlo.Predicate.ofBool_eq_one_iff _).mp h1
  rw [BitVec.sle_iff_toInt_le] at a
  rw [BitVec.slt_iff_toInt_lt, StableHlo.Predicate.toInt_ofNat_small n hn] at b
  have hx : x.toNat < n := by
    have := BitVec.toInt_eq_toNat_cond x
    simp at a
    split at this <;> omega
  exact ⟨⟨x.toNat, hx⟩, by simp⟩

/-- A table of one word, at least zero and less than `n`, holds one of the first `n` numbers. -/
theorem table_of_bounds (n : Nat) (hn : n < 2 ^ 31) (T : (⟨1, ![1]⟩ : Shape).Idx → BitVec 32)
    (h0 : ∀ x, IntOp.cmpi .sge (T x) 0#32 = 1#1) (h1 : ∀ x, IntOp.cmpi .slt (T x) (BitVec.ofNat 32 n) = 1#1) :
    ∃ d : Fin n, T = fun _ => BitVec.ofNat 32 d := by
  obtain ⟨d, hd⟩ := word_of_bounds n hn _ (h0 (ix1 0)) (h1 (ix1 0))
  refine ⟨d, funext fun x => Eq.trans (congrArg T ?_) hd⟩
  rw [eq_ix1 x]
  exact congrArg ix1 (Subsingleton.elim (α := Fin 1) _ _)

/-- The second word of a pair, sliced off and read as a scalar. -/
theorem second (T : (⟨1, ![2]⟩ : Shape).Idx → BitVec 32) (hs : (⟨1, ![2]⟩ : Shape).Slices ![1] ⟨1, ![1]⟩)
    (hc : (⟨1, ![1]⟩ : Shape).ShapeCasts ⟨0, ![]⟩) :
    shapeCast ⟨0, ![]⟩ (extractStridedSlice ⟨1, ![1]⟩ ![1] T hs) hc ix0 = T (ix1 1) := by
  refine (shapeCast_apply _ hc ix0 (ix1 0) (by decide)).trans ?_
  refine extractStridedSlice_apply _ T hs _ _ fun a => ?_
  match a with
  | ⟨0, _⟩ => rfl

end Cert.Words
-- ==== Proof.InProjAValue.lean ====
module

public import proofs.«01_k».proof.Defs
public import proofs.«01_k».proof.Proof.Gen.InProjAIdeal
public import proofs.«01_k».proof.Proof.Gen.InProjAIdeal.Frame
public import proofs.«01_k».proof.Proof.Gen.InProjARefIdeal
public import proofs.«01_k».proof.Proof.Gen.InProjARefIdeal.Run
public import proofs.«01_k».proof.Proof.Gen.InProjARefIdeal.Read
public import proofs.«01_k».proof.Proof.Gen.Pre_known_device
public import proofs.«01_k».proof.Proof.Gen.On_written_a
public import proofs.«01_k».proof.Proof.Slots
public import proofs.«01_k».proof.Proof.Words
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

noncomputable section

namespace Cert.InProjAValue

open Cert.InProjAIdeal Cert.InProjAIdeal.Gen
open Idealize.ShloMosaic Idealize.ShloMosaic.TcCoe Idealize.SL

variable (m : (ℓ : Loc nD τ sig) → Buf (Elt Ideal) ℓ) (c : Dev nD)

/-- The slabs this call writes. -/
def Written (d : Fin 8) (s : Nat) : Prop := s = d ^^^ 0 ∨ s = d ^^^ 1
instance (d : Fin 8) (s : Nat) : Decidable (Written d s) := inferInstanceAs (Decidable (_ ∨ _))

/-- The table that holds the number `d`. -/
def table (d : Fin 8) : pre0.Contents (Elt Ideal)
  | ⟨0, _⟩ => (fun _ => BitVec.ofNat 32 d : IVec S1 32)

theorem table_ok : ∀ d, ok0 (table d) := by decide +kernel

theorem covers (a : pcfg0.Adm) (d : Fin 8) (h : a.1 = table d) :
    ((cfg0 (F := Ideal) a).win 2).CoversWhere fun β => Written d (β (1 : Fin 2)) := by
  obtain ⟨pf, hp⟩ := a
  cases h
  show ((cfg0 (F := Ideal) ⟨table d, table_ok d⟩).win 2).CoversWhere fun β => Written d (β (1 : Fin 2))
  clear hp
  revert d
  decide +kernel

theorem idx (a : pcfg0.Adm) (d : Fin 8) (h : a.1 = table d) : ∀ t : Fin (cfg0 (F := Ideal) a).N,
    ((cfg0 a).win 0).index t (0 : Fin 2) = ((cfg0 a).win 2).index t (0 : Fin 2)
    ∧ ((cfg0 a).win 0).index t (1 : Fin 2) = 0
    ∧ ((cfg0 a).win 1).index t (0 : Fin 3) = ((cfg0 a).win 2).index t (1 : Fin 2)
    ∧ ((cfg0 a).win 1).index t (1 : Fin 3) = 0
    ∧ ((cfg0 a).win 1).index t (2 : Fin 3) = 0 := by
  obtain ⟨pf, hp⟩ := a
  cases h
  have : ∀ (d : Fin 8) (t : Fin (cfg0 (F := Ideal) ⟨table d, table_ok d⟩).N),
    ((cfg0 ⟨table d, table_ok d⟩).win 0).index t (0 : Fin 2) = ((cfg0 ⟨table d, table_ok d⟩).win 2).index t (0 : Fin 2)
    ∧ ((cfg0 ⟨table d, table_ok d⟩).win 0).index t (1 : Fin 2) = 0
    ∧ ((cfg0 ⟨table d, table_ok d⟩).win 1).index t (0 : Fin 3) = ((cfg0 ⟨table d, table_ok d⟩).win 2).index t (1 : Fin 2)
    ∧ ((cfg0 ⟨table d, table_ok d⟩).win 1).index t (1 : Fin 3) = 0
    ∧ ((cfg0 ⟨table d, table_ok d⟩).win 1).index t (2 : Fin 3) = 0 := by decide +kernel
  exact this d

variable {m} in
theorem value (hO : Ok m) (d : Fin 8) (hd : tbl m = table d) (i : S2048x8192.Idx) (hi : Written d ((i 1 : Nat) / 1024)) :
    (dats m hO 0 c).arrAt 2 (cfgM m hO).N i
      = Slots.product (m ((c : Thread nD τ).loc main_arg0)) (m ((c : Thread nD τ).loc main_arg1)) i := by
  refine ((dats m hO 0 c).arrAt_apply_of_coversWhere 2 (Slots.product (m ((c : Thread nD τ).loc main_arg0)) (m ((c : Thread nD τ).loc main_arg1)))
    (fun β => Written d (β (1 : Fin 2))) (covers _ d hd) (fun t hf y => ?_) (P := fun i : S2048x8192.Idx => Written d ((i 1 : Nat) / 1024)) (fun j => Iff.rfl) i).trans (if_pos hi)
  blk_simp
  rw [after0_2]
  unfold outsAt0
  frame_out
  rw [eq_ix2 y]
  pointwise [k0_pay1]
  refine Fin.sum_fin_congr fun k => ?_
  have hx := idx _ d hd t
  congr 1
  · refine (congrFun (Memref.IsWhole.read_unread (hs0_0 m hO t) (iblk m hO c 0 t)) _).trans ?_
    show V m c main_arg0 _ = _
    rw [V_main_arg0]
    blk_ext [hx]
  · refine (congrFun (Memref.IsWhole.read_unread (hs0_1 m hO t) (iblk m hO c 1 t)) _).trans ?_
    show V m c main_arg1 _ = _
    rw [V_main_arg1]
    blk_ext [hx]
    · refine Eq.trans ?_ (Slots.slot_val _).symm
      blk_simp
      omega
    · refine Eq.trans ?_ (Slots.lane_val _).symm
      blk_simp
      omega

/-- The mask of the columns this call writes. -/
theorem mask (h : S2048x2048.Idx → EReal) (w : S8x2048x1024.Idx → EReal) (d : Fin 8) (i : S2048x8192.Idx) :
    Cert.On_written_a.fn (F := Ideal) h w (fun _ => BitVec.ofNat 32 d) i = if Written d ((i 1 : Nat) / 1024) then 1#1 else 0#1 := by
  refine Eq.trans ?_ (Slots.either_eq 0 1 d (Slots.slot (i 1)))
  rw [eq_ix2 i]
  pointwise [Cert.On_written_a.fn]
  rfl

open Cert.InProjARefIdeal.Read in
/-- The reference, at an element. -/
theorem reference (h : S2048x2048.Idx → EReal) (w : S8x2048x1024.Idx → EReal) :
    val_main_v4 (F := Ideal) h w = Slots.product h w := by
  funext i
  rw [val_main_v4_apply]
  refine Finset.sum_congr rfl fun k _ => ?_
  rw [val_main_v2_apply, val_main_v3_apply, val_main_v1_apply, val_main_v0_apply]
  refine congrArg₂ (· * ·) (congrArg h (funext fun a => ?_)) (congrArg w (Slots.position k (i 1) _ rfl rfl rfl))
  match a with
  | ⟨0, _⟩ => rfl
  | ⟨1, _⟩ => rfl

theorem ok_of_table (d : Fin 8) (hT : tbl m = table d) : Ok m := by
  unfold Ok
  rw [hT]
  exact table_ok d

theorem known (hpre : Cert.Pre_InProjAIdeal m) : ∃ d : Fin 8, tbl m = table d := by
  have h0 := congrFun (hpre 0).1
  have h1 := congrFun (hpre 0).2
  obtain ⟨d, hd⟩ := Words.table_of_bounds 8 (by decide) _ h0 h1
  exact ⟨d, funext fun | ⟨0, _⟩ => hd⟩

theorem written_of_mask (hpre : Cert.Pre_InProjAIdeal m) (d : Fin 8) (hT : tbl m = table d) (i : S2048x8192.Idx)
    (hi : Cert.On_written_a.fn (F := Ideal) (m ((c.tc : Thread nD τ).loc main_arg0)) (m ((c.tc : Thread nD τ).loc main_arg1))
      (m ((c.tc : Thread nD τ).loc main_arg2)) i = 1#1) : Written d ((i 1 : Nat) / 1024) := by
  rw [show c = 0 from Subsingleton.elim _ _, show m (((0 : Dev nD) : Thread nD τ).loc main_arg2) = _ from congrFun hT 0] at hi
  by_contra hn
  have := (mask _ _ d i).symm.trans hi
  rw [if_neg hn] at this
  exact absurd this (by decide)

/-- The kernel's array is the reference's, on the columns it writes. -/
theorem algebraic : Cert.algebraic_InProjAIdeal_InProjARefIdeal_on_written_a (hInProjAIdeal := Cert.InProjAIdeal.Gen.facts)
    (hInProjARefIdeal := Cert.InProjARefIdeal.Gen.facts) (hPre_known_device := Cert.Pre_known_device.Gen.facts)
    (hOn_written_a := Cert.On_written_a.Gen.facts) := by
  intro m g m' g' hpre hagree
  obtain ⟨d, hT⟩ := known m hpre
  have hO : Ok m := ok_of_table m d hT
  refine ⟨fun c => Slots.product (m ((c : Thread nD τ).loc main_arg0)) (m ((c : Thread nD τ).loc main_arg1)), ?_, ?_⟩
  · refine (θ_run defs _ _).mono (fun _ h c => ⟨fun i hi => ?_, h.2 c⟩) (θ_run_and (run_main m g hO) (unchanged m g hO))
    exact (congrFun ((h.1 c).1 2) i).trans (value c hO d hT i (written_of_mask m c hpre d hT i hi))
  · refine (θ_run _ _ _).mono (fun r h c => ⟨fun i _ => (congrFun (h c).1 i).trans ?_, (h c).2⟩) (Cert.InProjARefIdeal.Value.run m' g')
    refine (congrFun ((Cert.InProjARefIdeal.Read.val_main_v4_eq (F := Ideal) _ _).trans (reference _ _)) i).trans ?_
    obtain ⟨h0, h1, h2⟩ := hagree c
    rw [h0, h1]

end Cert.InProjAValue

end
-- ==== Proof.InProjBValue.lean ====
module

public import proofs.«01_k».proof.Defs
public import proofs.«01_k».proof.Proof.Gen.InProjBIdeal
public import proofs.«01_k».proof.Proof.Gen.InProjBIdeal.Frame
public import proofs.«01_k».proof.Proof.Gen.InProjBRefIdeal
public import proofs.«01_k».proof.Proof.Gen.InProjBRefIdeal.Run
public import proofs.«01_k».proof.Proof.Gen.InProjBRefIdeal.Read
public import proofs.«01_k».proof.Proof.Gen.Pre_known_device_of_part
public import proofs.«01_k».proof.Proof.Slots
public import proofs.«01_k».proof.Proof.Words
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

noncomputable section

namespace Cert.InProjBValue

open Cert.InProjBIdeal Cert.InProjBIdeal.Gen
open Idealize.ShloMosaic Idealize.ShloMosaic.TcCoe Idealize.SL

variable (m : (ℓ : Loc nD τ sig) → Buf (Elt Ideal) ℓ) (c : Dev nD)

/-- The slabs this call writes. -/
def Written (d : Fin 8) (s : Nat) : Prop := s = d ^^^ 2 ∨ s = d ^^^ 4
instance (d : Fin 8) (s : Nat) : Decidable (Written d s) := inferInstanceAs (Decidable (_ ∨ _))

/-- The table that holds the number `d`. -/
def table (d : Fin 8) : pre0.Contents (Elt Ideal)
  | ⟨0, _⟩ => (fun _ => BitVec.ofNat 32 d : IVec S1 32)

theorem table_ok : ∀ d, ok0 (table d) := by decide +kernel

theorem covers (a : pcfg0.Adm) (d : Fin 8) (h : a.1 = table d) :
    ((cfg0 (F := Ideal) a).win 2).CoversWhere fun β => Written d (β (1 : Fin 2)) := by
  obtain ⟨pf, hp⟩ := a
  cases h
  show ((cfg0 (F := Ideal) ⟨table d, table_ok d⟩).win 2).CoversWhere fun β => Written d (β (1 : Fin 2))
  clear hp
  revert d
  decide +kernel

theorem idx (a : pcfg0.Adm) (d : Fin 8) (h : a.1 = table d) : ∀ t : Fin (cfg0 (F := Ideal) a).N,
    ((cfg0 a).win 0).index t (0 : Fin 2) = ((cfg0 a).win 2).index t (0 : Fin 2)
    ∧ ((cfg0 a).win 0).index t (1 : Fin 2) = 0
    ∧ ((cfg0 a).win 1).index t (0 : Fin 3) = ((cfg0 a).win 2).index t (1 : Fin 2)
    ∧ ((cfg0 a).win 1).index t (1 : Fin 3) = 0
    ∧ ((cfg0 a).win 1).index t (2 : Fin 3) = 0 := by
  obtain ⟨pf, hp⟩ := a
  cases h
  have : ∀ (d : Fin 8) (t : Fin (cfg0 (F := Ideal) ⟨table d, table_ok d⟩).N),
    ((cfg0 ⟨table d, table_ok d⟩).win 0).index t (0 : Fin 2) = ((cfg0 ⟨table d, table_ok d⟩).win 2).index t (0 : Fin 2)
    ∧ ((cfg0 ⟨table d, table_ok d⟩).win 0).index t (1 : Fin 2) = 0
    ∧ ((cfg0 ⟨table d, table_ok d⟩).win 1).index t (0 : Fin 3) = ((cfg0 ⟨table d, table_ok d⟩).win 2).index t (1 : Fin 2)
    ∧ ((cfg0 ⟨table d, table_ok d⟩).win 1).index t (1 : Fin 3) = 0
    ∧ ((cfg0 ⟨table d, table_ok d⟩).win 1).index t (2 : Fin 3) = 0 := by decide +kernel
  exact this d

variable {m} in
theorem value (hO : Ok m) (d : Fin 8) (hd : tbl m = table d) : (dats m hO 0 c).arrAt 2 (cfgM m hO).N = fun i : S2048x8192.Idx =>
    if Written d ((i 1 : Nat) / 1024)
    then Slots.product (m ((c : Thread nD τ).loc main_arg0)) (m ((c : Thread nD τ).loc main_arg1)) i
    else m ((c : Thread nD τ).loc main_arg3) i := by
  have e : ∀ i, V m c main_v0 i = m ((c : Thread nD τ).loc main_arg3) i := by
    intro i
    rfl
  simp only [← e]
  refine (dats m hO 0 c).arrAt_eq_of_coversWhere 2 (Slots.product (m ((c : Thread nD τ).loc main_arg0)) (m ((c : Thread nD τ).loc main_arg1)))
    (fun β => Written d (β (1 : Fin 2))) (covers _ d hd) (fun t hf y => ?_) (fun j => Iff.rfl)
  blk_simp
  rw [after0_2]
  unfold outsAt0
  frame_out
  rw [eq_ix2 y]
  pointwise [k0_pay1]
  refine Fin.sum_fin_congr fun k => ?_
  have hx := idx _ d hd t
  congr 1
  · refine (congrFun (Memref.IsWhole.read_unread (hs0_0 m hO t) (iblk m hO c 0 t)) _).trans ?_
    show V m c main_arg0 _ = _
    rw [V_main_arg0]
    blk_ext [hx]
  · refine (congrFun (Memref.IsWhole.read_unread (hs0_1 m hO t) (iblk m hO c 1 t)) _).trans ?_
    show V m c main_arg1 _ = _
    rw [V_main_arg1]
    blk_ext [hx]
    · refine Eq.trans ?_ (Slots.slot_val _).symm
      blk_simp
      omega
    · refine Eq.trans ?_ (Slots.lane_val _).symm
      blk_simp
      omega

/-- The kernel ends with the slabs written and the rest kept. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 2, h.2 c⟩) (θ_run_and (run_main m g hO) (unchanged m g hO))

open Cert.InProjBRefIdeal.Read in
/-- The reference's mask, at a column. -/
theorem mask (d : Fin 8) (i : S2048x8192.Idx) :
    val_main_call0_v0 (F := Ideal) (fun _ => BitVec.ofNat 32 d) i = if Written d ((i 1 : Nat) / 1024) then 1#1 else 0#1 := by
  rw [eq_ix2 i]
  rw [val_main_call0_v0_apply, val_main_v11_apply, val_main_v10_apply, val_main_v9_apply, val_main_v8_apply,
    val_main_v5_apply, val_main_v7_apply, val_main_v4_apply, val_main_v6_apply, val_main_c_apply, val_main_c_0_apply,
    val_main_v3_apply, val_main_v0_apply]
  exact Slots.either_eq 2 4 d (Slots.slot (i 1))

open Cert.InProjBRefIdeal.Read in
/-- The reference, at an element. -/
theorem reference (h : S2048x2048.Idx → EReal) (w : S8x2048x1024.Idx → EReal) (p : S2048x8192.Idx → EReal) (d : Fin 8) :
    val_main_v17 (F := Ideal) h w (fun _ => BitVec.ofNat 32 d) p = fun i =>
      if Written d ((i 1 : Nat) / 1024) then Slots.product h w i else p i := by
  funext i
  rw [val_main_v17_apply, mask, Slots.select_ite]
  refine if_congr Iff.rfl ?_ rfl
  rw [val_main_v16_apply]
  refine Finset.sum_congr rfl fun k _ => ?_
  rw [val_main_v14_apply, val_main_v15_apply, val_main_v13_apply, val_main_v12_apply]
  refine congrArg₂ (· * ·) (congrArg h (funext fun a => ?_)) (congrArg w (Slots.position k (i 1) _ rfl rfl rfl))
  match a with
  | ⟨0, _⟩ => rfl
  | ⟨1, _⟩ => rfl

theorem ok_of_table (d : Fin 8) (hT : tbl m = table d) : Ok m := by
  unfold Ok
  rw [hT]
  exact table_ok d

theorem known (hpre : Cert.Pre_InProjBIdeal m) : ∃ d : Fin 8, tbl m = table d := by
  have h0 := congrFun (hpre 0).1
  have h1 := congrFun (hpre 0).2
  obtain ⟨d, hd⟩ := Words.table_of_bounds 8 (by decide) _ h0 h1
  exact ⟨d, funext fun | ⟨0, _⟩ => hd⟩

/-- The kernel's array is the reference's. -/
theorem algebraic : Cert.algebraic_InProjBIdeal_InProjBRefIdeal (hInProjBIdeal := Cert.InProjBIdeal.Gen.facts)
    (hInProjBRefIdeal := Cert.InProjBRefIdeal.Gen.facts) (hPre_known_device_of_part := Cert.Pre_known_device_of_part.Gen.facts) := by
  intro m g m' g' hpre hagree
  obtain ⟨d, hT⟩ := known m hpre
  have hO : Ok m := ok_of_table m d hT
  refine ⟨fun c => (dats m hO 0 c).arrAt 2 (cfgM m hO).N, run m g hO, ?_⟩
  refine (θ_run _ _ _).mono (fun r h c => ⟨(h c).1.trans ?_, (h c).2⟩) (Cert.InProjBRefIdeal.Value.run m' g')
  refine (Cert.InProjBRefIdeal.Read.val_main_v17_eq (F := Ideal) _ _ _ _).trans ?_
  refine Eq.trans ?_ (value c hO d hT).symm
  obtain ⟨h0, h1, h2, h3⟩ := hagree c
  rw [h0, h1, h2, h3, show c = 0 from Subsingleton.elim _ _, show m (((0 : Dev nD) : Thread nD τ).loc main_arg2) = _ from congrFun hT 0]
  exact reference _ _ _ d

end Cert.InProjBValue

end
-- ==== Proof.InProjCValue.lean ====
module

public import proofs.«01_k».proof.Defs
public import proofs.«01_k».proof.Proof.Gen.InProjCIdeal
public import proofs.«01_k».proof.Proof.Gen.InProjCIdeal.Frame
public import proofs.«01_k».proof.Proof.Gen.InProjCRefIdeal
public import proofs.«01_k».proof.Proof.Gen.InProjCRefIdeal.Run
public import proofs.«01_k».proof.Proof.Gen.InProjCRefIdeal.Read
public import proofs.«01_k».proof.Proof.Gen.Pre_known_device_of_part
public import proofs.«01_k».proof.Proof.Slots
public import proofs.«01_k».proof.Proof.Words
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

noncomputable section

namespace Cert.InProjCValue

open Cert.InProjCIdeal Cert.InProjCIdeal.Gen
open Idealize.ShloMosaic Idealize.ShloMosaic.TcCoe Idealize.SL

variable (m : (ℓ : Loc nD τ sig) → Buf (Elt Ideal) ℓ) (c : Dev nD)

/-- The slabs this call writes. -/
def Written (d : Fin 8) (s : Nat) : Prop := s = d ^^^ 3 ∨ s = d ^^^ 5
instance (d : Fin 8) (s : Nat) : Decidable (Written d s) := inferInstanceAs (Decidable (_ ∨ _))

/-- The table that holds the number `d`. -/
def table (d : Fin 8) : pre0.Contents (Elt Ideal)
  | ⟨0, _⟩ => (fun _ => BitVec.ofNat 32 d : IVec S1 32)

theorem table_ok : ∀ d, ok0 (table d) := by decide +kernel

theorem covers (a : pcfg0.Adm) (d : Fin 8) (h : a.1 = table d) :
    ((cfg0 (F := Ideal) a).win 2).CoversWhere fun β => Written d (β (1 : Fin 2)) := by
  obtain ⟨pf, hp⟩ := a
  cases h
  show ((cfg0 (F := Ideal) ⟨table d, table_ok d⟩).win 2).CoversWhere fun β => Written d (β (1 : Fin 2))
  clear hp
  revert d
  decide +kernel

theorem idx (a : pcfg0.Adm) (d : Fin 8) (h : a.1 = table d) : ∀ t : Fin (cfg0 (F := Ideal) a).N,
    ((cfg0 a).win 0).index t (0 : Fin 2) = ((cfg0 a).win 2).index t (0 : Fin 2)
    ∧ ((cfg0 a).win 0).index t (1 : Fin 2) = 0
    ∧ ((cfg0 a).win 1).index t (0 : Fin 3) = ((cfg0 a).win 2).index t (1 : Fin 2)
    ∧ ((cfg0 a).win 1).index t (1 : Fin 3) = 0
    ∧ ((cfg0 a).win 1).index t (2 : Fin 3) = 0 := by
  obtain ⟨pf, hp⟩ := a
  cases h
  have : ∀ (d : Fin 8) (t : Fin (cfg0 (F := Ideal) ⟨table d, table_ok d⟩).N),
    ((cfg0 ⟨table d, table_ok d⟩).win 0).index t (0 : Fin 2) = ((cfg0 ⟨table d, table_ok d⟩).win 2).index t (0 : Fin 2)
    ∧ ((cfg0 ⟨table d, table_ok d⟩).win 0).index t (1 : Fin 2) = 0
    ∧ ((cfg0 ⟨table d, table_ok d⟩).win 1).index t (0 : Fin 3) = ((cfg0 ⟨table d, table_ok d⟩).win 2).index t (1 : Fin 2)
    ∧ ((cfg0 ⟨table d, table_ok d⟩).win 1).index t (1 : Fin 3) = 0
    ∧ ((cfg0 ⟨table d, table_ok d⟩).win 1).index t (2 : Fin 3) = 0 := by decide +kernel
  exact this d

variable {m} in
theorem value (hO : Ok m) (d : Fin 8) (hd : tbl m = table d) : (dats m hO 0 c).arrAt 2 (cfgM m hO).N = fun i : S2048x8192.Idx =>
    if Written d ((i 1 : Nat) / 1024)
    then Slots.product (m ((c : Thread nD τ).loc main_arg0)) (m ((c : Thread nD τ).loc main_arg1)) i
    else m ((c : Thread nD τ).loc main_arg3) i := by
  have e : ∀ i, V m c main_v0 i = m ((c : Thread nD τ).loc main_arg3) i := by
    intro i
    rfl
  simp only [← e]
  refine (dats m hO 0 c).arrAt_eq_of_coversWhere 2 (Slots.product (m ((c : Thread nD τ).loc main_arg0)) (m ((c : Thread nD τ).loc main_arg1)))
    (fun β => Written d (β (1 : Fin 2))) (covers _ d hd) (fun t hf y => ?_) (fun j => Iff.rfl)
  blk_simp
  rw [after0_2]
  unfold outsAt0
  frame_out
  rw [eq_ix2 y]
  pointwise [k0_pay1]
  refine Fin.sum_fin_congr fun k => ?_
  have hx := idx _ d hd t
  congr 1
  · refine (congrFun (Memref.IsWhole.read_unread (hs0_0 m hO t) (iblk m hO c 0 t)) _).trans ?_
    show V m c main_arg0 _ = _
    rw [V_main_arg0]
    blk_ext [hx]
  · refine (congrFun (Memref.IsWhole.read_unread (hs0_1 m hO t) (iblk m hO c 1 t)) _).trans ?_
    show V m c main_arg1 _ = _
    rw [V_main_arg1]
    blk_ext [hx]
    · refine Eq.trans ?_ (Slots.slot_val _).symm
      blk_simp
      omega
    · refine Eq.trans ?_ (Slots.lane_val _).symm
      blk_simp
      omega

/-- The kernel ends with the slabs written and the rest kept. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 2, h.2 c⟩) (θ_run_and (run_main m g hO) (unchanged m g hO))

open Cert.InProjCRefIdeal.Read in
/-- The reference's mask, at a column. -/
theorem mask (d : Fin 8) (i : S2048x8192.Idx) :
    val_main_call0_v0 (F := Ideal) (fun _ => BitVec.ofNat 32 d) i = if Written d ((i 1 : Nat) / 1024) then 1#1 else 0#1 := by
  rw [eq_ix2 i]
  rw [val_main_call0_v0_apply, val_main_v11_apply, val_main_v10_apply, val_main_v9_apply, val_main_v8_apply,
    val_main_v5_apply, val_main_v7_apply, val_main_v4_apply, val_main_v6_apply, val_main_c_apply, val_main_c_0_apply,
    val_main_v3_apply, val_main_v0_apply]
  exact Slots.either_eq 3 5 d (Slots.slot (i 1))

open Cert.InProjCRefIdeal.Read in
/-- The reference, at an element. -/
theorem reference (h : S2048x2048.Idx → EReal) (w : S8x2048x1024.Idx → EReal) (p : S2048x8192.Idx → EReal) (d : Fin 8) :
    val_main_v17 (F := Ideal) h w (fun _ => BitVec.ofNat 32 d) p = fun i =>
      if Written d ((i 1 : Nat) / 1024) then Slots.product h w i else p i := by
  funext i
  rw [val_main_v17_apply, mask, Slots.select_ite]
  refine if_congr Iff.rfl ?_ rfl
  rw [val_main_v16_apply]
  refine Finset.sum_congr rfl fun k _ => ?_
  rw [val_main_v14_apply, val_main_v15_apply, val_main_v13_apply, val_main_v12_apply]
  refine congrArg₂ (· * ·) (congrArg h (funext fun a => ?_)) (congrArg w (Slots.position k (i 1) _ rfl rfl rfl))
  match a with
  | ⟨0, _⟩ => rfl
  | ⟨1, _⟩ => rfl

theorem ok_of_table (d : Fin 8) (hT : tbl m = table d) : Ok m := by
  unfold Ok
  rw [hT]
  exact table_ok d

theorem known (hpre : Cert.Pre_InProjCIdeal m) : ∃ d : Fin 8, tbl m = table d := by
  have h0 := congrFun (hpre 0).1
  have h1 := congrFun (hpre 0).2
  obtain ⟨d, hd⟩ := Words.table_of_bounds 8 (by decide) _ h0 h1
  exact ⟨d, funext fun | ⟨0, _⟩ => hd⟩

/-- The kernel's array is the reference's. -/
theorem algebraic : Cert.algebraic_InProjCIdeal_InProjCRefIdeal (hInProjCIdeal := Cert.InProjCIdeal.Gen.facts)
    (hInProjCRefIdeal := Cert.InProjCRefIdeal.Gen.facts) (hPre_known_device_of_part := Cert.Pre_known_device_of_part.Gen.facts) := by
  intro m g m' g' hpre hagree
  obtain ⟨d, hT⟩ := known m hpre
  have hO : Ok m := ok_of_table m d hT
  refine ⟨fun c => (dats m hO 0 c).arrAt 2 (cfgM m hO).N, run m g hO, ?_⟩
  refine (θ_run _ _ _).mono (fun r h c => ⟨(h c).1.trans ?_, (h c).2⟩) (Cert.InProjCRefIdeal.Value.run m' g')
  refine (Cert.InProjCRefIdeal.Read.val_main_v17_eq (F := Ideal) _ _ _ _).trans ?_
  refine Eq.trans ?_ (value c hO d hT).symm
  obtain ⟨h0, h1, h2, h3⟩ := hagree c
  rw [h0, h1, h2, h3, show c = 0 from Subsingleton.elim _ _, show m (((0 : Dev nD) : Thread nD τ).loc main_arg2) = _ from congrFun hT 0]
  exact reference _ _ _ d

end Cert.InProjCValue

end
-- ==== Proof.InProjDValue.lean ====
module

public import proofs.«01_k».proof.Defs
public import proofs.«01_k».proof.Proof.Gen.InProjDIdeal
public import proofs.«01_k».proof.Proof.Gen.InProjDIdeal.Frame
public import proofs.«01_k».proof.Proof.Gen.InProjDRefIdeal
public import proofs.«01_k».proof.Proof.Gen.InProjDRefIdeal.Run
public import proofs.«01_k».proof.Proof.Gen.InProjDRefIdeal.Read
public import proofs.«01_k».proof.Proof.Gen.Pre_known_device_of_part
public import proofs.«01_k».proof.Proof.Slots
public import proofs.«01_k».proof.Proof.Words
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

noncomputable section

namespace Cert.InProjDValue

open Cert.InProjDIdeal Cert.InProjDIdeal.Gen
open Idealize.ShloMosaic Idealize.ShloMosaic.TcCoe Idealize.SL

variable (m : (ℓ : Loc nD τ sig) → Buf (Elt Ideal) ℓ) (c : Dev nD)

/-- The slabs this call writes. -/
def Written (d : Fin 8) (s : Nat) : Prop := s = d ^^^ 6
instance (d : Fin 8) (s : Nat) : Decidable (Written d s) := inferInstanceAs (Decidable (_ = _))

/-- The table that holds the number `d`. -/
def table (d : Fin 8) : pre0.Contents (Elt Ideal)
  | ⟨0, _⟩ => (fun _ => BitVec.ofNat 32 d : IVec S1 32)

theorem table_ok : ∀ d, ok0 (table d) := by decide +kernel

theorem covers (a : pcfg0.Adm) (d : Fin 8) (h : a.1 = table d) :
    ((cfg0 (F := Ideal) a).win 2).CoversWhere fun β => Written d (β (1 : Fin 2)) := by
  obtain ⟨pf, hp⟩ := a
  cases h
  show ((cfg0 (F := Ideal) ⟨table d, table_ok d⟩).win 2).CoversWhere fun β => Written d (β (1 : Fin 2))
  clear hp
  revert d
  decide +kernel

theorem idx (a : pcfg0.Adm) (d : Fin 8) (h : a.1 = table d) : ∀ t : Fin (cfg0 (F := Ideal) a).N,
    ((cfg0 a).win 0).index t (0 : Fin 2) = ((cfg0 a).win 2).index t (0 : Fin 2)
    ∧ ((cfg0 a).win 0).index t (1 : Fin 2) = 0
    ∧ ((cfg0 a).win 1).index t (0 : Fin 3) = ((cfg0 a).win 2).index t (1 : Fin 2)
    ∧ ((cfg0 a).win 1).index t (1 : Fin 3) = 0
    ∧ ((cfg0 a).win 1).index t (2 : Fin 3) = 0 := by
  obtain ⟨pf, hp⟩ := a
  cases h
  have : ∀ (d : Fin 8) (t : Fin (cfg0 (F := Ideal) ⟨table d, table_ok d⟩).N),
    ((cfg0 ⟨table d, table_ok d⟩).win 0).index t (0 : Fin 2) = ((cfg0 ⟨table d, table_ok d⟩).win 2).index t (0 : Fin 2)
    ∧ ((cfg0 ⟨table d, table_ok d⟩).win 0).index t (1 : Fin 2) = 0
    ∧ ((cfg0 ⟨table d, table_ok d⟩).win 1).index t (0 : Fin 3) = ((cfg0 ⟨table d, table_ok d⟩).win 2).index t (1 : Fin 2)
    ∧ ((cfg0 ⟨table d, table_ok d⟩).win 1).index t (1 : Fin 3) = 0
    ∧ ((cfg0 ⟨table d, table_ok d⟩).win 1).index t (2 : Fin 3) = 0 := by decide +kernel
  exact this d

variable {m} in
theorem value (hO : Ok m) (d : Fin 8) (hd : tbl m = table d) : (dats m hO 0 c).arrAt 2 (cfgM m hO).N = fun i : S2048x8192.Idx =>
    if Written d ((i 1 : Nat) / 1024)
    then Slots.product (m ((c : Thread nD τ).loc main_arg0)) (m ((c : Thread nD τ).loc main_arg1)) i
    else m ((c : Thread nD τ).loc main_arg3) i := by
  have e : ∀ i, V m c main_v0 i = m ((c : Thread nD τ).loc main_arg3) i := by
    intro i
    rfl
  simp only [← e]
  refine (dats m hO 0 c).arrAt_eq_of_coversWhere 2 (Slots.product (m ((c : Thread nD τ).loc main_arg0)) (m ((c : Thread nD τ).loc main_arg1)))
    (fun β => Written d (β (1 : Fin 2))) (covers _ d hd) (fun t hf y => ?_) (fun j => Iff.rfl)
  blk_simp
  rw [after0_2]
  unfold outsAt0
  frame_out
  rw [eq_ix2 y]
  pointwise [k0_pay1]
  refine Fin.sum_fin_congr fun k => ?_
  have hx := idx _ d hd t
  congr 1
  · refine (congrFun (Memref.IsWhole.read_unread (hs0_0 m hO t) (iblk m hO c 0 t)) _).trans ?_
    show V m c main_arg0 _ = _
    rw [V_main_arg0]
    blk_ext [hx]
  · refine (congrFun (Memref.IsWhole.read_unread (hs0_1 m hO t) (iblk m hO c 1 t)) _).trans ?_
    show V m c main_arg1 _ = _
    rw [V_main_arg1]
    blk_ext [hx]
    · refine Eq.trans ?_ (Slots.slot_val _).symm
      blk_simp
      omega
    · refine Eq.trans ?_ (Slots.lane_val _).symm
      blk_simp
      omega

/-- The kernel ends with the slabs written and the rest kept. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 2, h.2 c⟩) (θ_run_and (run_main m g hO) (unchanged m g hO))

open Cert.InProjDRefIdeal.Read in
/-- The reference's mask, at a column. -/
theorem mask (d : Fin 8) (i : S2048x8192.Idx) :
    val_main_call0_v0 (F := Ideal) (fun _ => BitVec.ofNat 32 d) i = if Written d ((i 1 : Nat) / 1024) then 1#1 else 0#1 := by
  rw [eq_ix2 i]
  rw [val_main_call0_v0_apply, val_main_v8_apply, val_main_v7_apply, val_main_v6_apply, val_main_v5_apply,
    val_main_v4_apply, val_main_c_apply, val_main_v3_apply, val_main_v0_apply]
  exact Slots.xor_eq 6 d (Slots.slot (i 1))

open Cert.InProjDRefIdeal.Read in
/-- The reference, at an element. -/
theorem reference (h : S2048x2048.Idx → EReal) (w : S8x2048x1024.Idx → EReal) (p : S2048x8192.Idx → EReal) (d : Fin 8) :
    val_main_v14 (F := Ideal) h w (fun _ => BitVec.ofNat 32 d) p = fun i =>
      if Written d ((i 1 : Nat) / 1024) then Slots.product h w i else p i := by
  funext i
  rw [val_main_v14_apply, mask, Slots.select_ite]
  refine if_congr Iff.rfl ?_ rfl
  rw [val_main_v13_apply]
  refine Finset.sum_congr rfl fun k _ => ?_
  rw [val_main_v11_apply, val_main_v12_apply, val_main_v10_apply, val_main_v9_apply]
  refine congrArg₂ (· * ·) (congrArg h (funext fun a => ?_)) (congrArg w (Slots.position k (i 1) _ rfl rfl rfl))
  match a with
  | ⟨0, _⟩ => rfl
  | ⟨1, _⟩ => rfl

theorem ok_of_table (d : Fin 8) (hT : tbl m = table d) : Ok m := by
  unfold Ok
  rw [hT]
  exact table_ok d

theorem known (hpre : Cert.Pre_InProjDIdeal m) : ∃ d : Fin 8, tbl m = table d := by
  have h0 := congrFun (hpre 0).1
  have h1 := congrFun (hpre 0).2
  obtain ⟨d, hd⟩ := Words.table_of_bounds 8 (by decide) _ h0 h1
  exact ⟨d, funext fun | ⟨0, _⟩ => hd⟩

/-- The kernel's array is the reference's. -/
theorem algebraic : Cert.algebraic_InProjDIdeal_InProjDRefIdeal (hInProjDIdeal := Cert.InProjDIdeal.Gen.facts)
    (hInProjDRefIdeal := Cert.InProjDRefIdeal.Gen.facts) (hPre_known_device_of_part := Cert.Pre_known_device_of_part.Gen.facts) := by
  intro m g m' g' hpre hagree
  obtain ⟨d, hT⟩ := known m hpre
  have hO : Ok m := ok_of_table m d hT
  refine ⟨fun c => (dats m hO 0 c).arrAt 2 (cfgM m hO).N, run m g hO, ?_⟩
  refine (θ_run _ _ _).mono (fun r h c => ⟨(h c).1.trans ?_, (h c).2⟩) (Cert.InProjDRefIdeal.Value.run m' g')
  refine (Cert.InProjDRefIdeal.Read.val_main_v14_eq (F := Ideal) _ _ _ _).trans ?_
  refine Eq.trans ?_ (value c hO d hT).symm
  obtain ⟨h0, h1, h2, h3⟩ := hagree c
  rw [h0, h1, h2, h3, show c = 0 from Subsingleton.elim _ _, show m (((0 : Dev nD) : Thread nD τ).loc main_arg2) = _ from congrFun hT 0]
  exact reference _ _ _ d

end Cert.InProjDValue

end
-- ==== Proof.InProjEValue.lean ====
module

public import proofs.«01_k».proof.Defs
public import proofs.«01_k».proof.Proof.Gen.InProjEIdeal
public import proofs.«01_k».proof.Proof.Gen.InProjEIdeal.Frame
public import proofs.«01_k».proof.Proof.Gen.InProjERefIdeal
public import proofs.«01_k».proof.Proof.Gen.InProjERefIdeal.Run
public import proofs.«01_k».proof.Proof.Gen.InProjERefIdeal.Read
public import proofs.«01_k».proof.Proof.Gen.Pre_known_device_of_part
public import proofs.«01_k».proof.Proof.Slots
public import proofs.«01_k».proof.Proof.Words
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

noncomputable section

namespace Cert.InProjEValue

open Cert.InProjEIdeal Cert.InProjEIdeal.Gen
open Idealize.ShloMosaic Idealize.ShloMosaic.TcCoe Idealize.SL

variable (m : (ℓ : Loc nD τ sig) → Buf (Elt Ideal) ℓ) (c : Dev nD)

/-- The slabs this call writes. -/
def Written (d : Fin 8) (s : Nat) : Prop := s = d ^^^ 7
instance (d : Fin 8) (s : Nat) : Decidable (Written d s) := inferInstanceAs (Decidable (_ = _))

/-- The table that holds the number `d`. -/
def table (d : Fin 8) : pre0.Contents (Elt Ideal)
  | ⟨0, _⟩ => (fun _ => BitVec.ofNat 32 d : IVec S1 32)

theorem table_ok : ∀ d, ok0 (table d) := by decide +kernel

theorem covers (a : pcfg0.Adm) (d : Fin 8) (h : a.1 = table d) :
    ((cfg0 (F := Ideal) a).win 2).CoversWhere fun β => Written d (β (1 : Fin 2)) := by
  obtain ⟨pf, hp⟩ := a
  cases h
  show ((cfg0 (F := Ideal) ⟨table d, table_ok d⟩).win 2).CoversWhere fun β => Written d (β (1 : Fin 2))
  clear hp
  revert d
  decide +kernel

theorem idx (a : pcfg0.Adm) (d : Fin 8) (h : a.1 = table d) : ∀ t : Fin (cfg0 (F := Ideal) a).N,
    ((cfg0 a).win 0).index t (0 : Fin 2) = ((cfg0 a).win 2).index t (0 : Fin 2)
    ∧ ((cfg0 a).win 0).index t (1 : Fin 2) = 0
    ∧ ((cfg0 a).win 1).index t (0 : Fin 3) = ((cfg0 a).win 2).index t (1 : Fin 2)
    ∧ ((cfg0 a).win 1).index t (1 : Fin 3) = 0
    ∧ ((cfg0 a).win 1).index t (2 : Fin 3) = 0 := by
  obtain ⟨pf, hp⟩ := a
  cases h
  have : ∀ (d : Fin 8) (t : Fin (cfg0 (F := Ideal) ⟨table d, table_ok d⟩).N),
    ((cfg0 ⟨table d, table_ok d⟩).win 0).index t (0 : Fin 2) = ((cfg0 ⟨table d, table_ok d⟩).win 2).index t (0 : Fin 2)
    ∧ ((cfg0 ⟨table d, table_ok d⟩).win 0).index t (1 : Fin 2) = 0
    ∧ ((cfg0 ⟨table d, table_ok d⟩).win 1).index t (0 : Fin 3) = ((cfg0 ⟨table d, table_ok d⟩).win 2).index t (1 : Fin 2)
    ∧ ((cfg0 ⟨table d, table_ok d⟩).win 1).index t (1 : Fin 3) = 0
    ∧ ((cfg0 ⟨table d, table_ok d⟩).win 1).index t (2 : Fin 3) = 0 := by decide +kernel
  exact this d

variable {m} in
theorem value (hO : Ok m) (d : Fin 8) (hd : tbl m = table d) : (dats m hO 0 c).arrAt 2 (cfgM m hO).N = fun i : S2048x8192.Idx =>
    if Written d ((i 1 : Nat) / 1024)
    then Slots.product (m ((c : Thread nD τ).loc main_arg0)) (m ((c : Thread nD τ).loc main_arg1)) i
    else m ((c : Thread nD τ).loc main_arg3) i := by
  have e : ∀ i, V m c main_v0 i = m ((c : Thread nD τ).loc main_arg3) i := by
    intro i
    rfl
  simp only [← e]
  refine (dats m hO 0 c).arrAt_eq_of_coversWhere 2 (Slots.product (m ((c : Thread nD τ).loc main_arg0)) (m ((c : Thread nD τ).loc main_arg1)))
    (fun β => Written d (β (1 : Fin 2))) (covers _ d hd) (fun t hf y => ?_) (fun j => Iff.rfl)
  blk_simp
  rw [after0_2]
  unfold outsAt0
  frame_out
  rw [eq_ix2 y]
  pointwise [k0_pay1]
  refine Fin.sum_fin_congr fun k => ?_
  have hx := idx _ d hd t
  congr 1
  · refine (congrFun (Memref.IsWhole.read_unread (hs0_0 m hO t) (iblk m hO c 0 t)) _).trans ?_
    show V m c main_arg0 _ = _
    rw [V_main_arg0]
    blk_ext [hx]
  · refine (congrFun (Memref.IsWhole.read_unread (hs0_1 m hO t) (iblk m hO c 1 t)) _).trans ?_
    show V m c main_arg1 _ = _
    rw [V_main_arg1]
    blk_ext [hx]
    · refine Eq.trans ?_ (Slots.slot_val _).symm
      blk_simp
      omega
    · refine Eq.trans ?_ (Slots.lane_val _).symm
      blk_simp
      omega

/-- The kernel ends with the slabs written and the rest kept. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 2, h.2 c⟩) (θ_run_and (run_main m g hO) (unchanged m g hO))

open Cert.InProjERefIdeal.Read in
/-- The reference's mask, at a column. -/
theorem mask (d : Fin 8) (i : S2048x8192.Idx) :
    val_main_call0_v0 (F := Ideal) (fun _ => BitVec.ofNat 32 d) i = if Written d ((i 1 : Nat) / 1024) then 1#1 else 0#1 := by
  rw [eq_ix2 i]
  rw [val_main_call0_v0_apply, val_main_v8_apply, val_main_v7_apply, val_main_v6_apply, val_main_v5_apply,
    val_main_v4_apply, val_main_c_apply, val_main_v3_apply, val_main_v0_apply]
  exact Slots.xor_eq 7 d (Slots.slot (i 1))

open Cert.InProjERefIdeal.Read in
/-- The reference, at an element. -/
theorem reference (h : S2048x2048.Idx → EReal) (w : S8x2048x1024.Idx → EReal) (p : S2048x8192.Idx → EReal) (d : Fin 8) :
    val_main_v14 (F := Ideal) h w (fun _ => BitVec.ofNat 32 d) p = fun i =>
      if Written d ((i 1 : Nat) / 1024) then Slots.product h w i else p i := by
  funext i
  rw [val_main_v14_apply, mask, Slots.select_ite]
  refine if_congr Iff.rfl ?_ rfl
  rw [val_main_v13_apply]
  refine Finset.sum_congr rfl fun k _ => ?_
  rw [val_main_v11_apply, val_main_v12_apply, val_main_v10_apply, val_main_v9_apply]
  refine congrArg₂ (· * ·) (congrArg h (funext fun a => ?_)) (congrArg w (Slots.position k (i 1) _ rfl rfl rfl))
  match a with
  | ⟨0, _⟩ => rfl
  | ⟨1, _⟩ => rfl

theorem ok_of_table (d : Fin 8) (hT : tbl m = table d) : Ok m := by
  unfold Ok
  rw [hT]
  exact table_ok d

theorem known (hpre : Cert.Pre_InProjEIdeal m) : ∃ d : Fin 8, tbl m = table d := by
  have h0 := congrFun (hpre 0).1
  have h1 := congrFun (hpre 0).2
  obtain ⟨d, hd⟩ := Words.table_of_bounds 8 (by decide) _ h0 h1
  exact ⟨d, funext fun | ⟨0, _⟩ => hd⟩

/-- The kernel's array is the reference's. -/
theorem algebraic : Cert.algebraic_InProjEIdeal_InProjERefIdeal (hInProjEIdeal := Cert.InProjEIdeal.Gen.facts)
    (hInProjERefIdeal := Cert.InProjERefIdeal.Gen.facts) (hPre_known_device_of_part := Cert.Pre_known_device_of_part.Gen.facts) := by
  intro m g m' g' hpre hagree
  obtain ⟨d, hT⟩ := known m hpre
  have hO : Ok m := ok_of_table m d hT
  refine ⟨fun c => (dats m hO 0 c).arrAt 2 (cfgM m hO).N, run m g hO, ?_⟩
  refine (θ_run _ _ _).mono (fun r h c => ⟨(h c).1.trans ?_, (h c).2⟩) (Cert.InProjERefIdeal.Value.run m' g')
  refine (Cert.InProjERefIdeal.Read.val_main_v14_eq (F := Ideal) _ _ _ _).trans ?_
  refine Eq.trans ?_ (value c hO d hT).symm
  obtain ⟨h0, h1, h2, h3⟩ := hagree c
  rw [h0, h1, h2, h3, show c = 0 from Subsingleton.elim _ _, show m (((0 : Dev nD) : Thread nD τ).loc main_arg2) = _ from congrFun hT 0]
  exact reference _ _ _ d

end Cert.InProjEValue

end
-- ==== Proof.Tables.lean ====
/- What the preconditions say of the tables of the programs whose blocks are chosen by a word.

   Each of these programs is given a word and picks the blocks of some of its windows by it.  The
   precondition says that the word is one of the first eight numbers, or of the first four; then
   every block is inside its array. -/
module

public import proofs.«01_k».proof.Defs
public import proofs.«01_k».proof.Proof.Words
public import proofs.«01_k».proof.Proof.Gen.Pre_known_device
public import proofs.«01_k».proof.Proof.Gen.Pre_known_device_of_part
public import proofs.«01_k».proof.Proof.Gen.Pre_known_pair
public import proofs.«01_k».proof.Proof.Gen.Pre_known_pair_of_in
public import proofs.«01_k».proof.Proof.Gen.Pre_known_pair_of_last
public import proofs.«01_k».proof.Proof.Gen.InProjA.Frame
public import proofs.«01_k».proof.Proof.Gen.InProjAIdeal.Frame
public import proofs.«01_k».proof.Proof.Gen.InProjB.Frame
public import proofs.«01_k».proof.Proof.Gen.InProjBIdeal.Frame
public import proofs.«01_k».proof.Proof.Gen.InProjC.Frame
public import proofs.«01_k».proof.Proof.Gen.InProjCIdeal.Frame
public import proofs.«01_k».proof.Proof.Gen.InProjD.Frame
public import proofs.«01_k».proof.Proof.Gen.InProjDIdeal.Frame
public import proofs.«01_k».proof.Proof.Gen.InProjE.Frame
public import proofs.«01_k».proof.Proof.Gen.InProjEIdeal.Frame
public import proofs.«01_k».proof.Proof.Gen.AdamwWOut.Frame
public import proofs.«01_k».proof.Proof.Gen.AdamwWOutIdeal.Frame
public import proofs.«01_k».proof.Proof.Gen.AdamwWInA.Frame
public import proofs.«01_k».proof.Proof.Gen.AdamwWInAIdeal.Frame
public import proofs.«01_k».proof.Proof.Gen.AdamwWInB.Frame
public import proofs.«01_k».proof.Proof.Gen.AdamwWInBIdeal.Frame

@[expose] public section

set_option maxRecDepth 16384

namespace Cert.Tables

open Idealize.ShloMosaic Idealize.ShloMosaic.TcCoe

section
open Cert.InProjA Cert.InProjA.Gen

theorem inProjA_ok (m : (ℓ : Loc nD τ sig) → Buf (Elt Bits) ℓ) (h : Cert.Pre_InProjA m) : Ok m := by
  obtain ⟨d, hd⟩ := Words.table_of_bounds 8 (by decide) (tbl m 0) (congrFun (h 0).1) (congrFun (h 0).2)
  unfold Ok ok0 cc0_transform_1 cc0_transform_2 Pipeline.Prefetch.Contents.at
  rw [hd]
  clear hd
  revert d
  decide +kernel

end

section
open Cert.InProjAIdeal Cert.InProjAIdeal.Gen

theorem inProjAIdeal_ok (m : (ℓ : Loc nD τ sig) → Buf (Elt Ideal) ℓ) (h : Cert.Pre_InProjAIdeal m) : Ok m := by
  obtain ⟨d, hd⟩ := Words.table_of_bounds 8 (by decide) (tbl m 0) (congrFun (h 0).1) (congrFun (h 0).2)
  unfold Ok ok0 cc0_transform_1 cc0_transform_2 Pipeline.Prefetch.Contents.at
  rw [hd]
  clear hd
  revert d
  decide +kernel

end

section
open Cert.InProjB Cert.InProjB.Gen

theorem inProjB_ok (m : (ℓ : Loc nD τ sig) → Buf (Elt Bits) ℓ) (h : Cert.Pre_InProjB m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.InProjBIdeal Cert.InProjBIdeal.Gen

theorem inProjBIdeal_ok (m : (ℓ : Loc nD τ sig) → Buf (Elt Ideal) ℓ) (h : Cert.Pre_InProjBIdeal m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.InProjC Cert.InProjC.Gen

theorem inProjC_ok (m : (ℓ : Loc nD τ sig) → Buf (Elt Bits) ℓ) (h : Cert.Pre_InProjC m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.InProjCIdeal Cert.InProjCIdeal.Gen

theorem inProjCIdeal_ok (m : (ℓ : Loc nD τ sig) → Buf (Elt Ideal) ℓ) (h : Cert.Pre_InProjCIdeal m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.InProjD Cert.InProjD.Gen

theorem inProjD_ok (m : (ℓ : Loc nD τ sig) → Buf (Elt Bits) ℓ) (h : Cert.Pre_InProjD m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.InProjDIdeal Cert.InProjDIdeal.Gen

theorem inProjDIdeal_ok (m : (ℓ : Loc nD τ sig) → Buf (Elt Ideal) ℓ) (h : Cert.Pre_InProjDIdeal m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.InProjE Cert.InProjE.Gen

theorem inProjE_ok (m : (ℓ : Loc nD τ sig) → Buf (Elt Bits) ℓ) (h : Cert.Pre_InProjE m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.InProjEIdeal Cert.InProjEIdeal.Gen

theorem inProjEIdeal_ok (m : (ℓ : Loc nD τ sig) → Buf (Elt Ideal) ℓ) (h : Cert.Pre_InProjEIdeal m) : Ok m := by
  obtain ⟨d, hd⟩ := Words.table_of_bounds 8 (by decide) (tbl m 0) (congrFun (h 0).1) (congrFun (h 0).2)
  unfold Ok ok0 cc0_transform_1 cc0_transform_3 Pipeline.Prefetch.Contents.at
  rw [hd]
  clear hd
  revert d
  decide +kernel

end

section
open Cert.AdamwWOut Cert.AdamwWOut.Gen

theorem adamwWOut_ok (m : (ℓ : Loc nD τ sig) → Buf (Elt Bits) ℓ) (h : Cert.Pre_AdamwWOut m) : Ok m := by
  obtain ⟨d, hd⟩ := Words.word_of_bounds 4 (by decide) _ (congrFun (h 0).1 ix0) (congrFun (h 0).2 ix0)
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl))
      ((Words.second _ _ _).symm.trans hd)
  unfold Ok ok0 cc0_transform_1 cc0_transform_2
  rw [e]
  clear e hd
  revert d
  decide +kernel

end

section
open Cert.AdamwWOutIdeal Cert.AdamwWOutIdeal.Gen

theorem adamwWOutIdeal_ok (m : (ℓ : Loc nD τ sig) → Buf (Elt Ideal) ℓ) (h : Cert.Pre_AdamwWOutIdeal m) : Ok m := by
  obtain ⟨d, hd⟩ := Words.word_of_bounds 4 (by decide) _ (congrFun (h 0).1 ix0) (congrFun (h 0).2 ix0)
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl))
      ((Words.second _ _ _).symm.trans hd)
  unfold Ok ok0 cc0_transform_1 cc0_transform_2
  rw [e]
  clear e hd
  revert d
  decide +kernel

end

section
open Cert.AdamwWInA Cert.AdamwWInA.Gen

theorem adamwWInA_ok (m : (ℓ : Loc nD τ sig) → Buf (Elt Bits) ℓ) (h : Cert.Pre_AdamwWInA m) : Ok m := by
  obtain ⟨d, hd⟩ := Words.word_of_bounds 4 (by decide) _ (congrFun (h 0).1 ix0) (congrFun (h 0).2 ix0)
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl))
      ((Words.second _ _ _).symm.trans hd)
  unfold Ok ok0 cc0_transform_1 cc0_transform_2
  rw [e]
  clear e hd
  revert d
  decide +kernel

end

section
open Cert.AdamwWInAIdeal Cert.AdamwWInAIdeal.Gen

theorem adamwWInAIdeal_ok (m : (ℓ : Loc nD τ sig) → Buf (Elt Ideal) ℓ) (h : Cert.Pre_AdamwWInAIdeal m) : Ok m := by
  obtain ⟨d, hd⟩ := Words.word_of_bounds 4 (by decide) _ (congrFun (h 0).1 ix0) (congrFun (h 0).2 ix0)
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl))
      ((Words.second _ _ _).symm.trans hd)
  unfold Ok ok0 cc0_transform_1 cc0_transform_2
  rw [e]
  clear e hd
  revert d
  decide +kernel

end

section
open Cert.AdamwWInB Cert.AdamwWInB.Gen

theorem adamwWInB_ok (m : (ℓ : Loc nD τ sig) → Buf (Elt Bits) ℓ) (h : Cert.Pre_AdamwWInB m) : Ok m := by
  obtain ⟨d, hd⟩ := Words.word_of_bounds 4 (by decide) _ (congrFun (h 0).1 ix0) (congrFun (h 0).2 ix0)
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl))
      ((Words.second _ _ _).symm.trans hd)
  unfold Ok ok0 cc0_transform_1 cc0_transform_2
  rw [e]
  clear e hd
  revert d
  decide +kernel

end

section
open Cert.AdamwWInBIdeal Cert.AdamwWInBIdeal.Gen

theorem adamwWInBIdeal_ok (m : (ℓ : Loc nD τ sig) → Buf (Elt Ideal) ℓ) (h : Cert.Pre_AdamwWInBIdeal m) : Ok m := by
  obtain ⟨d, hd⟩ := Words.word_of_bounds 4 (by decide) _ (congrFun (h 0).1 ix0) (congrFun (h 0).2 ix0)
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl))
      ((Words.second _ _ _).symm.trans hd)
  unfold Ok ok0 cc0_transform_1 cc0_transform_2
  rw [e]
  clear e hd
  revert d
  decide +kernel

end

end Cert.Tables
-- ==== Proof.AdamwWOutValue.lean ====
module

public import proofs.«01_k».proof.Defs
public import proofs.«01_k».proof.Proof.Gen.AdamwWOutIdeal
public import proofs.«01_k».proof.Proof.Gen.AdamwWOutIdeal.Frame
public import proofs.«01_k».proof.Proof.Gen.AdamwWOutRefIdeal
public import proofs.«01_k».proof.Proof.Gen.AdamwWOutRefIdeal.Run
public import proofs.«01_k».proof.Proof.Gen.AdamwWOutRefIdeal.Read
public import proofs.«01_k».proof.Proof.Gen.Pre_known_pair
public import proofs.«01_k».proof.Proof.Slots
public import proofs.«01_k».proof.Proof.Words
public import proofs.«01_k».proof.Proof.Tables
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

set_option maxRecDepth 16384

noncomputable section

namespace Cert.AdamwWOutValue

open Cert.AdamwWOutIdeal Cert.AdamwWOutIdeal.Gen
open Idealize.ShloMosaic Idealize.ShloMosaic.TcCoe Idealize.SL

variable (m : (ℓ : Loc nD τ sig) → Buf (Elt Ideal) ℓ) (c : Dev nD)

/-- What the other devices sent, the two arrays of sums, the pair of numbers, the parameter and its two moments. -/
abbrev parts : S4x256x2048.Idx → EReal := m ((c : Thread nD τ).loc main_arg0)
abbrev sumsA : S4x256x2048.Idx → EReal := m ((c : Thread nD τ).loc main_arg1)
abbrev sumsB : S4x256x2048.Idx → EReal := m ((c : Thread nD τ).loc main_arg2)
abbrev pick : S2.Idx → BitVec 32 := m ((c : Thread nD τ).loc main_arg3)
abbrev param : S256x2048.Idx → EReal := m ((c : Thread nD τ).loc main_arg4)
abbrev mom : S256x2048.Idx → EReal := m ((c : Thread nD τ).loc main_arg5)
abbrev vel : S256x2048.Idx → EReal := m ((c : Thread nD τ).loc main_arg6)

/-- The blocks of rows follow the grid. -/
theorem idx (a : (pcfg0 (F := Ideal)).Adm) (t : Fin (cfg0 a).N) :
    ((cfg0 a).win 0).index t (0 : Fin 3) = 0 ∧ ((cfg0 a).win 0).index t (1 : Fin 3) = t.val ∧ ((cfg0 a).win 0).index t (2 : Fin 3) = 0
    ∧ ((cfg0 a).win 1).index t (1 : Fin 3) = t.val ∧ ((cfg0 a).win 1).index t (2 : Fin 3) = 0
    ∧ ((cfg0 a).win 2).index t (1 : Fin 3) = t.val ∧ ((cfg0 a).win 2).index t (2 : Fin 3) = 0
    ∧ ((cfg0 a).win 3).index t (0 : Fin 2) = t.val ∧ ((cfg0 a).win 3).index t (1 : Fin 2) = 0
    ∧ ((cfg0 a).win 4).index t (0 : Fin 2) = t.val ∧ ((cfg0 a).win 4).index t (1 : Fin 2) = 0
    ∧ ((cfg0 a).win 5).index t (0 : Fin 2) = t.val ∧ ((cfg0 a).win 5).index t (1 : Fin 2) = 0
    ∧ ((cfg0 a).win 6).index t (0 : Fin 2) = t.val ∧ ((cfg0 a).win 6).index t (1 : Fin 2) = 0
    ∧ ((cfg0 a).win 7).index t (0 : Fin 2) = t.val ∧ ((cfg0 a).win 7).index t (1 : Fin 2) = 0
    ∧ ((cfg0 a).win 8).index t (0 : Fin 2) = t.val ∧ ((cfg0 a).win 8).index t (1 : Fin 2) = 0
    ∧ ((cfg0 a).win 9).index t (0 : Fin 2) = t.val ∧ ((cfg0 a).win 9).index t (1 : Fin 2) = 0 := by
  have h : ∀ t : Fin grid0.N, cc0_transform_3 (grid0.coords t) (0 : Fin 2) = t.val := by decide +kernel
  exact ⟨rfl, h t, rfl, h t, rfl, h t, rfl, h t, rfl, h t, rfl, h t, rfl, h t, rfl, h t, rfl, h t, rfl, h t, rfl⟩

/-- The block of the two arrays of sums is the one the pair's second number says. -/
theorem idx_own (d : Fin 4) (hO : Ok m) (hd : pick m 0 (ix1 1) = BitVec.ofNat 32 d) (t : Fin (cfgM m hO).N) :
    ((cfgM m hO).win 1).index t (0 : Fin 3) = d ∧ ((cfgM m hO).win 2).index t (0 : Fin 3) = d := by
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl)) hd
  have h : ((tbl m).at 0 (Rect.unit (s := S2) ![1] S1.size Facts₀.inb_S2_S1_1) Facts₀.numel1_S1).toNat = d := by
    rw [e]
    clear e hd
    revert d
    decide
  exact ⟨h, h⟩

/-- Point `t` works on the rows from `128 t` on. -/
def row (hO : Ok m) (t : Fin (cfgM m hO).N) (y : S128x2048.Idx) : S256x2048.Idx :=
  ix2 ⟨128 * t.val + (y 0).val, by have ht : t.val < 2 := t.isLt; have hy : (y 0).val < 128 := (y 0).isLt; omega⟩ (y 1)

theorem param_at (hO : Ok m) (t : Fin (cfgM m hO).N) (y : S128x2048.Idx) : iblk m hO c 3 t y = param m c (row m hO t y) := by
  blk_ext [iblk, V, idx _ t, row]

theorem mom_at (hO : Ok m) (t : Fin (cfgM m hO).N) (y : S128x2048.Idx) : iblk m hO c 4 t y = mom m c (row m hO t y) := by
  blk_ext [iblk, V, idx _ t, row]

theorem vel_at (hO : Ok m) (t : Fin (cfgM m hO).N) (y : S128x2048.Idx) : iblk m hO c 5 t y = vel m c (row m hO t y) := by
  blk_ext [iblk, V, idx _ t, row]

open Cert.AdamwWOutRefIdeal.Read in
/-- The reference's own sum. -/
theorem own (sa sb : S4x256x2048.Idx → EReal) (p : S2.Idx → BitVec 32) (d : Fin 4) (hd : p (ix1 1) = BitVec.ofNat 32 d) (i : S256x2048.Idx) :
    val_main_v23 (F := Ideal) sa sb p i = Scalar.select (IntOp.cmpi .eq (p (ix1 0)) 1#32) (sb (ix3 d (i 0) (i 1))) (sa (ix3 d (i 0) (i 1))) := by
  rw [eq_ix2 i]
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_2]
  rw [hd]
  clear hd
  match d with
  | ⟨0, _⟩ => rfl
  | ⟨1, _⟩ => rfl
  | ⟨2, _⟩ => rfl
  | ⟨3, _⟩ => rfl

open Cert.AdamwWOutRefIdeal.Read in
/-- The reference's gradient. -/
theorem reference (x sa sb : S4x256x2048.Idx → EReal) (p : S2.Idx → BitVec 32) (d : Fin 4) (hd : p (ix1 1) = BitVec.ofNat 32 d) (i : S256x2048.Idx) :
    val_main_v27 (F := Ideal) x sa sb p i = Scalar.select (IntOp.cmpi .eq (p (ix1 0)) 1#32) (sb (ix3 d (i 0) (i 1))) (sa (ix3 d (i 0) (i 1)))
      + ∑ k : Fin 4, x (ix3 k (i 0) (i 1)) := by
  rw [← own sa sb p d hd, eq_ix2 i]
  pointwise [val_main_v27, val_main_v26, val_main_v25, val_main_v24, val_main_cst]

/-- A slab of a block of what was sent. -/
abbrev slab (x : S4x128x2048.Idx → EReal) (k : ℕ) (h : ∀ a, (![k, 0, 0] : Fin 3 → ℕ) a + S1x128x2048.size a ≤ S4x128x2048.size a) : S1x128x2048.Idx → EReal :=
  View.ld (Val := Elt Ideal) (e' := .bf16) x (Rect.unit (s := S4x128x2048) ![k, 0, 0] S1x128x2048.size h)

theorem slab_at (x : S4x128x2048.Idx → EReal) (k : Fin 4) (h : ∀ a, (![(k : ℕ), 0, 0] : Fin 3 → ℕ) a + S1x128x2048.size a ≤ S4x128x2048.size a)
    (r : Fin 128) (q : Fin 2048) : slab x k h (ix3 0 r q) = x (ix3 k r q) := by
  refine congrArg x (funext fun a => Fin.ext ?_)
  match a with
  | ⟨0, _⟩ => show (k : ℕ) + 1 * 0 = k; omega
  | ⟨1, _⟩ => show 0 + 1 * (r : ℕ) = r; omega
  | ⟨2, _⟩ => show 0 + 1 * (q : ℕ) = q; omega

/-- The first number of the pair, as the kernel reads it. -/
theorem first_word : View.readAt (Elt Ideal) (View.whole main_arg3) (Rect.unit ![0] ![1] Facts₀.inb_S2_S1_0).toLoadRect
    (tbl m 0) (Shape.Idx.first (by decide)) = pick m 0 (ix1 0) := congrArg (tbl m 0) (funext fun | ⟨0, _⟩ => rfl)

/-- A table under which the blocks of the parameter can be listed. -/
def somewhere : (pcfg0 (F := Ideal)).Adm := ⟨fun | ⟨0, _⟩ => (fun _ => 0#32 : IVec S2 32), by decide +kernel⟩

/-- The blocks of every result cover it, whatever the pair says. -/
theorem covers (a : (pcfg0 (F := Ideal)).Adm) : ((cfg0 a).win 6).Covers ∧ ((cfg0 a).win 7).Covers ∧ ((cfg0 a).win 8).Covers ∧ ((cfg0 a).win 9).Covers :=
  have h6 : ((cfg0 somewhere).win 6).Covers := by decide +kernel
  have h7 : ((cfg0 somewhere).win 7).Covers := by decide +kernel
  have h8 : ((cfg0 somewhere).win 8).Covers := by decide +kernel
  have h9 : ((cfg0 somewhere).win 9).Covers := by decide +kernel
  ⟨h6, h7, h8, h9⟩

open Cert.AdamwWOutRefIdeal.Read in
/-- The sum of a point's blocks is the reference's gradient, at the point's rows. -/
theorem gradient (hO : Ok m) (d : Fin 4) (hd : pick m 0 (ix1 1) = BitVec.ofNat 32 d) (t : Fin (cfgM m hO).N) (y : S128x2048.Idx)
    (s : BitVec 32) (hs : s = pick m 0 (ix1 0))
    (b a : S1x128x2048.Idx → EReal) (x : S4x128x2048.Idx → EReal) (hb : b = iblk m hO c 2 t) (ha : a = iblk m hO c 1 t) (hx : x = iblk m hO c 0 t)
    (G : S128x2048.Idx → EReal)
    (hG : G = k0_pay4 (F := Ideal) s b a (slab x 0 Facts₀.inb_S4x128x2048_S1x128x2048_0_0_0)
      (slab x 1 Facts₀.inb_S4x128x2048_S1x128x2048_1_0_0)
      (slab x 2 Facts₀.inb_S4x128x2048_S1x128x2048_2_0_0)
      (slab x 3 Facts₀.inb_S4x128x2048_S1x128x2048_3_0_0)) :
    G y = val_main_v27 (F := Ideal) (parts m c) (sumsA m c) (sumsB m c) (pick m 0) (row m hO t y) := by
  subst hs hb ha hx hG
  rw [reference _ _ _ _ d hd, eq_ix2 y]
  pointwise [k0_pay4]
  obtain ⟨i, hi⟩ : ∃ i : S256x2048.Idx, i = row m hO t y := ⟨_, rfl⟩
  rw [← hi]
  have hB : iblk m hO c 2 t (ix3 0 (y 0) (y 1)) = sumsB m c (ix3 d (i 0) (i 1)) := by
    blk_ext [iblk, V, idx _ t, idx_own m d hO hd t, hi, row]
  have hA : iblk m hO c 1 t (ix3 0 (y 0) (y 1)) = sumsA m c (ix3 d (i 0) (i 1)) := by
    blk_ext [iblk, V, idx _ t, idx_own m d hO hd t, hi, row]
  have h (k : Fin 4) : iblk m hO c 0 t (ix3 k (y 0) (y 1)) = parts m c (ix3 k (i 0) (i 1)) := by
    blk_ext [iblk, V, idx _ t, hi, row]
  have h0 : slab (iblk m hO c 0 t) 0 Facts₀.inb_S4x128x2048_S1x128x2048_0_0_0 (ix3 0 (y 0) (y 1)) = parts m c (ix3 0 (i 0) (i 1)) :=
    (slab_at (iblk m hO c 0 t) 0 _ (y 0) (y 1)).trans (h 0)
  have h1 : slab (iblk m hO c 0 t) 1 Facts₀.inb_S4x128x2048_S1x128x2048_1_0_0 (ix3 0 (y 0) (y 1)) = parts m c (ix3 1 (i 0) (i 1)) :=
    (slab_at (iblk m hO c 0 t) 1 _ (y 0) (y 1)).trans (h 1)
  have h2 : slab (iblk m hO c 0 t) 2 Facts₀.inb_S4x128x2048_S1x128x2048_2_0_0 (ix3 0 (y 0) (y 1)) = parts m c (ix3 2 (i 0) (i 1)) :=
    (slab_at (iblk m hO c 0 t) 2 _ (y 0) (y 1)).trans (h 2)
  have h3 : slab (iblk m hO c 0 t) 3 Facts₀.inb_S4x128x2048_S1x128x2048_3_0_0 (ix3 0 (y 0) (y 1)) = parts m c (ix3 3 (i 0) (i 1)) :=
    (slab_at (iblk m hO c 0 t) 3 _ (y 0) (y 1)).trans (h 3)
  rw [hB, hA, h0, h1, h2, h3, Fin.sum_univ_four, add_assoc, add_assoc, add_assoc, add_assoc, add_assoc]
  rfl

open Cert.AdamwWOutRefIdeal.Read in
/-- The gradient. -/
theorem written6 (hO : Ok m) (d : Fin 4) (hd : pick m 0 (ix1 1) = BitVec.ofNat 32 d) : (dats m hO 0 c).arrAt 6 (cfgM m hO).N
    = fun i : S256x2048.Idx => val_main_v27 (F := Ideal) (parts m c) (sumsA m c) (sumsB m c) (pick m 0) i := by
  refine (dats m hO 0 c).arrAt_eq_of_covers 6 _ (covers _).1 fun t hf y => ?_
  blk_simp
  rw [after0_6]
  unfold outsAt0
  frame_out
  have e : (((View.whole main_v0_0).slice (((cfgM m hO).win 6).rect t)).emb y) = row m hO t y := by blk_ext [idx _ t, row]
  refine Eq.trans ?_ (congrArg (val_main_v27 (F := Ideal) (parts m c) (sumsA m c) (sumsB m c) (pick m 0)) e).symm
  exact gradient m c hO d hd t y _ (first_word m) _ _ _ (Memref.IsWhole.read_unread (hs0_2 m hO t) _) (Memref.IsWhole.read_unread (hs0_1 m hO t) _) (Memref.IsWhole.read_unread (hs0_0 m hO t) _) _ rfl

open Cert.AdamwWOutRefIdeal.Read in
/-- The step. -/
theorem written7 (hO : Ok m) (d : Fin 4) (hd : pick m 0 (ix1 1) = BitVec.ofNat 32 d) : (dats m hO 0 c).arrAt 7 (cfgM m hO).N
    = fun i : S256x2048.Idx => val_main_v51 (F := Ideal) (parts m c) (sumsA m c) (sumsB m c) (pick m 0) (param m c) (mom m c) (vel m c) i := by
  refine (dats m hO 0 c).arrAt_eq_of_covers 7 _ (covers _).2.1 fun t hf y => ?_
  blk_simp
  rw [after0_7]
  unfold outsAt0
  frame_out
  have e : (((View.whole main_v0_1).slice (((cfgM m hO).win 7).rect t)).emb y) = row m hO t y := by blk_ext [idx _ t, row]
  refine Eq.trans ?_ (congrArg (val_main_v51 (F := Ideal) (parts m c) (sumsA m c) (sumsB m c) (pick m 0) (param m c) (mom m c) (vel m c)) e).symm
  generalize hG : k0_pay4 (F := Ideal) _ _ _ _ _ _ _ = G
  have hg := gradient m c hO d hd t y _ (first_word m) _ _ _ (Memref.IsWhole.read_unread (hs0_2 m hO t) _) (Memref.IsWhole.read_unread (hs0_1 m hO t) _) (Memref.IsWhole.read_unread (hs0_0 m hO t) _) G hG.symm
  clear hG
  generalize hparam : View.read (Elt Ideal) (ms0_3 m hO t).view ((hs0_3 m hO t).unread (iblk m hO c 3 t)) = bparam
  replace hparam : bparam y = param m c (row m hO t y) := by rw [← hparam]; exact (congrFun (Memref.IsWhole.read_unread (hs0_3 m hO t) _) y).trans (param_at m c hO t y)
  generalize hmom : View.read (Elt Ideal) (ms0_4 m hO t).view ((hs0_4 m hO t).unread (iblk m hO c 4 t)) = bmom
  replace hmom : bmom y = mom m c (row m hO t y) := by rw [← hmom]; exact (congrFun (Memref.IsWhole.read_unread (hs0_4 m hO t) _) y).trans (mom_at m c hO t y)
  generalize hvel : View.read (Elt Ideal) (ms0_5 m hO t).view ((hs0_5 m hO t).unread (iblk m hO c 5 t)) = bvel
  replace hvel : bvel y = vel m c (row m hO t y) := by rw [← hvel]; exact (congrFun (Memref.IsWhole.read_unread (hs0_5 m hO t) _) y).trans (vel_at m c hO t y)
  pointwise [k0_pay5, k0_pay3, k0_pay1, k0_pay2, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28]
  simp only [hg, hparam, hmom, hvel]
  rfl

open Cert.AdamwWOutRefIdeal.Read in
/-- The first moment. -/
theorem written8 (hO : Ok m) (d : Fin 4) (hd : pick m 0 (ix1 1) = BitVec.ofNat 32 d) : (dats m hO 0 c).arrAt 8 (cfgM m hO).N
    = fun i : S256x2048.Idx => val_main_v32 (F := Ideal) (parts m c) (sumsA m c) (sumsB m c) (pick m 0) (mom m c) i := by
  refine (dats m hO 0 c).arrAt_eq_of_covers 8 _ (covers _).2.2.1 fun t hf y => ?_
  blk_simp
  rw [after0_8]
  unfold outsAt0
  frame_out
  have e : (((View.whole main_v0_2).slice (((cfgM m hO).win 8).rect t)).emb y) = row m hO t y := by blk_ext [idx _ t, row]
  refine Eq.trans ?_ (congrArg (val_main_v32 (F := Ideal) (parts m c) (sumsA m c) (sumsB m c) (pick m 0) (mom m c)) e).symm
  generalize hG : k0_pay4 (F := Ideal) _ _ _ _ _ _ _ = G
  have hg := gradient m c hO d hd t y _ (first_word m) _ _ _ (Memref.IsWhole.read_unread (hs0_2 m hO t) _) (Memref.IsWhole.read_unread (hs0_1 m hO t) _) (Memref.IsWhole.read_unread (hs0_0 m hO t) _) G hG.symm
  clear hG
  generalize hmom : View.read (Elt Ideal) (ms0_4 m hO t).view ((hs0_4 m hO t).unread (iblk m hO c 4 t)) = bmom
  replace hmom : bmom y = mom m c (row m hO t y) := by rw [← hmom]; exact (congrFun (Memref.IsWhole.read_unread (hs0_4 m hO t) _) y).trans (mom_at m c hO t y)
  pointwise [k0_pay5, k0_pay1, val_main_v32, val_main_v31, val_main_v30, val_main_v29, val_main_v28]
  simp only [hg, hmom]
  rfl

open Cert.AdamwWOutRefIdeal.Read in
/-- The second moment. -/
theorem written9 (hO : Ok m) (d : Fin 4) (hd : pick m 0 (ix1 1) = BitVec.ofNat 32 d) : (dats m hO 0 c).arrAt 9 (cfgM m hO).N
    = fun i : S256x2048.Idx => val_main_v38 (F := Ideal) (parts m c) (sumsA m c) (sumsB m c) (pick m 0) (vel m c) i := by
  refine (dats m hO 0 c).arrAt_eq_of_covers 9 _ (covers _).2.2.2 fun t hf y => ?_
  blk_simp
  rw [after0_9]
  unfold outsAt0
  frame_out
  have e : (((View.whole main_v0_3).slice (((cfgM m hO).win 9).rect t)).emb y) = row m hO t y := by blk_ext [idx _ t, row]
  refine Eq.trans ?_ (congrArg (val_main_v38 (F := Ideal) (parts m c) (sumsA m c) (sumsB m c) (pick m 0) (vel m c)) e).symm
  generalize hG : k0_pay4 (F := Ideal) _ _ _ _ _ _ _ = G
  have hg := gradient m c hO d hd t y _ (first_word m) _ _ _ (Memref.IsWhole.read_unread (hs0_2 m hO t) _) (Memref.IsWhole.read_unread (hs0_1 m hO t) _) (Memref.IsWhole.read_unread (hs0_0 m hO t) _) G hG.symm
  clear hG
  generalize hvel : View.read (Elt Ideal) (ms0_5 m hO t).view ((hs0_5 m hO t).unread (iblk m hO c 5 t)) = bvel
  replace hvel : bvel y = vel m c (row m hO t y) := by rw [← hvel]; exact (congrFun (Memref.IsWhole.read_unread (hs0_5 m hO t) _) y).trans (vel_at m c hO t y)
  pointwise [k0_pay5, k0_pay2, val_main_v38, val_main_v37, val_main_v36, val_main_v35, val_main_v34, val_main_v33, val_main_v32, val_main_v31, val_main_v30, val_main_v29, val_main_v28]
  simp only [hg, hvel]
  rfl

/-- The kernel ends with the four results at what its blocks make of them. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v0_0) = (dats m hO 0 c).arrAt 6 (cfgM m hO).N
      ∧ r.2.mem ((c.tc : Thread nD τ).loc main_v0_1) = (dats m hO 0 c).arrAt 7 (cfgM m hO).N
      ∧ r.2.mem ((c.tc : Thread nD τ).loc main_v0_2) = (dats m hO 0 c).arrAt 8 (cfgM m hO).N
      ∧ r.2.mem ((c.tc : Thread nD τ).loc main_v0_3) = (dats m hO 0 c).arrAt 9 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 6, (h.1 c).1 7, (h.1 c).1 8, (h.1 c).1 9, h.2 c⟩) (θ_run_and (run_main m g hO) (unchanged m g hO))

/-- The kernel's four arrays are the reference's. -/
theorem algebraic : Cert.algebraic_AdamwWOutIdeal_AdamwWOutRefIdeal (hAdamwWOutIdeal := Cert.AdamwWOutIdeal.Gen.facts)
    (hAdamwWOutRefIdeal := Cert.AdamwWOutRefIdeal.Gen.facts) (hPre_known_pair := Cert.Pre_known_pair.Gen.facts) := by
  intro m g m' g' hpre hagree
  have hO : Ok m := Tables.adamwWOutIdeal_ok m hpre
  obtain ⟨d, hd⟩ := Words.word_of_bounds 4 (by decide) _ (congrFun (hpre 0).1 ix0) (congrFun (hpre 0).2 ix0)
  have hd : pick m 0 (ix1 1) = BitVec.ofNat 32 d := (Words.second _ _ _).symm.trans hd
  refine ⟨_, _, _, _, run m g hO, (θ_run _ _ _).mono (fun r h c => ?_) (Cert.AdamwWOutRefIdeal.Value.run m' g')⟩
  obtain ⟨a0, a1, a2, a3, a4, a5, a6⟩ := hagree c
  obtain ⟨h0, h1, h2, h3, hk⟩ := h c
  have hc : m ((c : Thread nD τ).loc main_arg3) = pick m 0 := by rw [Subsingleton.elim c 0]
  replace h0 := h0.trans (Cert.AdamwWOutRefIdeal.Read.val_main_v27_eq (F := Ideal) _ _ _ _)
  replace h1 := h1.trans (Cert.AdamwWOutRefIdeal.Read.val_main_v51_eq (F := Ideal) _ _)
  replace h2 := h2.trans (Cert.AdamwWOutRefIdeal.Read.val_main_v32_eq (F := Ideal) _ _ _ _ _)
  replace h3 := h3.trans (Cert.AdamwWOutRefIdeal.Read.val_main_v38_eq (F := Ideal) _ _)
  rw [a0, a1, a2, a3, hc] at h0
  rw [a0, a1, a2, a3, a4, a5, a6, hc] at h1
  rw [a0, a1, a2, a3, a5, hc] at h2
  rw [a0, a1, a2, a3, a6, hc] at h3
  exact ⟨h0.trans (written6 m c hO d hd).symm, h1.trans (written7 m c hO d hd).symm, h2.trans (written8 m c hO d hd).symm, h3.trans (written9 m c hO d hd).symm, hk⟩

end Cert.AdamwWOutValue

end
-- ==== Proof.WInRows.lean ====
/- AdamW on a row block of a device's slice of w_in, element by element.

   Two calls update the slice, one its first rows and one its last. Both read the same six kinds of
   block and compute the same four results; what they compute from blocks that hold the rows of an
   element is told here once. -/
module

public import proofs.«01_k».proof.Defs
public import proofs.«01_k».proof.Proof.Gen.AdamwWInAIdeal
public import proofs.«01_k».proof.Proof.Gen.AdamwWInAIdeal.Frame
public import proofs.«01_k».proof.Proof.Gen.AdamwWInARefIdeal
public import proofs.«01_k».proof.Proof.Gen.AdamwWInARefIdeal.Read
public import Idealize.ShloMosaic.Lib.Pipeline.ValueKit.Tiles
public import Idealize.ShloMosaic.Lib.Pipeline.ValueKit
public import Idealize.ShloMosaic.Lib.Claim
public import Idealize.ShloMosaic.Lib.Pointwise

@[expose] public section

set_option maxRecDepth 16384

noncomputable section

namespace Cert.WInRows

open Cert.AdamwWInAIdeal Cert.AdamwWInAIdeal.Gen Cert.AdamwWInARefIdeal.Read
open Idealize.ShloMosaic Idealize.ShloMosaic.TcCoe Idealize.SL

/-- The reference's own sum. -/
theorem own (sa sb : S4x2048x1024.Idx → EReal) (p : S2.Idx → BitVec 32) (d : Fin 4) (hd : p (ix1 1) = BitVec.ofNat 32 d) (i : S2048x1024.Idx) :
    val_main_v23 (F := Ideal) sa sb p i = Scalar.select (IntOp.cmpi .eq (p (ix1 0)) 1#32) (sb (ix3 d (i 0) (i 1))) (sa (ix3 d (i 0) (i 1))) := by
  rw [eq_ix2 i]
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_2]
  rw [hd]
  clear hd
  match d with
  | ⟨0, _⟩ => rfl
  | ⟨1, _⟩ => rfl
  | ⟨2, _⟩ => rfl
  | ⟨3, _⟩ => rfl

/-- The reference's gradient. -/
theorem reference (x sa sb : S4x2048x1024.Idx → EReal) (p : S2.Idx → BitVec 32) (d : Fin 4) (hd : p (ix1 1) = BitVec.ofNat 32 d) (i : S2048x1024.Idx) :
    val_main_v27 (F := Ideal) x sa sb p i = Scalar.select (IntOp.cmpi .eq (p (ix1 0)) 1#32) (sb (ix3 d (i 0) (i 1))) (sa (ix3 d (i 0) (i 1)))
      + ∑ k : Fin 4, x (ix3 k (i 0) (i 1)) := by
  rw [← own sa sb p d hd, eq_ix2 i]
  pointwise [val_main_v27, val_main_v26, val_main_v25, val_main_v24, val_main_cst]

/-- A slab of a block of what was sent. -/
abbrev slab (x : S4x256x1024.Idx → EReal) (k : ℕ) (h : ∀ a, (![k, 0, 0] : Fin 3 → ℕ) a + S1x256x1024.size a ≤ S4x256x1024.size a) : S1x256x1024.Idx → EReal :=
  View.ld (Val := Elt Ideal) (e' := .bf16) x (Rect.unit (s := S4x256x1024) ![k, 0, 0] S1x256x1024.size h)

theorem slab_at (x : S4x256x1024.Idx → EReal) (k : Fin 4) (h : ∀ a, (![(k : ℕ), 0, 0] : Fin 3 → ℕ) a + S1x256x1024.size a ≤ S4x256x1024.size a)
    (r : Fin 256) (q : Fin 1024) : slab x k h (ix3 0 r q) = x (ix3 k r q) := by
  refine congrArg x (funext fun a => Fin.ext ?_)
  match a with
  | ⟨0, _⟩ => show (k : ℕ) + 1 * 0 = k; omega
  | ⟨1, _⟩ => show 0 + 1 * (r : ℕ) = r; omega
  | ⟨2, _⟩ => show 0 + 1 * (q : ℕ) = q; omega

variable (parts sa sb : S4x2048x1024.Idx → EReal) (p : S2.Idx → BitVec 32) (param mom vel : S2048x1024.Idx → EReal)
variable (y : S256x1024.Idx) (i : S2048x1024.Idx)

/-- The sum of the blocks is the reference's gradient. -/
theorem gradient (d : Fin 4) (hd : p (ix1 1) = BitVec.ofNat 32 d) (s : BitVec 32) (hs : s = p (ix1 0))
    (b a : S1x256x1024.Idx → EReal) (x : S4x256x1024.Idx → EReal)
    (hb : b (ix3 0 (y 0) (y 1)) = sb (ix3 d (i 0) (i 1))) (ha : a (ix3 0 (y 0) (y 1)) = sa (ix3 d (i 0) (i 1)))
    (hx : ∀ k : Fin 4, x (ix3 k (y 0) (y 1)) = parts (ix3 k (i 0) (i 1))) :
    k0_pay4 (F := Ideal) s b a (slab x 0 Facts₀.inb_S4x256x1024_S1x256x1024_0_0_0) (slab x 1 Facts₀.inb_S4x256x1024_S1x256x1024_1_0_0)
      (slab x 2 Facts₀.inb_S4x256x1024_S1x256x1024_2_0_0) (slab x 3 Facts₀.inb_S4x256x1024_S1x256x1024_3_0_0) y
      = val_main_v27 (F := Ideal) parts sa sb p i := by
  subst hs
  rw [reference _ _ _ _ d hd, eq_ix2 y]
  pointwise [k0_pay4]
  have h0 : slab x 0 Facts₀.inb_S4x256x1024_S1x256x1024_0_0_0 (ix3 0 (y 0) (y 1)) = parts (ix3 0 (i 0) (i 1)) :=
    (slab_at x 0 _ (y 0) (y 1)).trans (hx 0)
  have h1 : slab x 1 Facts₀.inb_S4x256x1024_S1x256x1024_1_0_0 (ix3 0 (y 0) (y 1)) = parts (ix3 1 (i 0) (i 1)) :=
    (slab_at x 1 _ (y 0) (y 1)).trans (hx 1)
  have h2 : slab x 2 Facts₀.inb_S4x256x1024_S1x256x1024_2_0_0 (ix3 0 (y 0) (y 1)) = parts (ix3 2 (i 0) (i 1)) :=
    (slab_at x 2 _ (y 0) (y 1)).trans (hx 2)
  have h3 : slab x 3 Facts₀.inb_S4x256x1024_S1x256x1024_3_0_0 (ix3 0 (y 0) (y 1)) = parts (ix3 3 (i 0) (i 1)) :=
    (slab_at x 3 _ (y 0) (y 1)).trans (hx 3)
  rw [hb, ha, h0, h1, h2, h3, Fin.sum_univ_four, add_assoc, add_assoc, add_assoc, add_assoc, add_assoc]
  rfl

variable (G P M V : S256x1024.Idx → EReal) (hg : G y = val_main_v27 (F := Ideal) parts sa sb p i)
include hg

/-- The step of the parameter. -/
theorem step (hp : P y = param i) (hm : M y = mom i) (hv : V y = vel i) :
    k0_pay3 (F := Ideal) G P M V (k0_pay5 (F := Ideal)) y = val_main_v51 (F := Ideal) parts sa sb p param mom vel i := by
  pointwise [k0_pay5, k0_pay3, k0_pay1, k0_pay2, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28]
  simp only [hg, hp, hm, hv]
  rfl

/-- The first moment. -/
theorem first (hm : M y = mom i) :
    k0_pay1 (F := Ideal) G M (k0_pay5 (F := Ideal)) y = val_main_v32 (F := Ideal) parts sa sb p mom i := by
  pointwise [k0_pay5, k0_pay1, val_main_v32, val_main_v31, val_main_v30, val_main_v29, val_main_v28]
  simp only [hg, hm]
  rfl

/-- The second moment. -/
theorem second (hv : V y = vel i) :
    k0_pay2 (F := Ideal) G V y = val_main_v38 (F := Ideal) parts sa sb p vel i := by
  pointwise [k0_pay2, val_main_v38, val_main_v37, val_main_v36, val_main_v35, val_main_v34, val_main_v33, val_main_v32, val_main_v31, val_main_v30, val_main_v29, val_main_v28]
  simp only [hg, hv]
  rfl

end Cert.WInRows

end
-- ==== Proof.AdamwWInAValue.lean ====
module

public import proofs.«01_k».proof.Defs
public import proofs.«01_k».proof.Proof.Gen.AdamwWInAIdeal
public import proofs.«01_k».proof.Proof.Gen.AdamwWInAIdeal.Frame
public import proofs.«01_k».proof.Proof.Gen.AdamwWInARefIdeal
public import proofs.«01_k».proof.Proof.Gen.AdamwWInARefIdeal.Run
public import proofs.«01_k».proof.Proof.Gen.AdamwWInARefIdeal.Read
public import proofs.«01_k».proof.Proof.Gen.Pre_known_pair_of_in
public import proofs.«01_k».proof.Proof.Gen.On_first_rows
public import proofs.«01_k».proof.Proof.WInRows
public import proofs.«01_k».proof.Proof.Words
public import proofs.«01_k».proof.Proof.Tables
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

set_option maxRecDepth 16384

noncomputable section

namespace Cert.AdamwWInAValue

open Cert.AdamwWInAIdeal Cert.AdamwWInAIdeal.Gen
open Idealize.ShloMosaic Idealize.ShloMosaic.TcCoe Idealize.SL

variable (m : (ℓ : Loc nD τ sig) → Buf (Elt Ideal) ℓ) (c : Dev nD)

/-- What the other devices sent, the two arrays of sums, the pair of numbers, the parameter and its two moments. -/
abbrev parts : S4x2048x1024.Idx → EReal := m ((c : Thread nD τ).loc main_arg0)
abbrev sumsA : S4x2048x1024.Idx → EReal := m ((c : Thread nD τ).loc main_arg1)
abbrev sumsB : S4x2048x1024.Idx → EReal := m ((c : Thread nD τ).loc main_arg2)
abbrev pick : S2.Idx → BitVec 32 := m ((c : Thread nD τ).loc main_arg3)
abbrev param : S2048x1024.Idx → EReal := m ((c : Thread nD τ).loc main_arg4)
abbrev mom : S2048x1024.Idx → EReal := m ((c : Thread nD τ).loc main_arg5)
abbrev vel : S2048x1024.Idx → EReal := m ((c : Thread nD τ).loc main_arg6)

/-- The blocks of rows follow the grid. -/
theorem idx (a : (pcfg0 (F := Ideal)).Adm) (t : Fin (cfg0 a).N) :
    ((cfg0 a).win 0).index t (0 : Fin 3) = 0 ∧ ((cfg0 a).win 0).index t (1 : Fin 3) = t.val ∧ ((cfg0 a).win 0).index t (2 : Fin 3) = 0
    ∧ ((cfg0 a).win 1).index t (1 : Fin 3) = t.val ∧ ((cfg0 a).win 1).index t (2 : Fin 3) = 0
    ∧ ((cfg0 a).win 2).index t (1 : Fin 3) = t.val ∧ ((cfg0 a).win 2).index t (2 : Fin 3) = 0
    ∧ ((cfg0 a).win 3).index t (0 : Fin 2) = t.val ∧ ((cfg0 a).win 3).index t (1 : Fin 2) = 0
    ∧ ((cfg0 a).win 4).index t (0 : Fin 2) = t.val ∧ ((cfg0 a).win 4).index t (1 : Fin 2) = 0
    ∧ ((cfg0 a).win 5).index t (0 : Fin 2) = t.val ∧ ((cfg0 a).win 5).index t (1 : Fin 2) = 0
    ∧ ((cfg0 a).win 6).index t (0 : Fin 2) = t.val ∧ ((cfg0 a).win 6).index t (1 : Fin 2) = 0
    ∧ ((cfg0 a).win 7).index t (0 : Fin 2) = t.val ∧ ((cfg0 a).win 7).index t (1 : Fin 2) = 0
    ∧ ((cfg0 a).win 8).index t (0 : Fin 2) = t.val ∧ ((cfg0 a).win 8).index t (1 : Fin 2) = 0
    ∧ ((cfg0 a).win 9).index t (0 : Fin 2) = t.val ∧ ((cfg0 a).win 9).index t (1 : Fin 2) = 0 := by
  have h : ∀ t : Fin grid0.N, cc0_transform_3 (grid0.coords t) (0 : Fin 2) = t.val := by decide +kernel
  exact ⟨rfl, h t, rfl, h t, rfl, h t, rfl, h t, rfl, h t, rfl, h t, rfl, h t, rfl, h t, rfl, h t, rfl, h t, rfl⟩

/-- The block of the two arrays of sums is the one the pair's second number says. -/
theorem idx_own (d : Fin 4) (hO : Ok m) (hd : pick m 0 (ix1 1) = BitVec.ofNat 32 d) (t : Fin (cfgM m hO).N) :
    ((cfgM m hO).win 1).index t (0 : Fin 3) = d ∧ ((cfgM m hO).win 2).index t (0 : Fin 3) = d := by
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl)) hd
  have h : ((tbl m).at 0 (Rect.unit (s := S2) ![1] S1.size Facts₀.inb_S2_S1_1) Facts₀.numel1_S1).toNat = d := by
    rw [e]
    clear e hd
    revert d
    decide
  exact ⟨h, h⟩

/-- Point `t` works on the rows from `256 t` on. -/
def row (hO : Ok m) (t : Fin (cfgM m hO).N) (y : S256x1024.Idx) : S2048x1024.Idx :=
  ix2 ⟨256 * t.val + (y 0).val, by have ht : t.val < 6 := t.isLt; have hy : (y 0).val < 256 := (y 0).isLt; omega⟩ (y 1)

theorem param_at (hO : Ok m) (t : Fin (cfgM m hO).N) (y : S256x1024.Idx) : iblk m hO c 3 t y = param m c (row m hO t y) := by
  blk_ext [iblk, V, idx _ t, row]

theorem mom_at (hO : Ok m) (t : Fin (cfgM m hO).N) (y : S256x1024.Idx) : iblk m hO c 4 t y = mom m c (row m hO t y) := by
  blk_ext [iblk, V, idx _ t, row]

theorem vel_at (hO : Ok m) (t : Fin (cfgM m hO).N) (y : S256x1024.Idx) : iblk m hO c 5 t y = vel m c (row m hO t y) := by
  blk_ext [iblk, V, idx _ t, row]

/-- The row blocks this call writes. -/
def Written (b : ℕ) : Prop := b < 6
instance (b : ℕ) : Decidable (Written b) := inferInstanceAs (Decidable (_ < _))

/-- A table under which the blocks of the parameter can be listed. -/
def somewhere : (pcfg0 (F := Ideal)).Adm := ⟨fun | ⟨0, _⟩ => (fun _ => 0#32 : IVec S2 32), by decide +kernel⟩

/-- The blocks of every result cover the rows this call writes, whatever the pair says. -/
theorem covers (a : (pcfg0 (F := Ideal)).Adm) : (((cfg0 a).win 6).CoversWhere fun β => Written (β (0 : Fin 2))) ∧ (((cfg0 a).win 7).CoversWhere fun β => Written (β (0 : Fin 2)))
    ∧ (((cfg0 a).win 8).CoversWhere fun β => Written (β (0 : Fin 2))) ∧ (((cfg0 a).win 9).CoversWhere fun β => Written (β (0 : Fin 2))) :=
  have h6 : ((cfg0 somewhere).win 6).CoversWhere fun β => Written (β (0 : Fin 2)) := by decide +kernel
  have h7 : ((cfg0 somewhere).win 7).CoversWhere fun β => Written (β (0 : Fin 2)) := by decide +kernel
  have h8 : ((cfg0 somewhere).win 8).CoversWhere fun β => Written (β (0 : Fin 2)) := by decide +kernel
  have h9 : ((cfg0 somewhere).win 9).CoversWhere fun β => Written (β (0 : Fin 2)) := by decide +kernel
  ⟨h6, h7, h8, h9⟩

/-- The first number of the pair, as the kernel reads it. -/
theorem first_word : View.readAt (Elt Ideal) (View.whole main_arg3) (Rect.unit ![0] ![1] Facts₀.inb_S2_S1_0).toLoadRect
    (tbl m 0) (Shape.Idx.first (by decide)) = pick m 0 (ix1 0) := congrArg (tbl m 0) (funext fun | ⟨0, _⟩ => rfl)

/-- The sum of a point's blocks is the gradient of the point's rows. -/
theorem gradient (hO : Ok m) (d : Fin 4) (hd : pick m 0 (ix1 1) = BitVec.ofNat 32 d) (t : Fin (cfgM m hO).N) (y : S256x1024.Idx)
    (s : BitVec 32) (hs : s = pick m 0 (ix1 0))
    (b a : S1x256x1024.Idx → EReal) (x : S4x256x1024.Idx → EReal) (hb : b = iblk m hO c 2 t) (ha : a = iblk m hO c 1 t) (hx : x = iblk m hO c 0 t) :
    k0_pay4 (F := Ideal) s b a (WInRows.slab x 0 Facts₀.inb_S4x256x1024_S1x256x1024_0_0_0) (WInRows.slab x 1 Facts₀.inb_S4x256x1024_S1x256x1024_1_0_0)
      (WInRows.slab x 2 Facts₀.inb_S4x256x1024_S1x256x1024_2_0_0) (WInRows.slab x 3 Facts₀.inb_S4x256x1024_S1x256x1024_3_0_0) y
      = Cert.AdamwWInARefIdeal.Read.val_main_v27 (F := Ideal) (parts m c) (sumsA m c) (sumsB m c) (pick m 0) (row m hO t y) := by
  refine WInRows.gradient _ _ _ _ y _ d hd s hs b a x ?_ ?_ fun k => ?_
  · rw [hb]
    blk_ext [iblk, V, idx _ t, idx_own m d hO hd t, row]
  · rw [ha]
    blk_ext [iblk, V, idx _ t, idx_own m d hO hd t, row]
  · rw [hx]
    blk_ext [iblk, V, idx _ t, row]

/-- The gradient, on the rows this call writes. -/
theorem written6 (hO : Ok m) (d : Fin 4) (hd : pick m 0 (ix1 1) = BitVec.ofNat 32 d) (i : S2048x1024.Idx) (hi : Written ((i 0 : Nat) / 256)) :
    (dats m hO 0 c).arrAt 6 (cfgM m hO).N i = Cert.AdamwWInARefIdeal.Read.val_main_v27 (F := Ideal) (parts m c) (sumsA m c) (sumsB m c) (pick m 0) i := by
  refine ((dats m hO 0 c).arrAt_apply_of_coversWhere 6 (Cert.AdamwWInARefIdeal.Read.val_main_v27 (F := Ideal) (parts m c) (sumsA m c) (sumsB m c) (pick m 0))
    (fun β => Written (β (0 : Fin 2))) (covers _).1 (fun t hf y => ?_) (P := fun i : S2048x1024.Idx => Written ((i 0 : Nat) / 256)) (fun j => Iff.rfl) i).trans (if_pos hi)
  blk_simp
  rw [after0_6]
  unfold outsAt0
  frame_out
  have e : (((View.whole main_v0_0).slice (((cfgM m hO).win 6).rect t)).emb y) = row m hO t y := by blk_ext [idx _ t, row]
  refine Eq.trans ?_ (congrArg (Cert.AdamwWInARefIdeal.Read.val_main_v27 (F := Ideal) (parts m c) (sumsA m c) (sumsB m c) (pick m 0)) e).symm
  exact gradient m c hO d hd t y _ (first_word m) _ _ _ (Memref.IsWhole.read_unread (hs0_2 m hO t) _) (Memref.IsWhole.read_unread (hs0_1 m hO t) _)
    (Memref.IsWhole.read_unread (hs0_0 m hO t) _)

/-- The step, on the rows this call writes. -/
theorem written7 (hO : Ok m) (d : Fin 4) (hd : pick m 0 (ix1 1) = BitVec.ofNat 32 d) (i : S2048x1024.Idx) (hi : Written ((i 0 : Nat) / 256)) :
    (dats m hO 0 c).arrAt 7 (cfgM m hO).N i = Cert.AdamwWInARefIdeal.Read.val_main_v51 (F := Ideal) (parts m c) (sumsA m c) (sumsB m c) (pick m 0) (param m c) (mom m c) (vel m c) i := by
  refine ((dats m hO 0 c).arrAt_apply_of_coversWhere 7 (Cert.AdamwWInARefIdeal.Read.val_main_v51 (F := Ideal) (parts m c) (sumsA m c) (sumsB m c) (pick m 0) (param m c) (mom m c) (vel m c))
    (fun β => Written (β (0 : Fin 2))) (covers _).2.1 (fun t hf y => ?_) (P := fun i : S2048x1024.Idx => Written ((i 0 : Nat) / 256)) (fun j => Iff.rfl) i).trans (if_pos hi)
  blk_simp
  rw [after0_7]
  unfold outsAt0
  frame_out
  have e : (((View.whole main_v0_1).slice (((cfgM m hO).win 7).rect t)).emb y) = row m hO t y := by blk_ext [idx _ t, row]
  refine Eq.trans ?_ (congrArg (Cert.AdamwWInARefIdeal.Read.val_main_v51 (F := Ideal) (parts m c) (sumsA m c) (sumsB m c) (pick m 0) (param m c) (mom m c) (vel m c)) e).symm
  exact WInRows.step _ _ _ _ (param m c) (mom m c) (vel m c) y _ _ _ _ _
    (gradient m c hO d hd t y _ (first_word m) _ _ _ (Memref.IsWhole.read_unread (hs0_2 m hO t) _) (Memref.IsWhole.read_unread (hs0_1 m hO t) _)
    (Memref.IsWhole.read_unread (hs0_0 m hO t) _))
    ((congrFun (Memref.IsWhole.read_unread (hs0_3 m hO t) _) y).trans (param_at m c hO t y))
    ((congrFun (Memref.IsWhole.read_unread (hs0_4 m hO t) _) y).trans (mom_at m c hO t y))
    ((congrFun (Memref.IsWhole.read_unread (hs0_5 m hO t) _) y).trans (vel_at m c hO t y))

/-- The first moment, on the rows this call writes. -/
theorem written8 (hO : Ok m) (d : Fin 4) (hd : pick m 0 (ix1 1) = BitVec.ofNat 32 d) (i : S2048x1024.Idx) (hi : Written ((i 0 : Nat) / 256)) :
    (dats m hO 0 c).arrAt 8 (cfgM m hO).N i = Cert.AdamwWInARefIdeal.Read.val_main_v32 (F := Ideal) (parts m c) (sumsA m c) (sumsB m c) (pick m 0) (mom m c) i := by
  refine ((dats m hO 0 c).arrAt_apply_of_coversWhere 8 (Cert.AdamwWInARefIdeal.Read.val_main_v32 (F := Ideal) (parts m c) (sumsA m c) (sumsB m c) (pick m 0) (mom m c))
    (fun β => Written (β (0 : Fin 2))) (covers _).2.2.1 (fun t hf y => ?_) (P := fun i : S2048x1024.Idx => Written ((i 0 : Nat) / 256)) (fun j => Iff.rfl) i).trans (if_pos hi)
  blk_simp
  rw [after0_8]
  unfold outsAt0
  frame_out
  have e : (((View.whole main_v0_2).slice (((cfgM m hO).win 8).rect t)).emb y) = row m hO t y := by blk_ext [idx _ t, row]
  refine Eq.trans ?_ (congrArg (Cert.AdamwWInARefIdeal.Read.val_main_v32 (F := Ideal) (parts m c) (sumsA m c) (sumsB m c) (pick m 0) (mom m c)) e).symm
  exact WInRows.first _ _ _ _ (mom m c) y _ _ _
    (gradient m c hO d hd t y _ (first_word m) _ _ _ (Memref.IsWhole.read_unread (hs0_2 m hO t) _) (Memref.IsWhole.read_unread (hs0_1 m hO t) _)
    (Memref.IsWhole.read_unread (hs0_0 m hO t) _))
    ((congrFun (Memref.IsWhole.read_unread (hs0_4 m hO t) _) y).trans (mom_at m c hO t y))

/-- The second moment, on the rows this call writes. -/
theorem written9 (hO : Ok m) (d : Fin 4) (hd : pick m 0 (ix1 1) = BitVec.ofNat 32 d) (i : S2048x1024.Idx) (hi : Written ((i 0 : Nat) / 256)) :
    (dats m hO 0 c).arrAt 9 (cfgM m hO).N i = Cert.AdamwWInARefIdeal.Read.val_main_v38 (F := Ideal) (parts m c) (sumsA m c) (sumsB m c) (pick m 0) (vel m c) i := by
  refine ((dats m hO 0 c).arrAt_apply_of_coversWhere 9 (Cert.AdamwWInARefIdeal.Read.val_main_v38 (F := Ideal) (parts m c) (sumsA m c) (sumsB m c) (pick m 0) (vel m c))
    (fun β => Written (β (0 : Fin 2))) (covers _).2.2.2 (fun t hf y => ?_) (P := fun i : S2048x1024.Idx => Written ((i 0 : Nat) / 256)) (fun j => Iff.rfl) i).trans (if_pos hi)
  blk_simp
  rw [after0_9]
  unfold outsAt0
  frame_out
  have e : (((View.whole main_v0_3).slice (((cfgM m hO).win 9).rect t)).emb y) = row m hO t y := by blk_ext [idx _ t, row]
  refine Eq.trans ?_ (congrArg (Cert.AdamwWInARefIdeal.Read.val_main_v38 (F := Ideal) (parts m c) (sumsA m c) (sumsB m c) (pick m 0) (vel m c)) e).symm
  exact WInRows.second _ _ _ _ (vel m c) y _ _ _
    (gradient m c hO d hd t y _ (first_word m) _ _ _ (Memref.IsWhole.read_unread (hs0_2 m hO t) _) (Memref.IsWhole.read_unread (hs0_1 m hO t) _)
    (Memref.IsWhole.read_unread (hs0_0 m hO t) _))
    ((congrFun (Memref.IsWhole.read_unread (hs0_5 m hO t) _) y).trans (vel_at m c hO t y))

/-- The kernel ends with the four results at what its blocks make of them. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v0_0) = (dats m hO 0 c).arrAt 6 (cfgM m hO).N
      ∧ r.2.mem ((c.tc : Thread nD τ).loc main_v0_1) = (dats m hO 0 c).arrAt 7 (cfgM m hO).N
      ∧ r.2.mem ((c.tc : Thread nD τ).loc main_v0_2) = (dats m hO 0 c).arrAt 8 (cfgM m hO).N
      ∧ r.2.mem ((c.tc : Thread nD τ).loc main_v0_3) = (dats m hO 0 c).arrAt 9 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 6, (h.1 c).1 7, (h.1 c).1 8, (h.1 c).1 9, h.2 c⟩) (θ_run_and (run_main m g hO) (unchanged m g hO))

/-- The mask of the rows this call writes. -/
theorem mask (i : S2048x1024.Idx) (hi : IntOp.cmpi .slt (BitVec.ofNat 32 (i 0)) 1536#32 = 1#1) : Written ((i 0 : Nat) / 256) := by
  have h : ∀ n : Fin 2048, IntOp.cmpi .slt (BitVec.ofNat 32 n) 1536#32 = 1#1 → Written ((n : Nat) / 256) := by decide +kernel
  exact h (i 0) hi

/-- The kernel's four arrays are the reference's, on the rows this call writes. -/
theorem algebraic : Cert.algebraic_AdamwWInAIdeal_AdamwWInARefIdeal_on_first_rows (hAdamwWInAIdeal := Cert.AdamwWInAIdeal.Gen.facts)
    (hAdamwWInARefIdeal := Cert.AdamwWInARefIdeal.Gen.facts) (hPre_known_pair_of_in := Cert.Pre_known_pair_of_in.Gen.facts)
    (hOn_first_rows := Cert.On_first_rows.Gen.facts) := by
  intro m g m' g' hpre hagree
  have hO : Ok m := Tables.adamwWInAIdeal_ok m hpre
  obtain ⟨d, hd⟩ := Words.word_of_bounds 4 (by decide) _ (congrFun (hpre 0).1 ix0) (congrFun (hpre 0).2 ix0)
  have hd : pick m 0 (ix1 1) = BitVec.ofNat 32 d := (Words.second _ _ _).symm.trans hd
  refine ⟨fun c => Cert.AdamwWInARefIdeal.Read.val_main_v27 (F := Ideal) (parts m c) (sumsA m c) (sumsB m c) (pick m 0),
    fun c => Cert.AdamwWInARefIdeal.Read.val_main_v51 (F := Ideal) (parts m c) (sumsA m c) (sumsB m c) (pick m 0) (param m c) (mom m c) (vel m c),
    fun c => Cert.AdamwWInARefIdeal.Read.val_main_v32 (F := Ideal) (parts m c) (sumsA m c) (sumsB m c) (pick m 0) (mom m c),
    fun c => Cert.AdamwWInARefIdeal.Read.val_main_v38 (F := Ideal) (parts m c) (sumsA m c) (sumsB m c) (pick m 0) (vel m c), ?_, ?_⟩
  · refine (θ_run defs _ _).mono (fun r h c => ?_) (run m g hO)
    obtain ⟨h0, h1, h2, h3, hk⟩ := h c
    exact ⟨fun i hi => (congrFun h0 i).trans (written6 m c hO d hd i (mask i hi)), fun i hi => (congrFun h1 i).trans (written7 m c hO d hd i (mask i hi)),
      fun i hi => (congrFun h2 i).trans (written8 m c hO d hd i (mask i hi)), fun i hi => (congrFun h3 i).trans (written9 m c hO d hd i (mask i hi)), hk⟩
  · refine (θ_run _ _ _).mono (fun r h c => ?_) (Cert.AdamwWInARefIdeal.Value.run m' g')
    obtain ⟨a0, a1, a2, a3, a4, a5, a6⟩ := hagree c
    obtain ⟨h0, h1, h2, h3, hk⟩ := h c
    have hc : m ((c : Thread nD τ).loc main_arg3) = pick m 0 := by rw [Subsingleton.elim c 0]
    replace h0 := h0.trans (Cert.AdamwWInARefIdeal.Read.val_main_v27_eq (F := Ideal) _ _ _ _)
    replace h1 := h1.trans (Cert.AdamwWInARefIdeal.Read.val_main_v51_eq (F := Ideal) _ _)
    replace h2 := h2.trans (Cert.AdamwWInARefIdeal.Read.val_main_v32_eq (F := Ideal) _ _ _ _ _)
    replace h3 := h3.trans (Cert.AdamwWInARefIdeal.Read.val_main_v38_eq (F := Ideal) _ _)
    rw [a0, a1, a2, a3, hc] at h0
    rw [a0, a1, a2, a3, a4, a5, a6, hc] at h1
    rw [a0, a1, a2, a3, a5, hc] at h2
    rw [a0, a1, a2, a3, a6, hc] at h3
    exact ⟨fun i _ => congrFun h0 i, fun i _ => congrFun h1 i, fun i _ => congrFun h2 i, fun i _ => congrFun h3 i, hk⟩

end Cert.AdamwWInAValue

end
-- ==== Proof.AdamwWInBValue.lean ====
module

public import proofs.«01_k».proof.Defs
public import proofs.«01_k».proof.Proof.Gen.AdamwWInBIdeal
public import proofs.«01_k».proof.Proof.Gen.AdamwWInBIdeal.Frame
public import proofs.«01_k».proof.Proof.Gen.AdamwWInBRefIdeal
public import proofs.«01_k».proof.Proof.Gen.AdamwWInBRefIdeal.Run
public import proofs.«01_k».proof.Proof.Gen.AdamwWInBRefIdeal.Read
public import proofs.«01_k».proof.Proof.Gen.Pre_known_pair_of_last
public import proofs.«01_k».proof.Proof.WInRows
public import proofs.«01_k».proof.Proof.Words
public import proofs.«01_k».proof.Proof.Tables
public import Idealize.ShloMosaic.Lib.Pipeline.ValueKit.Partial
public import Idealize.ShloMosaic.Lib.Pipeline.ValueKit.Tiles
public import Idealize.ShloMosaic.Lib.Pipeline.ValueKit.Acc
public import Idealize.ShloMosaic.Lib.Pipeline.ValueKit
public import Idealize.ShloMosaic.Lib.Claim
public import Idealize.ShloMosaic.Lib.Pointwise

@[expose] public section

set_option maxRecDepth 16384

noncomputable section

namespace Cert.AdamwWInBValue

open Cert.AdamwWInBIdeal Cert.AdamwWInBIdeal.Gen
open Idealize.ShloMosaic Idealize.ShloMosaic.TcCoe Idealize.SL

variable (m : (ℓ : Loc nD τ sig) → Buf (Elt Ideal) ℓ) (c : Dev nD)

/-- What the other devices sent, the two arrays of sums, the pair of numbers, the parameter and its two moments. -/
abbrev parts : S4x2048x1024.Idx → EReal := m ((c : Thread nD τ).loc main_arg0)
abbrev sumsA : S4x2048x1024.Idx → EReal := m ((c : Thread nD τ).loc main_arg1)
abbrev sumsB : S4x2048x1024.Idx → EReal := m ((c : Thread nD τ).loc main_arg2)
abbrev pick : S2.Idx → BitVec 32 := m ((c : Thread nD τ).loc main_arg3)
abbrev param : S2048x1024.Idx → EReal := m ((c : Thread nD τ).loc main_arg4)
abbrev mom : S2048x1024.Idx → EReal := m ((c : Thread nD τ).loc main_arg5)
abbrev vel : S2048x1024.Idx → EReal := m ((c : Thread nD τ).loc main_arg6)

/-- The four arrays that are given back with their last rows written. -/
abbrev before6 : S2048x1024.Idx → EReal := m ((c : Thread nD τ).loc main_arg7)
abbrev before7 : S2048x1024.Idx → EReal := m ((c : Thread nD τ).loc main_arg8)
abbrev before8 : S2048x1024.Idx → EReal := m ((c : Thread nD τ).loc main_arg9)
abbrev before9 : S2048x1024.Idx → EReal := m ((c : Thread nD τ).loc main_arg10)

/-- The blocks of rows follow the grid. -/
theorem idx (a : (pcfg0 (F := Ideal)).Adm) (t : Fin (cfg0 a).N) :
    ((cfg0 a).win 0).index t (0 : Fin 3) = 0 ∧ ((cfg0 a).win 0).index t (1 : Fin 3) = t.val + 6 ∧ ((cfg0 a).win 0).index t (2 : Fin 3) = 0
    ∧ ((cfg0 a).win 1).index t (1 : Fin 3) = t.val + 6 ∧ ((cfg0 a).win 1).index t (2 : Fin 3) = 0
    ∧ ((cfg0 a).win 2).index t (1 : Fin 3) = t.val + 6 ∧ ((cfg0 a).win 2).index t (2 : Fin 3) = 0
    ∧ ((cfg0 a).win 3).index t (0 : Fin 2) = t.val + 6 ∧ ((cfg0 a).win 3).index t (1 : Fin 2) = 0
    ∧ ((cfg0 a).win 4).index t (0 : Fin 2) = t.val + 6 ∧ ((cfg0 a).win 4).index t (1 : Fin 2) = 0
    ∧ ((cfg0 a).win 5).index t (0 : Fin 2) = t.val + 6 ∧ ((cfg0 a).win 5).index t (1 : Fin 2) = 0
    ∧ ((cfg0 a).win 6).index t (0 : Fin 2) = t.val + 6 ∧ ((cfg0 a).win 6).index t (1 : Fin 2) = 0
    ∧ ((cfg0 a).win 7).index t (0 : Fin 2) = t.val + 6 ∧ ((cfg0 a).win 7).index t (1 : Fin 2) = 0
    ∧ ((cfg0 a).win 8).index t (0 : Fin 2) = t.val + 6 ∧ ((cfg0 a).win 8).index t (1 : Fin 2) = 0
    ∧ ((cfg0 a).win 9).index t (0 : Fin 2) = t.val + 6 ∧ ((cfg0 a).win 9).index t (1 : Fin 2) = 0 := by
  have h : ∀ t : Fin grid0.N, cc0_transform_3 (grid0.coords t) (0 : Fin 2) = t.val + 6 := by decide +kernel
  exact ⟨rfl, h t, rfl, h t, rfl, h t, rfl, h t, rfl, h t, rfl, h t, rfl, h t, rfl, h t, rfl, h t, rfl, h t, rfl⟩

/-- The block of the two arrays of sums is the one the pair's second number says. -/
theorem idx_own (d : Fin 4) (hO : Ok m) (hd : pick m 0 (ix1 1) = BitVec.ofNat 32 d) (t : Fin (cfgM m hO).N) :
    ((cfgM m hO).win 1).index t (0 : Fin 3) = d ∧ ((cfgM m hO).win 2).index t (0 : Fin 3) = d := by
  have e : (tbl m).at 0 (Rect.unit (s := S2) ![1] S1.size Facts₀.inb_S2_S1_1) Facts₀.numel1_S1 = BitVec.ofNat 32 d :=
    Eq.trans (b := (tbl m 0 : S2.Idx → BitVec 32) (ix1 1)) (congrArg (tbl m 0) (funext fun | ⟨0, _⟩ => rfl)) hd
  have h : ((tbl m).at 0 (Rect.unit (s := S2) ![1] S1.size Facts₀.inb_S2_S1_1) Facts₀.numel1_S1).toNat = d := by
    rw [e]
    clear e hd
    revert d
    decide
  exact ⟨h, h⟩

/-- Point `t` works on the rows from `1536 + 256 t` on. -/
def row (hO : Ok m) (t : Fin (cfgM m hO).N) (y : S256x1024.Idx) : S2048x1024.Idx :=
  ix2 ⟨256 * (t.val + 6) + (y 0).val, by have ht : t.val < 2 := t.isLt; have hy : (y 0).val < 256 := (y 0).isLt; omega⟩ (y 1)

theorem param_at (hO : Ok m) (t : Fin (cfgM m hO).N) (y : S256x1024.Idx) : iblk m hO c 3 t y = param m c (row m hO t y) := by
  blk_ext [iblk, V, idx _ t, row]

theorem mom_at (hO : Ok m) (t : Fin (cfgM m hO).N) (y : S256x1024.Idx) : iblk m hO c 4 t y = mom m c (row m hO t y) := by
  blk_ext [iblk, V, idx _ t, row]

theorem vel_at (hO : Ok m) (t : Fin (cfgM m hO).N) (y : S256x1024.Idx) : iblk m hO c 5 t y = vel m c (row m hO t y) := by
  blk_ext [iblk, V, idx _ t, row]

/-- The row blocks this call writes. -/
def Written (b : ℕ) : Prop := 6 ≤ b
instance (b : ℕ) : Decidable (Written b) := inferInstanceAs (Decidable (_ ≤ _))

/-- A table under which the blocks of the parameter can be listed. -/
def somewhere : (pcfg0 (F := Ideal)).Adm := ⟨fun | ⟨0, _⟩ => (fun _ => 0#32 : IVec S2 32), by decide +kernel⟩

/-- The blocks of every result cover the rows this call writes, whatever the pair says. -/
theorem covers (a : (pcfg0 (F := Ideal)).Adm) : (((cfg0 a).win 6).CoversWhere fun β => Written (β (0 : Fin 2))) ∧ (((cfg0 a).win 7).CoversWhere fun β => Written (β (0 : Fin 2)))
    ∧ (((cfg0 a).win 8).CoversWhere fun β => Written (β (0 : Fin 2))) ∧ (((cfg0 a).win 9).CoversWhere fun β => Written (β (0 : Fin 2))) :=
  have h6 : ((cfg0 somewhere).win 6).CoversWhere fun β => Written (β (0 : Fin 2)) := by decide +kernel
  have h7 : ((cfg0 somewhere).win 7).CoversWhere fun β => Written (β (0 : Fin 2)) := by decide +kernel
  have h8 : ((cfg0 somewhere).win 8).CoversWhere fun β => Written (β (0 : Fin 2)) := by decide +kernel
  have h9 : ((cfg0 somewhere).win 9).CoversWhere fun β => Written (β (0 : Fin 2)) := by decide +kernel
  ⟨h6, h7, h8, h9⟩

/-- The first number of the pair, as the kernel reads it. -/
theorem first_word : View.readAt (Elt Ideal) (View.whole main_arg3) (Rect.unit ![0] ![1] Facts₀.inb_S2_S1_0).toLoadRect
    (tbl m 0) (Shape.Idx.first (by decide)) = pick m 0 (ix1 0) := congrArg (tbl m 0) (funext fun | ⟨0, _⟩ => rfl)

/-- The sum of a point's blocks is the gradient of the point's rows. -/
theorem gradient (hO : Ok m) (d : Fin 4) (hd : pick m 0 (ix1 1) = BitVec.ofNat 32 d) (t : Fin (cfgM m hO).N) (y : S256x1024.Idx)
    (s : BitVec 32) (hs : s = pick m 0 (ix1 0))
    (b a : S1x256x1024.Idx → EReal) (x : S4x256x1024.Idx → EReal) (hb : b = iblk m hO c 2 t) (ha : a = iblk m hO c 1 t) (hx : x = iblk m hO c 0 t) :
    k0_pay4 (F := Ideal) s b a (WInRows.slab x 0 Facts₀.inb_S4x256x1024_S1x256x1024_0_0_0) (WInRows.slab x 1 Facts₀.inb_S4x256x1024_S1x256x1024_1_0_0)
      (WInRows.slab x 2 Facts₀.inb_S4x256x1024_S1x256x1024_2_0_0) (WInRows.slab x 3 Facts₀.inb_S4x256x1024_S1x256x1024_3_0_0) y
      = Cert.AdamwWInARefIdeal.Read.val_main_v27 (F := Ideal) (parts m c) (sumsA m c) (sumsB m c) (pick m 0) (row m hO t y) := by
  refine WInRows.gradient _ _ _ _ y _ d hd s hs b a x ?_ ?_ fun k => ?_
  · rw [hb]
    blk_ext [iblk, V, idx _ t, idx_own m d hO hd t, row]
  · rw [ha]
    blk_ext [iblk, V, idx _ t, idx_own m d hO hd t, row]
  · rw [hx]
    blk_ext [iblk, V, idx _ t, row]

/-- The gradient, on the rows this call writes. -/
theorem written6 (hO : Ok m) (d : Fin 4) (hd : pick m 0 (ix1 1) = BitVec.ofNat 32 d) :
    (dats m hO 0 c).arrAt 6 (cfgM m hO).N = fun i : S2048x1024.Idx => if Written ((i 0 : Nat) / 256) then Cert.AdamwWInARefIdeal.Read.val_main_v27 (F := Ideal) (parts m c) (sumsA m c) (sumsB m c) (pick m 0) i else before6 m c i := by
  refine (dats m hO 0 c).arrAt_eq_of_coversWhere 6 (Cert.AdamwWInARefIdeal.Read.val_main_v27 (F := Ideal) (parts m c) (sumsA m c) (sumsB m c) (pick m 0))
    (fun β => Written (β (0 : Fin 2))) (covers _).1 (fun t hf y => ?_) (fun j => Iff.rfl)
  blk_simp
  rw [after0_6]
  unfold outsAt0
  frame_out
  have e : (((View.whole main_v0_0).slice (((cfgM m hO).win 6).rect t)).emb y) = row m hO t y := by blk_ext [idx _ t, row]
  refine Eq.trans ?_ (congrArg (Cert.AdamwWInARefIdeal.Read.val_main_v27 (F := Ideal) (parts m c) (sumsA m c) (sumsB m c) (pick m 0)) e).symm
  exact gradient m c hO d hd t y _ (first_word m) _ _ _ (Memref.IsWhole.read_unread (hs0_2 m hO t) _) (Memref.IsWhole.read_unread (hs0_1 m hO t) _)
    (Memref.IsWhole.read_unread (hs0_0 m hO t) _)

/-- The step, on the rows this call writes. -/
theorem written7 (hO : Ok m) (d : Fin 4) (hd : pick m 0 (ix1 1) = BitVec.ofNat 32 d) :
    (dats m hO 0 c).arrAt 7 (cfgM m hO).N = fun i : S2048x1024.Idx => if Written ((i 0 : Nat) / 256) then Cert.AdamwWInARefIdeal.Read.val_main_v51 (F := Ideal) (parts m c) (sumsA m c) (sumsB m c) (pick m 0) (param m c) (mom m c) (vel m c) i else before7 m c i := by
  refine (dats m hO 0 c).arrAt_eq_of_coversWhere 7 (Cert.AdamwWInARefIdeal.Read.val_main_v51 (F := Ideal) (parts m c) (sumsA m c) (sumsB m c) (pick m 0) (param m c) (mom m c) (vel m c))
    (fun β => Written (β (0 : Fin 2))) (covers _).2.1 (fun t hf y => ?_) (fun j => Iff.rfl)
  blk_simp
  rw [after0_7]
  unfold outsAt0
  frame_out
  have e : (((View.whole main_v0_1).slice (((cfgM m hO).win 7).rect t)).emb y) = row m hO t y := by blk_ext [idx _ t, row]
  refine Eq.trans ?_ (congrArg (Cert.AdamwWInARefIdeal.Read.val_main_v51 (F := Ideal) (parts m c) (sumsA m c) (sumsB m c) (pick m 0) (param m c) (mom m c) (vel m c)) e).symm
  exact WInRows.step _ _ _ _ (param m c) (mom m c) (vel m c) y _ _ _ _ _
    (gradient m c hO d hd t y _ (first_word m) _ _ _ (Memref.IsWhole.read_unread (hs0_2 m hO t) _) (Memref.IsWhole.read_unread (hs0_1 m hO t) _)
    (Memref.IsWhole.read_unread (hs0_0 m hO t) _))
    ((congrFun (Memref.IsWhole.read_unread (hs0_3 m hO t) _) y).trans (param_at m c hO t y))
    ((congrFun (Memref.IsWhole.read_unread (hs0_4 m hO t) _) y).trans (mom_at m c hO t y))
    ((congrFun (Memref.IsWhole.read_unread (hs0_5 m hO t) _) y).trans (vel_at m c hO t y))

/-- The first moment, on the rows this call writes. -/
theorem written8 (hO : Ok m) (d : Fin 4) (hd : pick m 0 (ix1 1) = BitVec.ofNat 32 d) :
    (dats m hO 0 c).arrAt 8 (cfgM m hO).N = fun i : S2048x1024.Idx => if Written ((i 0 : Nat) / 256) then Cert.AdamwWInARefIdeal.Read.val_main_v32 (F := Ideal) (parts m c) (sumsA m c) (sumsB m c) (pick m 0) (mom m c) i else before8 m c i := by
  refine (dats m hO 0 c).arrAt_eq_of_coversWhere 8 (Cert.AdamwWInARefIdeal.Read.val_main_v32 (F := Ideal) (parts m c) (sumsA m c) (sumsB m c) (pick m 0) (mom m c))
    (fun β => Written (β (0 : Fin 2))) (covers _).2.2.1 (fun t hf y => ?_) (fun j => Iff.rfl)
  blk_simp
  rw [after0_8]
  unfold outsAt0
  frame_out
  have e : (((View.whole main_v0_2).slice (((cfgM m hO).win 8).rect t)).emb y) = row m hO t y := by blk_ext [idx _ t, row]
  refine Eq.trans ?_ (congrArg (Cert.AdamwWInARefIdeal.Read.val_main_v32 (F := Ideal) (parts m c) (sumsA m c) (sumsB m c) (pick m 0) (mom m c)) e).symm
  exact WInRows.first _ _ _ _ (mom m c) y _ _ _
    (gradient m c hO d hd t y _ (first_word m) _ _ _ (Memref.IsWhole.read_unread (hs0_2 m hO t) _) (Memref.IsWhole.read_unread (hs0_1 m hO t) _)
    (Memref.IsWhole.read_unread (hs0_0 m hO t) _))
    ((congrFun (Memref.IsWhole.read_unread (hs0_4 m hO t) _) y).trans (mom_at m c hO t y))

/-- The second moment, on the rows this call writes. -/
theorem written9 (hO : Ok m) (d : Fin 4) (hd : pick m 0 (ix1 1) = BitVec.ofNat 32 d) :
    (dats m hO 0 c).arrAt 9 (cfgM m hO).N = fun i : S2048x1024.Idx => if Written ((i 0 : Nat) / 256) then Cert.AdamwWInARefIdeal.Read.val_main_v38 (F := Ideal) (parts m c) (sumsA m c) (sumsB m c) (pick m 0) (vel m c) i else before9 m c i := by
  refine (dats m hO 0 c).arrAt_eq_of_coversWhere 9 (Cert.AdamwWInARefIdeal.Read.val_main_v38 (F := Ideal) (parts m c) (sumsA m c) (sumsB m c) (pick m 0) (vel m c))
    (fun β => Written (β (0 : Fin 2))) (covers _).2.2.2 (fun t hf y => ?_) (fun j => Iff.rfl)
  blk_simp
  rw [after0_9]
  unfold outsAt0
  frame_out
  have e : (((View.whole main_v0_3).slice (((cfgM m hO).win 9).rect t)).emb y) = row m hO t y := by blk_ext [idx _ t, row]
  refine Eq.trans ?_ (congrArg (Cert.AdamwWInARefIdeal.Read.val_main_v38 (F := Ideal) (parts m c) (sumsA m c) (sumsB m c) (pick m 0) (vel m c)) e).symm
  exact WInRows.second _ _ _ _ (vel m c) y _ _ _
    (gradient m c hO d hd t y _ (first_word m) _ _ _ (Memref.IsWhole.read_unread (hs0_2 m hO t) _) (Memref.IsWhole.read_unread (hs0_1 m hO t) _)
    (Memref.IsWhole.read_unread (hs0_0 m hO t) _))
    ((congrFun (Memref.IsWhole.read_unread (hs0_5 m hO t) _) y).trans (vel_at m c hO t y))

/-- The kernel ends with the four results at what its blocks make of them. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v0_0) = (dats m hO 0 c).arrAt 6 (cfgM m hO).N
      ∧ r.2.mem ((c.tc : Thread nD τ).loc main_v0_1) = (dats m hO 0 c).arrAt 7 (cfgM m hO).N
      ∧ r.2.mem ((c.tc : Thread nD τ).loc main_v0_2) = (dats m hO 0 c).arrAt 8 (cfgM m hO).N
      ∧ r.2.mem ((c.tc : Thread nD τ).loc main_v0_3) = (dats m hO 0 c).arrAt 9 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.1 c).1 6, (h.1 c).1 7, (h.1 c).1 8, (h.1 c).1 9, h.2 c⟩) (θ_run_and (run_main m g hO) (unchanged m g hO))

/-- An array whose last rows are another's, at an element. -/
theorem joined (full before : S2048x1024.Idx → EReal) (i : S2048x1024.Idx) :
    concatenate S2048x1024 0
      [⟨Cert.AdamwWInBRefIdeal.S1536x1024, extractStridedSlice Cert.AdamwWInBRefIdeal.S1536x1024 ![0, 0] before
          Cert.AdamwWInBRefIdeal.Facts₀.slices_S2048x1024_S1536x1024_0_0⟩,
        ⟨Cert.AdamwWInBRefIdeal.S512x1024, extractStridedSlice Cert.AdamwWInBRefIdeal.S512x1024 ![1536, 0] full
          Cert.AdamwWInBRefIdeal.Facts₀.slices_S2048x1024_S512x1024_1536_0⟩]
      Cert.AdamwWInBRefIdeal.Facts₀.concatenates_S1536x1024_S512x1024_S2048x1024_d0 i
      = if Written ((i 0 : Nat) / 256) then full i else before i := by
  have hlt : (i 0).val < 2048 := (i 0).isLt
  by_cases h : 1536 ≤ (i 0).val
  · have hw : Written ((i 0 : Nat) / 256) := show 6 ≤ (i 0 : Nat) / 256 by omega
    rw [if_pos hw]
    refine (concatenate_pair_apply_right (t := S2048x1024) (s₁ := Cert.AdamwWInBRefIdeal.S1536x1024) (s₂ := Cert.AdamwWInBRefIdeal.S512x1024) 0 _ _ _ i rfl rfl (ix2 ⟨(i 0).val - 1536, by omega⟩ (i 1)) (fun b hb => ?_) ?_).trans ?_
    · match b with
      | ⟨0, _⟩ => exact absurd rfl hb
      | ⟨1, _⟩ => rfl
    · show (i 0).val - 1536 + 1536 = (i 0).val
      omega
    · refine extractStridedSlice_apply _ _ _ _ i fun b => ?_
      match b with
      | ⟨0, _⟩ => show (i 0).val = 1536 + ((i 0).val - 1536); omega
      | ⟨1, _⟩ => show (i 1).val = 0 + (i 1).val; omega
  · have hw : ¬ Written ((i 0 : Nat) / 256) := show ¬ 6 ≤ (i 0 : Nat) / 256 by omega
    rw [if_neg hw]
    refine (concatenate_pair_apply_left (t := S2048x1024) (s₁ := Cert.AdamwWInBRefIdeal.S1536x1024) (s₂ := Cert.AdamwWInBRefIdeal.S512x1024) 0 _ _ _ i rfl (ix2 ⟨(i 0).val, by omega⟩ (i 1)) (fun b => ?_)).trans ?_
    · match b with
      | ⟨0, _⟩ => rfl
      | ⟨1, _⟩ => rfl
    · refine extractStridedSlice_apply _ _ _ _ i fun b => ?_
      match b with
      | ⟨0, _⟩ => show (i 0).val = 0 + (i 0).val; omega
      | ⟨1, _⟩ => show (i 1).val = 0 + (i 1).val; omega

/-- The kernel's four arrays are the reference's. -/
theorem algebraic : Cert.algebraic_AdamwWInBIdeal_AdamwWInBRefIdeal (hAdamwWInBIdeal := Cert.AdamwWInBIdeal.Gen.facts)
    (hAdamwWInBRefIdeal := Cert.AdamwWInBRefIdeal.Gen.facts) (hPre_known_pair_of_last := Cert.Pre_known_pair_of_last.Gen.facts) := by
  intro m g m' g' hpre hagree
  have hO : Ok m := Tables.adamwWInBIdeal_ok m hpre
  obtain ⟨d, hd⟩ := Words.word_of_bounds 4 (by decide) _ (congrFun (hpre 0).1 ix0) (congrFun (hpre 0).2 ix0)
  have hd : pick m 0 (ix1 1) = BitVec.ofNat 32 d := (Words.second _ _ _).symm.trans hd
  refine ⟨_, _, _, _, run m g hO, (θ_run _ _ _).mono (fun r h c => ?_) (Cert.AdamwWInBRefIdeal.Value.run m' g')⟩
  obtain ⟨a0, a1, a2, a3, a4, a5, a6, a7, a8, a9, a10⟩ := hagree c
  obtain ⟨h0, h1, h2, h3, hk⟩ := h c
  have hc : m ((c : Thread nD τ).loc main_arg3) = pick m 0 := by rw [Subsingleton.elim c 0]
  replace h0 := h0.trans (Cert.AdamwWInBRefIdeal.Read.val_main_v54_eq (F := Ideal) _ _ _ _ _)
  replace h1 := h1.trans (Cert.AdamwWInBRefIdeal.Read.val_main_v57_eq (F := Ideal) _ _)
  replace h2 := h2.trans (Cert.AdamwWInBRefIdeal.Read.val_main_v60_eq (F := Ideal) _ _ _ _ _ _)
  replace h3 := h3.trans (Cert.AdamwWInBRefIdeal.Read.val_main_v63_eq (F := Ideal) _ _)
  rw [a0, a1, a2, a3, a7, hc] at h0
  rw [a0, a1, a2, a3, a4, a5, a6, a8, hc] at h1
  rw [a0, a1, a2, a3, a5, a9, hc] at h2
  rw [a0, a1, a2, a3, a6, a10, hc] at h3
  exact ⟨(h0.trans (funext fun i => joined (Cert.AdamwWInBRefIdeal.Read.val_main_v27 (F := Ideal) _ _ _ _) _ i)).trans (written6 m c hO d hd).symm,
    (h1.trans (funext fun i => joined (Cert.AdamwWInBRefIdeal.Read.val_main_v51 (F := Ideal) _ _ _ _ _ _ _) _ i)).trans (written7 m c hO d hd).symm,
    (h2.trans (funext fun i => joined (Cert.AdamwWInBRefIdeal.Read.val_main_v32 (F := Ideal) _ _ _ _ _) _ i)).trans (written8 m c hO d hd).symm,
    (h3.trans (funext fun i => joined (Cert.AdamwWInBRefIdeal.Read.val_main_v38 (F := Ideal) _ _ _ _ _) _ i)).trans (written9 m c hO d hd).symm, hk⟩

end Cert.AdamwWInBValue

end
-- ==== Proof.lean ====
/- The claim: for each call of the training step that is taken, the frames of the kernel, of its ideal reading and of the
   reference; the idealization; and the equation of the two. What each call is, is told where its equation is proved. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.OutProjDw.Frame
public import proofs.«01_k».proof.Proof.Gen.OutProjDwIdeal.Frame
public import proofs.«01_k».proof.Proof.Gen.OutProjDwIdeal.Value
public import proofs.«01_k».proof.Proof.Gen.OutProjDwRefIdeal.Run
public import proofs.«01_k».proof.Proof.Gen.OutProjDwRefIdeal.Read
public import proofs.«01_k».proof.Proof.Gen.OutProjDx.Frame
public import proofs.«01_k».proof.Proof.Gen.OutProjDxIdeal.Frame
public import proofs.«01_k».proof.Proof.Gen.OutProjDxIdeal.Value
public import proofs.«01_k».proof.Proof.Gen.OutProjDxRefIdeal.Run
public import proofs.«01_k».proof.Proof.Gen.OutProjDxRefIdeal.Read
public import proofs.«01_k».proof.Proof.Gen.InProjDwConv.Frame
public import proofs.«01_k».proof.Proof.Gen.InProjDwConvIdeal.Frame
public import proofs.«01_k».proof.Proof.Gen.InProjDwConvIdeal.Value
public import proofs.«01_k».proof.Proof.Gen.InProjDwConvRefIdeal.Run
public import proofs.«01_k».proof.Proof.Gen.InProjDwConvRefIdeal.Read
public import proofs.«01_k».proof.Proof.Gen.InProjDwAttn.Frame
public import proofs.«01_k».proof.Proof.Gen.InProjDwAttnIdeal.Frame
public import proofs.«01_k».proof.Proof.Gen.InProjDwAttnIdeal.Value
public import proofs.«01_k».proof.Proof.Gen.InProjDwAttnRefIdeal.Run
public import proofs.«01_k».proof.Proof.Gen.InProjDwAttnRefIdeal.Read
public import proofs.«01_k».proof.Proof.Gen.InProjDx.Frame
public import proofs.«01_k».proof.Proof.Gen.InProjDxIdeal.Frame
public import proofs.«01_k».proof.Proof.Gen.InProjDxIdeal.Value
public import proofs.«01_k».proof.Proof.Gen.InProjDxRefIdeal.Run
public import proofs.«01_k».proof.Proof.Gen.InProjDxRefIdeal.Read
public import proofs.«01_k».proof.Proof.Gen.PrenormBwd.Frame
public import proofs.«01_k».proof.Proof.Gen.PrenormBwdIdeal.Frame
public import proofs.«01_k».proof.Proof.Gen.PrenormBwdIdeal.Value
public import proofs.«01_k».proof.Proof.Gen.PrenormBwdRefIdeal.Run
public import proofs.«01_k».proof.Proof.Gen.PrenormBwdRefIdeal.Read
public import proofs.«01_k».proof.Proof.Gen.SumRows.Frame
public import proofs.«01_k».proof.Proof.Gen.SumRowsIdeal.Frame
public import proofs.«01_k».proof.Proof.Gen.SumRowsRefIdeal.Run
public import proofs.«01_k».proof.Proof.Gen.SumRowsRefIdeal.Read
public import proofs.«01_k».proof.Proof.Gen.AdamwVectors.Frame
public import proofs.«01_k».proof.Proof.Gen.AdamwVectorsIdeal.Frame
public import proofs.«01_k».proof.Proof.Gen.AdamwVectorsIdeal.Value
public import proofs.«01_k».proof.Proof.Gen.AdamwVectorsRefIdeal.Run
public import proofs.«01_k».proof.Proof.Gen.AdamwVectorsRefIdeal.Read
public import proofs.«01_k».proof.Proof.Gen.AdamwConv.Frame
public import proofs.«01_k».proof.Proof.Gen.AdamwConvIdeal.Frame
public import proofs.«01_k».proof.Proof.Gen.AdamwConvIdeal.Value
public import proofs.«01_k».proof.Proof.Gen.AdamwConvRefIdeal.Run
public import proofs.«01_k».proof.Proof.Gen.AdamwConvRefIdeal.Read
public import proofs.«01_k».proof.Proof.Gen.AdamwNorms.Frame
public import proofs.«01_k».proof.Proof.Gen.AdamwNormsIdeal.Frame
public import proofs.«01_k».proof.Proof.Gen.AdamwNormsIdeal.Value
public import proofs.«01_k».proof.Proof.Gen.AdamwNormsRefIdeal.Run
public import proofs.«01_k».proof.Proof.Gen.AdamwNormsRefIdeal.Read
public import proofs.«01_k».proof.Proof.Gen.AdamwAda.Frame
public import proofs.«01_k».proof.Proof.Gen.AdamwAdaIdeal.Frame
public import proofs.«01_k».proof.Proof.Gen.AdamwAdaIdeal.Value
public import proofs.«01_k».proof.Proof.Gen.AdamwAdaRefIdeal.Run
public import proofs.«01_k».proof.Proof.Gen.AdamwAdaRefIdeal.Read
public import proofs.«01_k».proof.Proof.Gen.InProjA.Frame
public import proofs.«01_k».proof.Proof.Gen.InProjAIdeal.Frame
public import proofs.«01_k».proof.Proof.Gen.InProjARefIdeal.Run
public import proofs.«01_k».proof.Proof.Gen.InProjARefIdeal.Read
public import proofs.«01_k».proof.Proof.Gen.InProjB.Frame
public import proofs.«01_k».proof.Proof.Gen.InProjBIdeal.Frame
public import proofs.«01_k».proof.Proof.Gen.InProjBRefIdeal.Run
public import proofs.«01_k».proof.Proof.Gen.InProjBRefIdeal.Read
public import proofs.«01_k».proof.Proof.Gen.InProjC.Frame
public import proofs.«01_k».proof.Proof.Gen.InProjCIdeal.Frame
public import proofs.«01_k».proof.Proof.Gen.InProjCRefIdeal.Run
public import proofs.«01_k».proof.Proof.Gen.InProjCRefIdeal.Read
public import proofs.«01_k».proof.Proof.Gen.InProjD.Frame
public import proofs.«01_k».proof.Proof.Gen.InProjDIdeal.Frame
public import proofs.«01_k».proof.Proof.Gen.InProjDRefIdeal.Run
public import proofs.«01_k».proof.Proof.Gen.InProjDRefIdeal.Read
public import proofs.«01_k».proof.Proof.Gen.InProjE.Frame
public import proofs.«01_k».proof.Proof.Gen.InProjEIdeal.Frame
public import proofs.«01_k».proof.Proof.Gen.InProjERefIdeal.Run
public import proofs.«01_k».proof.Proof.Gen.InProjERefIdeal.Read
public import proofs.«01_k».proof.Proof.Gen.AdamwWOut.Frame
public import proofs.«01_k».proof.Proof.Gen.AdamwWOutIdeal.Frame
public import proofs.«01_k».proof.Proof.Gen.AdamwWOutRefIdeal.Run
public import proofs.«01_k».proof.Proof.Gen.AdamwWOutRefIdeal.Read
public import proofs.«01_k».proof.Proof.Gen.AdamwWInA.Frame
public import proofs.«01_k».proof.Proof.Gen.AdamwWInAIdeal.Frame
public import proofs.«01_k».proof.Proof.Gen.AdamwWInARefIdeal.Run
public import proofs.«01_k».proof.Proof.Gen.AdamwWInARefIdeal.Read
public import proofs.«01_k».proof.Proof.Gen.AdamwWInB.Frame
public import proofs.«01_k».proof.Proof.Gen.AdamwWInBIdeal.Frame
public import proofs.«01_k».proof.Proof.Gen.AdamwWInBRefIdeal.Run
public import proofs.«01_k».proof.Proof.Gen.AdamwWInBRefIdeal.Read
public import proofs.«01_k».proof.Proof.Gen.Pre_known_device
public import proofs.«01_k».proof.Proof.Gen.Pre_known_device_of_part
public import proofs.«01_k».proof.Proof.Gen.Pre_known_pair
public import proofs.«01_k».proof.Proof.Gen.Pre_known_pair_of_in
public import proofs.«01_k».proof.Proof.Gen.Pre_known_pair_of_last
public import proofs.«01_k».proof.Proof.Gen.On_written_a
public import proofs.«01_k».proof.Proof.Gen.On_first_rows
public import proofs.«01_k».proof.Proof.ConvClaim
public import proofs.«01_k».proof.Proof.OutProjValue
public import proofs.«01_k».proof.Proof.OutProjDwValue
public import proofs.«01_k».proof.Proof.OutProjDxValue
public import proofs.«01_k».proof.Proof.InProjDwConvValue
public import proofs.«01_k».proof.Proof.InProjDwAttnValue
public import proofs.«01_k».proof.Proof.InProjDxValue
public import proofs.«01_k».proof.Proof.PrenormBwdValue
public import proofs.«01_k».proof.Proof.SumRowsValue
public import proofs.«01_k».proof.Proof.AdamwVectorsValue
public import proofs.«01_k».proof.Proof.AdamwConvValue
public import proofs.«01_k».proof.Proof.AdamwNormsValue
public import proofs.«01_k».proof.Proof.AdamwAdaValue
public import proofs.«01_k».proof.Proof.InProjAValue
public import proofs.«01_k».proof.Proof.InProjBValue
public import proofs.«01_k».proof.Proof.InProjCValue
public import proofs.«01_k».proof.Proof.InProjDValue
public import proofs.«01_k».proof.Proof.InProjEValue
public import proofs.«01_k».proof.Proof.AdamwWOutValue
public import proofs.«01_k».proof.Proof.AdamwWInAValue
public import proofs.«01_k».proof.Proof.AdamwWInBValue
public import proofs.«01_k».proof.Proof.Tables
public import Idealize.ShloMosaic.Adequacy
public import Idealize.ShloMosaic.Init

@[expose] public section

noncomputable section

namespace Cert.Proof

open Idealize.ShloMosaic Idealize.SL.Sem

/-- The reference of the convolution ends with its arguments unchanged. -/
theorem referenceIdealFrame : Cert.quiescent_ReferenceIdeal := fun m ρ _ =>
  (θ_run _ _ _).mono (fun _ h => ⟨fun c => (h c).2.2, sem_eq_zero_of_no_sems (by decide) _⟩) (Cert.ReferenceIdeal.Value.run m ρ)

/-- The reference of OutProj ends with its arguments unchanged. -/
theorem outProjRefIdealFrame : Cert.quiescent_OutProjRefIdeal := fun m ρ _ =>
  (θ_run _ _ _).mono (fun _ h => ⟨fun c => (h c).2, sem_eq_zero_of_no_sems (by decide) _⟩) (Cert.OutProjRefIdeal.Value.run m ρ)

/-- The reference of OutProjDw ends with its arguments unchanged. -/
theorem outProjDwRefIdealFrame : Cert.quiescent_OutProjDwRefIdeal := fun m ρ _ =>
  (θ_run _ _ _).mono (fun _ h => ⟨fun c => (h c).2, sem_eq_zero_of_no_sems (by decide) _⟩) (Cert.OutProjDwRefIdeal.Value.run m ρ)

/-- The reference of OutProjDx ends with its arguments unchanged. -/
theorem outProjDxRefIdealFrame : Cert.quiescent_OutProjDxRefIdeal := fun m ρ _ =>
  (θ_run _ _ _).mono (fun _ h => ⟨fun c => (h c).2, sem_eq_zero_of_no_sems (by decide) _⟩) (Cert.OutProjDxRefIdeal.Value.run m ρ)

/-- The reference of InProjDwConv ends with its arguments unchanged. -/
theorem inProjDwConvRefIdealFrame : Cert.quiescent_InProjDwConvRefIdeal := fun m ρ _ =>
  (θ_run _ _ _).mono (fun _ h => ⟨fun c => (h c).2, sem_eq_zero_of_no_sems (by decide) _⟩) (Cert.InProjDwConvRefIdeal.Value.run m ρ)

/-- The reference of InProjDwAttn ends with its arguments unchanged. -/
theorem inProjDwAttnRefIdealFrame : Cert.quiescent_InProjDwAttnRefIdeal := fun m ρ _ =>
  (θ_run _ _ _).mono (fun _ h => ⟨fun c => (h c).2, sem_eq_zero_of_no_sems (by decide) _⟩) (Cert.InProjDwAttnRefIdeal.Value.run m ρ)

/-- The reference of InProjDx ends with its arguments unchanged. -/
theorem inProjDxRefIdealFrame : Cert.quiescent_InProjDxRefIdeal := fun m ρ _ =>
  (θ_run _ _ _).mono (fun _ h => ⟨fun c => (h c).2, sem_eq_zero_of_no_sems (by decide) _⟩) (Cert.InProjDxRefIdeal.Value.run m ρ)

/-- The reference of PrenormBwd ends with its arguments unchanged. -/
theorem prenormBwdRefIdealFrame : Cert.quiescent_PrenormBwdRefIdeal := fun m ρ _ =>
  (θ_run _ _ _).mono (fun _ h => ⟨fun c => (h c).2, sem_eq_zero_of_no_sems (by decide) _⟩) (Cert.PrenormBwdRefIdeal.Value.run m ρ)

/-- The reference of SumRows ends with its arguments unchanged. -/
theorem sumRowsRefIdealFrame : Cert.quiescent_SumRowsRefIdeal := fun m ρ _ =>
  (θ_run _ _ _).mono (fun _ h => ⟨fun c => (h c).2.2, sem_eq_zero_of_no_sems (by decide) _⟩) (Cert.SumRowsRefIdeal.Value.run m ρ)

/-- The reference of AdamwVectors ends with its arguments unchanged. -/
theorem adamwVectorsRefIdealFrame : Cert.quiescent_AdamwVectorsRefIdeal := fun m ρ _ =>
  (θ_run _ _ _).mono (fun _ h => ⟨fun c => (h c).2.2.2.2.2.2.2.2.2.2.2.2, sem_eq_zero_of_no_sems (by decide) _⟩) (Cert.AdamwVectorsRefIdeal.Value.run m ρ)

/-- The reference of AdamwConv ends with its arguments unchanged. -/
theorem adamwConvRefIdealFrame : Cert.quiescent_AdamwConvRefIdeal := fun m ρ _ =>
  (θ_run _ _ _).mono (fun _ h => ⟨fun c => (h c).2.2.2.2.2.2.2.2, sem_eq_zero_of_no_sems (by decide) _⟩) (Cert.AdamwConvRefIdeal.Value.run m ρ)

/-- The reference of AdamwNorms ends with its arguments unchanged. -/
theorem adamwNormsRefIdealFrame : Cert.quiescent_AdamwNormsRefIdeal := fun m ρ _ =>
  (θ_run _ _ _).mono (fun _ h => ⟨fun c => (h c).2.2.2.2.2.2.2.2, sem_eq_zero_of_no_sems (by decide) _⟩) (Cert.AdamwNormsRefIdeal.Value.run m ρ)

/-- The reference of AdamwAda ends with its arguments unchanged. -/
theorem adamwAdaRefIdealFrame : Cert.quiescent_AdamwAdaRefIdeal := fun m ρ _ =>
  (θ_run _ _ _).mono (fun _ h => ⟨fun c => (h c).2.2.2.2, sem_eq_zero_of_no_sems (by decide) _⟩) (Cert.AdamwAdaRefIdeal.Value.run m ρ)

/-- The reference of InProjA ends with its arguments unchanged. -/
theorem inProjARefIdealFrame : Cert.quiescent_InProjARefIdeal := fun m ρ _ =>
  (θ_run _ _ _).mono (fun _ h => ⟨fun c => (h c).2, sem_eq_zero_of_no_sems (by decide) _⟩) (Cert.InProjARefIdeal.Value.run m ρ)

/-- The reference of InProjB ends with its arguments unchanged. -/
theorem inProjBRefIdealFrame : Cert.quiescent_InProjBRefIdeal := fun m ρ _ =>
  (θ_run _ _ _).mono (fun _ h => ⟨fun c => (h c).2, sem_eq_zero_of_no_sems (by decide) _⟩) (Cert.InProjBRefIdeal.Value.run m ρ)

/-- The reference of InProjC ends with its arguments unchanged. -/
theorem inProjCRefIdealFrame : Cert.quiescent_InProjCRefIdeal := fun m ρ _ =>
  (θ_run _ _ _).mono (fun _ h => ⟨fun c => (h c).2, sem_eq_zero_of_no_sems (by decide) _⟩) (Cert.InProjCRefIdeal.Value.run m ρ)

/-- The reference of InProjD ends with its arguments unchanged. -/
theorem inProjDRefIdealFrame : Cert.quiescent_InProjDRefIdeal := fun m ρ _ =>
  (θ_run _ _ _).mono (fun _ h => ⟨fun c => (h c).2, sem_eq_zero_of_no_sems (by decide) _⟩) (Cert.InProjDRefIdeal.Value.run m ρ)

/-- The reference of InProjE ends with its arguments unchanged. -/
theorem inProjERefIdealFrame : Cert.quiescent_InProjERefIdeal := fun m ρ _ =>
  (θ_run _ _ _).mono (fun _ h => ⟨fun c => (h c).2, sem_eq_zero_of_no_sems (by decide) _⟩) (Cert.InProjERefIdeal.Value.run m ρ)

/-- The reference of AdamwWOut ends with its arguments unchanged. -/
theorem adamwWOutRefIdealFrame : Cert.quiescent_AdamwWOutRefIdeal := fun m ρ _ =>
  (θ_run _ _ _).mono (fun _ h => ⟨fun c => (h c).2.2.2.2, sem_eq_zero_of_no_sems (by decide) _⟩) (Cert.AdamwWOutRefIdeal.Value.run m ρ)

/-- The reference of AdamwWInA ends with its arguments unchanged. -/
theorem adamwWInARefIdealFrame : Cert.quiescent_AdamwWInARefIdeal := fun m ρ _ =>
  (θ_run _ _ _).mono (fun _ h => ⟨fun c => (h c).2.2.2.2, sem_eq_zero_of_no_sems (by decide) _⟩) (Cert.AdamwWInARefIdeal.Value.run m ρ)

/-- The reference of AdamwWInB ends with its arguments unchanged. -/
theorem adamwWInBRefIdealFrame : Cert.quiescent_AdamwWInBRefIdeal := fun m ρ _ =>
  (θ_run _ _ _).mono (fun _ h => ⟨fun c => (h c).2.2.2.2, sem_eq_zero_of_no_sems (by decide) _⟩) (Cert.AdamwWInBRefIdeal.Value.run m ρ)

/-- The claims of every call. -/
theorem claim : Cert.Claim :=
  ⟨Cert.Kernel.Gen.facts, Cert.KernelIdeal.Gen.facts, Cert.ReferenceIdeal.Gen.facts, Cert.OutProj.Gen.facts,
    Cert.OutProjIdeal.Gen.facts, Cert.OutProjRefIdeal.Gen.facts, Cert.OutProjDw.Gen.facts, Cert.OutProjDwIdeal.Gen.facts,
    Cert.OutProjDwRefIdeal.Gen.facts, Cert.OutProjDx.Gen.facts, Cert.OutProjDxIdeal.Gen.facts, Cert.OutProjDxRefIdeal.Gen.facts,
    Cert.InProjDwConv.Gen.facts, Cert.InProjDwConvIdeal.Gen.facts, Cert.InProjDwConvRefIdeal.Gen.facts,
    Cert.InProjDwAttn.Gen.facts, Cert.InProjDwAttnIdeal.Gen.facts, Cert.InProjDwAttnRefIdeal.Gen.facts, Cert.InProjDx.Gen.facts,
    Cert.InProjDxIdeal.Gen.facts, Cert.InProjDxRefIdeal.Gen.facts, Cert.PrenormBwd.Gen.facts, Cert.PrenormBwdIdeal.Gen.facts,
    Cert.PrenormBwdRefIdeal.Gen.facts, Cert.SumRows.Gen.facts, Cert.SumRowsIdeal.Gen.facts, Cert.SumRowsRefIdeal.Gen.facts,
    Cert.AdamwVectors.Gen.facts, Cert.AdamwVectorsIdeal.Gen.facts, Cert.AdamwVectorsRefIdeal.Gen.facts,
    Cert.AdamwConv.Gen.facts, Cert.AdamwConvIdeal.Gen.facts, Cert.AdamwConvRefIdeal.Gen.facts, Cert.AdamwNorms.Gen.facts,
    Cert.AdamwNormsIdeal.Gen.facts, Cert.AdamwNormsRefIdeal.Gen.facts, Cert.AdamwAda.Gen.facts, Cert.AdamwAdaIdeal.Gen.facts,
    Cert.AdamwAdaRefIdeal.Gen.facts, Cert.InProjA.Gen.facts, Cert.InProjAIdeal.Gen.facts, Cert.InProjARefIdeal.Gen.facts,
    Cert.InProjB.Gen.facts, Cert.InProjBIdeal.Gen.facts, Cert.InProjBRefIdeal.Gen.facts, Cert.InProjC.Gen.facts,
    Cert.InProjCIdeal.Gen.facts, Cert.InProjCRefIdeal.Gen.facts, Cert.InProjD.Gen.facts, Cert.InProjDIdeal.Gen.facts,
    Cert.InProjDRefIdeal.Gen.facts, Cert.InProjE.Gen.facts, Cert.InProjEIdeal.Gen.facts, Cert.InProjERefIdeal.Gen.facts,
    Cert.AdamwWOut.Gen.facts, Cert.AdamwWOutIdeal.Gen.facts, Cert.AdamwWOutRefIdeal.Gen.facts, Cert.AdamwWInA.Gen.facts,
    Cert.AdamwWInAIdeal.Gen.facts, Cert.AdamwWInARefIdeal.Gen.facts, Cert.AdamwWInB.Gen.facts, Cert.AdamwWInBIdeal.Gen.facts,
    Cert.AdamwWInBRefIdeal.Gen.facts, Cert.Conv.preFacts, Cert.Pre_known_device.Gen.facts,
    Cert.Pre_known_device_of_part.Gen.facts, Cert.Pre_known_pair.Gen.facts, Cert.Pre_known_pair_of_in.Gen.facts,
    Cert.Pre_known_pair_of_last.Gen.facts, Cert.On_written_a.Gen.facts, Cert.On_first_rows.Gen.facts,
    fun m ρ _ => Cert.Kernel.Gen.frame m ρ, fun m ρ _ => Cert.KernelIdeal.Gen.frame m ρ,
    fun m ρ _ => Cert.KernelIdeal.Gen.frame m ρ, referenceIdealFrame, fun m ρ _ => referenceIdealFrame m ρ trivial,
    fun m ρ _ => Cert.OutProj.Gen.frame m ρ, fun m ρ _ => Cert.OutProjIdeal.Gen.frame m ρ, outProjRefIdealFrame,
    fun m ρ _ => Cert.OutProjDw.Gen.frame m ρ, fun m ρ _ => Cert.OutProjDwIdeal.Gen.frame m ρ, outProjDwRefIdealFrame,
    fun m ρ _ => Cert.OutProjDx.Gen.frame m ρ, fun m ρ _ => Cert.OutProjDxIdeal.Gen.frame m ρ, outProjDxRefIdealFrame,
    fun m ρ _ => Cert.InProjDwConv.Gen.frame m ρ, fun m ρ _ => Cert.InProjDwConvIdeal.Gen.frame m ρ, inProjDwConvRefIdealFrame,
    fun m ρ _ => Cert.InProjDwAttn.Gen.frame m ρ, fun m ρ _ => Cert.InProjDwAttnIdeal.Gen.frame m ρ, inProjDwAttnRefIdealFrame,
    fun m ρ _ => Cert.InProjDx.Gen.frame m ρ, fun m ρ _ => Cert.InProjDxIdeal.Gen.frame m ρ, inProjDxRefIdealFrame,
    fun m ρ _ => Cert.PrenormBwd.Gen.frame m ρ, fun m ρ _ => Cert.PrenormBwdIdeal.Gen.frame m ρ, prenormBwdRefIdealFrame,
    fun m ρ _ => Cert.SumRows.Gen.frame m ρ, fun m ρ _ => Cert.SumRowsIdeal.Gen.frame m ρ, sumRowsRefIdealFrame,
    fun m ρ _ => Cert.AdamwVectors.Gen.frame m ρ, fun m ρ _ => Cert.AdamwVectorsIdeal.Gen.frame m ρ, adamwVectorsRefIdealFrame,
    fun m ρ _ => Cert.AdamwConv.Gen.frame m ρ, fun m ρ _ => Cert.AdamwConvIdeal.Gen.frame m ρ, adamwConvRefIdealFrame,
    fun m ρ _ => Cert.AdamwNorms.Gen.frame m ρ, fun m ρ _ => Cert.AdamwNormsIdeal.Gen.frame m ρ, adamwNormsRefIdealFrame,
    fun m ρ _ => Cert.AdamwAda.Gen.frame m ρ, fun m ρ _ => Cert.AdamwAdaIdeal.Gen.frame m ρ, adamwAdaRefIdealFrame,
    fun m ρ h => Cert.InProjA.Gen.frame m ρ (Cert.Tables.inProjA_ok m h),
    fun m ρ h => Cert.InProjAIdeal.Gen.frame m ρ (Cert.Tables.inProjAIdeal_ok m h), inProjARefIdealFrame,
    fun m ρ _ => inProjARefIdealFrame m ρ trivial, fun m ρ h => Cert.InProjB.Gen.frame m ρ (Cert.Tables.inProjB_ok m h),
    fun m ρ h => Cert.InProjBIdeal.Gen.frame m ρ (Cert.Tables.inProjBIdeal_ok m h), inProjBRefIdealFrame,
    fun m ρ _ => inProjBRefIdealFrame m ρ trivial, fun m ρ h => Cert.InProjC.Gen.frame m ρ (Cert.Tables.inProjC_ok m h),
    fun m ρ h => Cert.InProjCIdeal.Gen.frame m ρ (Cert.Tables.inProjCIdeal_ok m h), inProjCRefIdealFrame,
    fun m ρ _ => inProjCRefIdealFrame m ρ trivial, fun m ρ h => Cert.InProjD.Gen.frame m ρ (Cert.Tables.inProjD_ok m h),
    fun m ρ h => Cert.InProjDIdeal.Gen.frame m ρ (Cert.Tables.inProjDIdeal_ok m h), inProjDRefIdealFrame,
    fun m ρ _ => inProjDRefIdealFrame m ρ trivial, fun m ρ h => Cert.InProjE.Gen.frame m ρ (Cert.Tables.inProjE_ok m h),
    fun m ρ h => Cert.InProjEIdeal.Gen.frame m ρ (Cert.Tables.inProjEIdeal_ok m h), inProjERefIdealFrame,
    fun m ρ _ => inProjERefIdealFrame m ρ trivial, fun m ρ h => Cert.AdamwWOut.Gen.frame m ρ (Cert.Tables.adamwWOut_ok m h),
    fun m ρ h => Cert.AdamwWOutIdeal.Gen.frame m ρ (Cert.Tables.adamwWOutIdeal_ok m h), adamwWOutRefIdealFrame,
    fun m ρ _ => adamwWOutRefIdealFrame m ρ trivial, fun m ρ h => Cert.AdamwWInA.Gen.frame m ρ (Cert.Tables.adamwWInA_ok m h),
    fun m ρ h => Cert.AdamwWInAIdeal.Gen.frame m ρ (Cert.Tables.adamwWInAIdeal_ok m h), adamwWInARefIdealFrame,
    fun m ρ _ => adamwWInARefIdealFrame m ρ trivial, fun m ρ h => Cert.AdamwWInB.Gen.frame m ρ (Cert.Tables.adamwWInB_ok m h),
    fun m ρ h => Cert.AdamwWInBIdeal.Gen.frame m ρ (Cert.Tables.adamwWInBIdeal_ok m h), adamwWInBRefIdealFrame,
    fun m ρ _ => adamwWInBRefIdealFrame m ρ trivial, trivial, Cert.Conv.algebraic, trivial, Cert.OutProjValue.algebraic,
    trivial, Cert.OutProjDwValue.algebraic, trivial, Cert.OutProjDxValue.algebraic, trivial, Cert.InProjDwConvValue.algebraic,
    trivial, Cert.InProjDwAttnValue.algebraic, trivial, Cert.InProjDxValue.algebraic, trivial, Cert.PrenormBwdValue.algebraic,
    trivial, Cert.SumRowsValue.algebraic, trivial, Cert.AdamwVectorsValue.algebraic, trivial, Cert.AdamwConvValue.algebraic,
    trivial, Cert.AdamwNormsValue.algebraic, trivial, Cert.AdamwAdaValue.algebraic, trivial, Cert.InProjAValue.algebraic,
    trivial, Cert.InProjBValue.algebraic, trivial, Cert.InProjCValue.algebraic, trivial, Cert.InProjDValue.algebraic, trivial,
    Cert.InProjEValue.algebraic, trivial, Cert.AdamwWOutValue.algebraic, trivial, Cert.AdamwWInAValue.algebraic, trivial,
    Cert.AdamwWInBValue.algebraic⟩

end Cert.Proof

end
